-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_sgu [hPre_finite_sgu : Cert.Pre_finite_sgu.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_sgu.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_sgu [hPre_finite_sgu : Cert.Pre_finite_sgu.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_sgu.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_sgu [hKernel5Ideal : Cert.Kernel5Ideal.Facts] [hPre_finite_sgu : Cert.Pre_finite_sgu.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_sgu m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_sgu [hReference5Ideal : Cert.Reference5Ideal.Facts] [hPre_finite_sgu : Cert.Pre_finite_sgu.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_sgu m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v50_3)) (v4 : (c : Dev Cert.KernelIdeal.nD) → Buf (Elt Ideal) ((c.tc : Thread Cert.KernelIdeal.nD Cert.KernelIdeal.τ).loc Cert.KernelIdeal.main_v50_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v50_3) = v3 c
          ∧ r.2.mem ((c.tc : Thread Cert.KernelIdeal.nD Cert.KernelIdeal.τ).loc Cert.KernelIdeal.main_v50_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_v211) = v1 c
          ∧ r.2.mem ((c.tc : Thread Cert.ReferenceIdeal.nD Cert.ReferenceIdeal.τ).loc Cert.ReferenceIdeal.main_v212) = v2 c
          ∧ r.2.mem ((c.tc : Thread Cert.ReferenceIdeal.nD Cert.ReferenceIdeal.τ).loc Cert.ReferenceIdeal.main_v177) = v3 c
          ∧ r.2.mem ((c.tc : Thread Cert.ReferenceIdeal.nD Cert.ReferenceIdeal.τ).loc Cert.ReferenceIdeal.main_v214) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)) (v1 : (c : Dev Cert.Kernel2Ideal.nD) → Buf (Elt Ideal) ((c.tc : Thread Cert.Kernel2Ideal.nD Cert.Kernel2Ideal.τ).loc Cert.Kernel2Ideal.main_v8_0)) (v2 : (c : Dev Cert.Kernel2Ideal.nD) → Buf (Elt Ideal) ((c.tc : Thread Cert.Kernel2Ideal.nD Cert.Kernel2Ideal.τ).loc Cert.Kernel2Ideal.main_v8_1)) (v3 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_v8_0) = v1 c
          ∧ r.2.mem ((c.tc : Thread Cert.Kernel2Ideal.nD Cert.Kernel2Ideal.τ).loc Cert.Kernel2Ideal.main_v8_1) = v2 c
          ∧ r.2.mem ((c.tc : Thread Cert.Kernel2Ideal.nD Cert.Kernel2Ideal.τ).loc Cert.Kernel2Ideal.main_v6) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v19) = v2 c
          ∧ r.2.mem ((c.tc : Thread Cert.Reference2Ideal.nD Cert.Reference2Ideal.τ).loc Cert.Reference2Ideal.main_v20) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4)) (v1 : (c : Dev Cert.Kernel4Ideal.nD) → Buf (Elt Ideal) ((c.tc : Thread Cert.Kernel4Ideal.nD Cert.Kernel4Ideal.τ).loc Cert.Kernel4Ideal.main_v5_0)) (v2 : (c : Dev Cert.Kernel4Ideal.nD) → Buf (Elt Ideal) ((c.tc : Thread Cert.Kernel4Ideal.nD Cert.Kernel4Ideal.τ).loc Cert.Kernel4Ideal.main_v5_1)) (v3 : (c : Dev Cert.Kernel4Ideal.nD) → Buf (Elt Ideal) ((c.tc : Thread Cert.Kernel4Ideal.nD Cert.Kernel4Ideal.τ).loc Cert.Kernel4Ideal.main_v5_2)) (v4 : (c : Dev Cert.Kernel4Ideal.nD) → Buf (Elt Ideal) ((c.tc : Thread Cert.Kernel4Ideal.nD Cert.Kernel4Ideal.τ).loc Cert.Kernel4Ideal.main_v6)) (v5 : (c : Dev Cert.Kernel4Ideal.nD) → Buf (Elt Ideal) ((c.tc : Thread Cert.Kernel4Ideal.nD Cert.Kernel4Ideal.τ).loc Cert.Kernel4Ideal.main_v7_0)) (v6 : (c : Dev Cert.Kernel4Ideal.nD) → Buf (Elt Ideal) ((c.tc : Thread Cert.Kernel4Ideal.nD Cert.Kernel4Ideal.τ).loc Cert.Kernel4Ideal.main_v7_1)) (v7 : (c : Dev Cert.Kernel4Ideal.nD) → Buf (Elt Ideal) ((c.tc : Thread Cert.Kernel4Ideal.nD Cert.Kernel4Ideal.τ).loc Cert.Kernel4Ideal.main_v8_0)) (v8 : (c : Dev Cert.Kernel4Ideal.nD) → Buf (Elt Ideal) ((c.tc : Thread Cert.Kernel4Ideal.nD Cert.Kernel4Ideal.τ).loc Cert.Kernel4Ideal.main_v8_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_v5_0) = v1 c
          ∧ r.2.mem ((c.tc : Thread Cert.Kernel4Ideal.nD Cert.Kernel4Ideal.τ).loc Cert.Kernel4Ideal.main_v5_1) = v2 c
          ∧ r.2.mem ((c.tc : Thread Cert.Kernel4Ideal.nD Cert.Kernel4Ideal.τ).loc Cert.Kernel4Ideal.main_v5_2) = v3 c
          ∧ r.2.mem ((c.tc : Thread Cert.Kernel4Ideal.nD Cert.Kernel4Ideal.τ).loc Cert.Kernel4Ideal.main_v6) = v4 c
          ∧ r.2.mem ((c.tc : Thread Cert.Kernel4Ideal.nD Cert.Kernel4Ideal.τ).loc Cert.Kernel4Ideal.main_v7_0) = v5 c
          ∧ r.2.mem ((c.tc : Thread Cert.Kernel4Ideal.nD Cert.Kernel4Ideal.τ).loc Cert.Kernel4Ideal.main_v7_1) = v6 c
          ∧ r.2.mem ((c.tc : Thread Cert.Kernel4Ideal.nD Cert.Kernel4Ideal.τ).loc Cert.Kernel4Ideal.main_v8_0) = v7 c
          ∧ r.2.mem ((c.tc : Thread Cert.Kernel4Ideal.nD Cert.Kernel4Ideal.τ).loc Cert.Kernel4Ideal.main_v8_1) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_v37) = v2 c
          ∧ r.2.mem ((c.tc : Thread Cert.Reference4Ideal.nD Cert.Reference4Ideal.τ).loc Cert.Reference4Ideal.main_v38) = v3 c
          ∧ r.2.mem ((c.tc : Thread Cert.Reference4Ideal.nD Cert.Reference4Ideal.τ).loc Cert.Reference4Ideal.main_v39) = v4 c
          ∧ r.2.mem ((c.tc : Thread Cert.Reference4Ideal.nD Cert.Reference4Ideal.τ).loc Cert.Reference4Ideal.main_v40) = v5 c
          ∧ r.2.mem ((c.tc : Thread Cert.Reference4Ideal.nD Cert.Reference4Ideal.τ).loc Cert.Reference4Ideal.main_v41) = v6 c
          ∧ r.2.mem ((c.tc : Thread Cert.Reference4Ideal.nD Cert.Reference4Ideal.τ).loc Cert.Reference4Ideal.main_v42) = v7 c
          ∧ r.2.mem ((c.tc : Thread Cert.Reference4Ideal.nD Cert.Reference4Ideal.τ).loc Cert.Reference4Ideal.main_v43) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  IdealRules.named_const.Statement Cert.Kernel5Ideal.κ "gelu" .f32 0x3D372713#32 ((8943 / 200000 : ℝ) : EReal)
  ∧ IdealRules.named_const.Statement Cert.Kernel5Ideal.κ "gelu3" .f32 0x3E095D4F#32 ((26829 / 200000 : ℝ) : EReal)

def algebraic_Kernel5Ideal_Reference5Ideal_pre_finite_sgu [hKernel5Ideal : Cert.Kernel5Ideal.Facts] [hReference5Ideal : Cert.Reference5Ideal.Facts] [hPre_finite_sgu : Cert.Pre_finite_sgu.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_sgu m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v154) = v0 c
          ∧ r.2.mem ((c.tc : Thread Cert.Reference5Ideal.nD Cert.Reference5Ideal.τ).loc Cert.Reference5Ideal.main_v155) = v1 c
          ∧ r.2.mem ((c.tc : Thread Cert.Reference5Ideal.nD Cert.Reference5Ideal.τ).loc Cert.Reference5Ideal.main_v157) = v2 c
          ∧ r.2.mem ((c.tc : Thread Cert.Reference5Ideal.nD Cert.Reference5Ideal.τ).loc Cert.Reference5Ideal.main_v120) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_v38) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_v53) = v1 c
          ∧ r.2.mem ((c.tc : Thread Cert.Reference7Ideal.nD Cert.Reference7Ideal.τ).loc Cert.Reference7Ideal.main_v52) = v2 c
          ∧ r.2.mem ((c.tc : Thread Cert.Reference7Ideal.nD Cert.Reference7Ideal.τ).loc Cert.Reference7Ideal.main_v54) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v3) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v34) = v0 c
          ∧ r.2.mem ((c.tc : Thread Cert.Reference8Ideal.nD Cert.Reference8Ideal.τ).loc Cert.Reference8Ideal.main_v35) = v1 c
          ∧ r.2.mem ((c.tc : Thread Cert.Reference8Ideal.nD Cert.Reference8Ideal.τ).loc Cert.Reference8Ideal.main_v37) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  IdealRules.named_const.Statement Cert.Kernel10Ideal.κ "gelu" .f32 0x3D372713#32 ((8943 / 200000 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v63) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_inputs : Cert.Pre_finite_inputs.Facts) (hPre_finite_ffn : Cert.Pre_finite_ffn.Facts) (hPre_finite_sgu : Cert.Pre_finite_sgu.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_sgu (hKernel5Ideal := hKernel5Ideal) (hPre_finite_sgu := hPre_finite_sgu)
    ∧ quiescent_Reference5Ideal (hReference5Ideal := hReference5Ideal)
    ∧ quiescent_Reference5Ideal_pre_finite_sgu (hReference5Ideal := hReference5Ideal) (hPre_finite_sgu := hPre_finite_sgu)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_sgu (hKernel5Ideal := hKernel5Ideal) (hReference5Ideal := hReference5Ideal) (hPre_finite_sgu := hPre_finite_sgu)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_ffn.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg4 : FVec F S2048x2048 .f32) (main_v4 : IVec S_ 1) (main_v13 : IVec S_ 1) (main_v16 : IVec S5632x2048 1) : IVec S_ 1 :=
  let main_c_5 : IVec S_ 1 := constantI S_ 1 1#1
  let main_v17 : IVec S_ 1 := (fun x v => Host.reduce IntOp.andi x v reducesTo_S5632x2048_S_d0_1 h_S_) main_v16 main_c_5
  let main_v18 : FVec F S2048x2048 .f32 := Host.absf main_arg4
  let main_cst_6 : FVec F S_ .f32 := constant S_ .f32 0x7F800000#32
  let main_v19 : FVec F S2048x2048 .f32 := broadcastInDim S2048x2048 ![] bcast_S_S2048x2048 main_cst_6
  let main_v20 : IVec S2048x2048 1 := cmpf .olt main_v18 main_v19
  let main_c_7 : IVec S_ 1 := constantI S_ 1 1#1
  let main_v21 : IVec S_ 1 := (fun x v => Host.reduce IntOp.andi x v reducesTo_S2048x2048_S_d0_1 h_S_) main_v20 main_c_7
  let main_v22 : IVec S_ 1 := andi main_v17 main_v21
  let main_v23 : IVec S_ 1 := andi main_v13 main_v22
  let main_v24 : IVec S_ 1 := andi main_v4 main_v23
  main_v24

def fn {F : FTy → Type} [FloatOps F] (main_arg0 : FVec F S2048x2048 .bf16) (main_arg1 : FVec F S2048x5632 .f32) (main_arg2 : FVec F S2048x5632 .f32) (main_arg3 : FVec F S5632x2048 .f32) (main_arg4 : FVec F S2048x2048 .f32) : IVec S_ 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S2048x5632 .f32 := Host.absf main_arg1
  let main_cst_0 : FVec F S_ .f32 := constant S_ .f32 0x7F800000#32
  let main_v6 : FVec F S2048x5632 .f32 := broadcastInDim S2048x5632 ![] bcast_S_S2048x5632 main_cst_0
  let main_v7 : IVec S2048x5632 1 := cmpf .olt main_v5 main_v6
  let main_c_1 : IVec S_ 1 := constantI S_ 1 1#1
  let main_v8 : IVec S_ 1 := (fun x v => Host.reduce IntOp.andi x v reducesTo_S2048x5632_S_d0_1 h_S_) main_v7 main_c_1
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  let main_v14 : FVec F S5632x2048 .f32 := Host.absf main_arg3
  let main_cst_4 : FVec F S_ .f32 := constant S_ .f32 0x7F800000#32
  let main_v15 : FVec F S5632x2048 .f32 := broadcastInDim S5632x2048 ![] bcast_S_S5632x2048 main_cst_4
  let main_v16 : IVec S5632x2048 1 := cmpf .olt main_v14 main_v15
  fn_part1 (F := F) main_arg4 main_v4 main_v13 main_v16
-- ==== Pre_finite_inputs.lean ====
abbrev S1x8 : Shape := ⟨2, ![1, 8]⟩
abbrev S32x8 : Shape := ⟨2, ![32, 8]⟩
abbrev S2048x7680 : Shape := ⟨2, ![2048, 7680]⟩
abbrev S2048x1024 : Shape := ⟨2, ![2048, 1024]⟩
abbrev S_ : Shape := ⟨0, ![]⟩

class Facts : Prop where
  bcast_S_S1x8 : S_.BroadcastsInDim S1x8 (![] : Fin 0 → Fin S1x8.rank)
  reducesTo_S1x8_S_d0_1 : S1x8.ReducesTo [0, 1] S_
  h_S_ : 0 < S_.numel
  bcast_S_S32x8 : S_.BroadcastsInDim S32x8 (![] : Fin 0 → Fin S32x8.rank)
  reducesTo_S32x8_S_d0_1 : S32x8.ReducesTo [0, 1] S_
  bitsLt_bf16_f32 : FTy.bits .bf16 < FTy.bits .f32
  bcast_S_S2048x7680 : S_.BroadcastsInDim S2048x7680 (![] : Fin 0 → Fin S2048x7680.rank)
  reducesTo_S2048x7680_S_d0_1 : S2048x7680.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v8 : IVec S_ 1) (main_v13 : IVec S_ 1) (main_v15 : FVec F S2048x1024 .f32) (main_v16 : FVec F S2048x1024 .f32) : IVec S_ 1 :=
  let main_v17 : IVec S2048x1024 1 := cmpf .olt main_v15 main_v16
  let main_c_5 : IVec S_ 1 := constantI S_ 1 1#1
  let main_v18 : IVec S_ 1 := (fun x v => Host.reduce IntOp.andi x v reducesTo_S2048x1024_S_d0_1 h_S_) main_v17 main_c_5
  let main_v19 : IVec S_ 1 := andi main_v13 main_v18
  let main_v20 : IVec S_ 1 := andi main_v8 main_v19
  main_v20

def fn {F : FTy → Type} [FloatOps F] (main_arg0 : FVec F S1x8 .f32) (main_arg1 : FVec F S32x8 .f32) (main_arg2 : FVec F S2048x7680 .bf16) (main_arg3 : FVec F S2048x1024 .bf16) (main_arg4 : FVec F S2048x7680 .bf16) : IVec S_ 1 :=
  let main_v0 : FVec F S1x8 .f32 := Host.absf main_arg0
  let main_cst : FVec F S_ .f32 := constant S_ .f32 0x7F800000#32
  let main_v1 : FVec F S1x8 .f32 := broadcastInDim S1x8 ![] bcast_S_S1x8 main_cst
  let main_v2 : IVec S1x8 1 := cmpf .olt main_v0 main_v1
  let main_c : IVec S_ 1 := constantI S_ 1 1#1
  let main_v3 : IVec S_ 1 := (fun x v => Host.reduce IntOp.andi x v reducesTo_S1x8_S_d0_1 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  let main_v9 : FVec F S2048x7680 .f32 := (extf .f32 · bitsLt_bf16_f32) main_arg2
  let main_v10 : FVec F S2048x7680 .f32 := Host.absf main_v9
  let main_cst_2 : FVec F S_ .f32 := constant S_ .f32 0x7F800000#32
  let main_v11 : FVec F S2048x7680 .f32 := broadcastInDim S2048x7680 ![] bcast_S_S2048x7680 main_cst_2
  let main_v12 : IVec S2048x7680 1 := cmpf .olt main_v10 main_v11
  let main_c_3 : IVec S_ 1 := constantI S_ 1 1#1
  let main_v13 : IVec S_ 1 := (fun x v => Host.reduce IntOp.andi x v reducesTo_S2048x7680_S_d0_1 h_S_) main_v12 main_c_3
  let main_v14 : FVec F S2048x1024 .f32 := (extf .f32 · bitsLt_bf16_f32) main_arg3
  let main_v15 : FVec F S2048x1024 .f32 := Host.absf main_v14
  let main_cst_4 : FVec F S_ .f32 := constant S_ .f32 0x7F800000#32
  let main_v16 : FVec F S2048x1024 .f32 := broadcastInDim S2048x1024 ![] bcast_S_S2048x1024 main_cst_4
  fn_part1 (F := F) main_v8 main_v13 main_v15 main_v16
-- ==== Pre_finite_sgu.lean ====
abbrev S2048x7680 : Shape := ⟨2, ![2048, 7680]⟩
abbrev S2048x1024 : Shape := ⟨2, ![2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S2048x2048 : Shape := ⟨2, ![2048, 2048]⟩
abbrev S_ : Shape := ⟨0, ![]⟩

class Facts : Prop where
  slices_S2048x7680_S2048x2048_0_0 : S2048x7680.Slices ![0, 0] S2048x2048
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_

variable [Facts]

def fn_part1 {F : FTy → Type} [FloatOps F] (main_arg4 : FVec F S1x8x128 .f32) (main_v11 : IVec S_ 1) (main_v15 : IVec S_ 1) (main_v16 : FVec F S1x8x128x128 .f32) (main_cst_4 : FVec F S_ .f32) : IVec S_ 1 :=
  let main_v17 : FVec F S1x8x128x128 .f32 := broadcastInDim S1x8x128x128 ![] bcast_S_S1x8x128x128 main_cst_4
  let main_v18 : IVec S1x8x128x128 1 := cmpf .olt main_v16 main_v17
  let main_c_5 : IVec S_ 1 := constantI S_ 1 1#1
  let main_v19 : IVec S_ 1 := (fun x v => Host.reduce IntOp.andi x v reducesTo_S1x8x128x128_S_d0_1_2_3 h_S_) main_v18 main_c_5
  let main_v20 : FVec F S1x8x128 .f32 := Host.absf main_arg4
  let main_cst_6 : FVec F S_ .f32 := constant S_ .f32 0x7F800000#32
  let main_v21 : FVec F S1x8x128 .f32 := broadcastInDim S1x8x128 ![] bcast_S_S1x8x128 main_cst_6
  let main_v22 : IVec S1x8x128 1 := cmpf .olt main_v20 main_v21
  let main_c_7 : IVec S_ 1 := constantI S_ 1 1#1
  let main_v23 : IVec S_ 1 := (fun x v => Host.reduce IntOp.andi x v reducesTo_S1x8x128_S_d0_1_2 h_S_) main_v22 main_c_7
  let main_v24 : IVec S_ 1 := andi main_v19 main_v23
  let main_v25 : IVec S_ 1 := andi main_v15 main_v24
  let main_v26 : IVec S_ 1 := andi main_v11 main_v25
  main_v26

def fn {F : FTy → Type} [FloatOps F] (main_arg0 : FVec F S2048x7680 .bf16) (main_arg1 : FVec F S2048x1024 .bf16) (main_arg2 : FVec F S1x1024 .f32) (main_arg3 : FVec F S1x8x128x128 .f32) (main_arg4 : FVec F S1x8x128 .f32) (main_arg5 : FVec F S2048x7680 .bf16) : IVec S_ 1 :=
  let main_v0 : FVec F S2048x2048 .bf16 := (extractStridedSlice S2048x2048 ![0, 0] · slices_S2048x7680_S2048x2048_0_0) main_arg0
  let main_v1 : FVec F S2048x2048 .f32 := (extf .f32 · bitsLt_bf16_f32) main_v0
  let main_v2 : FVec F S2048x2048 .f32 := Host.absf main_v1
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  let main_c : IVec S_ 1 := constantI S_ 1 1#1
  let main_v5 : IVec S_ 1 := (fun x v => Host.reduce IntOp.andi x v reducesTo_S2048x2048_S_d0_1 h_S_) main_v4 main_c
  let main_v6 : FVec F S2048x1024 .f32 := (extf .f32 · bitsLt_bf16_f32) main_arg1
  let main_v7 : FVec F S2048x1024 .f32 := Host.absf main_v6
  let main_cst_0 : FVec F S_ .f32 := constant S_ .f32 0x7F800000#32
  let main_v8 : FVec F S2048x1024 .f32 := broadcastInDim S2048x1024 ![] bcast_S_S2048x1024 main_cst_0
  let main_v9 : IVec S2048x1024 1 := cmpf .olt main_v7 main_v8
  let main_c_1 : IVec S_ 1 := constantI S_ 1 1#1
  let main_v10 : IVec S_ 1 := (fun x v => Host.reduce IntOp.andi x v reducesTo_S2048x1024_S_d0_1 h_S_) main_v9 main_c_1
  let main_v11 : IVec S_ 1 := andi main_v5 main_v10
  let main_v12 : FVec F S1x1024 .f32 := Host.absf main_arg2
  let main_cst_2 : FVec F S_ .f32 := constant S_ .f32 0x7F800000#32
  let main_v13 : FVec F S1x1024 .f32 := broadcastInDim S1x1024 ![] bcast_S_S1x1024 main_cst_2
  let main_v14 : IVec S1x1024 1 := cmpf .olt main_v12 main_v13
  let main_c_3 : IVec S_ 1 := constantI S_ 1 1#1
  let main_v15 : IVec S_ 1 := (fun x v => Host.reduce IntOp.andi x v reducesTo_S1x1024_S_d0_1 h_S_) main_v14 main_c_3
  let main_v16 : FVec F S1x8x128x128 .f32 := Host.absf main_arg3
  let main_cst_4 : FVec F S_ .f32 := constant S_ .f32 0x7F800000#32
  fn_part1 (F := F) main_arg4 main_v11 main_v15 main_v16 main_cst_4
-- ==== Kernel.lean ====
abbrev S1x8 : Shape := ⟨2, ![1, 8]⟩
abbrev S32x8 : Shape := ⟨2, ![32, 8]⟩
abbrev S2048x7680 : Shape := ⟨2, ![2048, 7680]⟩
abbrev S2048x1024 : Shape := ⟨2, ![2048, 1024]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S2048x256 : Shape := ⟨2, ![2048, 256]⟩
abbrev S2304x256 : Shape := ⟨2, ![2304, 256]⟩
abbrev S8 : Shape := ⟨1, ![8]⟩
abbrev S8x128 : Shape := ⟨2, ![8, 128]⟩
abbrev S128x512 : Shape := ⟨2, ![128, 512]⟩
abbrev S2304x128 : Shape := ⟨2, ![2304, 128]⟩
abbrev S4x128x384 : Shape := ⟨3, ![4, 128, 384]⟩
abbrev S384x128 : Shape := ⟨2, ![384, 128]⟩
abbrev S128x128 : Shape := ⟨2, ![128, 128]⟩
abbrev S512x128 : Shape := ⟨2, ![512, 128]⟩
abbrev S512x384 : Shape := ⟨2, ![512, 384]⟩
abbrev S1 : Shape := ⟨1, ![1]⟩
abbrev S512x1 : Shape := ⟨2, ![512, 1]⟩
abbrev S512 : Shape := ⟨1, ![512]⟩
abbrev S1x128x1 : Shape := ⟨3, ![1, 128, 1]⟩
abbrev S1x1x1 : Shape := ⟨3, ![1, 1, 1]⟩

abbrev nBuf : Space → Nat
  | .hbm => 84
  | .vmem => 21
  | .smem => 1
  | _ => 0

abbrev bufTy : (tb : Table) → Fin (tcTables nBuf tb) → BufTy
  | .hbm, ⟨0, _⟩ => ⟨S1x8, .f32⟩
  | .hbm, ⟨1, _⟩ => ⟨S32x8, .f32⟩
  | .hbm, ⟨2, _⟩ => ⟨S2048x7680, .bf16⟩
  | .hbm, ⟨3, _⟩ => ⟨S2048x1024, .bf16⟩
  | .hbm, ⟨4, _⟩ => ⟨S2048x7680, .bf16⟩
  | .hbm, ⟨5, _⟩ => ⟨S384, .i32⟩
  | .hbm, ⟨6, _⟩ => ⟨S1x384, .i32⟩
  | .hbm, ⟨7, _⟩ => ⟨S_, .i32⟩
  | .hbm, ⟨8, _⟩ => ⟨S1x384, .i32⟩
  | .hbm, ⟨9, _⟩ => ⟨S1x384, .i32⟩
  | .hbm, ⟨10, _⟩ => ⟨S128, .i32⟩
  | .hbm, ⟨11, _⟩ => ⟨S128x1, .i32⟩
  | .hbm, ⟨12, _⟩ => ⟨S128x384, .i32⟩
  | .hbm, ⟨13, _⟩ => ⟨S128x384, .i32⟩
  | .hbm, ⟨14, _⟩ => ⟨S128x384, .i32⟩
  | .hbm, ⟨15, _⟩ => ⟨S_, .i32⟩
  | .hbm, ⟨16, _⟩ => ⟨S128x384, .i32⟩
  | .hbm, ⟨17, _⟩ => ⟨S128x384, .i1⟩
  | .hbm, ⟨18, _⟩ => ⟨S_, .i32⟩
  | .hbm, ⟨19, _⟩ => ⟨S_, .i32⟩
  | .hbm, ⟨20, _⟩ => ⟨S128x384, .i32⟩
  | .hbm, ⟨21, _⟩ => ⟨S128x384, .i32⟩
  | .hbm, ⟨22, _⟩ => ⟨S128x384, .i32⟩
  | .hbm, ⟨23, _⟩ => ⟨S128x384, .i32⟩
  | .hbm, ⟨24, _⟩ => ⟨S_, .i32⟩
  | .hbm, ⟨25, _⟩ => ⟨S128x384, .i32⟩
  | .hbm, ⟨26, _⟩ => ⟨S128x384, .i32⟩
  | .hbm, ⟨27, _⟩ => ⟨S128x384, .f32⟩
  | .hbm, ⟨28, _⟩ => ⟨S_, .f32⟩
  | .hbm, ⟨29, _⟩ => ⟨S128x384, .f32⟩
  | .hbm, ⟨30, _⟩ => ⟨S128x384, .f32⟩
  | .hbm, ⟨31, _⟩ => ⟨S128x384, .f32⟩
  | .hbm, ⟨32, _⟩ => ⟨S_, .f32⟩
  | .hbm, ⟨33, _⟩ => ⟨S128x384, .f32⟩
  | .hbm, ⟨34, _⟩ => ⟨S128x384, .f32⟩
  | .hbm, ⟨35, _⟩ => ⟨S_, .f32⟩
  | .hbm, ⟨36, _⟩ => ⟨S128x384, .f32⟩
  | .hbm, ⟨37, _⟩ => ⟨S128x384, .f32⟩
  | .hbm, ⟨38, _⟩ => ⟨S128x384, .i32⟩
  | .hbm, ⟨39, _⟩ => ⟨S_, .i32⟩
  | .hbm, ⟨40, _⟩ => ⟨S128x384, .i32⟩
  | .hbm, ⟨41, _⟩ => ⟨S128x384, .i32⟩
  | .hbm, ⟨42, _⟩ => ⟨S_, .i32⟩
  | .hbm, ⟨43, _⟩ => ⟨S128x384, .i32⟩
  | .hbm, ⟨44, _⟩ => ⟨S128x384, .i32⟩
  | .hbm, ⟨45, _⟩ => ⟨S_, .i32⟩
  | .hbm, ⟨46, _⟩ => ⟨S128x384, .i32⟩
  | .hbm, ⟨47, _⟩ => ⟨S128x384, .i1⟩
  | .hbm, ⟨48, _⟩ => ⟨S128x384, .i32⟩
  | .hbm, ⟨49, _⟩ => ⟨S128x384, .i32⟩
  | .hbm, ⟨50, _⟩ => ⟨S128x384, .i32⟩
  | .hbm, ⟨51, _⟩ => ⟨S_, .i32⟩
  | .hbm, ⟨52, _⟩ => ⟨S128x384, .i32⟩
  | .hbm, ⟨53, _⟩ => ⟨S128x384, .i1⟩
  | .hbm, ⟨54, _⟩ => ⟨S_, .i32⟩
  | .hbm, ⟨55, _⟩ => ⟨S128x384, .i32⟩
  | .hbm, ⟨56, _⟩ => ⟨S128x384, .i32⟩
  | .hbm, ⟨57, _⟩ => ⟨S128x384, .i32⟩
  | .hbm, ⟨58, _⟩ => ⟨S128x384x1, .i32⟩
  | .hbm, ⟨59, _⟩ => ⟨S128x384x8, .f32⟩
  | .hbm, ⟨60, _⟩ => ⟨S8x128x384, .f32⟩
  | .hbm, ⟨61, _⟩ => ⟨S128x384, .i32⟩
  | .hbm, ⟨62, _⟩ => ⟨S_, .i32⟩
  | .hbm, ⟨63, _⟩ => ⟨S128x384, .i32⟩
  | .hbm, ⟨64, _⟩ => ⟨S128x384, .i1⟩
  | .hbm, ⟨65, _⟩ => ⟨S_, .f32⟩
  | .hbm, ⟨66, _⟩ => ⟨S_, .f32⟩
  | .hbm, ⟨67, _⟩ => ⟨S8x128x384, .i1⟩
  | .hbm, ⟨68, _⟩ => ⟨S8x128x384, .f32⟩
  | .hbm, ⟨69, _⟩ => ⟨S8x128x384, .f32⟩
  | .hbm, ⟨70, _⟩ => ⟨S2048x256, .bf16⟩
  | .hbm, ⟨71, _⟩ => ⟨S_, .i32⟩
  | .hbm, ⟨72, _⟩ => ⟨S_, .bf16⟩
  | .hbm, ⟨73, _⟩ => ⟨S2304x256, .bf16⟩
  | .hbm, ⟨74, _⟩ => ⟨S2048x256, .bf16⟩
  | .hbm, ⟨75, _⟩ => ⟨S_, .i32⟩
  | .hbm, ⟨76, _⟩ => ⟨S_, .bf16⟩
  | .hbm, ⟨77, _⟩ => ⟨S2304x256, .bf16⟩
  | .hbm, ⟨78, _⟩ => ⟨S8, .f32⟩
  | .hbm, ⟨79, _⟩ => ⟨S2048x7680, .bf16⟩
  | .hbm, ⟨80, _⟩ => ⟨S2304x256, .f32⟩
  | .hbm, ⟨81, _⟩ => ⟨S2304x256, .f32⟩
  | .hbm, ⟨82, _⟩ => ⟨S8x128x384, .f32⟩
  | .hbm, ⟨83, _⟩ => ⟨S8x128, .f32⟩
  | .local _ .vmem, ⟨0, _⟩ => ⟨S128x512, .bf16⟩
  | .local _ .vmem, ⟨1, _⟩ => ⟨S128x512, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S4x128x384, .f32⟩
  | .local _ .vmem, ⟨7, _⟩ => ⟨S4x128x384, .f32⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S2304x128, .f32⟩
  | .local _ .vmem, ⟨13, _⟩ => ⟨S2304x128, .f32⟩
  | .local _ .vmem, ⟨14, _⟩ => ⟨S2304x128, .f32⟩
  | .local _ .vmem, ⟨15, _⟩ => ⟨S2304x128, .f32⟩
  | .local _ .vmem, ⟨16, _⟩ => ⟨S4x128x384, .f32⟩
  | .local _ .vmem, ⟨17, _⟩ => ⟨S4x128x384, .f32⟩
  | .local _ .vmem, ⟨18, _⟩ => ⟨S8x128, .f32⟩
  | .local _ .vmem, ⟨19, _⟩ => ⟨S2304x128, .f32⟩
  | .local _ .vmem, ⟨20, _⟩ => ⟨S2304x128, .f32⟩
  | .local _ .smem, ⟨0, _⟩ => ⟨S8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_v34 : Ref sig .tc := ⟨.hbm, 53, rfl⟩
abbrev main_c_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_11 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v44 : Ref sig .tc := ⟨.hbm, 69, rfl⟩
abbrev main_v45 : Ref sig .tc := ⟨.hbm, 70, rfl⟩
abbrev main_c_13 : Ref sig .tc := ⟨.hbm, 71, rfl⟩
abbrev main_call3_v0 : Ref sig .tc := ⟨.hbm, 72, rfl⟩
abbrev main_v46 : Ref sig .tc := ⟨.hbm, 73, rfl⟩
abbrev main_v47 : Ref sig .tc := ⟨.hbm, 74, rfl⟩
abbrev main_c_14 : Ref sig .tc := ⟨.hbm, 75, rfl⟩
abbrev main_call4_v0 : Ref sig .tc := ⟨.hbm, 76, rfl⟩
abbrev main_v48 : Ref sig .tc := ⟨.hbm, 77, rfl⟩
abbrev main_v49 : Ref sig .tc := ⟨.hbm, 78, rfl⟩
abbrev main_v50_0 : Ref sig .tc := ⟨.hbm, 79, rfl⟩
abbrev main_v50_1 : Ref sig .tc := ⟨.hbm, 80, rfl⟩
abbrev main_v50_2 : Ref sig .tc := ⟨.hbm, 81, rfl⟩
abbrev main_v50_3 : Ref sig .tc := ⟨.hbm, 82, rfl⟩
abbrev main_v50_4 : Ref sig .tc := ⟨.hbm, 83, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  let c0 : Index := 0#32
  ![v2.toNat, 0]
def k0_off2 (i : grid0.Coords) (c0_i32_9 : BitVec 32) : Fin 1 → Nat :=
  let arg0 : BitVec 32 := BitVec.ofNat 32 (i 0).val
  let c4_i32 : BitVec 32 := 4#32
  let v35 : BitVec 32 := Scalar.muli arg0 c4_i32
  let v36 : BitVec 32 := Scalar.addi v35 c0_i32_9
  let v37 : Index := Scalar.indexCast v36
  ![v37.toNat]
def k0_cond3 (i : grid0.Coords) : BitVec 1 :=
  let arg1 : BitVec 32 := BitVec.ofNat 32 (i 1).val
  let c15_i32 : BitVec 32 := 15#32
  let v193 : BitVec 1 := Scalar.cmpi .eq arg1 c15_i32
  let v194 : BitVec 32 := Scalar.extui v193
  let c0_i32_64 : BitVec 32 := 0#32
  let v195 : BitVec 1 := Scalar.cmpi .ne v194 c0_i32_64
  v195

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2304x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2304x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4x128x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S1x8 : Shape := ⟨2, ![1, 8]⟩
abbrev S32x8 : Shape := ⟨2, ![32, 8]⟩
abbrev S2048x7680 : Shape := ⟨2, ![2048, 7680]⟩
abbrev S2048x1024 : Shape := ⟨2, ![2048, 1024]⟩
abbrev S2048x256 : Shape := ⟨2, ![2048, 256]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S2304x256 : Shape := ⟨2, ![2304, 256]⟩
abbrev S8 : Shape := ⟨1, ![8]⟩
abbrev S16x128x2x4x128 : Shape := ⟨5, ![16, 128, 2, 4, 128]⟩
abbrev S18x128x2x128 : Shape := ⟨4, ![18, 128, 2, 128]⟩
abbrev S16x128x2x128 : Shape := ⟨4, ![16, 128, 2, 128]⟩
abbrev S16x384x2x128 : Shape := ⟨4, ![16, 384, 2, 128]⟩
abbrev S16x2x384x128x4 : Shape := ⟨5, ![16, 2, 384, 128, 4]⟩
abbrev S16x2x4x128x384 : Shape := ⟨5, ![16, 2, 4, 128, 384]⟩
abbrev S16 : Shape := ⟨1, ![16]⟩
abbrev S16x1x1 : Shape := ⟨3, ![16, 1, 1]⟩
abbrev S1x1x384 : Shape := ⟨3, ![1, 1, 384]⟩
abbrev S16x1x384 : Shape := ⟨3, ![16, 1, 384]⟩
abbrev S1x128x384 : Shape := ⟨3, ![1, 128, 384]⟩
abbrev S16x128x384 : Shape := ⟨3, ![16, 128, 384]⟩
abbrev S2x4x128x384 : Shape := ⟨4, ![2, 4, 128, 384]⟩
abbrev S16x1x1x128x384 : Shape := ⟨5, ![16, 1, 1, 128, 384]⟩
abbrev S1x2x4x128x384 : Shape := ⟨5, ![1, 2, 4, 128, 384]⟩
abbrev S2x4 : Shape := ⟨2, ![2, 4]⟩
abbrev S1x2x4x1x1 : Shape := ⟨5, ![1, 2, 4, 1, 1]⟩
abbrev S16x2x4x128x1 : Shape := ⟨5, ![16, 2, 4, 128, 1]⟩
abbrev S16x2x4x128x385 : Shape := ⟨5, ![16, 2, 4, 128, 385]⟩
abbrev S16x2x4x128 : Shape := ⟨4, ![16, 2, 4, 128]⟩
abbrev S16x2x128x4x128 : Shape := ⟨5, ![16, 2, 128, 4, 128]⟩
abbrev S16x2x128x384 : Shape := ⟨4, ![16, 2, 128, 384]⟩
abbrev S16x2x384x128 : Shape := ⟨4, ![16, 2, 384, 128]⟩
abbrev S2048x2048 : Shape := ⟨2, ![2048, 2048]⟩
abbrev S2048x4608 : Shape := ⟨2, ![2048, 4608]⟩
abbrev S8x1 : Shape := ⟨2, ![8, 1]⟩
abbrev S8x128 : Shape := ⟨2, ![8, 128]⟩

abbrev nBuf : Space → Nat
  | .hbm => 277
  | .vmem => 0
  | .smem => 0
  | _ => 0

abbrev hbmTy0_0 (i : Nat) : BufTy := match i % 128 with
  | 0 => ⟨S1x8, .f32⟩
  | 1 => ⟨S32x8, .f32⟩
  | 2 => ⟨S2048x7680, .bf16⟩
  | 3 => ⟨S2048x1024, .bf16⟩
  | 4 => ⟨S2048x7680, .bf16⟩
  | 5 => ⟨S2048x1024, .bf16⟩
  | 6 => ⟨S2048x256, .bf16⟩
  | 7 => ⟨S2048x256, .bf16⟩
  | 8 => ⟨S384, .i32⟩
  | 9 => ⟨S1x384, .i32⟩
  | 10 => ⟨S_, .i32⟩
  | 11 => ⟨S1x384, .i32⟩
  | 12 => ⟨S1x384, .i32⟩
  | 13 => ⟨S128, .i32⟩
  | 14 => ⟨S128x1, .i32⟩
  | 15 => ⟨S128x384, .i32⟩
  | 16 => ⟨S128x384, .i32⟩
  | 17 => ⟨S128x384, .i32⟩
  | 18 => ⟨S_, .i32⟩
  | 19 => ⟨S128x384, .i32⟩
  | 20 => ⟨S128x384, .i1⟩
  | 21 => ⟨S_, .i32⟩
  | 22 => ⟨S_, .i32⟩
  | 23 => ⟨S128x384, .i32⟩
  | 24 => ⟨S128x384, .i32⟩
  | 25 => ⟨S128x384, .i32⟩
  | 26 => ⟨S128x384, .i32⟩
  | 27 => ⟨S_, .i32⟩
  | 28 => ⟨S128x384, .i32⟩
  | 29 => ⟨S128x384, .i32⟩
  | 30 => ⟨S128x384, .f32⟩
  | 31 => ⟨S_, .f32⟩
  | 32 => ⟨S128x384, .f32⟩
  | 33 => ⟨S128x384, .f32⟩
  | 34 => ⟨S128x384, .f32⟩
  | 35 => ⟨S_, .f32⟩
  | 36 => ⟨S128x384, .f32⟩
  | 37 => ⟨S128x384, .f32⟩
  | 38 => ⟨S_, .f32⟩
  | 39 => ⟨S128x384, .f32⟩
  | 40 => ⟨S128x384, .f32⟩
  | 41 => ⟨S128x384, .i32⟩
  | 42 => ⟨S_, .i32⟩
  | 43 => ⟨S128x384, .i32⟩
  | 44 => ⟨S128x384, .i32⟩
  | 45 => ⟨S_, .i32⟩
  | 46 => ⟨S128x384, .i32⟩
  | 47 => ⟨S128x384, .i32⟩
  | 48 => ⟨S_, .i32⟩
  | 49 => ⟨S128x384, .i32⟩
  | 50 => ⟨S128x384, .i1⟩
  | 51 => ⟨S128x384, .i32⟩
  | 52 => ⟨S128x384, .i32⟩
  | 53 => ⟨S128x384, .i32⟩
  | 54 => ⟨S_, .i32⟩
  | 55 => ⟨S128x384, .i32⟩
  | 56 => ⟨S128x384, .i1⟩
  | 57 => ⟨S_, .i32⟩
  | 58 => ⟨S128x384, .i32⟩
  | 59 => ⟨S128x384, .i32⟩
  | 60 => ⟨S128x384, .i32⟩
  | 61 => ⟨S128x384x1, .i32⟩
  | 62 => ⟨S128x384x8, .f32⟩
  | 63 => ⟨S8x128x384, .f32⟩
  | 64 => ⟨S_, .i32⟩
  | 65 => ⟨S_, .bf16⟩
  | 66 => ⟨S2304x256, .bf16⟩
  | 67 => ⟨S_, .i32⟩
  | 68 => ⟨S_, .bf16⟩
  | 69 => ⟨S2304x256, .bf16⟩
  | 70 => ⟨S8, .f32⟩
  | 71 => ⟨S16x128x2x4x128, .bf16⟩
  | 72 => ⟨S18x128x2x128, .bf16⟩
  | 73 => ⟨S16x128x2x128, .bf16⟩
  | 74 => ⟨S16x128x2x128, .bf16⟩
  | 75 => ⟨S16x128x2x128, .bf16⟩
  | 76 => ⟨S16x384x2x128, .bf16⟩
  | 77 => ⟨S18x128x2x128, .bf16⟩
  | 78 => ⟨S16x128x2x128, .bf16⟩
  | 79 => ⟨S16x128x2x128, .bf16⟩
  | 80 => ⟨S16x128x2x128, .bf16⟩
  | 81 => ⟨S16x384x2x128, .bf16⟩
  | 82 => ⟨S16x128x2x4x128, .f32⟩
  | 83 => ⟨S16x384x2x128, .f32⟩
  | 84 => ⟨S16x2x384x128x4, .f32⟩
  | 85 => ⟨S16x2x4x128x384, .f32⟩
  | 86 => ⟨S16x2x4x128x384, .bf16⟩
  | 87 => ⟨S16x2x4x128x384, .f32⟩
  | 88 => ⟨S_, .f32⟩
  | 89 => ⟨S_, .f32⟩
  | 90 => ⟨S16x2x4x128x384, .f32⟩
  | 91 => ⟨S16x2x4x128x384, .f32⟩
  | 92 => ⟨S128, .i32⟩
  | 93 => ⟨S128x1, .i32⟩
  | 94 => ⟨S384, .i32⟩
  | 95 => ⟨S1x384, .i32⟩
  | 96 => ⟨S_, .i32⟩
  | 97 => ⟨S1x384, .i32⟩
  | 98 => ⟨S1x384, .i32⟩
  | 99 => ⟨S128x384, .i32⟩
  | 100 => ⟨S128x384, .i32⟩
  | 101 => ⟨S128x384, .i32⟩
  | 102 => ⟨S16, .i32⟩
  | 103 => ⟨S16x1x1, .i32⟩
  | 104 => ⟨S_, .i32⟩
  | 105 => ⟨S16x1x1, .i32⟩
  | 106 => ⟨S16x1x1, .i32⟩
  | 107 => ⟨S1x1x384, .i32⟩
  | 108 => ⟨S16x1x384, .i32⟩
  | 109 => ⟨S16x1x384, .i32⟩
  | 110 => ⟨S16x1x384, .i32⟩
  | 111 => ⟨S_, .i32⟩
  | 112 => ⟨S16x1x384, .i32⟩
  | 113 => ⟨S16x1x384, .i32⟩
  | 114 => ⟨S128x384, .i32⟩
  | 115 => ⟨S1x128x384, .i32⟩
  | 116 => ⟨S_, .i32⟩
  | 117 => ⟨S1x128x384, .i32⟩
  | 118 => ⟨S1x128x384, .i1⟩
  | 119 => ⟨S_, .i32⟩
  | 120 => ⟨S16x1x384, .i32⟩
  | 121 => ⟨S16x1x384, .i1⟩
  | 122 => ⟨S16x128x384, .i1⟩
  | 123 => ⟨S16x128x384, .i1⟩
  | 124 => ⟨S16x128x384, .i1⟩
  | 125 => ⟨S_, .i32⟩
  | 126 => ⟨S16x1x384, .i32⟩
  | 127 => ⟨S16x1x384, .i1⟩
  | _ => ⟨S1x8, .f32⟩

abbrev hbmTy0_1 (i : Nat) : BufTy := match i % 128 with
  | 0 => ⟨S16x128x384, .i1⟩
  | 1 => ⟨S16x128x384, .i1⟩
  | 2 => ⟨S2x4x128x384, .f32⟩
  | 3 => ⟨S16x1x1x128x384, .i1⟩
  | 4 => ⟨S1x2x4x128x384, .f32⟩
  | 5 => ⟨S16x2x4x128x384, .f32⟩
  | 6 => ⟨S16x2x4x128x384, .f32⟩
  | 7 => ⟨S_, .f32⟩
  | 8 => ⟨S_, .f32⟩
  | 9 => ⟨S16x2x4x128x384, .i1⟩
  | 10 => ⟨S16x2x4x128x384, .f32⟩
  | 11 => ⟨S16x2x4x128x384, .f32⟩
  | 12 => ⟨S_, .f32⟩
  | 13 => ⟨S16x2x4x128x384, .f32⟩
  | 14 => ⟨S2x4, .f32⟩
  | 15 => ⟨S1x2x4x1x1, .f32⟩
  | 16 => ⟨S16x2x4x128x1, .f32⟩
  | 17 => ⟨S16x2x4x128x385, .f32⟩
  | 18 => ⟨S_, .f32⟩
  | 19 => ⟨S16x2x4x128, .f32⟩
  | 20 => ⟨S16x2x4x128x1, .f32⟩
  | 21 => ⟨S16x2x4x128x385, .f32⟩
  | 22 => ⟨S16x2x4x128x385, .i1⟩
  | 23 => ⟨S16x2x4x128x385, .f32⟩
  | 24 => ⟨S_, .f32⟩
  | 25 => ⟨S16x2x4x128, .f32⟩
  | 26 => ⟨S_, .f32⟩
  | 27 => ⟨S16x2x4x128, .f32⟩
  | 28 => ⟨S16x2x4x128, .f32⟩
  | 29 => ⟨S_, .f32⟩
  | 30 => ⟨S16x2x4x128, .f32⟩
  | 31 => ⟨S16x2x4x128, .i1⟩
  | 32 => ⟨S_, .f32⟩
  | 33 => ⟨S16x2x4x128, .f32⟩
  | 34 => ⟨S16x2x4x128, .i1⟩
  | 35 => ⟨S_, .f32⟩
  | 36 => ⟨S16x2x4x128, .f32⟩
  | 37 => ⟨S_, .f32⟩
  | 38 => ⟨S16x2x4x128, .f32⟩
  | 39 => ⟨S_, .f32⟩
  | 40 => ⟨S16x2x4x128, .f32⟩
  | 41 => ⟨S16x2x4x128, .f32⟩
  | 42 => ⟨S16x2x4x128, .f32⟩
  | 43 => ⟨S16x2x4x128x1, .f32⟩
  | 44 => ⟨S16x2x4x128x385, .f32⟩
  | 45 => ⟨S16x2x4x128x385, .f32⟩
  | 46 => ⟨S16x2x4x128x385, .f32⟩
  | 47 => ⟨S_, .f32⟩
  | 48 => ⟨S16x2x4x128, .f32⟩
  | 49 => ⟨S16x2x4x128x1, .f32⟩
  | 50 => ⟨S16x2x4x128x385, .f32⟩
  | 51 => ⟨S16x2x4x128x385, .f32⟩
  | 52 => ⟨S16x2x4x128x1, .f32⟩
  | 53 => ⟨S_, .f32⟩
  | 54 => ⟨S16x2x4x128x1, .f32⟩
  | 55 => ⟨S16x2x4x128x1, .f32⟩
  | 56 => ⟨S16x2x4x128x384, .f32⟩
  | 57 => ⟨S16x2x4x128x384, .bf16⟩
  | 58 => ⟨S16x2x4x128x384, .f32⟩
  | 59 => ⟨S16x384x2x128, .f32⟩
  | 60 => ⟨S16x2x128x4x128, .f32⟩
  | 61 => ⟨S16x128x2x4x128, .f32⟩
  | 62 => ⟨S16x128x2x4x128, .bf16⟩
  | 63 => ⟨S2048x1024, .bf16⟩
  | 64 => ⟨S16x128x2x4x128, .bf16⟩
  | 65 => ⟨S16x128x2x4x128, .f32⟩
  | 66 => ⟨S16x2x128x4x128, .f32⟩
  | 67 => ⟨S16x2x4x128x384, .f32⟩
  | 68 => ⟨S16x2x128x384, .f32⟩
  | 69 => ⟨S16x384x2x128, .f32⟩
  | 70 => ⟨S16x384x2x128, .bf16⟩
  | 71 => ⟨S16x2x4x128x384, .bf16⟩
  | 72 => ⟨S16x2x4x128x384, .f32⟩
  | 73 => ⟨S_, .f32⟩
  | 74 => ⟨S16x2x4x128x385, .f32⟩
  | 75 => ⟨S16x2x4x128x385, .f32⟩
  | 76 => ⟨S16x2x4x128x385, .f32⟩
  | 77 => ⟨S16x2x4x128x385, .f32⟩
  | 78 => ⟨S_, .f32⟩
  | 79 => ⟨S16x2x4x128, .f32⟩
  | 80 => ⟨S16x2x4x128x1, .f32⟩
  | 81 => ⟨S16x2x4x128x1, .f32⟩
  | 82 => ⟨S16x2x4x128x385, .f32⟩
  | 83 => ⟨S16x2x4x128x385, .f32⟩
  | 84 => ⟨S_, .f32⟩
  | 85 => ⟨S16x2x4x128, .f32⟩
  | 86 => ⟨S16x2x4x128x385, .f32⟩
  | 87 => ⟨S16x2x4x128x385, .f32⟩
  | 88 => ⟨S16x2x4x128x385, .f32⟩
  | 89 => ⟨S16x2x4x128x384, .f32⟩
  | 90 => ⟨S16x2x4x128x1, .f32⟩
  | 91 => ⟨S_, .f32⟩
  | 92 => ⟨S2x4, .f32⟩
  | 93 => ⟨S1x2x4x1x1, .f32⟩
  | 94 => ⟨S_, .f32⟩
  | 95 => ⟨S2x4, .f32⟩
  | 96 => ⟨S8, .f32⟩
  | 97 => ⟨S_, .f32⟩
  | 98 => ⟨S16x2x4x128x384, .f32⟩
  | 99 => ⟨S16x2x4x128x384, .f32⟩
  | 100 => ⟨S_, .f32⟩
  | 101 => ⟨S2x4x128x384, .f32⟩
  | 102 => ⟨S1x2x4x128x384, .f32⟩
  | 103 => ⟨S_, .f32⟩
  | 104 => ⟨S2x4x128x384, .f32⟩
  | 105 => ⟨S8x128x384, .f32⟩
  | 106 => ⟨S16x2x4x128x384, .f32⟩
  | 107 => ⟨S16x2x4x128x384, .f32⟩
  | 108 => ⟨S16x2x4x128x384, .bf16⟩
  | 109 => ⟨S16x2x4x128x384, .f32⟩
  | 110 => ⟨S16x2x384x128x4, .f32⟩
  | 111 => ⟨S16x2x128x4x128, .f32⟩
  | 112 => ⟨S16x128x2x4x128, .f32⟩
  | 113 => ⟨S16x2x384x128, .f32⟩
  | 114 => ⟨S16x384x2x128, .f32⟩
  | 115 => ⟨S16x384x2x128, .bf16⟩
  | 116 => ⟨S16x128x2x4x128, .bf16⟩
  | 117 => ⟨S16x128x2x128, .bf16⟩
  | 118 => ⟨S16x128x2x128, .bf16⟩
  | 119 => ⟨S16x128x2x128, .bf16⟩
  | 120 => ⟨S_, .bf16⟩
  | 121 => ⟨S18x128x2x128, .bf16⟩
  | 122 => ⟨S_, .bf16⟩
  | 123 => ⟨S18x128x2x128, .bf16⟩
  | 124 => ⟨S18x128x2x128, .bf16⟩
  | 125 => ⟨S_, .bf16⟩
  | 126 => ⟨S18x128x2x128, .bf16⟩
  | 127 => ⟨S18x128x2x128, .bf16⟩
  | _ => ⟨S1x8, .f32⟩

abbrev hbmTy0_2 (i : Nat) : BufTy := match i % 128 with
  | 0 => ⟨S2304x256, .bf16⟩
  | 1 => ⟨S16x128x2x128, .bf16⟩
  | 2 => ⟨S16x128x2x128, .bf16⟩
  | 3 => ⟨S16x128x2x128, .bf16⟩
  | 4 => ⟨S_, .bf16⟩
  | 5 => ⟨S18x128x2x128, .bf16⟩
  | 6 => ⟨S_, .bf16⟩
  | 7 => ⟨S18x128x2x128, .bf16⟩
  | 8 => ⟨S18x128x2x128, .bf16⟩
  | 9 => ⟨S_, .bf16⟩
  | 10 => ⟨S18x128x2x128, .bf16⟩
  | 11 => ⟨S18x128x2x128, .bf16⟩
  | 12 => ⟨S2304x256, .bf16⟩
  | 13 => ⟨S2048x1024, .bf16⟩
  | 14 => ⟨S2048x2048, .bf16⟩
  | 15 => ⟨S2048x4608, .bf16⟩
  | 16 => ⟨S2048x7680, .bf16⟩
  | 17 => ⟨S2304x256, .f32⟩
  | 18 => ⟨S2304x256, .f32⟩
  | 19 => ⟨S8x1, .f32⟩
  | 20 => ⟨S8x128, .f32⟩
  | _ => ⟨S1x8, .f32⟩

abbrev hbmTy (i : Nat) : BufTy := match i / 128 with
  | 0 => hbmTy0_0 i
  | 1 => hbmTy0_1 i
  | 2 => hbmTy0_2 i
  | _ => ⟨S1x8, .f32⟩

abbrev bufTy : (tb : Table) → Fin (tcTables nBuf tb) → BufTy
  | .hbm, ⟨i, _⟩ => hbmTy i
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_11 : Ref sig .tc := ⟨.hbm, 64, rfl⟩
abbrev main_call2_v0 : Ref sig .tc := ⟨.hbm, 65, rfl⟩
abbrev main_v44 : Ref sig .tc := ⟨.hbm, 66, rfl⟩
abbrev main_c_12 : Ref sig .tc := ⟨.hbm, 67, rfl⟩
abbrev main_call3_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_15 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_17 : Ref sig .tc := ⟨.hbm, 116, rfl⟩
abbrev main_v88 : Ref sig .tc := ⟨.hbm, 117, rfl⟩
abbrev main_v89 : Ref sig .tc := ⟨.hbm, 118, rfl⟩
abbrev main_c_18 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_c_19 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_20 : Ref sig .tc := ⟨.hbm, 135, rfl⟩
abbrev main_call4_v0 : Ref sig .tc := ⟨.hbm, 136, rfl⟩
abbrev main_v104_1 : Ref sig .tc := ⟨.hbm, 137, rfl⟩
abbrev main_call4_v2 : Ref sig .tc := ⟨.hbm, 138, rfl⟩
abbrev main_v104_0 : Ref sig .tc := ⟨.hbm, 139, rfl⟩
abbrev main_call4_cst : Ref sig .tc := ⟨.hbm, 140, rfl⟩
abbrev main_v104_2 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_21 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_22 : Ref sig .tc := ⟨.hbm, 152, rfl⟩
abbrev main_v114 : Ref sig .tc := ⟨.hbm, 153, rfl⟩
abbrev main_cst_23 : Ref sig .tc := ⟨.hbm, 154, rfl⟩
abbrev main_v115 : Ref sig .tc := ⟨.hbm, 155, rfl⟩
abbrev main_v116 : Ref sig .tc := ⟨.hbm, 156, rfl⟩
abbrev main_cst_24 : Ref sig .tc := ⟨.hbm, 157, rfl⟩
abbrev main_v117 : Ref sig .tc := ⟨.hbm, 158, rfl⟩
abbrev main_v118 : Ref sig .tc := ⟨.hbm, 159, rfl⟩
abbrev main_cst_25 : Ref sig .tc := ⟨.hbm, 160, rfl⟩
abbrev main_v119 : Ref sig .tc := ⟨.hbm, 161, rfl⟩
abbrev main_v120 : Ref sig .tc := ⟨.hbm, 162, rfl⟩
abbrev main_cst_26 : Ref sig .tc := ⟨.hbm, 163, rfl⟩
abbrev main_v121 : Ref sig .tc := ⟨.hbm, 164, rfl⟩
abbrev main_cst_27 : Ref sig .tc := ⟨.hbm, 165, rfl⟩
abbrev main_v122 : Ref sig .tc := ⟨.hbm, 166, rfl⟩
abbrev main_cst_28 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_29 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_30 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_cst_31 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_cst_32 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_cst_33 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_cst_34 : Ref sig .tc := ⟨.hbm, 219, rfl⟩
abbrev main_v169 : Ref sig .tc := ⟨.hbm, 220, rfl⟩
abbrev main_v170 : Ref sig .tc := ⟨.hbm, 221, rfl⟩
abbrev main_cst_35 : Ref sig .tc := ⟨.hbm, 222, rfl⟩
abbrev main_v171 : Ref sig .tc := ⟨.hbm, 223, rfl⟩
abbrev main_v172 : Ref sig .tc := ⟨.hbm, 224, rfl⟩
abbrev main_call5_cst : Ref sig .tc := ⟨.hbm, 225, rfl⟩
abbrev main_call5_v0 : Ref sig .tc := ⟨.hbm, 226, rfl⟩
abbrev main_v173 : Ref sig .tc := ⟨.hbm, 227, rfl⟩
abbrev main_cst_36 : Ref sig .tc := ⟨.hbm, 228, rfl⟩
abbrev main_v174 : Ref sig .tc := ⟨.hbm, 229, rfl⟩
abbrev main_v175 : Ref sig .tc := ⟨.hbm, 230, rfl⟩
abbrev main_cst_37 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_cst_38 : Ref sig .tc := ⟨.hbm, 248, rfl⟩
abbrev main_v192 : Ref sig .tc := ⟨.hbm, 249, rfl⟩
abbrev main_cst_39 : Ref sig .tc := ⟨.hbm, 250, rfl⟩
abbrev main_v193 : Ref sig .tc := ⟨.hbm, 251, rfl⟩
abbrev main_v194 : Ref sig .tc := ⟨.hbm, 252, rfl⟩
abbrev main_cst_40 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_cst_41 : Ref sig .tc := ⟨.hbm, 260, rfl⟩
abbrev main_v201 : Ref sig .tc := ⟨.hbm, 261, rfl⟩
abbrev main_cst_42 : Ref sig .tc := ⟨.hbm, 262, rfl⟩
abbrev main_v202 : Ref sig .tc := ⟨.hbm, 263, rfl⟩
abbrev main_v203 : Ref sig .tc := ⟨.hbm, 264, rfl⟩
abbrev main_cst_43 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩

abbrev nD : Nat := 1
abbrev τ : Topo := Topo.v7x

variable {F : FTy → Type} [FloatOps F]
-- ==== Kernel2.lean ====
abbrev S2048x2048 : Shape := ⟨2, ![2048, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S1024x512 : Shape := ⟨2, ![1024, 512]⟩
abbrev S512x2048 : Shape := ⟨2, ![512, 2048]⟩
abbrev S2048x1408 : Shape := ⟨2, ![2048, 1408]⟩
abbrev S2048x1024 : Shape := ⟨2, ![2048, 1024]⟩
abbrev S1408x1024 : Shape := ⟨2, ![1408, 1024]⟩
abbrev S1024x5632 : Shape := ⟨2, ![1024, 5632]⟩
abbrev S256x5632 : Shape := ⟨2, ![256, 5632]⟩
abbrev S1024x256 : Shape := ⟨2, ![1024, 256]⟩

abbrev nBuf : Space → Nat
  | .hbm => 18
  | .vmem => 46
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S2048x2048, .bf16⟩
  | .hbm, ⟨9, _⟩ => ⟨S2048x5632, .bf16⟩
  | .hbm, ⟨10, _⟩ => ⟨S2048x5632, .bf16⟩
  | .hbm, ⟨11, _⟩ => ⟨S2048x5632, .bf16⟩
  | .hbm, ⟨12, _⟩ => ⟨S2048x5632, .bf16⟩
  | .hbm, ⟨13, _⟩ => ⟨S2048x5632, .bf16⟩
  | .hbm, ⟨14, _⟩ => ⟨S5632x2048, .bf16⟩
  | .hbm, ⟨15, _⟩ => ⟨S2048x2048, .f32⟩
  | .hbm, ⟨16, _⟩ => ⟨S2048x5632, .bf16⟩
  | .hbm, ⟨17, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x2048, .bf16⟩
  | .local _ .vmem, ⟨13, _⟩ => ⟨S1024x2048, .bf16⟩
  | .local _ .vmem, ⟨14, _⟩ => ⟨S512x2048, .bf16⟩
  | .local _ .vmem, ⟨15, _⟩ => ⟨S512x2048, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S2048x1408, .bf16⟩
  | .local _ .vmem, ⟨25, _⟩ => ⟨S2048x1408, .bf16⟩
  | .local _ .vmem, ⟨26, _⟩ => ⟨S2048x1024, .bf16⟩
  | .local _ .vmem, ⟨27, _⟩ => ⟨S2048x1024, .bf16⟩
  | .local _ .vmem, ⟨28, _⟩ => ⟨S1408x1024, .bf16⟩
  | .local _ .vmem, ⟨29, _⟩ => ⟨S1408x1024, .bf16⟩
  | .local _ .vmem, ⟨30, _⟩ => ⟨S1024x5632, .bf16⟩
  | .local _ .vmem, ⟨31, _⟩ => ⟨S1024x5632, .bf16⟩
  | .local _ .vmem, ⟨32, _⟩ => ⟨S256x5632, .bf16⟩
  | .local _ .vmem, ⟨33, _⟩ => ⟨S256x5632, .bf16⟩
  | .local _ .vmem, ⟨34, _⟩ => ⟨S1024x256, .f32⟩
  | .local _ .vmem, ⟨35, _⟩ => ⟨S1024x256, .f32⟩
  | .local _ .vmem, ⟨36, _⟩ => ⟨S2048x1024, .bf16⟩
  | .local _ .vmem, ⟨37, _⟩ => ⟨S2048x1024, .bf16⟩
  | .local _ .vmem, ⟨38, _⟩ => ⟨S2048x512, .bf16⟩
  | .local _ .vmem, ⟨39, _⟩ => ⟨S2048x512, .bf16⟩
  | .local _ .vmem, ⟨40, _⟩ => ⟨S2048x512, .bf16⟩
  | .local _ .vmem, ⟨41, _⟩ => ⟨S2048x512, .bf16⟩
  | .local _ .vmem, ⟨42, _⟩ => ⟨S1024x512, .bf16⟩
  | .local _ .vmem, ⟨43, _⟩ => ⟨S1024x512, .bf16⟩
  | .local _ .vmem, ⟨44, _⟩ => ⟨S1024x512, .bf16⟩
  | .local _ .vmem, ⟨45, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg4_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc4_sem4_0 : DmaSem sig := 44
abbrev cc4_sem4_1 : DmaSem sig := 45

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![2, 11, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S1408x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x5632 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, false]

abbrev stage3_1 : Fin 2 → Memref sig .tc .vmem S256x5632 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, false]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 11, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, false]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, false]

abbrev stage4_2 : Fin 2 → Memref sig .tc .vmem S2048x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, false]

abbrev stage4_3 : Fin 2 → Memref sig .tc .vmem S1024x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev stage4_4 : Fin 2 → Memref sig .tc .vmem S1024x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true, false]
-- ==== Reference2Ideal.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x2048, .f32⟩
  | .hbm, ⟨23, _⟩ => ⟨S2048x5632, .f32⟩
  | .hbm, ⟨24, _⟩ => ⟨S5632x2048, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S5632x2048, .f32⟩
  | .hbm, ⟨29, _⟩ => ⟨S2048x5632, .f32⟩
  | .hbm, ⟨30, _⟩ => ⟨S2048x2048, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S5632x2048, .f32⟩
  | .hbm, ⟨36, _⟩ => ⟨S2048x5632, .f32⟩
  | .hbm, ⟨37, _⟩ => ⟨S2048x2048, .f32⟩
  | .hbm, ⟨38, _⟩ => ⟨S2048x5632, .bf16⟩
  | .hbm, ⟨39, _⟩ => ⟨S2048x5632, .bf16⟩
  | .hbm, ⟨40, _⟩ => ⟨S5632x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== Kernel4.lean ====
abbrev S2048x2048 : Shape := ⟨2, ![2048, 2048]⟩
abbrev S2048x1024 : Shape := ⟨2, ![2048, 1024]⟩
abbrev S2048x7680 : Shape := ⟨2, ![2048, 7680]⟩
abbrev S1024x2048 : Shape := ⟨2, ![1024, 2048]⟩
abbrev S2048x768 : Shape := ⟨2, ![2048, 768]⟩
abbrev S1024x768 : Shape := ⟨2, ![1024, 768]⟩
abbrev S1024x1024 : Shape := ⟨2, ![1024, 1024]⟩
abbrev S1024x512 : Shape := ⟨2, ![1024, 512]⟩

abbrev nBuf : Space → Nat
  | .hbm => 22
  | .vmem => 50
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .bf16⟩
  | .hbm, ⟨3, _⟩ => ⟨S2048x7680, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048x2048, .bf16⟩
  | .hbm, ⟨8, _⟩ => ⟨S2048x2048, .bf16⟩
  | .hbm, ⟨9, _⟩ => ⟨S2048x7680, .bf16⟩
  | .hbm, ⟨10, _⟩ => ⟨S1024x2048, .bf16⟩
  | .hbm, ⟨11, _⟩ => ⟨S1024x2048, .bf16⟩
  | .hbm, ⟨12, _⟩ => ⟨S2048x2048, .bf16⟩
  | .hbm, ⟨13, _⟩ => ⟨S2048x7680, .bf16⟩
  | .hbm, ⟨14, _⟩ => ⟨S2048x2048, .bf16⟩
  | .hbm, ⟨15, _⟩ => ⟨S2048x2048, .bf16⟩
  | .hbm, ⟨16, _⟩ => ⟨S2048x2048, .bf16⟩
  | .hbm, ⟨17, _⟩ => ⟨S2048x2048, .bf16⟩
  | .hbm, ⟨18, _⟩ => ⟨S2048x1024, .bf16⟩
  | .hbm, ⟨19, _⟩ => ⟨S2048x1024, .bf16⟩
  | .hbm, ⟨20, _⟩ => ⟨S1024x2048, .bf16⟩
  | .hbm, ⟨21, _⟩ => ⟨S1024x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S1024x1024, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S2048x1024, .bf16⟩
  | .local _ .vmem, ⟨25, _⟩ => ⟨S2048x1024, .bf16⟩
  | .local _ .vmem, ⟨26, _⟩ => ⟨S2048x1024, .bf16⟩
  | .local _ .vmem, ⟨27, _⟩ => ⟨S2048x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x2048, .bf16⟩
  | .local _ .vmem, ⟨31, _⟩ => ⟨S1024x2048, .bf16⟩
  | .local _ .vmem, ⟨32, _⟩ => ⟨S1024x2048, .bf16⟩
  | .local _ .vmem, ⟨33, _⟩ => ⟨S1024x2048, .bf16⟩
  | .local _ .vmem, ⟨34, _⟩ => ⟨S1024x2048, .bf16⟩
  | .local _ .vmem, ⟨35, _⟩ => ⟨S1024x2048, .bf16⟩
  | .local _ .vmem, ⟨36, _⟩ => ⟨S1024x1024, .bf16⟩
  | .local _ .vmem, ⟨37, _⟩ => ⟨S1024x1024, .bf16⟩
  | .local _ .vmem, ⟨38, _⟩ => ⟨S1024x1024, .bf16⟩
  | .local _ .vmem, ⟨39, _⟩ => ⟨S1024x1024, .bf16⟩
  | .local _ .vmem, ⟨40, _⟩ => ⟨S2048x1024, .bf16⟩
  | .local _ .vmem, ⟨41, _⟩ => ⟨S2048x1024, .bf16⟩
  | .local _ .vmem, ⟨42, _⟩ => ⟨S2048x1024, .bf16⟩
  | .local _ .vmem, ⟨43, _⟩ => ⟨S2048x1024, .bf16⟩
  | .local _ .vmem, ⟨44, _⟩ => ⟨S2048x1024, .bf16⟩
  | .local _ .vmem, ⟨45, _⟩ => ⟨S2048x1024, .bf16⟩
  | .local _ .vmem, ⟨46, _⟩ => ⟨S1024x1024, .bf16⟩
  | .local _ .vmem, ⟨47, _⟩ => ⟨S1024x1024, .bf16⟩
  | .local _ .vmem, ⟨48, _⟩ => ⟨S1024x1024, .bf16⟩
  | .local _ .vmem, ⟨49, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v8_0 : Ref sig .tc := ⟨.hbm, 20, rfl⟩
abbrev main_v8_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg3_1 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg5_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem4_1 : DmaSem sig := 37
abbrev cc3_sem5_0 : DmaSem sig := 38
abbrev cc3_sem5_1 : DmaSem sig := 39
abbrev cc4_sem0_0 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem3_1 : DmaSem sig := 45
abbrev cc4_sem4_0 : DmaSem sig := 46
abbrev cc4_sem4_1 : DmaSem sig := 47
abbrev cc4_sem5_0 : DmaSem sig := 48
abbrev cc4_sem5_1 : DmaSem sig := 49

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg1
  let c0_i32 : BitVec 32 := 0#32
  ![arg0.toNat, v0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg1
  let c0_i32 : BitVec 32 := 0#32
  ![arg0.toNat, v0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S1024x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S1024x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, false]

abbrev stage3_1 : Fin 1 → Memref sig .tc .vmem S1024x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, false]

abbrev stage3_2 : Fin 2 → Memref sig .tc .vmem S1024x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, false]

abbrev stage3_3 : Fin 1 → Memref sig .tc .vmem S1024x2048 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, true, false]

abbrev stage3_4 : Fin 2 → Memref sig .tc .vmem S1024x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1024x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev grid4 : Pipeline.Grid := ⟨3, ![1, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_4 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, false]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, false]

abbrev stage4_2 : Fin 1 → Memref sig .tc .vmem S2048x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false, false]

abbrev stage4_3 : Fin 2 → Memref sig .tc .vmem S2048x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true, false]

abbrev stage4_4 : Fin 2 → Memref sig .tc .vmem S1024x1024 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true, false]

abbrev stage4_5 : Fin 2 → Memref sig .tc .vmem S1024x1024 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true, false]
-- ==== Reference4Ideal.lean ====
abbrev S2048x2048 : Shape := ⟨2, ![2048, 2048]⟩
abbrev S2048x1024 : Shape := ⟨2, ![2048, 1024]⟩
abbrev S2048x7680 : Shape := ⟨2, ![2048, 7680]⟩
abbrev S1024x2048 : Shape := ⟨2, ![1024, 2048]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .bf16⟩
  | .hbm, ⟨3, _⟩ => ⟨S2048x7680, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048x2048, .bf16⟩
  | .hbm, ⟨8, _⟩ => ⟨S2048x2048, .bf16⟩
  | .hbm, ⟨9, _⟩ => ⟨S2048x2048, .f32⟩
  | .hbm, ⟨10, _⟩ => ⟨S2048x1024, .f32⟩
  | .hbm, ⟨11, _⟩ => ⟨S2048x1024, .f32⟩
  | .hbm, ⟨12, _⟩ => ⟨S2048x7680, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x1024, .f32⟩
  | .hbm, ⟨43, _⟩ => ⟨S1024x2048, .f32⟩
  | .hbm, ⟨44, _⟩ => ⟨S2048x1024, .f32⟩
  | .hbm, ⟨45, _⟩ => ⟨S2048x2048, .f32⟩
  | .hbm, ⟨46, _⟩ => ⟨S2048x1024, .f32⟩
  | .hbm, ⟨47, _⟩ => ⟨S1024x2048, .f32⟩
  | .hbm, ⟨48, _⟩ => ⟨S2048x1024, .f32⟩
  | .hbm, ⟨49, _⟩ => ⟨S2048x7680, .bf16⟩
  | .hbm, ⟨50, _⟩ => ⟨S2048x2048, .bf16⟩
  | .hbm, ⟨51, _⟩ => ⟨S2048x2048, .bf16⟩
  | .hbm, ⟨52, _⟩ => ⟨S2048x2048, .bf16⟩
  | .hbm, ⟨53, _⟩ => ⟨S2048x2048, .bf16⟩
  | .hbm, ⟨54, _⟩ => ⟨S2048x1024, .bf16⟩
  | .hbm, ⟨55, _⟩ => ⟨S2048x1024, .bf16⟩
  | .hbm, ⟨56, _⟩ => ⟨S1024x2048, .bf16⟩
  | .hbm, ⟨57, _⟩ => ⟨S1024x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel5.lean ====
abbrev S2048x7680 : Shape := ⟨2, ![2048, 7680]⟩
abbrev S2048x1024 : Shape := ⟨2, ![2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S8x128x1 : Shape := ⟨3, ![8, 128, 1]⟩
abbrev S128x1024 : Shape := ⟨2, ![128, 1024]⟩
abbrev S128x2048 : Shape := ⟨2, ![128, 2048]⟩
abbrev S8x1024 : Shape := ⟨2, ![8, 1024]⟩
abbrev S128x1 : Shape := ⟨2, ![128, 1]⟩
abbrev S128x128 : Shape := ⟨2, ![128, 128]⟩
abbrev S128 : Shape := ⟨1, ![128]⟩
abbrev S1x128 : Shape := ⟨2, ![1, 128]⟩
abbrev S1x128x128 : Shape := ⟨3, ![1, 128, 128]⟩
abbrev S1x128x1 : Shape := ⟨3, ![1, 128, 1]⟩
abbrev S16x8x128 : Shape := ⟨3, ![16, 8, 128]⟩
abbrev S1024 : Shape := ⟨1, ![1024]⟩

abbrev nBuf : Space → Nat
  | .hbm => 17
  | .vmem => 19
  | .smem => 0
  | _ => 0

abbrev bufTy : (tb : Table) → Fin (tcTables nBuf tb) → BufTy
  | .hbm, ⟨0, _⟩ => ⟨S2048x7680, .bf16⟩
  | .hbm, ⟨1, _⟩ => ⟨S2048x1024, .bf16⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S2048x7680, .bf16⟩
  | .hbm, ⟨6, _⟩ => ⟨S8x128x128, .f32⟩
  | .hbm, ⟨7, _⟩ => ⟨S8x128x128, .bf16⟩
  | .hbm, ⟨8, _⟩ => ⟨S8x128x128, .f32⟩
  | .hbm, ⟨9, _⟩ => ⟨S8x128x128, .f32⟩
  | .hbm, ⟨10, _⟩ => ⟨S8x128x128, .bf16⟩
  | .hbm, ⟨11, _⟩ => ⟨S8x128, .f32⟩
  | .hbm, ⟨12, _⟩ => ⟨S8x128x1, .f32⟩
  | .hbm, ⟨13, _⟩ => ⟨S2048x7680, .bf16⟩
  | .hbm, ⟨14, _⟩ => ⟨S8x128x128, .f32⟩
  | .hbm, ⟨15, _⟩ => ⟨S8x128x1, .f32⟩
  | .hbm, ⟨16, _⟩ => ⟨S1x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S1x1024, .f32⟩
  | .local _ .vmem, ⟨7, _⟩ => ⟨S8x128x128, .bf16⟩
  | .local _ .vmem, ⟨8, _⟩ => ⟨S8x128x128, .bf16⟩
  | .local _ .vmem, ⟨9, _⟩ => ⟨S8x128x1, .f32⟩
  | .local _ .vmem, ⟨10, _⟩ => ⟨S128x2048, .bf16⟩
  | .local _ .vmem, ⟨11, _⟩ => ⟨S128x2048, .bf16⟩
  | .local _ .vmem, ⟨12, _⟩ => ⟨S8x128x128, .f32⟩
  | .local _ .vmem, ⟨13, _⟩ => ⟨S8x128x1, .f32⟩
  | .local _ .vmem, ⟨14, _⟩ => ⟨S1x1024, .f32⟩
  | .local _ .vmem, ⟨15, _⟩ => ⟨S8x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | _, _ => ⟨S2048x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v498 : BitVec 1 := Scalar.cmpi .eq arg0 c0_i32
  let v499 : BitVec 32 := Scalar.extui v498
  let c0_i32_192 : BitVec 32 := 0#32
  let v500 : BitVec 1 := Scalar.cmpi .ne v499 c0_i32_192
  v500

def k0_cond2 (i : grid0.Coords) : BitVec 1 :=
  let arg0 : BitVec 32 := BitVec.ofNat 32 (i 0).val
  let c0_i32_193 : BitVec 32 := 0#32
  let v501 : BitVec 1 := Scalar.cmpi .sgt arg0 c0_i32_193
  let v502 : BitVec 32 := Scalar.extui v501
  let c0_i32_194 : BitVec 32 := 0#32
  let v503 : BitVec 1 := Scalar.cmpi .ne v502 c0_i32_194
  v503

def k0_cond3 (i : grid0.Coords) : BitVec 1 :=
  let arg0 : BitVec 32 := BitVec.ofNat 32 (i 0).val
  let c0_i32_234 : BitVec 32 := 0#32
  let v588 : BitVec 1 := Scalar.cmpi .eq arg0 c0_i32_234
  let v589 : BitVec 32 := Scalar.extui v588
  let c0_i32_235 : BitVec 32 := 0#32
  let v590 : BitVec 1 := Scalar.cmpi .ne v589 c0_i32_235
  v590

def k0_cond4 (i : grid0.Coords) : BitVec 1 :=
  let arg0 : BitVec 32 := BitVec.ofNat 32 (i 0).val
  let c0_i32_236 : BitVec 32 := 0#32
  let v591 : BitVec 1 := Scalar.cmpi .sgt arg0 c0_i32_236
  let v592 : BitVec 32 := Scalar.extui v591
  let c0_i32_237 : BitVec 32 := 0#32
  let v593 : BitVec 1 := Scalar.cmpi .ne v592 c0_i32_237
  v593

def k0_cond5 (i : grid0.Coords) : BitVec 1 :=
  let arg0 : BitVec 32 := BitVec.ofNat 32 (i 0).val
  let c0_i32_277 : BitVec 32 := 0#32
  let v678 : BitVec 1 := Scalar.cmpi .eq arg0 c0_i32_277
  let v679 : BitVec 32 := Scalar.extui v678
  let c0_i32_278 : BitVec 32 := 0#32
  let v680 : BitVec 1 := Scalar.cmpi .ne v679 c0_i32_278
  v680

def k0_cond6 (i : grid0.Coords) : BitVec 1 :=
  let arg0 : BitVec 32 := BitVec.ofNat 32 (i 0).val
  let c0_i32_279 : BitVec 32 := 0#32
  let v681 : BitVec 1 := Scalar.cmpi .sgt arg0 c0_i32_279
  let v682 : BitVec 32 := Scalar.extui v681
  let c0_i32_280 : BitVec 32 := 0#32
  let v683 : BitVec 1 := Scalar.cmpi .ne v682 c0_i32_280
  v683

def k0_cond7 (i : grid0.Coords) : BitVec 1 :=
  let arg0 : BitVec 32 := BitVec.ofNat 32 (i 0).val
  let c0_i32_320 : BitVec 32 := 0#32
  let v768 : BitVec 1 := Scalar.cmpi .eq arg0 c0_i32_320
  let v769 : BitVec 32 := Scalar.extui v768
  let c0_i32_321 : BitVec 32 := 0#32
  let v770 : BitVec 1 := Scalar.cmpi .ne v769 c0_i32_321
  v770

def k0_cond8 (i : grid0.Coords) : BitVec 1 :=
  let arg0 : BitVec 32 := BitVec.ofNat 32 (i 0).val
  let c0_i32_322 : BitVec 32 := 0#32
  let v771 : BitVec 1 := Scalar.cmpi .sgt arg0 c0_i32_322
  let v772 : BitVec 32 := Scalar.extui v771
  let c0_i32_323 : BitVec 32 := 0#32
  let v773 : BitVec 1 := Scalar.cmpi .ne v772 c0_i32_323
  v773

def k0_cond9 (i : grid0.Coords) : BitVec 1 :=
  let arg0 : BitVec 32 := BitVec.ofNat 32 (i 0).val
  let c0_i32_363 : BitVec 32 := 0#32
  let v858 : BitVec 1 := Scalar.cmpi .eq arg0 c0_i32_363
  let v859 : BitVec 32 := Scalar.extui v858
  let c0_i32_364 : BitVec 32 := 0#32
  let v860 : BitVec 1 := Scalar.cmpi .ne v859 c0_i32_364
  v860

def k0_cond10 (i : grid0.Coords) : BitVec 1 :=
  let arg0 : BitVec 32 := BitVec.ofNat 32 (i 0).val
  let c0_i32_365 : BitVec 32 := 0#32
  let v861 : BitVec 1 := Scalar.cmpi .sgt arg0 c0_i32_365
  let v862 : BitVec 32 := Scalar.extui v861
  let c0_i32_366 : BitVec 32 := 0#32
  let v863 : BitVec 1 := Scalar.cmpi .ne v862 c0_i32_366
  v863

def k0_cond11 (i : grid0.Coords) : BitVec 1 :=
  let arg0 : BitVec 32 := BitVec.ofNat 32 (i 0).val
  let c0_i32_406 : BitVec 32 := 0#32
  let v948 : BitVec 1 := Scalar.cmpi .eq arg0 c0_i32_406
  let v949 : BitVec 32 := Scalar.extui v948
  let c0_i32_407 : BitVec 32 := 0#32
  let v950 : BitVec 1 := Scalar.cmpi .ne v949 c0_i32_407
  v950

def k0_cond12 (i : grid0.Coords) : BitVec 1 :=
  let arg0 : BitVec 32 := BitVec.ofNat 32 (i 0).val
  let c0_i32_408 : BitVec 32 := 0#32
  let v951 : BitVec 1 := Scalar.cmpi .sgt arg0 c0_i32_408
  let v952 : BitVec 32 := Scalar.extui v951
  let c0_i32_409 : BitVec 32 := 0#32
  let v953 : BitVec 1 := Scalar.cmpi .ne v952 c0_i32_409
  v953

def k0_cond13 (i : grid0.Coords) : BitVec 1 :=
  let arg0 : BitVec 32 := BitVec.ofNat 32 (i 0).val
  let c0_i32_449 : BitVec 32 := 0#32
  let v1038 : BitVec 1 := Scalar.cmpi .eq arg0 c0_i32_449
  let v1039 : BitVec 32 := Scalar.extui v1038
  let c0_i32_450 : BitVec 32 := 0#32
  let v1040 : BitVec 1 := Scalar.cmpi .ne v1039 c0_i32_450
  v1040

def k0_cond14 (i : grid0.Coords) : BitVec 1 :=
  let arg0 : BitVec 32 := BitVec.ofNat 32 (i 0).val
  let c0_i32_451 : BitVec 32 := 0#32
  let v1041 : BitVec 1 := Scalar.cmpi .sgt arg0 c0_i32_451
  let v1042 : BitVec 32 := Scalar.extui v1041
  let c0_i32_452 : BitVec 32 := 0#32
  let v1043 : BitVec 1 := Scalar.cmpi .ne v1042 c0_i32_452
  v1043

def k0_cond15 (i : grid0.Coords) : BitVec 1 :=
  let arg0 : BitVec 32 := BitVec.ofNat 32 (i 0).val
  let c0_i32_492 : BitVec 32 := 0#32
  let v1128 : BitVec 1 := Scalar.cmpi .eq arg0 c0_i32_492
  let v1129 : BitVec 32 := Scalar.extui v1128
  let c0_i32_493 : BitVec 32 := 0#32
  let v1130 : BitVec 1 := Scalar.cmpi .ne v1129 c0_i32_493
  v1130

def k0_cond16 (i : grid0.Coords) : BitVec 1 :=
  let arg0 : BitVec 32 := BitVec.ofNat 32 (i 0).val
  let c0_i32_494 : BitVec 32 := 0#32
  let v1131 : BitVec 1 := Scalar.cmpi .sgt arg0 c0_i32_494
  let v1132 : BitVec 32 := Scalar.extui v1131
  let c0_i32_495 : BitVec 32 := 0#32
  let v1133 : BitVec 1 := Scalar.cmpi .ne v1132 c0_i32_495
  v1133

def k0_cond17 (i : grid0.Coords) : BitVec 1 :=
  let arg0 : BitVec 32 := BitVec.ofNat 32 (i 0).val
  let c15_i32 : BitVec 32 := 15#32
  let v1265 : BitVec 1 := Scalar.cmpi .eq arg0 c15_i32
  let v1266 : BitVec 32 := Scalar.extui v1265
  let c0_i32_556 : BitVec 32 := 0#32
  let v1267 : BitVec 1 := Scalar.cmpi .ne v1266 c0_i32_556
  v1267

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel5Ideal.lean ====
variable {F : FTy → Type} [FloatOps F] [Named F]
def κ : String → Option EReal := fun
  | "gelu" => some ((8943 / 200000 : ℝ) : EReal)
  | "gelu3" => some ((26829 / 200000 : ℝ) : EReal)
  | _ => none
-- ==== Reference5Ideal.lean ====
abbrev S2048x7680 : Shape := ⟨2, ![2048, 7680]⟩
abbrev S2048x1024 : Shape := ⟨2, ![2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S_ : Shape := ⟨0, ![]⟩
abbrev S1024 : Shape := ⟨1, ![1024]⟩
abbrev S8x128x128 : Shape := ⟨3, ![8, 128, 128]⟩
abbrev S8x128 : Shape := ⟨2, ![8, 128]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S8x1x16x128x128 : Shape := ⟨5, ![8, 1, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S1x128x8 : Shape := ⟨3, ![1, 128, 8]⟩
abbrev S2048 : Shape := ⟨1, ![2048]⟩
abbrev S2048x5632 : Shape := ⟨2, ![2048, 5632]⟩
abbrev S8x128x1 : Shape := ⟨3, ![8, 128, 1]⟩

abbrev nBuf : Space → Nat
  | .hbm => 200
  | .vmem => 0
  | .smem => 0
  | _ => 0

abbrev hbmTy0_0 (i : Nat) : BufTy := match i % 128 with
  | 0 => ⟨S2048x7680, .bf16⟩
  | 1 => ⟨S2048x1024, .bf16⟩
  | 2 => ⟨S1x1024, .f32⟩
  | 3 => ⟨S1x8x128x128, .f32⟩
  | 4 => ⟨S1x8x128, .f32⟩
  | 5 => ⟨S2048x7680, .bf16⟩
  | 6 => ⟨S2048x1024, .bf16⟩
  | 7 => ⟨S1x2048x1024, .bf16⟩
  | 8 => ⟨S1x2048x1024, .f32⟩
  | 9 => ⟨S2048x1024, .bf16⟩
  | 10 => ⟨S1x2048x1024, .bf16⟩
  | 11 => ⟨S1x2048x1024, .f32⟩
  | 12 => ⟨S1x2048x1024, .f32⟩
  | 13 => ⟨S1x2048x1024, .f32⟩
  | 14 => ⟨S1x2048x1024, .f32⟩
  | 15 => ⟨S_, .f32⟩
  | 16 => ⟨S1x2048x1024, .f32⟩
  | 17 => ⟨S1x2048x1024, .f32⟩
  | 18 => ⟨S_, .f32⟩
  | 19 => ⟨S1x2048x1024, .f32⟩
  | 20 => ⟨S1x2048x1024, .f32⟩
  | 21 => ⟨S_, .f32⟩
  | 22 => ⟨S1x2048x1024, .f32⟩
  | 23 => ⟨S1x2048x1024, .f32⟩
  | 24 => ⟨S1x2048x1024, .f32⟩
  | 25 => ⟨S_, .f32⟩
  | 26 => ⟨S1x2048x1024, .f32⟩
  | 27 => ⟨S1x2048x1024, .f32⟩
  | 28 => ⟨S1x2048x1024, .f32⟩
  | 29 => ⟨S_, .f32⟩
  | 30 => ⟨S1x2048x1024, .f32⟩
  | 31 => ⟨S1x2048x1024, .f32⟩
  | 32 => ⟨S_, .f32⟩
  | 33 => ⟨S1x2048x1024, .f32⟩
  | 34 => ⟨S1x2048x1024, .f32⟩
  | 35 => ⟨S1x2048x1024, .f32⟩
  | 36 => ⟨S_, .f32⟩
  | 37 => ⟨S1x2048x1024, .f32⟩
  | 38 => ⟨S1x2048x1024, .f32⟩
  | 39 => ⟨S_, .f32⟩
  | 40 => ⟨S1x2048x1024, .f32⟩
  | 41 => ⟨S1x2048x1024, .f32⟩
  | 42 => ⟨S1x2048x1024, .f32⟩
  | 43 => ⟨S1x2048x1024, .f32⟩
  | 44 => ⟨S1x2048x1024, .f32⟩
  | 45 => ⟨S1x2048x1024, .f32⟩
  | 46 => ⟨S_, .f32⟩
  | 47 => ⟨S1x2048x1024, .f32⟩
  | 48 => ⟨S1x2048x1024, .f32⟩
  | 49 => ⟨S_, .f32⟩
  | 50 => ⟨S1x2048x1024, .f32⟩
  | 51 => ⟨S1x2048x1024, .f32⟩
  | 52 => ⟨S_, .f32⟩
  | 53 => ⟨S1x2048x1024, .f32⟩
  | 54 => ⟨S1x2048x1024, .f32⟩
  | 55 => ⟨S1x2048x1024, .f32⟩
  | 56 => ⟨S_, .f32⟩
  | 57 => ⟨S1x2048x1024, .f32⟩
  | 58 => ⟨S1x2048x1024, .f32⟩
  | 59 => ⟨S1x2048x1024, .f32⟩
  | 60 => ⟨S_, .f32⟩
  | 61 => ⟨S1x2048x1024, .f32⟩
  | 62 => ⟨S1x2048x1024, .f32⟩
  | 63 => ⟨S_, .f32⟩
  | 64 => ⟨S1x2048x1024, .f32⟩
  | 65 => ⟨S1x2048x1024, .f32⟩
  | 66 => ⟨S1x2048x1024, .f32⟩
  | 67 => ⟨S_, .f32⟩
  | 68 => ⟨S1x2048x1024, .f32⟩
  | 69 => ⟨S1x2048x1024, .f32⟩
  | 70 => ⟨S_, .f32⟩
  | 71 => ⟨S1x2048x1024, .f32⟩
  | 72 => ⟨S1x2048x1024, .f32⟩
  | 73 => ⟨S1x2048x1024, .f32⟩
  | 74 => ⟨S1024, .f32⟩
  | 75 => ⟨S8x128x128, .f32⟩
  | 76 => ⟨S8x128, .f32⟩
  | 77 => ⟨S1x2048x1024, .f32⟩
  | 78 => ⟨S_, .f32⟩
  | 79 => ⟨S1x2048, .f32⟩
  | 80 => ⟨S1x2048x1, .f32⟩
  | 81 => ⟨S_, .f32⟩
  | 82 => ⟨S1x2048x1, .f32⟩
  | 83 => ⟨S1x2048x1, .f32⟩
  | 84 => ⟨S_, .f32⟩
  | 85 => ⟨S1x2048x1, .f32⟩
  | 86 => ⟨S1x2048x1, .f32⟩
  | 87 => ⟨S1x2048x1, .f32⟩
  | 88 => ⟨S1x2048x1, .f32⟩
  | 89 => ⟨S_, .f32⟩
  | 90 => ⟨S1x2048x1, .f32⟩
  | 91 => ⟨S1x2048x1, .f32⟩
  | 92 => ⟨S1x2048x1024, .f32⟩
  | 93 => ⟨S1x2048x1024, .f32⟩
  | 94 => ⟨S1x1x1024, .f32⟩
  | 95 => ⟨S1x2048x1024, .f32⟩
  | 96 => ⟨S1x2048x1024, .f32⟩
  | 97 => ⟨S1x16x128x8x128, .f32⟩
  | 98 => ⟨S8x1x16x128x128, .f32⟩
  | 99 => ⟨S1x16x128x8x128, .f32⟩
  | 100 => ⟨S128x8, .f32⟩
  | 101 => ⟨S128x8x1, .f32⟩
  | 102 => ⟨S1x1x128x8x1, .f32⟩
  | 103 => ⟨S1x16x128x8x128, .f32⟩
  | 104 => ⟨S1x16x128x8x128, .f32⟩
  | 105 => ⟨S1x2048x1024, .f32⟩
  | 106 => ⟨S1x2048x1024, .f32⟩
  | 107 => ⟨S1x2048x1024, .bf16⟩
  | 108 => ⟨S1x2048x1024, .f32⟩
  | 109 => ⟨S1x2048x1024, .f32⟩
  | 110 => ⟨S1x2048x1024, .f32⟩
  | 111 => ⟨S1x16x128x8x128, .f32⟩
  | 112 => ⟨S_, .f32⟩
  | 113 => ⟨S1x128x8, .f32⟩
  | 114 => ⟨S1x1x128x8x1, .f32⟩
  | 115 => ⟨S_, .f32⟩
  | 116 => ⟨S128x8, .f32⟩
  | 117 => ⟨S128x8x1, .f32⟩
  | 118 => ⟨S_, .f32⟩
  | 119 => ⟨S128x8, .f32⟩
  | 120 => ⟨S8x128, .f32⟩
  | 121 => ⟨S8x1x16x128x128, .f32⟩
  | 122 => ⟨S8x128x128, .f32⟩
  | 123 => ⟨S8x1x16x128x128, .f32⟩
  | 124 => ⟨S1x16x128x8x128, .f32⟩
  | 125 => ⟨S1x2048x1024, .f32⟩
  | 126 => ⟨S1x2048x1024, .f32⟩
  | 127 => ⟨S_, .f32⟩
  | _ => ⟨S2048x7680, .bf16⟩

abbrev hbmTy0_1 (i : Nat) : BufTy := match i % 128 with
  | 0 => ⟨S1x1024, .f32⟩
  | 1 => ⟨S1x1x1024, .f32⟩
  | 2 => ⟨S1x2048x1024, .f32⟩
  | 3 => ⟨S1x2048x1024, .f32⟩
  | 4 => ⟨S_, .f32⟩
  | 5 => ⟨S1024, .f32⟩
  | 6 => ⟨S1x2048x1024, .f32⟩
  | 7 => ⟨S_, .f32⟩
  | 8 => ⟨S1x2048, .f32⟩
  | 9 => ⟨S1x2048x1, .f32⟩
  | 10 => ⟨S1x2048x1024, .f32⟩
  | 11 => ⟨S1x2048x1024, .f32⟩
  | 12 => ⟨S1x2048x1, .f32⟩
  | 13 => ⟨S_, .f32⟩
  | 14 => ⟨S1x2048x1, .f32⟩
  | 15 => ⟨S1x2048x1, .f32⟩
  | 16 => ⟨S_, .f32⟩
  | 17 => ⟨S2048, .f32⟩
  | 18 => ⟨S1x2048, .f32⟩
  | 19 => ⟨S1x2048x1024, .f32⟩
  | 20 => ⟨S1x2048x1024, .f32⟩
  | 21 => ⟨S1x2048x1024, .f32⟩
  | 22 => ⟨S1x2048x1024, .f32⟩
  | 23 => ⟨S1x2048x1024, .f32⟩
  | 24 => ⟨S1x8x128, .f32⟩
  | 25 => ⟨S1x8x128x128, .f32⟩
  | 26 => ⟨S1x1024, .f32⟩
  | 27 => ⟨S1x2048x1024, .f32⟩
  | 28 => ⟨S1x2048x1024, .f32⟩
  | 29 => ⟨S_, .f32⟩
  | 30 => ⟨S1x2048x1024, .f32⟩
  | 31 => ⟨S1x2048x1024, .f32⟩
  | 32 => ⟨S1x2048x1024, .f32⟩
  | 33 => ⟨S_, .f32⟩
  | 34 => ⟨S1x2048x1024, .f32⟩
  | 35 => ⟨S1x2048x1024, .f32⟩
  | 36 => ⟨S1x2048x1024, .f32⟩
  | 37 => ⟨S_, .f32⟩
  | 38 => ⟨S1x2048x1024, .f32⟩
  | 39 => ⟨S1x2048x1024, .f32⟩
  | 40 => ⟨S_, .f32⟩
  | 41 => ⟨S1x2048x1024, .f32⟩
  | 42 => ⟨S1x2048x1024, .f32⟩
  | 43 => ⟨S1x2048x1024, .f32⟩
  | 44 => ⟨S1x2048x1024, .f32⟩
  | 45 => ⟨S1x2048x1024, .f32⟩
  | 46 => ⟨S1x2048x1024, .f32⟩
  | 47 => ⟨S_, .f32⟩
  | 48 => ⟨S1x2048x1024, .f32⟩
  | 49 => ⟨S1x2048x1024, .f32⟩
  | 50 => ⟨S1x2048x1024, .f32⟩
  | 51 => ⟨S_, .f32⟩
  | 52 => ⟨S1x2048x1024, .f32⟩
  | 53 => ⟨S1x2048x1024, .f32⟩
  | 54 => ⟨S1x2048x1024, .f32⟩
  | 55 => ⟨S_, .f32⟩
  | 56 => ⟨S1x2048x1024, .f32⟩
  | 57 => ⟨S1x2048x1024, .f32⟩
  | 58 => ⟨S_, .f32⟩
  | 59 => ⟨S1x2048x1024, .f32⟩
  | 60 => ⟨S1x2048x1024, .f32⟩
  | 61 => ⟨S1x2048x1024, .f32⟩
  | 62 => ⟨S1x2048x1024, .f32⟩
  | 63 => ⟨S2048x1024, .f32⟩
  | 64 => ⟨S2048x1024, .bf16⟩
  | 65 => ⟨S2048x1024, .f32⟩
  | 66 => ⟨S2048x1024, .bf16⟩
  | 67 => ⟨S2048x5632, .bf16⟩
  | 68 => ⟨S2048x7680, .bf16⟩
  | 69 => ⟨S8x128x128, .f32⟩
  | 70 => ⟨S8x128, .f32⟩
  | 71 => ⟨S8x128x1, .f32⟩
  | _ => ⟨S2048x7680, .bf16⟩

abbrev hbmTy (i : Nat) : BufTy := match i / 128 with
  | 0 => hbmTy0_0 i
  | 1 => hbmTy0_1 i
  | _ => ⟨S2048x7680, .bf16⟩

abbrev bufTy : (tb : Table) → Fin (tcTables nBuf tb) → BufTy
  | .hbm, ⟨i, _⟩ => hbmTy i
  | _, _ => ⟨S2048x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_cst_16 : Ref sig .tc := ⟨.hbm, 81, rfl⟩
abbrev main_v58 : Ref sig .tc := ⟨.hbm, 82, rfl⟩
abbrev main_v59 : Ref sig .tc := ⟨.hbm, 83, rfl⟩
abbrev main_cst_17 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_18 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_19 : Ref sig .tc := ⟨.hbm, 112, rfl⟩
abbrev main_v86 : Ref sig .tc := ⟨.hbm, 113, rfl⟩
abbrev main_v87 : Ref sig .tc := ⟨.hbm, 114, rfl⟩
abbrev main_cst_20 : Ref sig .tc := ⟨.hbm, 115, rfl⟩
abbrev main_v88 : Ref sig .tc := ⟨.hbm, 116, rfl⟩
abbrev main_v89 : Ref sig .tc := ⟨.hbm, 117, rfl⟩
abbrev main_cst_21 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_22 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_23 : Ref sig .tc := ⟨.hbm, 132, rfl⟩
abbrev main_v102 : Ref sig .tc := ⟨.hbm, 133, rfl⟩
abbrev main_v103 : Ref sig .tc := ⟨.hbm, 134, rfl⟩
abbrev main_cst_24 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_25 : Ref sig .tc := ⟨.hbm, 141, rfl⟩
abbrev main_v109 : Ref sig .tc := ⟨.hbm, 142, rfl⟩
abbrev main_v110 : Ref sig .tc := ⟨.hbm, 143, rfl⟩
abbrev main_cst_26 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_27 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_28 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_29 : Ref sig .tc := ⟨.hbm, 165, rfl⟩
abbrev main_v129 : Ref sig .tc := ⟨.hbm, 166, rfl⟩
abbrev main_v130 : Ref sig .tc := ⟨.hbm, 167, rfl⟩
abbrev main_cst_30 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_31 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_32 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_33 : Ref sig .tc := ⟨.hbm, 183, rfl⟩
abbrev main_v143 : Ref sig .tc := ⟨.hbm, 184, rfl⟩
abbrev main_v144 : Ref sig .tc := ⟨.hbm, 185, rfl⟩
abbrev main_cst_34 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩

abbrev nD : Nat := 1
abbrev τ : Topo := Topo.v7x

variable {F : FTy → Type} [FloatOps F]
-- ==== Kernel6.lean ====
abbrev S2048x2048 : Shape := ⟨2, ![2048, 2048]⟩
abbrev S1x2048 : Shape := ⟨2, ![1, 2048]⟩
abbrev S256x2048 : Shape := ⟨2, ![256, 2048]⟩
abbrev S8x2048 : Shape := ⟨2, ![8, 2048]⟩
abbrev S256 : Shape := ⟨1, ![256]⟩
abbrev S256x1 : Shape := ⟨2, ![256, 1]⟩
abbrev S32x8x2048 : Shape := ⟨3, ![32, 8, 2048]⟩
abbrev S2048 : Shape := ⟨1, ![2048]⟩

abbrev nBuf : Space → Nat
  | .hbm => 7
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v43 : BitVec 1 := Scalar.cmpi .eq arg0 c7_i32
  let v44 : BitVec 32 := Scalar.extui v43
  let c0_i32_19 : BitVec 32 := 0#32
  let v45 : BitVec 1 := Scalar.cmpi .ne v44 c0_i32_19
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S1x2048, .f32⟩
  | .hbm, ⟨52, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel7.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S8x2048 : Shape := ⟨2, ![8, 2048]⟩
abbrev S256 : Shape := ⟨1, ![256]⟩
abbrev S256x1 : Shape := ⟨2, ![256, 1]⟩
abbrev S32x8x2048 : Shape := ⟨3, ![32, 8, 2048]⟩
abbrev S2048 : Shape := ⟨1, ![2048]⟩
abbrev S1x8x2048 : Shape := ⟨3, ![1, 8, 2048]⟩
abbrev S1 : Shape := ⟨1, ![1]⟩
abbrev S1x1x1 : Shape := ⟨3, ![1, 1, 1]⟩

abbrev nBuf : Space → Nat
  | .hbm => 7
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x128, .f32⟩
  | .local _ .vmem, ⟨11, _⟩ => ⟨S8x2048, .f32⟩
  | .local _ .vmem, ⟨12, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v49 : BitVec 1 := Scalar.cmpi .eq arg0 c7_i32
  let v50 : BitVec 32 := Scalar.extui v49
  let c0_i32_19 : BitVec 32 := 0#32
  let v51 : BitVec 1 := Scalar.cmpi .ne v50 c0_i32_19
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S1x2048, .f32⟩
  | .hbm, ⟨73, _⟩ => ⟨S2048x2048, .bf16⟩
  | .hbm, ⟨74, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel8.lean ====
abbrev S2048x2048 : Shape := ⟨2, ![2048, 2048]⟩
abbrev S2048x7680 : Shape := ⟨2, ![2048, 7680]⟩
abbrev S1024x2048 : Shape := ⟨2, ![1024, 2048]⟩
abbrev S512x2048 : Shape := ⟨2, ![512, 2048]⟩
abbrev S1024x512 : Shape := ⟨2, ![1024, 512]⟩
abbrev S4x1024x512 : Shape := ⟨3, ![4, 1024, 512]⟩
abbrev S1x1024x512 : Shape := ⟨3, ![1, 1024, 512]⟩
abbrev S2048x4096 : Shape := ⟨2, ![2048, 4096]⟩

abbrev nBuf : Space → Nat
  | .hbm => 11
  | .vmem => 19
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x7680, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x7680, .bf16⟩
  | .hbm, ⟨10, _⟩ => ⟨S2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S4x1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg1 : BitVec 32 := BitVec.ofNat 32 (i 1).val
  let c3_i32 : BitVec 32 := 3#32
  let v58 : BitVec 32 := Scalar.minsi arg1 c3_i32
  let v59 : Index := Scalar.indexCast v58
  let c0_27 : Index := 0#32
  let c0_28 : Index := 0#32
  ![v59.toNat, 0, 0]
def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg1 : BitVec 32 := BitVec.ofNat 32 (i 1).val
  let c4_i32_2 : BitVec 32 := 4#32
  let v6 : BitVec 32 := Scalar.subi arg1 c4_i32_2
  let c0_i32_3 : BitVec 32 := 0#32
  let v7 : BitVec 32 := Scalar.maxsi v6 c0_i32_3
  let v8 : Index := Scalar.indexCast v7
  let c0 : Index := 0#32
  let c0_4 : Index := 0#32
  ![v8.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c7_i32 : BitVec 32 := 7#32
  let v1 : BitVec 32 := Scalar.addi c7_i32 v0
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c11_i32 : BitVec 32 := 11#32
  let v1 : BitVec 32 := Scalar.addi c11_i32 v0
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S2048x2048 : Shape := ⟨2, ![2048, 2048]⟩
abbrev S2048x7680 : Shape := ⟨2, ![2048, 7680]⟩
abbrev S_ : Shape := ⟨0, ![]⟩
abbrev S2048x4096 : Shape := ⟨2, ![2048, 4096]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x7680, .bf16⟩
  | .hbm, ⟨3, _⟩ => ⟨S2048x2048, .bf16⟩
  | .hbm, ⟨4, _⟩ => ⟨S2048x2048, .bf16⟩
  | .hbm, ⟨5, _⟩ => ⟨S2048x7680, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .bf16⟩
  | .hbm, ⟨46, _⟩ => ⟨S2048x2048, .bf16⟩
  | .hbm, ⟨47, _⟩ => ⟨S2048x4096, .f32⟩
  | .hbm, ⟨48, _⟩ => ⟨S2048x4096, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel9.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel10.lean ====
abbrev S2048x7680 : Shape := ⟨2, ![2048, 7680]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S8x128x1 : Shape := ⟨3, ![8, 128, 1]⟩
abbrev S2048x1024 : Shape := ⟨2, ![2048, 1024]⟩
abbrev S128x1024 : Shape := ⟨2, ![128, 1024]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩
abbrev S1x128x1 : Shape := ⟨3, ![1, 128, 1]⟩

abbrev nBuf : Space → Nat
  | .hbm => 9
  | .vmem => 9
  | .smem => 0
  | _ => 0

abbrev bufTy : (tb : Table) → Fin (tcTables nBuf tb) → BufTy
  | .hbm, ⟨0, _⟩ => ⟨S2048x7680, .bf16⟩
  | .hbm, ⟨1, _⟩ => ⟨S1x1024, .f32⟩
  | .hbm, ⟨2, _⟩ => ⟨S1x8x128x128, .f32⟩
  | .hbm, ⟨3, _⟩ => ⟨S1x8x128, .f32⟩
  | .hbm, ⟨4, _⟩ => ⟨S8x128x128, .f32⟩
  | .hbm, ⟨5, _⟩ => ⟨S8x128x128, .bf16⟩
  | .hbm, ⟨6, _⟩ => ⟨S8x128, .f32⟩
  | .hbm, ⟨7, _⟩ => ⟨S8x128x1, .f32⟩
  | .hbm, ⟨8, _⟩ => ⟨S2048x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S1x1024, .f32⟩
  | .local _ .vmem, ⟨5, _⟩ => ⟨S8x128x128, .bf16⟩
  | .local _ .vmem, ⟨6, _⟩ => ⟨S8x128x1, .f32⟩
  | .local _ .vmem, ⟨7, _⟩ => ⟨S128x1024, .bf16⟩
  | .local _ .vmem, ⟨8, _⟩ => ⟨S128x1024, .bf16⟩
  | _, _ => ⟨S2048x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel10Ideal.lean ====
variable {F : FTy → Type} [FloatOps F] [Named F]
def κ : String → Option EReal := fun
  | "gelu" => some ((8943 / 200000 : ℝ) : EReal)
  | _ => none
-- ==== Reference10Ideal.lean ====
abbrev S2048x7680 : Shape := ⟨2, ![2048, 7680]⟩
abbrev S1x1024 : Shape := ⟨2, ![1, 1024]⟩
abbrev S1x8x128x128 : Shape := ⟨4, ![1, 8, 128, 128]⟩
abbrev S1x8x128 : Shape := ⟨3, ![1, 8, 128]⟩
abbrev S2048x1024 : Shape := ⟨2, ![2048, 1024]⟩
abbrev S1x2048x1024 : Shape := ⟨3, ![1, 2048, 1024]⟩
abbrev S_ : Shape := ⟨0, ![]⟩
abbrev S1024 : Shape := ⟨1, ![1024]⟩
abbrev S8x128x128 : Shape := ⟨3, ![8, 128, 128]⟩
abbrev S8x128 : Shape := ⟨2, ![8, 128]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S8x1x16x128x128 : Shape := ⟨5, ![8, 1, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 81
  | .vmem => 0
  | .smem => 0
  | _ => 0

abbrev bufTy : (tb : Table) → Fin (tcTables nBuf tb) → BufTy
  | .hbm, ⟨0, _⟩ => ⟨S2048x7680, .bf16⟩
  | .hbm, ⟨1, _⟩ => ⟨S1x1024, .f32⟩
  | .hbm, ⟨2, _⟩ => ⟨S1x8x128x128, .f32⟩
  | .hbm, ⟨3, _⟩ => ⟨S1x8x128, .f32⟩
  | .hbm, ⟨4, _⟩ => ⟨S2048x1024, .bf16⟩
  | .hbm, ⟨5, _⟩ => ⟨S1x2048x1024, .bf16⟩
  | .hbm, ⟨6, _⟩ => ⟨S1x2048x1024, .f32⟩
  | .hbm, ⟨7, _⟩ => ⟨S2048x1024, .bf16⟩
  | .hbm, ⟨8, _⟩ => ⟨S1x2048x1024, .bf16⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S_, .f32⟩
  | .hbm, ⟨13, _⟩ => ⟨S1x2048x1024, .f32⟩
  | .hbm, ⟨14, _⟩ => ⟨S1x2048x1024, .f32⟩
  | .hbm, ⟨15, _⟩ => ⟨S_, .f32⟩
  | .hbm, ⟨16, _⟩ => ⟨S1x2048x1024, .f32⟩
  | .hbm, ⟨17, _⟩ => ⟨S1x2048x1024, .f32⟩
  | .hbm, ⟨18, _⟩ => ⟨S1x2048x1024, .f32⟩
  | .hbm, ⟨19, _⟩ => ⟨S_, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S_, .f32⟩
  | .hbm, ⟨24, _⟩ => ⟨S1x2048x1024, .f32⟩
  | .hbm, ⟨25, _⟩ => ⟨S1x2048x1024, .f32⟩
  | .hbm, ⟨26, _⟩ => ⟨S_, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S1x2048x1024, .f32⟩
  | .hbm, ⟨32, _⟩ => ⟨S_, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1x2048x1024, .f32⟩
  | .hbm, ⟨37, _⟩ => ⟨S1x2048x1024, .f32⟩
  | .hbm, ⟨38, _⟩ => ⟨S1x2048x1024, .f32⟩
  | .hbm, ⟨39, _⟩ => ⟨S_, .f32⟩
  | .hbm, ⟨40, _⟩ => ⟨S1x2048x1024, .f32⟩
  | .hbm, ⟨41, _⟩ => ⟨S1x2048x1024, .f32⟩
  | .hbm, ⟨42, _⟩ => ⟨S1x2048x1024, .f32⟩
  | .hbm, ⟨43, _⟩ => ⟨S_, .f32⟩
  | .hbm, ⟨44, _⟩ => ⟨S1x2048x1024, .f32⟩
  | .hbm, ⟨45, _⟩ => ⟨S1x2048x1024, .f32⟩
  | .hbm, ⟨46, _⟩ => ⟨S_, .f32⟩
  | .hbm, ⟨47, _⟩ => ⟨S1x2048x1024, .f32⟩
  | .hbm, ⟨48, _⟩ => ⟨S1x2048x1024, .f32⟩
  | .hbm, ⟨49, _⟩ => ⟨S1x2048x1024, .f32⟩
  | .hbm, ⟨50, _⟩ => ⟨S1024, .f32⟩
  | .hbm, ⟨51, _⟩ => ⟨S8x128x128, .f32⟩
  | .hbm, ⟨52, _⟩ => ⟨S8x128, .f32⟩
  | .hbm, ⟨53, _⟩ => ⟨S1x2048x1024, .f32⟩
  | .hbm, ⟨54, _⟩ => ⟨S_, .f32⟩
  | .hbm, ⟨55, _⟩ => ⟨S1x2048, .f32⟩
  | .hbm, ⟨56, _⟩ => ⟨S1x2048x1, .f32⟩
  | .hbm, ⟨57, _⟩ => ⟨S_, .f32⟩
  | .hbm, ⟨58, _⟩ => ⟨S1x2048x1, .f32⟩
  | .hbm, ⟨59, _⟩ => ⟨S1x2048x1, .f32⟩
  | .hbm, ⟨60, _⟩ => ⟨S_, .f32⟩
  | .hbm, ⟨61, _⟩ => ⟨S1x2048x1, .f32⟩
  | .hbm, ⟨62, _⟩ => ⟨S1x2048x1, .f32⟩
  | .hbm, ⟨63, _⟩ => ⟨S1x2048x1, .f32⟩
  | .hbm, ⟨64, _⟩ => ⟨S1x2048x1024, .f32⟩
  | .hbm, ⟨65, _⟩ => ⟨S1x2048x1024, .f32⟩
  | .hbm, ⟨66, _⟩ => ⟨S1x1x1024, .f32⟩
  | .hbm, ⟨67, _⟩ => ⟨S1x2048x1024, .f32⟩
  | .hbm, ⟨68, _⟩ => ⟨S1x2048x1024, .f32⟩
  | .hbm, ⟨69, _⟩ => ⟨S1x16x128x8x128, .f32⟩
  | .hbm, ⟨70, _⟩ => ⟨S8x1x16x128x128, .f32⟩
  | .hbm, ⟨71, _⟩ => ⟨S1x16x128x8x128, .f32⟩
  | .hbm, ⟨72, _⟩ => ⟨S128x8, .f32⟩
  | .hbm, ⟨73, _⟩ => ⟨S128x8x1, .f32⟩
  | .hbm, ⟨74, _⟩ => ⟨S1x1x128x8x1, .f32⟩
  | .hbm, ⟨75, _⟩ => ⟨S1x16x128x8x128, .f32⟩
  | .hbm, ⟨76, _⟩ => ⟨S1x16x128x8x128, .f32⟩
  | .hbm, ⟨77, _⟩ => ⟨S1x2048x1024, .f32⟩
  | .hbm, ⟨78, _⟩ => ⟨S1x2048x1024, .f32⟩
  | .hbm, ⟨79, _⟩ => ⟨S2048x1024, .f32⟩
  | .hbm, ⟨80, _⟩ => ⟨S2048x1024, .bf16⟩
  | _, _ => ⟨S2048x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Kernel11.lean ====
abbrev S2304x256 : Shape := ⟨2, ![2304, 256]⟩
abbrev S2048x7680 : Shape := ⟨2, ![2048, 7680]⟩
abbrev S128x256 : Shape := ⟨2, ![128, 256]⟩
abbrev S128x512 : Shape := ⟨2, ![128, 512]⟩

abbrev nBuf : Space → Nat
  | .hbm => 4
  | .vmem => 6
  | .smem => 0
  | _ => 0

abbrev bufTy : (tb : Table) → Fin (tcTables nBuf tb) → BufTy
  | .hbm, ⟨0, _⟩ => ⟨S2304x256, .f32⟩
  | .hbm, ⟨1, _⟩ => ⟨S2304x256, .f32⟩
  | .hbm, ⟨2, _⟩ => ⟨S2048x7680, .bf16⟩
  | .hbm, ⟨3, _⟩ => ⟨S2048x7680, .bf16⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x512, .bf16⟩
  | .local _ .vmem, ⟨5, _⟩ => ⟨S128x512, .bf16⟩
  | _, _ => ⟨S2304x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S2304x256 : Shape := ⟨2, ![2304, 256]⟩
abbrev S2048x7680 : Shape := ⟨2, ![2048, 7680]⟩
abbrev S2048x256 : Shape := ⟨2, ![2048, 256]⟩
abbrev S2048x3072 : Shape := ⟨2, ![2048, 3072]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2304x256, .f32⟩
  | .hbm, ⟨1, _⟩ => ⟨S2304x256, .f32⟩
  | .hbm, ⟨2, _⟩ => ⟨S2048x7680, .bf16⟩
  | .hbm, ⟨3, _⟩ => ⟨S2048x256, .f32⟩
  | .hbm, ⟨4, _⟩ => ⟨S2048x256, .bf16⟩
  | .hbm, ⟨5, _⟩ => ⟨S2048x256, .f32⟩
  | .hbm, ⟨6, _⟩ => ⟨S2048x256, .bf16⟩
  | .hbm, ⟨7, _⟩ => ⟨S2048x3072, .bf16⟩
  | .hbm, ⟨8, _⟩ => ⟨S2048x4096, .bf16⟩
  | .hbm, ⟨9, _⟩ => ⟨S2048x7680, .bf16⟩
  | _, _ => ⟨S2304x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Row.lean ====
module

public import Idealize.ShloMosaic.Lib.Pointwise
public import Idealize.ShloMosaic.Lib.IdealHost

/-! One row of the softmax with a sink, forward and backward, over the extended reals: the quantities in the form in
which the kernel computes them, and the two facts that bring the reference's form (the quotient rule applied to the
row with the sink appended) to them. -/

@[expose] public section

noncomputable section

namespace Att

open Idealize.ShloMosaic

/-- The largest of a row's scores and the sink. -/
def top (s : Fin 384 → EReal) (k : EReal) : EReal := max (Finset.univ.fold max ⊥ s) k
/-- The exponential of a score, shifted by the largest. -/
def wt (s : Fin 384 → EReal) (k : EReal) (j : Fin 384) : EReal := Ideal.exp (s j - top s k)
/-- The exponential of the sink, shifted by the largest. -/
def wk (s : Fin 384 → EReal) (k : EReal) : EReal := Ideal.exp (k - top s k)
/-- The softmax's denominator. -/
def den (s : Fin 384 → EReal) (k : EReal) : EReal := ∑ x, wt s k x + wk s k
/-- The softmax's weight of a key. -/
def pn (s : Fin 384 → EReal) (k : EReal) (j : Fin 384) : EReal := Ideal.div (wt s k j) (den s k)
/-- The softmax's weight of the sink. -/
def pk (s : Fin 384 → EReal) (k : EReal) : EReal := Ideal.div (wk s k) (den s k)
/-- The weighted sum of the weights' gradients. -/
def dlt (s : Fin 384 → EReal) (k : EReal) (d : Fin 384 → EReal) : EReal := ∑ x, pn s k x * d x
/-- The gradient of a score. -/
def ds (s : Fin 384 → EReal) (k : EReal) (d : Fin 384 → EReal) (j : Fin 384) : EReal := pn s k j * (d j - dlt s k d)
/-- The gradient of the sink's score, without its sign. -/
def dk (s : Fin 384 → EReal) (k : EReal) (d : Fin 384 → EReal) : EReal := pk s k * dlt s k d

/-- An extended real that is a real number. -/
def IsReal (x : EReal) : Prop := ∃ r : ℝ, x = (r : EReal)

/-- A sum of reals is real. -/
theorem IsReal.add {x y : EReal} : IsReal x → IsReal y → IsReal (x + y) := by
  rintro ⟨a, rfl⟩ ⟨b, rfl⟩; exact ⟨a + b, (EReal.coe_add a b).symm⟩
/-- A product of reals is real. -/
theorem IsReal.mul {x y : EReal} : IsReal x → IsReal y → IsReal (x * y) := by
  rintro ⟨a, rfl⟩ ⟨b, rfl⟩; exact ⟨a * b, (EReal.coe_mul a b).symm⟩
/-- Zero is real. -/
theorem IsReal.zero : IsReal 0 := ⟨0, rfl⟩
/-- A finite sum of reals is real. -/
theorem IsReal.sum {n : ℕ} {f : Fin n → EReal} (h : ∀ i, IsReal (f i)) : IsReal (∑ i, f i) := by
  choose r hr using h
  exact ⟨∑ i, r i, by simp only [hr]; exact (map_sum (⟨⟨Real.toEReal, rfl⟩, EReal.coe_add⟩ : ℝ →+ EReal) r Finset.univ).symm⟩

/-- A sum of reals, seen as extended reals. -/
theorem coe_sum {n : ℕ} (r : Fin n → ℝ) : ((∑ i, r i : ℝ) : EReal) = ∑ i, (r i : EReal) :=
  map_sum (⟨⟨Real.toEReal, rfl⟩, EReal.coe_add⟩ : ℝ →+ EReal) r Finset.univ

/-- The negation of a sum of real numbers is the sum of the negations. -/
theorem neg_sum {n : ℕ} {f : Fin n → EReal} (h : ∀ i, IsReal (f i)) : -∑ i, f i = ∑ i, -f i := by
  choose r hr using h
  simp only [hr, ← EReal.coe_neg, ← coe_sum]
  rw [Finset.sum_neg_distrib]

/-- The exponential of a real. -/
theorem exp_real (r : ℝ) : Ideal.exp (r : EReal) = (Real.exp r : EReal) := rfl

/-- A maximum of entries below infinity is below infinity. -/
theorem fold_top {n : ℕ} (s : Fin n → EReal) (h : ∀ i, s i ≠ ⊤) : Finset.univ.fold max ⊥ s ≠ ⊤ := by
  apply ne_of_lt
  rw [Finset.fold_max_lt]
  exact ⟨bot_lt_top, fun i _ => lt_top_iff_ne_top.mpr (h i)⟩

/-- With scores that are real or `⊥` and a real sink, the largest is real. -/
theorem top_real {s : Fin 384 → EReal} {k : EReal} (hs : ∀ j, s j = ⊥ ∨ IsReal (s j)) (hk : IsReal k) : IsReal (top s k) := by
  obtain ⟨r, rfl⟩ := hk
  have h1 : top s r ≠ ⊤ := by
    unfold top
    have := fold_top s (fun i => by rcases hs i with h | ⟨r, h⟩ <;> rw [h]; exact bot_ne_top; exact EReal.coe_ne_top r)
    intro h
    rcases max_choice (Finset.univ.fold max ⊥ s) (r : EReal) with h' | h' <;> rw [h'] at h
    · exact this h
    · exact EReal.coe_ne_top r h
  have h2 : top s r ≠ ⊥ := ne_of_gt (lt_of_lt_of_le (EReal.bot_lt_coe r) (le_max_right _ _))
  exact ⟨(top s r).toReal, (EReal.coe_toReal h1 h2).symm⟩

/-- The shifted exponentials are real: nonnegative numbers, and the sink's is positive. -/
theorem wt_real {s : Fin 384 → EReal} {k : EReal} (hs : ∀ j, s j = ⊥ ∨ IsReal (s j)) (hk : IsReal k) (j : Fin 384) :
    ∃ r : ℝ, 0 ≤ r ∧ wt s k j = r := by
  obtain ⟨t, ht⟩ := top_real hs hk
  unfold wt
  rw [ht]
  rcases hs j with h | ⟨r, h⟩ <;> rw [h]
  · exact ⟨0, le_refl 0, by rw [EReal.bot_sub]; rfl⟩
  · exact ⟨Real.exp (r - t), (Real.exp_pos _).le, by rw [← EReal.coe_sub]; rfl⟩

/-- The sink's weight is real and positive. -/
theorem wk_real {s : Fin 384 → EReal} {k : EReal} (hs : ∀ j, s j = ⊥ ∨ IsReal (s j)) (hk : IsReal k) :
    ∃ r : ℝ, 0 < r ∧ wk s k = r := by
  obtain ⟨t, ht⟩ := top_real hs hk
  unfold wk
  rw [ht]
  obtain ⟨r, rfl⟩ := hk
  exact ⟨Real.exp (r - t), Real.exp_pos _, by rw [← EReal.coe_sub]; rfl⟩

/-- Everything a row computes, as real numbers: the exponentials, the denominator and the gradients. -/
theorem row_real {s : Fin 384 → EReal} {k : EReal} {d : Fin 384 → EReal} (hs : ∀ j, s j = ⊥ ∨ IsReal (s j)) (hk : IsReal k)
    (hd : ∀ j, IsReal (d j)) : ∃ (w : Fin 384 → ℝ) (u S : ℝ) (e : Fin 384 → ℝ), S ≠ 0 ∧ (∀ j, wt s k j = w j) ∧ wk s k = u ∧
      den s k = S ∧ (∀ j, d j = e j) ∧ S = ∑ j, w j + u := by
  choose w hw hw' using wt_real hs hk
  obtain ⟨u, hu, hu'⟩ := wk_real hs hk
  choose e he using hd
  refine ⟨w, u, ∑ j, w j + u, e, (add_pos_of_nonneg_of_pos (Finset.sum_nonneg fun j _ => hw j) hu).ne', hw', hu', ?_, he, rfl⟩
  unfold den
  simp only [hw', hu', EReal.coe_add, coe_sum]

/-- A key that takes no part has weight zero in the gradient. -/
theorem ds_bot {s : Fin 384 → EReal} {k : EReal} {d : Fin 384 → EReal} (hs : ∀ j, s j = ⊥ ∨ IsReal (s j)) (hk : IsReal k)
    (hd : ∀ j, IsReal (d j)) (j : Fin 384) (h : s j = ⊥) : ds s k d j = 0 := by
  obtain ⟨w, u, S, e, hS, hw, hu, hden, he, -⟩ := row_real hs hk hd
  have hw0 : wt s k j = 0 := by
    obtain ⟨t, ht⟩ := top_real hs hk
    unfold wt; rw [h, ht, EReal.bot_sub]; rfl
  unfold ds pn
  rw [hw0, hden, Ideal.div_coe hS, zero_mul, zero_mul]

/-- A softmax weight is real. -/
theorem pn_real {s : Fin 384 → EReal} {k : EReal} (hs : ∀ j, s j = ⊥ ∨ IsReal (s j)) (hk : IsReal k) (j : Fin 384) : IsReal (pn s k j) := by
  obtain ⟨w, u, S, e, hS, hw, hu, hden, he, -⟩ := row_real hs hk (d := fun _ => 0) fun _ => IsReal.zero
  unfold pn
  rw [hw, hden, Ideal.div_coe hS]
  exact ⟨_, (EReal.coe_mul _ _).symm⟩

/-- The gradient of the sink is real. -/
theorem dk_real {s : Fin 384 → EReal} {k : EReal} {d : Fin 384 → EReal} (hs : ∀ j, s j = ⊥ ∨ IsReal (s j)) (hk : IsReal k)
    (hd : ∀ j, IsReal (d j)) : IsReal (dk s k d) := by
  obtain ⟨w, u, S, e, hS, hw, hu, hden, he, -⟩ := row_real hs hk hd
  refine IsReal.mul ?_ (IsReal.sum fun x => (pn_real hs hk x).mul (hd x))
  unfold pk
  rw [hu, hden, Ideal.div_coe hS]
  exact ⟨_, (EReal.coe_mul _ _).symm⟩

/-- The quotient rule's form of a score's gradient is the kernel's. -/
theorem ds_quot {s : Fin 384 → EReal} {k : EReal} {d : Fin 384 → EReal} (hs : ∀ j, s j = ⊥ ∨ IsReal (s j)) (hk : IsReal k)
    (hd : ∀ j, IsReal (d j)) (j : Fin 384) :
    (Ideal.div (d j) (den s k) + -∑ x, d x * Ideal.div 1 (den s k * den s k) * wt s k x) * wt s k j = ds s k d j := by
  obtain ⟨w, u, S, e, hS, hw, hu, hden, he, -⟩ := row_real hs hk hd
  unfold ds dlt pn
  have hSS : S * S ≠ 0 := mul_ne_zero hS hS
  simp only [hw, hden, he, ← EReal.coe_mul, Ideal.div_coe hS, Ideal.div_coe hSS, ← coe_sum, ← EReal.coe_neg, ← EReal.coe_add,
    ← EReal.coe_sub, one_mul]
  congr 1
  have : ∑ x, e x * (1 / (S * S)) * w x = (∑ x, w x * (1 / S) * e x) * (1 / S) := by
    rw [Finset.sum_mul]
    refine Finset.sum_congr rfl fun x _ => ?_
    field_simp
  rw [this]
  ring

/-- The quotient rule's form of the sink's gradient is the kernel's, with its sign. -/
theorem dk_quot {s : Fin 384 → EReal} {k : EReal} {d : Fin 384 → EReal} (hs : ∀ j, s j = ⊥ ∨ IsReal (s j)) (hk : IsReal k)
    (hd : ∀ j, IsReal (d j)) :
    (Ideal.div 0 (den s k) + -∑ x, d x * Ideal.div 1 (den s k * den s k) * wt s k x) * wk s k = -dk s k d := by
  obtain ⟨w, u, S, e, hS, hw, hu, hden, he, -⟩ := row_real hs hk hd
  unfold dk dlt pn pk
  have hSS : S * S ≠ 0 := mul_ne_zero hS hS
  simp only [hw, hu, hden, he, ← EReal.coe_mul, Ideal.div_coe hS, Ideal.div_coe hSS, ← coe_sum, ← EReal.coe_neg, ← EReal.coe_add,
    one_mul, zero_mul, zero_add]
  congr 1
  have : ∑ x, e x * (1 / (S * S)) * w x = (∑ x, w x * (1 / S) * e x) * (1 / S) := by
    rw [Finset.sum_mul]
    refine Finset.sum_congr rfl fun x _ => ?_
    field_simp
  rw [this]
  ring

/-- A row with the sink appended as its last entry. -/
def app (s : Fin 384 → EReal) (k : EReal) (x : Fin 385) : EReal := if h : x.val < 384 then s ⟨x.val, h⟩ else k

/-- A score of the extended row. -/
theorem app_castSucc (s : Fin 384 → EReal) (k : EReal) (j : Fin 384) : app s k j.castSucc = s j := by
  unfold app; rw [dif_pos (show j.castSucc.val < 384 from j.isLt)]; rfl
/-- The sink of the extended row. -/
theorem app_last (s : Fin 384 → EReal) (k : EReal) : app s k (Fin.last 384) = k := by
  unfold app; rw [dif_neg (by simp)]

/-- The largest entry of the row with the sink appended. -/
theorem fold_app (s : Fin 384 → EReal) (k : EReal) : max ⊥ ((Finset.univ : Finset (Fin 385)).fold max ⊥ (app s k)) = top s k := by
  rw [max_eq_right bot_le]
  apply le_antisymm
  · rw [Finset.fold_max_le]
    refine ⟨bot_le, fun x _ => ?_⟩
    induction x using Fin.lastCases with
    | last => rw [app_last]; exact le_max_right _ _
    | cast j =>
      rw [app_castSucc]
      exact le_trans (by rw [Finset.le_fold_max]; exact .inr ⟨j, Finset.mem_univ j, le_refl _⟩) (le_max_left _ _)
  · unfold top
    apply max_le
    · rw [Finset.fold_max_le]
      refine ⟨bot_le, fun j _ => ?_⟩
      rw [Finset.le_fold_max]
      exact .inr ⟨j.castSucc, Finset.mem_univ _, by rw [app_castSucc]⟩
    · rw [Finset.le_fold_max]
      exact .inr ⟨Fin.last 384, Finset.mem_univ _, by rw [app_last]⟩

/-- The exponentials of the row with the sink appended. -/
theorem exp_app (s : Fin 384 → EReal) (k : EReal) (x : Fin 385) : Ideal.exp (app s k x - top s k) = app (wt s k) (wk s k) x := by
  unfold app
  split <;> rfl

/-- Their sum is the denominator. -/
theorem sum_app (w : Fin 384 → EReal) (u : EReal) : ∑ x : Fin 385, app w u x = ∑ j, w j + u := by
  rw [Fin.sum_univ_castSucc]
  simp only [app_castSucc, app_last]

/-- The reference's gradient of the row with the sink appended, at a key. -/
theorem ref_ds {s : Fin 384 → EReal} {k : EReal} {d : Fin 384 → EReal} (hs : ∀ j, s j = ⊥ ∨ IsReal (s j)) (hk : IsReal k)
    (hd : ∀ j, IsReal (d j)) (x : Fin 385) :
    (Ideal.div (app d 0 x) (∑ y, app (wt s k) (wk s k) y) +
      ∑ _y : Fin 1, -∑ y, app d 0 y * Ideal.div 1 ((∑ z, app (wt s k) (wk s k) z) * ∑ z, app (wt s k) (wk s k) z) * app (wt s k) (wk s k) y) *
      app (wt s k) (wk s k) x = app (ds s k d) (-dk s k d) x := by
  have hsum : ∑ y, app (wt s k) (wk s k) y = den s k := sum_app _ _
  have hin : ∑ y, app d 0 y * Ideal.div 1 (den s k * den s k) * app (wt s k) (wk s k) y =
      ∑ y, d y * Ideal.div 1 (den s k * den s k) * wt s k y := by
    rw [Fin.sum_univ_castSucc]
    simp only [app_castSucc, app_last, zero_mul, add_zero]
  rw [hsum, hin, Fin.sum_univ_one]
  induction x using Fin.lastCases with
  | last => rw [app_last, app_last, app_last]; exact dk_quot hs hk hd
  | cast j => rw [app_castSucc, app_castSucc, app_castSucc]; exact ds_quot hs hk hd j

end Att
-- ==== Proof.Model.lean ====
module

public import proofs.«01_k».proof.Proof.Row

/-! The windowed attention's backward pass as formulas over the entries of its inputs: the masked scores, the softmax
with a sink, and the five gradients. Both programs are brought to these formulas. -/

@[expose] public section

noncomputable section

namespace Att

open Idealize.ShloMosaic

/-- The inputs' entries: the projections, the gradient of the attention's result, the sinks and the bias table. -/
structure Inp where
  /-- the projections -/
  z : Fin 2048 → Fin 7680 → EReal
  /-- the gradient of the attention's result -/
  o : Fin 2048 → Fin 1024 → EReal
  /-- the sinks' logits -/
  s : Fin 8 → EReal
  /-- the bias, by head, query and key of the band -/
  b : Fin 8 → Fin 128 → Fin 384 → EReal

/-- The key (`off = 3072`) or value (`off = 3328`) columns, with 128 rows of zeros before and after. -/
def Inp.pad (I : Inp) (off : ℕ) (ho : off + 256 ≤ 7680) (r : Fin 2304) (c : Fin 256) : EReal :=
  if h : 128 ≤ r.val ∧ r.val < 2176 then I.z ⟨r.val - 128, by omega⟩ ⟨off + c.val, by omega⟩ else 0
/-- The padded keys. -/
def Inp.k (I : Inp) : Fin 2304 → Fin 256 → EReal := I.pad 3072 (by omega)
/-- The padded values. -/
def Inp.v (I : Inp) : Fin 2304 → Fin 256 → EReal := I.pad 3328 (by omega)

/-- A padded row inside the sequence. -/
theorem Inp.pad_eq (I : Inp) {off : ℕ} {ho : off + 256 ≤ 7680} {r : Fin 2304} {c : Fin 256} (r' : Fin 2048) (c' : Fin 7680)
    (hr : r.val = r'.val + 128) (hc : c'.val = off + c.val) : I.z r' c' = I.pad off ho r c := by
  unfold Inp.pad
  rw [dif_pos (by omega)]
  congr 1 <;> (apply Fin.ext; dsimp only; omega)
/-- A padded row outside the sequence is zero. -/
theorem Inp.pad_out (I : Inp) {off : ℕ} {ho : off + 256 ≤ 7680} {r : Fin 2304} {c : Fin 256} (h : ¬(128 ≤ r.val ∧ r.val < 2176)) :
    0 = I.pad off ho r c := by
  unfold Inp.pad
  rw [dif_neg h]

/-- The row of a query of block `n`. -/
def qrow (n : Fin 16) (q : Fin 128) : Fin 2048 := ⟨n.val * 128 + q.val, by omega⟩
/-- The padded row of a key of block `n`'s band. -/
def krow (n : Fin 16) (j : Fin 384) : Fin 2304 := ⟨n.val * 128 + j.val, by omega⟩
/-- The column of a key head's entry. -/
def kcol (h : Fin 2) (d : Fin 128) : Fin 256 := ⟨h.val * 128 + d.val, by omega⟩
/-- The column of a query head's entry. -/
def qcol (h : Fin 2) (g : Fin 4) (d : Fin 128) : Fin 1024 := ⟨h.val * 512 + g.val * 128 + d.val, by omega⟩
/-- The same column among the projections'. -/
def zcol (h : Fin 2) (g : Fin 4) (d : Fin 128) : Fin 7680 := ⟨2048 + (h.val * 512 + g.val * 128 + d.val), by omega⟩
/-- The head's number. -/
def head (h : Fin 2) (g : Fin 4) : Fin 8 := ⟨h.val * 4 + g.val, by omega⟩

/-- The key is at a distance of at most 128 from the query. -/
def near (q : Fin 128) (j : Fin 384) : Prop := q.val ≤ j.val ∧ j.val ≤ q.val + 256
/-- The key is one of the sequence's. -/
def inside (n : Fin 16) (j : Fin 384) : Prop := 128 ≤ n.val * 128 + j.val ∧ n.val * 128 + j.val < 2176
/-- The distance test can be decided. -/
instance (q : Fin 128) (j : Fin 384) : Decidable (near q j) := by unfold near; infer_instance
/-- The test of the place can be decided. -/
instance (n : Fin 16) (j : Fin 384) : Decidable (inside n j) := by unfold inside; infer_instance

/-- The scale of the scores, the reciprocal of the root of 128. -/
def scale : EReal := (((Real.sqrt 128)⁻¹ : ℝ) : EReal)

/-- A score before the mask. -/
def Inp.raw (I : Inp) (n : Fin 16) (h : Fin 2) (g : Fin 4) (q : Fin 128) (j : Fin 384) : EReal :=
  (∑ d : Fin 128, I.z (qrow n q) (zcol h g d) * I.k (krow n j) (kcol h d)) * scale + I.b (head h g) q j
/-- A row of masked scores. -/
def Inp.sc (I : Inp) (n : Fin 16) (h : Fin 2) (g : Fin 4) (q : Fin 128) (j : Fin 384) : EReal :=
  if near q j ∧ inside n j then I.raw n h g q j else ⊥
/-- The gradient of a softmax weight. -/
def Inp.dp (I : Inp) (n : Fin 16) (h : Fin 2) (g : Fin 4) (q : Fin 128) (j : Fin 384) : EReal :=
  ∑ d : Fin 128, I.o (qrow n q) (qcol h g d) * I.v (krow n j) (kcol h d)
/-- A softmax weight. -/
def Inp.P (I : Inp) (n : Fin 16) (h : Fin 2) (g : Fin 4) (q : Fin 128) (j : Fin 384) : EReal :=
  pn (I.sc n h g q) (I.s (head h g)) j
/-- The gradient of a score. -/
def Inp.D (I : Inp) (n : Fin 16) (h : Fin 2) (g : Fin 4) (q : Fin 128) (j : Fin 384) : EReal :=
  ds (I.sc n h g q) (I.s (head h g)) (I.dp n h g q) j
/-- The gradient of a sink at one query, without its sign. -/
def Inp.K (I : Inp) (n : Fin 16) (h : Fin 2) (g : Fin 4) (q : Fin 128) : EReal :=
  dk (I.sc n h g q) (I.s (head h g)) (I.dp n h g q)

/-- The gradient of a query. -/
def Inp.dq (I : Inp) (n : Fin 16) (h : Fin 2) (g : Fin 4) (q d : Fin 128) : EReal :=
  ∑ j : Fin 384, I.D n h g q j * scale * I.k (krow n j) (kcol h d)
/-- One block's part of the gradient of a key of its band. -/
def Inp.dkb (I : Inp) (n : Fin 16) (h : Fin 2) (j : Fin 384) (d : Fin 128) : EReal :=
  ∑ g : Fin 4, ∑ q : Fin 128, I.D n h g q j * scale * I.z (qrow n q) (zcol h g d)
/-- One block's part of the gradient of a value of its band. -/
def Inp.dvb (I : Inp) (n : Fin 16) (h : Fin 2) (j : Fin 384) (d : Fin 128) : EReal :=
  ∑ g : Fin 4, ∑ q : Fin 128, I.P n h g q j * I.o (qrow n q) (qcol h g d)
/-- What a block's band adds to a padded row. -/
def band (f : Fin 16 → Fin 384 → EReal) (r : Fin 2304) (n : Fin 16) : EReal :=
  if h : n.val * 128 ≤ r.val ∧ r.val < n.val * 128 + 384 then f n ⟨r.val - n.val * 128, by omega⟩ else 0
/-- The gradient of a padded key. -/
def Inp.dkp (I : Inp) (r : Fin 2304) (h : Fin 2) (d : Fin 128) : EReal := ∑ n : Fin 16, band (fun n j => I.dkb n h j d) r n
/-- The gradient of a padded value. -/
def Inp.dvp (I : Inp) (r : Fin 2304) (h : Fin 2) (d : Fin 128) : EReal := ∑ n : Fin 16, band (fun n j => I.dvb n h j d) r n
/-- The gradient of the bias. -/
def Inp.db (I : Inp) (h : Fin 2) (g : Fin 4) (q : Fin 128) (j : Fin 384) : EReal := ∑ n : Fin 16, I.D n h g q j
/-- The gradient of a sink. -/
def Inp.dsink (I : Inp) (h : Fin 2) (g : Fin 4) : EReal := ∑ n : Fin 16, (0 - ∑ q : Fin 128, I.K n h g q)

/-- Every input entry is a real number. -/
structure Inp.Fin (I : Inp) : Prop where
  z : ∀ r c, IsReal (I.z r c)
  o : ∀ r c, IsReal (I.o r c)
  s : ∀ h, IsReal (I.s h)
  b : ∀ h q j, IsReal (I.b h q j)

/-- The scale is a real number. -/
theorem scale_real : IsReal scale := by
  exact ⟨_, rfl⟩

/-- A padded entry is real. -/
theorem Inp.Fin.pad {I : Inp} (h : I.Fin) (off : ℕ) (ho : off + 256 ≤ 7680) (r : _root_.Fin 2304) (c : _root_.Fin 256) : IsReal (I.pad off ho r c) := by
  unfold Inp.pad
  split
  · exact h.z _ _
  · exact IsReal.zero

/-- A masked score is `⊥` or real. -/
theorem Inp.Fin.sc {I : Inp} (h : I.Fin) (n kv g q j) : I.sc n kv g q j = ⊥ ∨ IsReal (I.sc n kv g q j) := by
  unfold Inp.sc
  split
  · exact .inr (((IsReal.sum fun d => (h.z _ _).mul (h.pad _ _ _ _)).mul scale_real).add (h.b _ _ _))
  · exact .inl rfl

/-- The gradient of a weight is real. -/
theorem Inp.Fin.dp {I : Inp} (h : I.Fin) (n kv g q j) : IsReal (I.dp n kv g q j) :=
  IsReal.sum fun d => (h.o _ _).mul (h.pad _ _ _ _)

/-- The gradient of a sink at a query is real. -/
theorem Inp.Fin.K {I : Inp} (h : I.Fin) (n kv g q) : IsReal (I.K n kv g q) :=
  dk_real (h.sc n kv g q) (h.s _) (h.dp n kv g q)

/-- The word of minus infinity is the bottom element. -/
theorem ofBits_bot : Ideal.ofBits FTy.f32 4286578688#32 = ⊥ := by
  simp [Ideal.ofBits, Ideal.ieee]

end Att
-- ==== Proof.Word.lean ====
module

public import proofs.«01_k».proof.Proof.Model

/-! The 32-bit words of the mask: the distance of a key from a query, and the key's place in the sequence. -/

@[expose] public section

namespace Att

open Idealize.ShloMosaic

/-- The distance test on words. -/
theorem near_word_at : ∀ e : Fin 512,
    IntOp.cmpi CmpIPredicate.sle (IntOp.absi (BitVec.ofNat 32 e.val - 256#32)) 128#32 =
      if 128 ≤ e.val ∧ e.val ≤ 384 then 1#1 else 0#1 := by
  decide +kernel

/-- The test of the key's place on words. -/
theorem inside_word_at : ∀ e : Fin 2304,
    IntOp.andi (IntOp.cmpi CmpIPredicate.sge (BitVec.ofNat 32 e.val - 128#32) 0#32)
      (IntOp.cmpi CmpIPredicate.slt (BitVec.ofNat 32 e.val - 128#32) 2048#32) =
      if 128 ≤ e.val ∧ e.val < 2176 then 1#1 else 0#1 := by
  decide +kernel

/-- The distance's word is at most 128 in size exactly when the key is near. -/
theorem near_word (q : Fin 128) (j : Fin 384) :
    IntOp.cmpi CmpIPredicate.sle (IntOp.absi (IntOp.subi (IntOp.subi (BitVec.ofNat 32 j.val) 128#32) (BitVec.ofNat 32 q.val))) 128#32 =
      if near q j then 1#1 else 0#1 := by
  have hq := q.isLt
  have hj := j.isLt
  have h := near_word_at ⟨j.val + 128 - q.val, by omega⟩
  have e : IntOp.subi (IntOp.subi (BitVec.ofNat 32 j.val) 128#32) (BitVec.ofNat 32 q.val) = BitVec.ofNat 32 (j.val + 128 - q.val) - 256#32 := by
    unfold IntOp.subi
    apply BitVec.eq_of_toNat_eq
    simp only [BitVec.toNat_sub, BitVec.toNat_ofNat]
    omega
  rw [e, h]
  congr 1
  unfold near
  exact propext ⟨fun h => by dsimp only at h; omega, fun h => by dsimp only; omega⟩

/-- The two comparisons of a key's position hold exactly when it is one of the sequence's. -/
theorem inside_word (n : Fin 16) (j : Fin 384) :
    IntOp.andi (IntOp.cmpi CmpIPredicate.sge (IntOp.subi (IntOp.addi (IntOp.muli (BitVec.ofNat 32 n.val) 128#32) (BitVec.ofNat 32 j.val)) 128#32) 0#32)
      (IntOp.cmpi CmpIPredicate.slt (IntOp.subi (IntOp.addi (IntOp.muli (BitVec.ofNat 32 n.val) 128#32) (BitVec.ofNat 32 j.val)) 128#32) 2048#32) =
      if inside n j then 1#1 else 0#1 := by
  have hn := n.isLt
  have hj := j.isLt
  have e : IntOp.addi (IntOp.muli (BitVec.ofNat 32 n.val) 128#32) (BitVec.ofNat 32 j.val) = BitVec.ofNat 32 (n.val * 128 + j.val) := by
    unfold IntOp.addi IntOp.muli
    apply BitVec.eq_of_toNat_eq
    simp only [BitVec.toNat_add, BitVec.toNat_mul, BitVec.toNat_ofNat]
    omega
  rw [e]
  exact inside_word_at ⟨n.val * 128 + j.val, by omega⟩

end Att
-- ==== Proof.Pay.lean ====
module

public import proofs.«01_k».proof.Proof.Word
public import proofs.«01_k».proof.Proof.Gen.KernelIdeal.Skeleton
public import Idealize.ShloMosaic.Lib.Pointwise
public import Idealize.ShloMosaic.Lib.Tactic.WordOmega

/-! What one grid point of the kernel computes, read at an index, in terms of the rows of `Row.lean`. -/

@[expose] public section

set_option maxRecDepth 16384

noncomputable section

namespace Cert.KernelIdeal.Att

open Cert.KernelIdeal Cert.KernelIdeal.Gen Idealize.ShloMosaic Idealize.ShloMosaic.TcCoe _root_.Att

/-- The row of head `g`'s query `q` among a point's 512 rows. -/
def rg (g : Fin 4) (q : Fin 128) : Fin 512 := ⟨g.val * 128 + q.val, by omega⟩
/-- The column of head `g`'s entry `d` among a point's 512 columns. -/
def cg (g : Fin 4) (d : Fin 128) : Fin 512 := ⟨g.val * 128 + d.val, by omega⟩

/-- A sum over a point's rows, by head and query. -/
theorem sum_rows (f : Fin 512 → EReal) : ∑ r, f r = ∑ g : Fin 4, ∑ q : Fin 128, f (rg g q) := by
  rw [← (finProdFinEquiv (m := 4) (n := 128)).sum_comp, Fintype.sum_prod_type]
  refine Finset.sum_congr rfl fun g _ => Finset.sum_congr rfl fun q _ => congrArg f (Fin.ext ?_)
  simp only [finProdFinEquiv_apply_val, rg]
  omega

section Row

variable (S : FVec Ideal S512x384 .f32) (v39 : FVec Ideal S128x1 .f32) (a b c : EReal)

/-- A row's scores. -/
def row (r : Fin 512) (j : Fin 384) : EReal := S (ix2 r j)
/-- A row's sink. -/
def snk (r : Fin 512) : EReal := k0_pay9 (F := Ideal) v39 a b c (ix2 r 0)

/-- The row's maximum, the sink counted. -/
theorem pay10 (r : Fin 512) : k0_pay10 (F := Ideal) S v39 a b c (ix2 r 0) = top (row S r) (snk v39 a b c r) := by
  unfold k0_pay10
  pointwise
  rw [ofBits_bot]
  rfl

/-- The weights before the division. -/
theorem pay11 (r : Fin 512) (j : Fin 384) : k0_pay11 (F := Ideal) S v39 a b c (ix2 r j) = wt (row S r) (snk v39 a b c r) j := by
  unfold k0_pay11
  pointwise
  rw [pay10]
  rfl

/-- The sink's weight before the division. -/
theorem pay12 (r : Fin 512) : k0_pay12 (F := Ideal) S v39 a b c (ix2 r 0) = wk (row S r) (snk v39 a b c r) := by
  unfold k0_pay12
  pointwise
  rw [pay10]
  rfl

/-- The denominator. -/
theorem pay13 (r : Fin 512) : k0_pay13 (F := Ideal) S v39 a b c (ix2 r 0) = den (row S r) (snk v39 a b c r) := by
  unfold k0_pay13
  pointwise
  simp only [pay11, pay12]
  rfl

/-- The softmax weights. -/
theorem pay14 (r : Fin 512) (j : Fin 384) : k0_pay14 (F := Ideal) S v39 a b c (ix2 r j) = pn (row S r) (snk v39 a b c r) j := by
  unfold k0_pay14
  pointwise
  rw [pay11, pay13]
  rfl

/-- The sink's softmax weight. -/
theorem pay15 (r : Fin 512) : k0_pay15 (F := Ideal) S v39 a b c (ix2 r 0) = pk (row S r) (snk v39 a b c r) := by
  unfold k0_pay15
  pointwise
  rw [pay12, pay13]
  rfl

variable (v7 : FVec Ideal S384x128 .bf16) (v70 : Vec Ideal S128x512 .bf16)

/-- A row's gradients of the weights. -/
def drow (r : Fin 512) (j : Fin 384) : EReal := k0_pay17 (F := Ideal) v7 v70 (ix2 r j)

/-- The sum of weights times their gradients. -/
theorem pay19 (r : Fin 512) : k0_pay19 (F := Ideal) v7 S v39 a b c v70 (ix2 r 0) = dlt (row S r) (snk v39 a b c r) (drow v7 v70 r) := by
  unfold k0_pay19
  pointwise
  simp only [pay14]
  rfl

/-- The gradients of the scores. -/
theorem pay20 (r : Fin 512) (j : Fin 384) : k0_pay20 (F := Ideal) v7 S v39 a b c v70 (ix2 r j) = ds (row S r) (snk v39 a b c r) (drow v7 v70 r) j := by
  unfold k0_pay20
  pointwise
  rw [pay14, pay19]
  rfl

/-- The named scale is the reciprocal of the root of 128. -/
theorem named_scale : (Named.named κ "scale" 0x3DB504F3#32 : Ideal FTy.f32) = scale := by
  rfl

/-- The gradients of the scores, scaled. -/
theorem pay21 (r : Fin 512) (j : Fin 384) : k0_pay21 (F := Ideal) v7 S v39 a b c v70 (ix2 r j) = ds (row S r) (snk v39 a b c r) (drow v7 v70 r) j * scale := by
  unfold k0_pay21
  pointwise
  rw [pay20]
  rfl

/-- The sinks' gradient at each row. -/
theorem pay34 (r : Fin 512) : k0_pay34 (F := Ideal) (k0_pay15 (F := Ideal) S v39 a b c) (k0_pay19 (F := Ideal) v7 S v39 a b c v70) (ix2 r 0) = dk (row S r) (snk v39 a b c r) (drow v7 v70 r) := by
  unfold k0_pay34
  pointwise
  rw [pay15, pay19]
  rfl

/-- The gradient of the values' band that a point adds. -/
theorem pay18 (j : Fin 384) (d : Fin 128) : k0_pay18 (F := Ideal) S v39 a b c v70 (ix2 j d) =
    ∑ g : Fin 4, ∑ q : Fin 128, pn (row S (rg g q)) (snk v39 a b c (rg g q)) j * k0_pay16 (F := Ideal) v70 (ix2 (rg g q) d) := by
  unfold k0_pay18
  pointwise
  simp only [pay14]
  exact sum_rows _

end Row

/-- The queries of four heads, one under the other. -/
theorem pay6 (v : Vec Ideal S128x512 .bf16) (g : Fin 4) (q d : Fin 128) : k0_pay6 (F := Ideal) v (ix2 (rg g q) d) = v (ix2 q (cg g d)) := by
  unfold k0_pay6 rg cg
  pointwise
  have := g.isLt; have := q.isLt; have := d.isLt
  split_ifs <;> (refine congrArg v (congrArg₂ ix2 (Fin.ext ?_) (Fin.ext ?_)) <;> dsimp only <;> omega)

/-- The result's gradients of four heads, one under the other. -/
theorem pay16 (v : Vec Ideal S128x512 .bf16) (g : Fin 4) (q d : Fin 128) : k0_pay16 (F := Ideal) v (ix2 (rg g q) d) = v (ix2 q (cg g d)) :=
  pay6 v g q d

/-- The gradients of the weights. -/
theorem pay17 (v7 : FVec Ideal S384x128 .bf16) (v70 : Vec Ideal S128x512 .bf16) (g : Fin 4) (q : Fin 128) (j : Fin 384) :
    k0_pay17 (F := Ideal) v7 v70 (ix2 (rg g q) j) = ∑ x : Fin 128, v70 (ix2 q (cg g x)) * v7 (ix2 j x) := by
  unfold k0_pay17
  pointwise
  simp only [pay16]

/-- The sinks of four heads, one under the other. -/
theorem pay9 (v39 : FVec Ideal S128x1 .f32) (a b c : EReal) (g : Fin 4) (q : Fin 128) :
    k0_pay9 (F := Ideal) v39 a b c (ix2 (rg g q) 0) = ![v39 (ix2 q 0), a, b, c] g := by
  unfold k0_pay9 rg
  pointwise
  have := q.isLt
  obtain ⟨g, hg⟩ := g
  interval_cases g <;> dsimp only <;> split_ifs <;> first
    | (exfalso; omega)
    | rfl
    | (refine congrArg v39 (congrArg₂ ix2 (Fin.ext ?_) rfl); dsimp only; omega)

/-- The keys' band plus the point's part. -/
theorem pay31 (v13 : FVec Ideal S512x128 .bf16) (v87 : FVec Ideal S512x384 .bf16) (v : Vec Ideal S384x128 .f32) (j : Fin 384) (d : Fin 128) :
    k0_pay31 (F := Ideal) v13 v87 v (ix2 j d) = v (ix2 j d) + ∑ g : Fin 4, ∑ q : Fin 128, v87 (ix2 (rg g q) j) * v13 (ix2 (rg g q) d) := by
  unfold k0_pay31
  pointwise
  rw [sum_rows]

/-- The values' band plus the point's part. -/
theorem pay32 (v78 v : FVec Ideal S384x128 .f32) (i : S384x128.Idx) : k0_pay32 (F := Ideal) v78 v i = v i + v78 i := by
  unfold k0_pay32
  pointwise

/-- The bias's block plus the point's part. -/
theorem pay33 (v84 : FVec Ideal S512x384 .f32) (v : FVec Ideal S4x128x384 .f32) (g : Fin 4) (q : Fin 128) (j : Fin 384) :
    k0_pay33 (F := Ideal) v84 v (ix3 g q j) = v (ix3 g q j) + v84 (ix2 (rg g q) j) := by
  unfold k0_pay33
  pointwise
  rfl

/-- The first head's gradient of the queries. -/
theorem pay23 (v4 : FVec Ideal S384x128 .bf16) (v87 : FVec Ideal S512x384 .bf16) (q d : Fin 128) :
    k0_pay23 (F := Ideal) v4 v87 (ix2 q d) = ∑ j : Fin 384, v87 (ix2 (rg 0 q) j) * v4 (ix2 j d) := by
  unfold k0_pay23 k0_pay22
  pointwise
  exact Finset.sum_congr rfl fun x _ => congrArg (· * _) (congrArg v87 (congrArg₂ ix2 (Fin.ext (by simp [rg])) rfl))

/-- The second head's gradient of the queries. -/
theorem pay24 (v4 : FVec Ideal S384x128 .bf16) (v87 : FVec Ideal S512x384 .bf16) (q d : Fin 128) :
    k0_pay24 (F := Ideal) v4 v87 (ix2 q d) = ∑ j : Fin 384, v87 (ix2 (rg 1 q) j) * v4 (ix2 j d) := by
  unfold k0_pay24 k0_pay22
  pointwise
  exact Finset.sum_congr rfl fun x _ => congrArg (· * _) (congrArg v87 (congrArg₂ ix2 (Fin.ext (by simp [rg])) rfl))

/-- The third head's gradient of the queries. -/
theorem pay25 (v4 : FVec Ideal S384x128 .bf16) (v87 : FVec Ideal S512x384 .bf16) (q d : Fin 128) :
    k0_pay25 (F := Ideal) v4 v87 (ix2 q d) = ∑ j : Fin 384, v87 (ix2 (rg 2 q) j) * v4 (ix2 j d) := by
  unfold k0_pay25 k0_pay22
  pointwise
  exact Finset.sum_congr rfl fun x _ => congrArg (· * _) (congrArg v87 (congrArg₂ ix2 (Fin.ext (by simp [rg])) rfl))

/-- The fourth head's gradient of the queries. -/
theorem pay26 (v4 : FVec Ideal S384x128 .bf16) (v87 : FVec Ideal S512x384 .bf16) (q d : Fin 128) :
    k0_pay26 (F := Ideal) v4 v87 (ix2 q d) = ∑ j : Fin 384, v87 (ix2 (rg 3 q) j) * v4 (ix2 j d) := by
  unfold k0_pay26 k0_pay22
  pointwise
  exact Finset.sum_congr rfl fun x _ => congrArg (· * _) (congrArg v87 (congrArg₂ ix2 (Fin.ext (by simp [rg])) rfl))

/-- The named mask is minus infinity. -/
theorem named_mask : (Named.named κ "mask" 4048155338#32 : Ideal FTy.f32) = (⊥ : EReal) := by
  rfl

/-- The comparison of row and head numbers as words. -/
theorem head_word (kv : Fin 2) (h : Fin 8) (g : Fin 4) : IntOp.cmpi .eq (BitVec.ofNat 32 h.val) (Scalar.addi (Scalar.muli (BitVec.ofNat 32 kv.val) 4#32) (BitVec.ofNat 32 g.val)) =
    if h.val = kv.val * 4 + g.val then 1#1 else 0#1 := by
  revert kv h g; decide +kernel

/-- The scores of a point: masked where the key is outside the sequence. -/
theorem pay7 (i : grid0.Coords) (n : Fin 16) (hn : (i 1).val = n.val) (v3 : Vec Ideal S384x128 .bf16) (v8 : Vec Ideal S128x512 .bf16)
    (v17 : Vec Ideal S4x128x384 .f32) (g : Fin 4) (q : Fin 128) (j : Fin 384) :
    k0_pay7 (F := Ideal) i v3 v8 v17 (ix2 (rg g q) j) =
      if inside n j then (∑ d : Fin 128, v8 (ix2 q (cg g d)) * v3 (ix2 j d)) * scale + v17 (ix3 g q j) else ⊥ := by
  unfold k0_pay7
  pointwise [k0_pay4]
  rw [hn, show (Scalar.muli (BitVec.ofNat 32 n.val) 128#32 : BitVec 32) = IntOp.muli (BitVec.ofNat 32 n.val) 128#32 from rfl, inside_word, named_mask]
  simp only [pay6]
  have e : ix3 (⟨(rg g q).val / 128, by omega⟩ : Fin 4) (⟨(rg g q).val % 128, by omega⟩ : Fin 128) j = ix3 g q j := by
    unfold rg
    exact congrArg₂ (fun a b => ix3 a b j) (Fin.ext (by dsimp only; omega)) (Fin.ext (by dsimp only; omega))
  by_cases h : inside n j
  · rw [if_pos h, if_pos h, e]; rfl
  · rw [if_neg h, if_neg h]; rfl

/-- The gradient of the sinks that a point adds, at a head's line. -/
theorem pay1 (kv : Fin 2) (X : FVec Ideal S512x1 .f32) (u w : FVec Ideal S512x1 .f32) (hX : X = k0_pay34 (F := Ideal) u w) (v : FVec Ideal S8x128 .f32) (h : Fin 8) (l : Fin 128) :
    k0_pay1 (F := Ideal) (BitVec.ofNat 32 kv.val) (iota .tc S8x128 32 [0] iota_S8x128_d0_w32) X (k0_pay35 (F := Ideal) (BitVec.ofNat 32 kv.val) u w) v (ix2 h l) =
      v (ix2 h l) + if e : kv.val * 4 ≤ h.val ∧ h.val < kv.val * 4 + 4 then 0 - ∑ q : Fin 128, X (ix2 (rg ⟨h.val - kv.val * 4, by omega⟩ q) 0) else 0 := by
  subst hX
  unfold k0_pay1 k0_pay35
  pointwise
  simp only [Fin.sum_univ_one]
  have w0 : IntOp.cmpi .eq (BitVec.ofNat 32 h.val) (Scalar.addi (Scalar.muli (BitVec.ofNat 32 kv.val) 4#32) 0#32) = if h.val = kv.val * 4 + 0 then 1#1 else 0#1 := head_word kv h 0
  have w1 : IntOp.cmpi .eq (BitVec.ofNat 32 h.val) (Scalar.addi (Scalar.muli (BitVec.ofNat 32 kv.val) 4#32) 1#32) = if h.val = kv.val * 4 + 1 then 1#1 else 0#1 := head_word kv h 1
  have w2 : IntOp.cmpi .eq (BitVec.ofNat 32 h.val) (Scalar.addi (Scalar.muli (BitVec.ofNat 32 kv.val) 4#32) 2#32) = if h.val = kv.val * 4 + 2 then 1#1 else 0#1 := head_word kv h 2
  have w3 : IntOp.cmpi .eq (BitVec.ofNat 32 h.val) (Scalar.addi (Scalar.muli (BitVec.ofNat 32 kv.val) 4#32) 3#32) = if h.val = kv.val * 4 + 3 then 1#1 else 0#1 := head_word kv h 3
  rw [w0, w1, w2, w3]
  have st : ∀ x y : EReal, Scalar.select 1#1 x y = x := fun _ _ => rfl
  have sf : ∀ x y : EReal, Scalar.select 0#1 x y = y := fun _ _ => rfl
  refine congrArg (v (ix2 h l) + ·) ?_
  by_cases c3 : h.val = kv.val * 4 + 3
  · rw [if_pos c3, st, dif_pos (by omega)]
    exact congrArg (0 - ·) (Finset.sum_congr rfl fun q _ => congrArg (k0_pay34 (F := Ideal) u w) (congrArg₂ ix2 (Fin.ext (by dsimp only [rg]; omega)) rfl))
  rw [if_neg c3, sf]
  by_cases c2 : h.val = kv.val * 4 + 2
  · rw [if_pos c2, st, dif_pos (by omega)]
    exact congrArg (0 - ·) (Finset.sum_congr rfl fun q _ => congrArg (k0_pay34 (F := Ideal) u w) (congrArg₂ ix2 (Fin.ext (by dsimp only [rg]; omega)) rfl))
  rw [if_neg c2, sf]
  by_cases c1 : h.val = kv.val * 4 + 1
  · rw [if_pos c1, st, dif_pos (by omega)]
    exact congrArg (0 - ·) (Finset.sum_congr rfl fun q _ => congrArg (k0_pay34 (F := Ideal) u w) (congrArg₂ ix2 (Fin.ext (by dsimp only [rg]; omega)) rfl))
  rw [if_neg c1, sf]
  by_cases c0 : h.val = kv.val * 4 + 0
  · rw [if_pos c0, st, dif_pos (by omega)]
    exact congrArg (0 - ·) (Finset.sum_congr rfl fun q _ => congrArg (k0_pay34 (F := Ideal) u w) (congrArg₂ ix2 (Fin.ext (by dsimp only [rg]; omega)) rfl))
  rw [if_neg c0, sf, dif_neg (by omega)]

end Cert.KernelIdeal.Att
-- ==== Proof.Ref.lean ====
module

public import proofs.«01_k».proof.Proof.Word
public import proofs.«01_k».proof.Proof.Gen.ReferenceIdeal.Run
public import Idealize.ShloMosaic.Lib.Pointwise
public import Idealize.ShloMosaic.Lib.Tactic.WordOmega

/-! The reference's results, read at an index, are the formulas of `Model.lean`. -/

@[expose] public section

set_option maxRecDepth 16384

noncomputable section

namespace Cert.ReferenceIdeal.Att

open Cert.ReferenceIdeal Cert.ReferenceIdeal.Gen Cert.ReferenceIdeal.Value Idealize.ShloMosaic Idealize.ShloMosaic.TcCoe _root_.Att

variable (V0 : Valuation τ sig (Elt Ideal))

/-- The bias table before the mask: the rows of the learned table that the distances' buckets name. -/
def bias : (⟨3, ![128, 384, 8]⟩ : Shape).Idx → EReal :=
  Host.gather gather_S32x8_S128x384x1_S128x384x8_2_0_n_n_0_2_18 (V0 (Proc.devRef .tc main_arg1)) (broadcastInDim S128x384x1 ![0, 1] bcast_S128x384_S128x384x1_0_1 (select (cmpi .slt (res_main_v35 V0) (broadcastInDim S128x384 ![] bcast_S_S128x384 (constantI S_ 32 0#32))) (addi (res_main_v35 V0) (broadcastInDim S128x384 ![] bcast_S_S128x384 (constantI S_ 32 32#32))) (res_main_v35 V0)))

/-- The inputs' entries, from the arguments. -/
def inp : Inp where
  z r c := V0 (Proc.devRef .tc main_arg2) (ix2 r c)
  o r c := V0 (Proc.devRef .tc main_arg3) (ix2 r c)
  s h := V0 (Proc.devRef .tc main_arg0) (ix2 0 h)
  b h q j := bias V0 (ix3 q j h)

/-- The integer zero is the real zero. -/
theorem sitofp_zero : FloatOps.sitofp (F := Ideal) FTy.bf16 (0#32) = (0 : EReal) := by
  simp [FloatOps.sitofp]

/-- The queries' columns. -/
theorem q_at (n : Fin 16) (kv : Fin 2) (g : Fin 4) (q d : Fin 128) :
    res_main_v58 V0 (ix5 n q kv g d) = (inp V0).z (qrow n q) (zcol kv g d) := by
  unfold res_main_v58
  pointwise
  rfl

/-- The keys of a block's band. -/
theorem k_at (n : Fin 16) (kv : Fin 2) (d : Fin 128) (j : Fin 384) :
    res_main_v59 V0 (ix4 n j kv d) = (inp V0).k (krow n j) (kcol kv d) := by
  unfold res_main_v59
  pointwise [res_main_v48]
  simp only [sitofp_zero]
  unfold Inp.k
  have := n.isLt; have := j.isLt; have := kv.isLt; have := d.isLt
  split_ifs <;> first
    | exact Inp.pad_eq (inp V0) ⟨_, _⟩ ⟨_, _⟩ (by dsimp only [krow]; omega) (by dsimp only [kcol])
    | exact Inp.pad_out _ (by dsimp only [krow]; omega)

/-- The values of a block's band. -/
theorem v_at (n : Fin 16) (kv : Fin 2) (d : Fin 128) (j : Fin 384) :
    res_main_v140 V0 (ix4 n j kv d) = (inp V0).v (krow n j) (kcol kv d) := by
  unfold res_main_v140
  pointwise [res_main_v53]
  simp only [sitofp_zero]
  unfold Inp.v
  have := n.isLt; have := j.isLt; have := kv.isLt; have := d.isLt
  split_ifs <;> first
    | exact Inp.pad_eq (inp V0) ⟨_, _⟩ ⟨_, _⟩ (by dsimp only [krow]; omega) (by dsimp only [kcol])
    | exact Inp.pad_out _ (by dsimp only [krow]; omega)

/-- The mask of a block's band. -/
theorem mask_at (n : Fin 16) (kv : Fin 2) (g : Fin 4) (q : Fin 128) (j : Fin 384) (x y : EReal) :
    Scalar.select (res_main_v104_1 V0 (ix5 n kv g q j)) x y = if near q j ∧ inside n j then x else y := by
  unfold res_main_v104_1
  pointwise [res_main_v70, res_main_v85]
  rw [show ∀ a b c : BitVec 1, IntOp.andi (IntOp.andi a b) c = IntOp.andi a (IntOp.andi b c) from fun a b c => BitVec.and_assoc a b c]
  rw [near_word, inside_word]
  by_cases h1 : near q j <;> by_cases h2 : inside n j <;> simp [h1, h2, Scalar.select, IntOp.andi]

/-- The word that the reference takes the root of is 128. -/
theorem word_128 : Ideal.ofBits FTy.f32 0x43000000#32 = ((128 : ℝ) : EReal) := by
  simp [Ideal.ofBits, Ideal.ieee, -EReal.coe_mul]
  norm_num

/-- A division by the root of 128 is a product with the scale. -/
theorem div_root (x : EReal) : Ideal.div x (Ideal.sqrt (Ideal.ofBits FTy.f32 0x43000000#32)) = x * scale := by
  rw [word_128, Ideal.sqrt_coe, if_neg (by norm_num), Ideal.div_coe (Real.sqrt_pos.mpr (by norm_num)).ne', one_div]
  rfl

/-- A row of scores with the sink appended. -/
theorem row_at (n : Fin 16) (kv : Fin 2) (g : Fin 4) (q : Fin 128) (x : Fin 385) :
    res_main_v108 V0 (ix5 n kv g q x) = app ((inp V0).sc n kv g q) ((inp V0).s (head kv g)) x := by
  unfold res_main_v108
  pointwise [res_main_v64]
  unfold app Inp.sc
  split
  · rw [mask_at]
    split
    · unfold Inp.raw
      rw [div_root]
      simp only [q_at, k_at]
      refine congrArg₂ (· + ·) (congrArg (· * _) (Finset.sum_congr rfl fun d _ => mul_comm _ _)) rfl
    · exact ofBits_bot
  · rfl

/-- The largest entry of a row. -/
theorem top_at (n : Fin 16) (kv : Fin 2) (g : Fin 4) (q : Fin 128) :
    max (⊥ : EReal) (res_main_v109 V0 (ix4 n kv g q)) = top ((inp V0).sc n kv g q) ((inp V0).s (head kv g)) := by
  rw [← fold_app]
  refine congrArg (max ⊥) ?_
  unfold res_main_v109
  pointwise
  rw [ofBits_bot]
  refine (Shape.ReducesTo.fold_fiber_r5_a4 reducesTo_S16x2x4x128x385_S16x2x4x128_d4 (ix4 n kv g q) (max : EReal → EReal → EReal) ⊥ (res_main_v108 V0)).trans ?_
  exact Finset.fold_congr fun x _ => row_at V0 n kv g q x

/-- A shifted exponential, for any row and any largest entries. -/
theorem exp_form (A : FVec Ideal S16x2x4x128x385 .f32) (B : FVec Ideal S16x2x4x128 .f32) (n : Fin 16) (kv : Fin 2) (g : Fin 4) (q : Fin 128) (x : Fin 385) :
    Host.exp (F := Ideal) (subf A (broadcastInDim S16x2x4x128x385 ![0, 1, 2, 3, 4] bcast_S16x2x4x128x1_S16x2x4x128x385_0_1_2_3_4 (broadcastInDim S16x2x4x128x1 ![0, 1, 2, 3] bcast_S16x2x4x128_S16x2x4x128x1_0_1_2_3 (maximumf (broadcastInDim S16x2x4x128 ![] bcast_S_S16x2x4x128 (constant S_ .f32 0xFF800000#32)) B)))) (ix5 n kv g q x) =
      Ideal.exp (A (ix5 n kv g q x) - max ⊥ (B (ix4 n kv g q))) := by
  pointwise
  rw [ofBits_bot]

/-- The exponentials of a row. -/
theorem exp_at (n : Fin 16) (kv : Fin 2) (g : Fin 4) (q : Fin 128) (x : Fin 385) :
    res_main_v129 V0 (ix5 n kv g q x) = app (wt ((inp V0).sc n kv g q) ((inp V0).s (head kv g))) (wk ((inp V0).sc n kv g q) ((inp V0).s (head kv g))) x := by
  unfold res_main_v129
  refine (exp_form _ _ n kv g q x).trans ?_
  rw [top_at, row_at, exp_app]

/-- Their sum. -/
theorem den_at (n : Fin 16) (kv : Fin 2) (g : Fin 4) (q : Fin 128) (x : Fin 1) :
    res_main_v131 V0 (ix5 n kv g q x) = ∑ x, app (wt ((inp V0).sc n kv g q) ((inp V0).s (head kv g))) (wk ((inp V0).sc n kv g q) ((inp V0).s (head kv g))) x := by
  unfold res_main_v131
  pointwise
  simp only [exp_at]

/-- The weights. -/
theorem p_at (n : Fin 16) (kv : Fin 2) (g : Fin 4) (q : Fin 128) (j : Fin 384) :
    res_main_v139 V0 (ix5 n kv g q j) = (inp V0).P n kv g q j := by
  unfold res_main_v139
  pointwise
  rw [den_at, exp_at, sum_app]
  unfold app
  rw [dif_pos j.isLt]
  rfl

/-- The gradient of the attention's result. -/
theorem o_at (n : Fin 16) (kv : Fin 2) (g : Fin 4) (q d : Fin 128) :
    res_main_v147 V0 (ix5 n kv d g q) = (inp V0).o (qrow n q) (qcol kv g d) := by
  unfold res_main_v147
  pointwise
  rfl

/-- The gradients of the weights, and zero for the sink's. -/
theorem dp_at (n : Fin 16) (kv : Fin 2) (g : Fin 4) (q : Fin 128) (x : Fin 385) :
    res_main_v154 V0 (ix5 n kv g q x) = app ((inp V0).dp n kv g q) 0 x := by
  unfold res_main_v154
  pointwise
  simp only [o_at, v_at]
  rfl

/-- The gradients of a row's scores and of its sink. -/
theorem ds_at (hF : (inp V0).Fin) (n : Fin 16) (kv : Fin 2) (g : Fin 4) (q : Fin 128) (x : Fin 385) :
    res_main_v166 V0 (ix5 n kv g q x) = app ((inp V0).D n kv g q) (-(inp V0).K n kv g q) x := by
  unfold res_main_v166
  pointwise
  simp only [dp_at, den_at, exp_at]
  exact ref_ds (hF.sc n kv g q) (hF.s _) (hF.dp n kv g q) x

/-- The gradients of the scores, zero where masked. -/
theorem dm_at (hF : (inp V0).Fin) (n : Fin 16) (kv : Fin 2) (g : Fin 4) (q : Fin 128) (j : Fin 384) :
    res_main_v173 V0 (ix5 n kv g q j) = (inp V0).D n kv g q j := by
  unfold res_main_v173
  pointwise
  rw [mask_at, ds_at V0 hF]
  unfold app
  rw [dif_pos j.isLt]
  split
  · rfl
  · rename_i h
    exact (ds_bot (hF.sc n kv g q) (hF.s _) (hF.dp n kv g q) j (if_neg h)).symm

/-- The same, scaled. -/
theorem dsc_at (hF : (inp V0).Fin) (n : Fin 16) (kv : Fin 2) (g : Fin 4) (q : Fin 128) (j : Fin 384) :
    res_main_v182 V0 (ix5 n kv j q g) = (inp V0).D n kv g q j * scale := by
  unfold res_main_v182
  pointwise [res_main_v64]
  rw [dm_at V0 hF, div_root]

/-- A block's part of the keys' gradients. -/
theorem dkb_at (hF : (inp V0).Fin) (n : Fin 16) (kv : Fin 2) (j : Fin 384) (d : Fin 128) :
    res_main_v187 V0 (ix4 n j kv d) = (inp V0).dkb n kv j d := by
  unfold res_main_v187
  pointwise
  simp only [dsc_at V0 hF, q_at]
  exact (Finset.sum_comm : (_ : EReal) = _)

/-- A block's part of the values' gradients. -/
theorem dvb_at (n : Fin 16) (kv : Fin 2) (j : Fin 384) (d : Fin 128) :
    res_main_v151 V0 (ix4 n j kv d) = (inp V0).dvb n kv j d := by
  unfold res_main_v151
  pointwise
  simp only [o_at, p_at]
  exact (Finset.sum_congr rfl fun g _ => Finset.sum_congr rfl fun q _ => (mul_comm _ _ : (_ : EReal) = _) : (_ : EReal) = _)

end Cert.ReferenceIdeal.Att
-- ==== Proof.Ref2.lean ====
module

public import proofs.«01_k».proof.Proof.Ref

/-! The reference's results at an index. -/

@[expose] public section

set_option maxRecDepth 16384

noncomputable section

namespace Cert.ReferenceIdeal.Att

open Cert.ReferenceIdeal Cert.ReferenceIdeal.Gen Cert.ReferenceIdeal.Value Idealize.ShloMosaic Idealize.ShloMosaic.TcCoe _root_.Att

variable (V0 : Valuation τ sig (Elt Ideal))

/-- The host's sum over the axes 0, 3 and 4 of a rank-5 array. -/
theorem sum_034 {n0 n1 n2 n3 n4 : ℕ} (h : (⟨5, ![n0, n1, n2, n3, n4]⟩ : Shape).ReducesTo [0, 3, 4] ⟨2, ![n1, n2]⟩)
    (v : (⟨5, ![n0, n1, n2, n3, n4]⟩ : Shape).Idx → EReal) (init : EReal) (a : Fin n1) (b : Fin n2) :
    Ideal.hostReduceAdd h v init (ix2 a b) = init + ∑ x : Fin n0, ∑ y : Fin n3, ∑ z : Fin n4, v (ix5 x a b y z) := by
  have e : ∑ i ∈ Finset.univ.filter (fun i => h.drop i = ix2 a b), v i = ∑ k : Fin n0 × Fin n3 × Fin n4, v (ix5 k.1 a b k.2.1 k.2.2) := by
    refine Finset.sum_filter_eq_sum_of_fiber _ (fun k : Fin n0 × Fin n3 × Fin n4 => ix5 k.1 a b k.2.1 k.2.2) ?_ ?_ v
    · rintro ⟨x, y, z⟩ ⟨x', y', z'⟩ e
      exact Prod.ext (congrFun e 0) (Prod.ext (congrFun e 3) (congrFun e 4))
    · intro i
      constructor
      · intro e
        refine ⟨(i 0, i 3, i 4), ?_⟩
        funext c; apply Fin.ext
        match c with
        | ⟨0, _⟩ => rfl
        | ⟨1, _⟩ => exact (congrArg Fin.val (congrFun e (0 : Fin 2))).symm
        | ⟨2, _⟩ => exact (congrArg Fin.val (congrFun e (1 : Fin 2))).symm
        | ⟨3, _⟩ => rfl
        | ⟨4, _⟩ => rfl
      · rintro ⟨k, rfl⟩
        funext c; apply Fin.ext
        match c with
        | ⟨0, _⟩ => rfl
        | ⟨1, _⟩ => rfl
  unfold Ideal.hostReduceAdd
  rw [e]
  simp only [Fintype.sum_prod_type]

/-- The one block at a given distance from a row's. -/
theorem sum_one (k m : ℕ) (F : (n : Fin 16) → EReal) :
    (∑ n : Fin 16, if n.val + k = m then F n else 0) = if h : k ≤ m ∧ m - k < 16 then F ⟨m - k, h.2⟩ else 0 := by
  split
  · rename_i h
    rw [Finset.sum_eq_single ⟨m - k, h.2⟩]
    · rw [if_pos (by dsimp only; omega)]
    · intro n _ hn
      rw [if_neg (fun e => hn (Fin.ext (by dsimp only; omega)))]
    · exact fun hn => absurd (Finset.mem_univ _) hn
  · rename_i h
    refine Finset.sum_eq_zero fun n _ => if_neg ?_
    have := n.isLt
    omega

/-- The sum over the blocks of what their bands add to a row: the three shifted pieces. -/
theorem sum_band (f : Fin 16 → Fin 384 → EReal) (r : Fin 2304) :
    (((if h : 2 ≤ r.val / 128 ∧ r.val / 128 - 2 < 16 then f ⟨r.val / 128 - 2, h.2⟩ ⟨256 + r.val % 128, by omega⟩ else 0) +
      (if h : 1 ≤ r.val / 128 ∧ r.val / 128 - 1 < 16 then f ⟨r.val / 128 - 1, h.2⟩ ⟨128 + r.val % 128, by omega⟩ else 0)) +
      (if h : 0 ≤ r.val / 128 ∧ r.val / 128 - 0 < 16 then f ⟨r.val / 128 - 0, h.2⟩ ⟨r.val % 128, by omega⟩ else 0)) = ∑ n, band f r n := by
  rw [← sum_one 2 (r.val / 128) (fun n => f n ⟨256 + r.val % 128, by omega⟩), ← sum_one 1 (r.val / 128) (fun n => f n ⟨128 + r.val % 128, by omega⟩),
    ← sum_one 0 (r.val / 128) (fun n => f n ⟨r.val % 128, by omega⟩), ← Finset.sum_add_distrib, ← Finset.sum_add_distrib]
  refine Finset.sum_congr rfl fun n _ => ?_
  have hn := n.isLt
  have hr := r.isLt
  unfold band
  by_cases h2 : n.val + 2 = r.val / 128
  · rw [if_pos h2, if_neg (by omega), if_neg (by omega), add_zero, add_zero, dif_pos (by omega)]
    exact congrArg (f n) (Fin.ext (by dsimp only; omega))
  by_cases h1 : n.val + 1 = r.val / 128
  · rw [if_neg h2, if_pos h1, if_neg (by omega), add_zero, zero_add, dif_pos (by omega)]
    exact congrArg (f n) (Fin.ext (by dsimp only; omega))
  by_cases h0 : n.val + 0 = r.val / 128
  · rw [if_neg h2, if_neg h1, if_pos h0, zero_add, zero_add, dif_pos (by omega)]
    exact congrArg (f n) (Fin.ext (by dsimp only; omega))
  · rw [if_neg h2, if_neg h1, if_neg h0, dif_neg (by omega), zero_add, zero_add]

/-- Two conditional values under equivalent conditions. -/
theorem dite_eq {P Q : Prop} [Decidable P] [Decidable Q] (a : P → EReal) (b : Q → EReal) (hPQ : P ↔ Q) (h : ∀ p q, a p = b q) :
    (if p : P then a p else 0) = if q : Q then b q else 0 := by
  by_cases p : P
  · rw [dif_pos p, dif_pos (hPQ.mp p), h p (hPQ.mp p)]
  · rw [dif_neg p, dif_neg (fun q => p (hPQ.mpr q))]

/-- A function of the blocks' bands, summed as the reference does. -/
theorem pieces (A : FVec Ideal S16x384x2x128 .bf16) (r : Fin 2304) (kv : Fin 2) (d : Fin 128) :
    (extf (F := Ideal) .f32 (shapeCast S2304x256 (addf (addf (pad S18x128x2x128 ![2, 0, 0, 0] ![0, 0, 0, 0] ![0, 0, 0, 0] (extractStridedSlice S16x128x2x128 ![0, 256, 0, 0] A slices_S16x384x2x128_S16x128x2x128_0_256_0_0) (constant (F := Ideal) S_ .bf16 0x0000#16) pads_S16x128x2x128_S18x128x2x128_200_000_000_000 h_S_) (pad S18x128x2x128 ![1, 0, 0, 0] ![1, 0, 0, 0] ![0, 0, 0, 0] (extractStridedSlice S16x128x2x128 ![0, 128, 0, 0] A slices_S16x384x2x128_S16x128x2x128_0_128_0_0) (constant (F := Ideal) S_ .bf16 0x0000#16) pads_S16x128x2x128_S18x128x2x128_110_000_000_000 h_S_)) (pad S18x128x2x128 ![0, 0, 0, 0] ![2, 0, 0, 0] ![0, 0, 0, 0] (extractStridedSlice S16x128x2x128 ![0, 0, 0, 0] A slices_S16x384x2x128_S16x128x2x128_0_0_0_0) (constant (F := Ideal) S_ .bf16 0x0000#16) pads_S16x128x2x128_S18x128x2x128_020_000_000_000 h_S_)) shapeCasts_S18x128x2x128_S2304x256) bitsLt_bf16_f32) (ix2 r (kcol kv d)) =
      ∑ n, band (fun n j => A (ix4 n j kv d)) r n := by
  pointwise
  refine Eq.trans ?_ (sum_band (fun n j => A (ix4 n j kv d)) r)
  have hk : (kcol kv d).val / 128 = kv.val := by dsimp only [kcol]; omega
  have hd : (kcol kv d).val % 128 = d.val := by dsimp only [kcol]; omega
  have hr := r.isLt
  have hr' : r.val % 128 < 128 := Nat.mod_lt _ (by omega)
  have fin4 : ∀ {n n' : Fin 16} {j j' : Fin 384} {k k' : Fin 2} {e e' : Fin 128}, n = n' → j = j' → k = k' → e = e' → A (ix4 n j k e) = A (ix4 n' j' k' e') := by
    rintro _ _ _ _ _ _ _ _ rfl rfl rfl rfl; rfl
  refine congrArg₂ (· + ·) (congrArg₂ (· + ·) ?_ ?_) ?_
  · exact dite_eq _ _ ⟨fun h => h.1, fun h => ⟨h, hr', by omega, by omega⟩⟩ fun p q => fin4 rfl rfl (Fin.ext hk) (Fin.ext hd)
  · exact dite_eq _ _ ⟨fun h => h.1, fun h => ⟨h, hr', by omega, by omega⟩⟩ fun p q => fin4 rfl rfl (Fin.ext hk) (Fin.ext hd)
  · exact dite_eq _ _ ⟨fun h => ⟨Nat.zero_le _, h.1⟩, fun h => ⟨h.2, hr', by omega, by omega⟩⟩ fun p q => fin4 rfl rfl (Fin.ext hk) (Fin.ext hd)

/-- The projections' gradient: the queries' columns computed, the others kept. -/
theorem dz_at (hF : (inp V0).Fin) (r : Fin 2048) (c : Fin 7680) :
    val5 V0 (Proc.devRef .tc main_v210) (ix2 r c) =
      if h : 2048 ≤ c.val ∧ c.val < 3072 then
        (inp V0).dq ⟨r.val / 128, by omega⟩ ⟨(c.val - 2048) / 512, by omega⟩ ⟨(c.val - 2048) / 128 % 4, by omega⟩ ⟨r.val % 128, by omega⟩ ⟨(c.val - 2048) % 128, by omega⟩
      else V0 (Proc.devRef .tc main_arg4) (ix2 r c) := by
  rw [val5_main_v210]
  pointwise
  have hc := c.isLt
  by_cases h1 : c.val < 2048
  · rw [dif_pos h1, dif_neg (by omega)]
  rw [dif_neg h1]
  by_cases h2 : c.val - 2048 < 1024
  · rw [dif_pos h2, dif_pos (by omega)]
    simp only [dsc_at V0 hF, k_at]
    rfl
  · rw [dif_neg h2, dif_neg (by omega)]
    exact congrArg (V0 (Proc.devRef .tc main_arg4)) (congrArg (ix2 r) (Fin.ext (by dsimp only; omega)))

/-- The padded keys' gradient. -/
theorem dk_at (hF : (inp V0).Fin) (r : Fin 2304) (kv : Fin 2) (d : Fin 128) :
    val5 V0 (Proc.devRef .tc main_v211) (ix2 r (kcol kv d)) = (inp V0).dkp r kv d := by
  rw [val5_main_v211]
  refine (pieces _ r kv d).trans ?_
  unfold Inp.dkp
  simp only [dkb_at V0 hF]

/-- The padded values' gradient. -/
theorem dv_at (r : Fin 2304) (kv : Fin 2) (d : Fin 128) :
    val5 V0 (Proc.devRef .tc main_v212) (ix2 r (kcol kv d)) = (inp V0).dvp r kv d := by
  rw [val5_main_v212]
  refine (pieces _ r kv d).trans ?_
  unfold Inp.dvp
  simp only [dvb_at]

/-- The key head of a head. -/
theorem head_div (kv : Fin 2) (g : Fin 4) (h : (head kv g).val / 4 < 2) : (⟨(head kv g).val / 4, h⟩ : Fin 2) = kv := Fin.ext (by dsimp only [head]; omega)
/-- The place of a head in its group. -/
theorem head_mod (kv : Fin 2) (g : Fin 4) (h : (head kv g).val % 4 < 4) : (⟨(head kv g).val % 4, h⟩ : Fin 4) = g := Fin.ext (by dsimp only [head]; omega)

/-- The bias table's gradient. -/
theorem db_at (hF : (inp V0).Fin) (kv : Fin 2) (g : Fin 4) (q : Fin 128) (j : Fin 384) :
    val5 V0 (Proc.devRef .tc main_v177) (ix3 (head kv g) q j) = (inp V0).db kv g q j := by
  rw [val5_main_v177]
  pointwise
  rw [head_div, head_mod]
  simp only [dm_at V0 hF, Fin.sum_univ_one]
  rfl

/-- The sinks' gradient. -/
theorem dsink_at (hF : (inp V0).Fin) (kv : Fin 2) (g : Fin 4) (l : Fin 128) :
    val5 V0 (Proc.devRef .tc main_v214) (ix2 (head kv g) l) = (inp V0).dsink kv g := by
  rw [val5_main_v214]
  pointwise
  rw [head_div, head_mod]
  refine (sum_034 reducesTo_S1x2x4x1x1_S2x4_d0_3_4 _ _ kv g).trans ?_
  simp only [Fin.sum_univ_one, zero_add]
  pointwise
  refine (sum_034 reducesTo_S16x2x4x128x1_S2x4_d0_3_4 _ _ kv g).trans ?_
  pointwise
  simp only [Fin.sum_univ_one, zero_add, ds_at V0 hF]
  unfold Inp.dsink
  refine Finset.sum_congr rfl fun n _ => ?_
  rw [zero_sub, neg_sum (fun q => hF.K n kv g q)]
  refine Finset.sum_congr rfl fun q _ => ?_
  unfold app
  rfl

end Cert.ReferenceIdeal.Att
-- ==== Proof.KIn.lean ====
module

public import proofs.«01_k».proof.Proof.Pay
public import proofs.«01_k».proof.Proof.Ref2
public import proofs.«01_k».proof.Proof.Gen.KernelIdeal.Value
public import Idealize.ShloMosaic.Lib.Claim
public import Idealize.ShloMosaic.Lib.StableHlo.ReadAt
public import Idealize.ShloMosaic.Lib.StableHlo.RunRead
public import Idealize.ShloMosaic.Lib.Pointwise
public import Idealize.ShloMosaic.Lib.Pipeline.ValueKit
public import Idealize.ShloMosaic.Lib.Pipeline.ReadBack

/-! What the kernel's windows read: the arrays the host prepares, at an index, and the blocks of a grid point. -/

@[expose] public section

set_option maxRecDepth 16384

noncomputable section

namespace Cert.KernelIdeal.Att

open Cert.KernelIdeal Cert.KernelIdeal.Gen Cert.KernelIdeal.Value Idealize.ShloMosaic Idealize.ShloMosaic.TcCoe Idealize.SL.Sem _root_.Att

variable (m : (ℓ : Loc nD τ sig) → Buf (Elt Ideal) ℓ)

/-- The inputs' entries, from the arguments. -/
def kin (c : Dev nD) : Inp where
  z r k := m ((c : Thread nD τ).loc main_arg2) (ix2 r k)
  o r k := m ((c : Thread nD τ).loc main_arg3) (ix2 r k)
  s h := m ((c : Thread nD τ).loc main_arg0) (ix2 0 h)
  b h q j := V m c main_v39 (ix3 q j h)

/-- Both programs gather the same bias. -/
theorem bias_eq (c : Dev nD) (V0 : Valuation Cert.ReferenceIdeal.τ Cert.ReferenceIdeal.sig (Elt Ideal))
    (h : V0 (Proc.devRef .tc Cert.ReferenceIdeal.main_arg1) = m ((c : Thread nD τ).loc main_arg1)) :
    V m c main_v39 = Cert.ReferenceIdeal.Att.bias V0 := by
  unfold Cert.ReferenceIdeal.Att.bias

  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_simp
  rw [h]
  unfold Cert.ReferenceIdeal.Value.res_main_v35
  rfl

/-- The padded keys the host makes. -/
theorem kpad (c : Dev nD) (r : Fin 2304) (k : Fin 256) : V m c main_v46 (ix2 r k) = (kin m c).k r k := by

  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  simp only [Cert.ReferenceIdeal.Att.sitofp_zero]
  unfold Inp.k
  split_ifs <;> first
    | exact Inp.pad_eq (kin m c) ⟨_, _⟩ ⟨_, _⟩ (by dsimp only; omega) rfl
    | exact Inp.pad_out _ (by omega)

/-- The padded values the host makes. -/
theorem vpad (c : Dev nD) (r : Fin 2304) (k : Fin 256) : V m c main_v48 (ix2 r k) = (kin m c).v r k := by

  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  simp only [Cert.ReferenceIdeal.Att.sitofp_zero]
  unfold Inp.v
  split_ifs <;> first
    | exact Inp.pad_eq (kin m c) ⟨_, _⟩ ⟨_, _⟩ (by dsimp only; omega) rfl
    | exact Inp.pad_out _ (by omega)

/-- The table of biases the host makes: masked outside the window. -/
theorem btab (c : Dev nD) (h : Fin 8) (q : Fin 128) (j : Fin 384) :
    V m c main_v44 (ix3 h q j) = if near q j then (kin m c).b h q j else ⊥ := by
  unfold kin
  dsimp only

  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  rw [near_word]
  by_cases hn : near q j
  · simp only [hn, if_true, Scalar.select]; rfl
  · simp only [hn, if_false, Scalar.select]; exact ofBits_bot

/-- The sinks. -/
theorem stab (c : Dev nD) (h : Fin 8) : V m c main_v49 (ix1 h) = (kin m c).s h := by

  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  rfl

end Cert.KernelIdeal.Att
-- ==== Proof.Pt.lean ====
module

public import proofs.«01_k».proof.Proof.KIn

/-! What one grid point of the kernel computes: its blocks at an index, and the payloads as the formulas of `Model.lean`. -/

@[expose] public section

set_option maxRecDepth 16384

noncomputable section

namespace Cert.KernelIdeal.Att

open Cert.KernelIdeal Cert.KernelIdeal.Gen Cert.KernelIdeal.Value Idealize.ShloMosaic Idealize.ShloMosaic.TcCoe Idealize.SL.Sem _root_.Att

variable (m : (ℓ : Loc nD τ sig) → Buf (Elt Ideal) ℓ) (c : Dev nD) (t : Fin cfg0.N)

/-- The grid has 32 points. -/
theorem N_eq : cfg0.N = 32 := by decide
/-- The point's key head. -/
def tk : Fin 2 := ⟨t.val / 16, by have := t.isLt; have := N_eq; omega⟩
/-- The point's query block. -/
def tb : Fin 16 := ⟨t.val % 16, by omega⟩

/-- A point's coordinates: key head and block. -/
theorem co (t : Fin cfg0.N) : (grid0.coords t 0).val = t.val / 16 ∧ (grid0.coords t 1).val = t.val % 16 :=
  (by decide +kernel : ∀ t : Fin grid0.N, (grid0.coords t 0).val = t.val / 16 ∧ (grid0.coords t 1).val = t.val % 16) t
/-- The band starts at the block's first row. -/
theorem off1 (t : Fin cfg0.N) : k0_off1 (grid0.coords t) = ![t.val % 16 * 128, 0] :=
  (by decide +kernel : ∀ t : Fin grid0.N, k0_off1 (grid0.coords t) = ![t.val % 16 * 128, 0]) t
/-- The head's number among the sinks. -/
theorem off2 (t : Fin cfg0.N) (g : Fin 4) : k0_off2 (grid0.coords t) (BitVec.ofNat 32 g.val) = ![t.val / 16 * 4 + g.val] :=
  (by decide +kernel : ∀ (t : Fin grid0.N) (g : Fin 4), k0_off2 (grid0.coords t) (BitVec.ofNat 32 g.val) = ![t.val / 16 * 4 + g.val]) t g
/-- Where each input's block lies. -/
theorem idx (t : Fin cfg0.N) : win0_0.index t = ![0] ∧ win0_1.index t = ![t.val % 16, 4 + t.val / 16] ∧ win0_2.index t = ![0, t.val / 16]
    ∧ win0_3.index t = ![0, t.val / 16] ∧ win0_4.index t = ![t.val / 16, 0, 0] ∧ win0_5.index t = ![t.val % 16, t.val / 16] :=
  (by decide +kernel : ∀ t : Fin grid0.N, win0_0.index t = ![0] ∧ win0_1.index t = ![t.val % 16, 4 + t.val / 16] ∧ win0_2.index t = ![0, t.val / 16]
    ∧ win0_3.index t = ![0, t.val / 16] ∧ win0_4.index t = ![t.val / 16, 0, 0] ∧ win0_5.index t = ![t.val % 16, t.val / 16]) t

/-- The sinks' block is the whole vector. -/
theorem blk0 (h : Fin 8) : iblk m c 0 t (ix1 h) = (kin m c).s h := by
  rw [← stab m c h]
  blk_simp [iblk]
  blk_ext [idx t]

/-- The queries' block. -/
theorem blk1 (q : Fin 128) (g : Fin 4) (d : Fin 128) : iblk m c 1 t (ix2 q (cg g d)) = (kin m c).z (qrow (tb t) q) (zcol (tk t) g d) := by
  unfold kin; dsimp only
  blk_simp [iblk]
  blk_ext [idx t]
  all_goals dsimp only [qrow, zcol, kcol, head, qcol, cg, tb, tk]
  all_goals omega

/-- The padded keys' block. -/
theorem blk2 (r : Fin 2304) (d : Fin 128) : iblk m c 2 t (ix2 r d) = (kin m c).k r (kcol (tk t) d) := by
  rw [← kpad m c]
  blk_simp [iblk]
  blk_ext [idx t]
  all_goals dsimp only [qrow, zcol, kcol, head, qcol, cg, tb, tk]
  all_goals omega

/-- The padded values' block. -/
theorem blk3 (r : Fin 2304) (d : Fin 128) : iblk m c 3 t (ix2 r d) = (kin m c).v r (kcol (tk t) d) := by
  rw [← vpad m c]
  blk_simp [iblk]
  blk_ext [idx t]
  all_goals dsimp only [qrow, zcol, kcol, head, qcol, cg, tb, tk]
  all_goals omega

/-- The bias table's block, masked by distance. -/
theorem blk4 (g : Fin 4) (q : Fin 128) (j : Fin 384) : iblk m c 4 t (ix3 g q j) = if near q j then (kin m c).b (head (tk t) g) q j else ⊥ := by
  rw [← btab m c]
  blk_simp [iblk]
  blk_ext [idx t]
  all_goals dsimp only [qrow, zcol, kcol, head, qcol, cg, tb, tk]
  all_goals omega

/-- The block of the result's gradient. -/
theorem blk5 (q : Fin 128) (g : Fin 4) (d : Fin 128) : iblk m c 5 t (ix2 q (cg g d)) = (kin m c).o (qrow (tb t) q) (qcol (tk t) g d) := by
  unfold kin; dsimp only
  blk_simp [iblk]
  blk_ext [idx t]
  all_goals dsimp only [qrow, zcol, kcol, head, qcol, cg, tb, tk]
  all_goals omega

/-- The loaded keys are taken as they are. -/
theorem pay4 (v : Vec Ideal S384x128 .bf16) (j : Fin 384) (d : Fin 128) : k0_pay4 (F := Ideal) v (ix2 j d) = v (ix2 j d) := by
  pointwise [k0_pay4]
/-- The loaded values are taken as they are. -/
theorem pay5 (v : Vec Ideal S384x128 .bf16) (j : Fin 384) (d : Fin 128) : k0_pay5 (F := Ideal) v (ix2 j d) = v (ix2 j d) := by
  pointwise [k0_pay5]
/-- A sink spread over a block's rows. -/
theorem pay8 (a : EReal) (q : Fin 128) : k0_pay8 (F := Ideal) a (ix2 q 0) = a := by
  pointwise [k0_pay8]

/-- The keys of the point's band. -/
abbrev KB : Vec Ideal S384x128 .bf16 := View.ld (iblk m c 2 t) (Rect.unit (k0_off1 (grid0.coords t)) ![384, 128] (k0_off1_inb _))
/-- The values of the point's band. -/
abbrev VB : Vec Ideal S384x128 .bf16 := View.ld (iblk m c 3 t) (Rect.unit (k0_off1 (grid0.coords t)) ![384, 128] (k0_off1_inb _))
/-- A sink of the point. -/
abbrev SK (g : Fin 4) : EReal := View.ld (iblk m c 0 t) (Rect.unit (k0_off2 (grid0.coords t) (BitVec.ofNat 32 g.val)) ![1] (k0_off2_inb _ g)) (Shape.Idx.first (Nat.lt_of_lt_of_eq Nat.one_pos numel1_S1.symm))
/-- The point's masked scores. -/
abbrev SC : FVec Ideal S512x384 .f32 := k0_pay7 (F := Ideal) (grid0.coords t) (KB m c t) (iblk m c 1 t) (iblk m c 4 t)

/-- The keys' band. -/
theorem kb_at (j : Fin 384) (d : Fin 128) : KB m c t (ix2 j d) = (kin m c).k (krow (tb t) j) (kcol (tk t) d) := by
  rw [← blk2]
  refine View.ld_unit_apply_of _ _ _ _ _ _ fun a => ?_
  refine Eq.trans ?_ (congrArg (· + _) (congrFun (off1 t) a).symm)
  match a with
  | ⟨0, _⟩ => rfl
  | ⟨1, _⟩ => exact (Nat.zero_add _).symm

/-- The values' band. -/
theorem vb_at (j : Fin 384) (d : Fin 128) : VB m c t (ix2 j d) = (kin m c).v (krow (tb t) j) (kcol (tk t) d) := by
  rw [← blk3]
  refine View.ld_unit_apply_of _ _ _ _ _ _ fun a => ?_
  refine Eq.trans ?_ (congrArg (· + _) (congrFun (off1 t) a).symm)
  match a with
  | ⟨0, _⟩ => rfl
  | ⟨1, _⟩ => exact (Nat.zero_add _).symm

/-- The sinks that are loaded. -/
theorem sk_at (g : Fin 4) : SK m c t g = (kin m c).s (head (tk t) g) := by
  rw [← blk0 m c t]
  refine View.ld_unit_apply_of _ _ _ _ _ _ fun a => ?_
  refine Eq.trans ?_ (congrArg (· + _) (congrFun (off2 t g) a).symm)
  match a with
  | ⟨0, _⟩ => rfl

/-- A row of the point's scores. -/
theorem sc_row (g : Fin 4) (q : Fin 128) : row (SC m c t) (rg g q) = (kin m c).sc (tb t) (tk t) g q := by
  funext j
  unfold row Inp.sc Inp.raw
  unfold SC
  rw [pay7 (grid0.coords t) (tb t) (co t).2]
  simp only [blk1, blk4, kb_at]
  by_cases h1 : near q j <;> by_cases h2 : inside (tb t) j <;> simp [h1, h2]

/-- A row's sink. -/
theorem snk_row (g : Fin 4) (q : Fin 128) : snk (k0_pay8 (SK m c t 0)) (SK m c t 1) (SK m c t 2) (SK m c t 3) (rg g q) = (kin m c).s (head (tk t) g) := by
  unfold snk
  rw [pay9, pay8, ← sk_at m c t g]
  generalize SK m c t = f
  match g with
  | ⟨0, _⟩ => rfl
  | ⟨1, _⟩ => rfl
  | ⟨2, _⟩ => rfl
  | ⟨3, _⟩ => rfl

/-- A row of the weights' gradients. -/
theorem dp_row (g : Fin 4) (q : Fin 128) : drow (k0_pay5 (VB m c t)) (iblk m c 5 t) (rg g q) = (kin m c).dp (tb t) (tk t) g q := by
  funext j
  unfold drow Inp.dp
  rw [pay17]
  refine Finset.sum_congr rfl fun d _ => ?_
  rw [blk5, pay5, vb_at]

/-- The scores' gradients at the point. -/
abbrev DS : FVec Ideal S512x384 .f32 := k0_pay20 (F := Ideal) (k0_pay5 (VB m c t)) (SC m c t) (k0_pay8 (SK m c t 0)) (SK m c t 1) (SK m c t 2) (SK m c t 3) (iblk m c 5 t)
/-- The same, scaled. -/
abbrev DSS : FVec Ideal S512x384 .bf16 := k0_pay21 (F := Ideal) (k0_pay5 (VB m c t)) (SC m c t) (k0_pay8 (SK m c t 0)) (SK m c t 1) (SK m c t 2) (SK m c t 3) (iblk m c 5 t)

/-- The point's gradients of the scores. -/
theorem ds_row (g : Fin 4) (q : Fin 128) (j : Fin 384) : DS m c t (ix2 (rg g q) j) = (kin m c).D (tb t) (tk t) g q j := by
  unfold DS Inp.D
  rw [pay20, sc_row, snk_row, dp_row]

/-- The same, scaled. -/
theorem dss_row (g : Fin 4) (q : Fin 128) (j : Fin 384) : DSS m c t (ix2 (rg g q) j) = (kin m c).D (tb t) (tk t) g q j * scale := by
  unfold DSS Inp.D
  rw [pay21, sc_row, snk_row, dp_row]

/-- The weights' rows in the sinks' and the values' gradients. -/
abbrev PK : FVec Ideal S512x1 .f32 := k0_pay15 (F := Ideal) (SC m c t) (k0_pay8 (SK m c t 0)) (SK m c t 1) (SK m c t 2) (SK m c t 3)
/-- The rows' means of the weights' gradients. -/
abbrev DL : FVec Ideal S512x1 .f32 := k0_pay19 (F := Ideal) (k0_pay5 (VB m c t)) (SC m c t) (k0_pay8 (SK m c t 0)) (SK m c t 1) (SK m c t 2) (SK m c t 3) (iblk m c 5 t)

/-- The point's gradients of the sinks, by row. -/
theorem dk_row (g : Fin 4) (q : Fin 128) : k0_pay34 (F := Ideal) (PK m c t) (DL m c t) (ix2 (rg g q) 0) = (kin m c).K (tb t) (tk t) g q := by
  unfold PK DL Inp.K
  rw [pay34, sc_row, snk_row, dp_row]

/-- The point's part of the values' gradient. -/
abbrev DV : FVec Ideal S384x128 .f32 := k0_pay18 (F := Ideal) (SC m c t) (k0_pay8 (SK m c t 0)) (SK m c t 1) (SK m c t 2) (SK m c t 3) (iblk m c 5 t)

/-- The point's part of the values' gradient. -/
theorem dv_row (j : Fin 384) (d : Fin 128) : DV m c t (ix2 j d) = (kin m c).dvb (tb t) (tk t) j d := by
  unfold DV Inp.dvb Inp.P
  rw [pay18]
  refine Finset.sum_congr rfl fun g _ => Finset.sum_congr rfl fun q _ => ?_
  rw [sc_row, snk_row, pay16, blk5]

/-- The point's part of the keys' gradient, added to what is there. -/
theorem dk_step (v : Vec Ideal S384x128 .f32) (j : Fin 384) (d : Fin 128) :
    k0_pay31 (F := Ideal) (k0_pay6 (iblk m c 1 t)) (DSS m c t) v (ix2 j d) = v (ix2 j d) + (kin m c).dkb (tb t) (tk t) j d := by
  rw [pay31]
  unfold Inp.dkb
  refine congrArg _ (Finset.sum_congr rfl fun g _ => Finset.sum_congr rfl fun q _ => ?_)
  rw [dss_row, pay6, blk1]

/-- The queries' gradient. -/
theorem dq_row (g : Fin 4) (q d : Fin 128) : (∑ j : Fin 384, DSS m c t (ix2 (rg g q) j) * k0_pay4 (KB m c t) (ix2 j d) : EReal) = (kin m c).dq (tb t) (tk t) g q d := by
  unfold Inp.dq
  refine Finset.sum_congr rfl fun j _ => ?_
  rw [dss_row, pay4, kb_at]

end Cert.KernelIdeal.Att
-- ==== Proof.Fold.lean ====
module

public import proofs.«01_k».proof.Proof.Pt
public import Idealize.ShloMosaic.Lib.WritesUnit

/-! The kernel's accumulators: what each grid point adds, and the sums over the blocks. -/

@[expose] public section

set_option maxRecDepth 16384

noncomputable section

namespace Cert.KernelIdeal.Att

open Cert.KernelIdeal Cert.KernelIdeal.Gen Cert.KernelIdeal.Value Idealize.ShloMosaic Idealize.ShloMosaic.TcCoe Idealize.SL.Sem _root_.Att

variable (m : (ℓ : Loc nD τ sig) → Buf (Elt Ideal) ℓ) (c : Dev nD) (t : Fin cfg0.N)

/-- An accumulator cleared at every `J`-th step is the sum of what was added since. -/
theorem fold_sum {N : ℕ} (J : ℕ) (f a : (k : ℕ) → k < N → EReal) (h0 : ∀ k h, k % J = 0 → f k h = 0 + a k h)
    (hs : ∀ k h, ¬ k % J = 0 → f k h = f (k - 1) (by omega) + a k h) (b : ℕ) (hb : b % J = 0) :
    ∀ (i : ℕ) (_ : i < J) (h : b + i < N), f (b + i) h = ∑ n : Fin (i + 1), a (b + n.val) (by omega)
  | 0, _, h => by
    rw [Fin.sum_univ_one]
    exact (h0 b h hb).trans (zero_add _)
  | i + 1, hi, h => by
    have hne : ¬ (b + (i + 1)) % J = 0 := by
      rw [Nat.add_mod, hb, Nat.zero_add, Nat.mod_mod, Nat.mod_eq_of_lt hi]
      omega
    rw [hs _ h hne, Fin.sum_univ_castSucc]
    exact congrArg (· + _) (fold_sum J f a h0 hs b hb i (by omega) (by omega))

/-- A band of rows stored over a whole array. -/
theorem canon_band (Z : Vec Ideal S2304x128 .f32) (off : Fin 2 → ℕ) (inb : ∀ a, off a + ![384, 128] a ≤ S2304x128.size a)
    (inb0 : ∀ a, (![0, 0] : Fin 2 → ℕ) a + ![2304, 128] a ≤ S2304x128.size a) (o : ℕ) (hoff : off = ![o, 0])
    (w : (⟨2, ![384, 128]⟩ : Shape).Idx → EReal) (r : Fin 2304) (d : Fin 128) :
    View.canon (Val := Elt Ideal) (s := S2304x128) (e := .f32) [⟨Rect.unit off ![384, 128] inb, w⟩, ⟨Rect.unit ![0, 0] ![2304, 128] inb0, Z⟩] (ix2 r d) =
      if h : o ≤ r.val ∧ r.val < o + 384 then w (ix2 ⟨r.val - o, by omega⟩ d) else Z (ix2 r d) := by
  subst hoff
  split
  · rename_i h
    have e : (ix2 r d : S2304x128.Idx) = (Rect.unit (s := S2304x128) ![o, 0] ![384, 128] inb).emb (ix2 ⟨r.val - o, by omega⟩ d) := by
      funext a; apply Fin.ext
      match a with
      | ⟨0, _⟩ => show r.val = o + 1 * (r.val - o); omega
      | ⟨1, _⟩ => show d.val = 0 + 1 * d.val; omega
    rw [e]
    exact View.canon_cons_emb _ _ _ _
  · rename_i h
    rw [View.canon_cons_of_not_mem]
    · exact congrFun (View.canon_cons_unit_lit inb0 Z [] (by decide)) _
    · rw [Rect.mem_set_unit]
      intro hh
      exact h (hh 0)

/-- A band of rows stored over what is there. -/
theorem read_band {sp : Space} (v : View sig .tc sp S2304x128 .f32) (f : v.ty.Contents (Elt Ideal)) (off : Fin 2 → ℕ)
    (inb : ∀ a, off a + ![384, 128] a ≤ S2304x128.size a) (o : ℕ) (hoff : off = ![o, 0])
    (w : (⟨2, ![384, 128]⟩ : Shape).Idx → EReal) (r : Fin 2304) (d : Fin 128) :
    v.read (Elt Ideal) (v.writes (Elt Ideal) f [⟨Rect.unit off ![384, 128] inb, w⟩]) (ix2 r d) =
      if h : o ≤ r.val ∧ r.val < o + 384 then w (ix2 ⟨r.val - o, by omega⟩ d) else v.read (Elt Ideal) f (ix2 r d) := by
  split
  · rename_i h
    exact View.read_writes_cons_rows_of_mem v f inb w [] (ix2 r d) (ix2 ⟨r.val - o, by omega⟩ d) hoff (by show r.val = o + (r.val - o); omega) rfl
  · rename_i h
    refine (View.read_writes_cons_rows_of_not_mem v f inb w [] (ix2 r d) hoff (W := 384) rfl ?_).trans rfl
    show r.val < o ∨ o + 384 ≤ r.val
    omega

/-- The update of the keys' accumulator at an index. -/
theorem dk_upd (P : Vec Ideal S2304x128 .f32) (r : Fin 2304) (d : Fin 128) :
    (if h : t.val % 16 * 128 ≤ r.val ∧ r.val < t.val % 16 * 128 + 384 then
      k0_pay31 (F := Ideal) (k0_pay6 (iblk m c 1 t)) (DSS m c t) (View.ld P (Rect.unit (k0_off1 (grid0.coords t)) ![384, 128] (k0_off1_inb _))) (ix2 ⟨r.val - t.val % 16 * 128, by omega⟩ d)
      else P (ix2 r d)) = P (ix2 r d) + band (fun n j => (kin m c).dkb n (tk t) j d) r (tb t) := by
  unfold band
  by_cases h : t.val % 16 * 128 ≤ r.val ∧ r.val < t.val % 16 * 128 + 384
  · rw [dif_pos h, dif_pos (show (tb t).val * 128 ≤ r.val ∧ r.val < (tb t).val * 128 + 384 from h), dk_step]
    refine congrArg (· + _) (View.ld_unit_apply_of _ _ _ _ _ _ fun a => ?_)
    refine Eq.trans ?_ (congrArg (· + _) (congrFun (off1 t) a).symm)
    match a with
    | ⟨0, _⟩ => show r.val = t.val % 16 * 128 + (r.val - t.val % 16 * 128); omega
    | ⟨1, _⟩ => exact (Nat.zero_add _).symm
  · rw [dif_neg h, dif_neg (show ¬((tb t).val * 128 ≤ r.val ∧ r.val < (tb t).val * 128 + 384) from h), add_zero]

/-- The update of the values' accumulator at an index. -/
theorem dv_upd (P : Vec Ideal S2304x128 .f32) (r : Fin 2304) (d : Fin 128) :
    (if h : t.val % 16 * 128 ≤ r.val ∧ r.val < t.val % 16 * 128 + 384 then
      k0_pay32 (F := Ideal) (DV m c t) (View.ld P (Rect.unit (k0_off1 (grid0.coords t)) ![384, 128] (k0_off1_inb _))) (ix2 ⟨r.val - t.val % 16 * 128, by omega⟩ d)
      else P (ix2 r d)) = P (ix2 r d) + band (fun n j => (kin m c).dvb n (tk t) j d) r (tb t) := by
  unfold band
  by_cases h : t.val % 16 * 128 ≤ r.val ∧ r.val < t.val % 16 * 128 + 384
  · rw [dif_pos h, dif_pos (show (tb t).val * 128 ≤ r.val ∧ r.val < (tb t).val * 128 + 384 from h), pay32, dv_row]
    refine congrArg (· + _) (View.ld_unit_apply_of _ _ _ _ _ _ fun a => ?_)
    refine Eq.trans ?_ (congrArg (· + _) (congrFun (off1 t) a).symm)
    match a with
    | ⟨0, _⟩ => show r.val = t.val % 16 * 128 + (r.val - t.val % 16 * 128); omega
    | ⟨1, _⟩ => exact (Nat.zero_add _).symm
  · rw [dif_neg h, dif_neg (show ¬((tb t).val * 128 ≤ r.val ∧ r.val < (tb t).val * 128 + 384) from h), add_zero]

/-- The keys' accumulator is cleared to zero. -/
theorem zero27 (r : Fin 2304) (d : Fin 128) : k0_pay27 (F := Ideal) (ix2 r d) = 0 := by
  pointwise [k0_pay27]
/-- The values' accumulator is cleared to zero. -/
theorem zero28 (r : Fin 2304) (d : Fin 128) : k0_pay28 (F := Ideal) (ix2 r d) = 0 := by
  pointwise [k0_pay28]
/-- The bias's block is cleared to zero. -/
theorem zero29 (g : Fin 4) (q : Fin 128) (j : Fin 384) : k0_pay29 (F := Ideal) (ix3 g q j) = 0 := by
  pointwise [k0_pay29]
/-- The sinks' block is cleared to zero. -/
theorem zero30 (h : Fin 8) (l : Fin 128) : k0_pay30 (F := Ideal) (ix2 h l) = 0 := by
  pointwise [k0_pay30]

/-- The keys' accumulator after a point that clears it. -/
theorem dk_first (h : t.val % 16 = 0) (r : Fin 2304) (d : Fin 128) :
    (outsAt0 m c t.val t.isLt).2.2.2.2.2.1 (ix2 r d) = (0 : EReal) + band (fun n j => (kin m c).dkb n (tk t) j d) r (tb t) := by
  rw [← zero27 r d, ← dk_upd]
  by_cases h1 : t.val % 32 = 0
  · rw [outsAt0_A m c t h h1 (by omega)]
    frame_out
    exact canon_band _ _ _ _ _ (off1 t) _ r d
  · rw [outsAt0_D m c t h h1 (by omega)]
    frame_out
    exact canon_band _ _ _ _ _ (off1 t) _ r d

/-- The keys' accumulator after any other point. -/
theorem dk_next (h : ¬t.val % 16 = 0) (r : Fin 2304) (d : Fin 128) :
    (outsAt0 m c t.val t.isLt).2.2.2.2.2.1 (ix2 r d) =
      (outsAt0 m c (t.val - 1) (by have := t.isLt; omega)).2.2.2.2.2.1 (ix2 r d) + band (fun n j => (kin m c).dkb n (tk t) j d) r (tb t) := by
  rw [← dk_upd]
  by_cases h2 : t.val % 16 = 15
  · rw [outsAt0_C m c t h (by omega) h2]
    frame_out
    refine (read_band _ _ _ _ _ (off1 t) _ r d).trans ?_
    rw [read_unread_whole]
    rfl
  · rw [outsAt0_B m c t h (by omega) h2]
    frame_out
    refine (read_band _ _ _ _ _ (off1 t) _ r d).trans ?_
    rw [read_unread_whole]
    rfl

/-- The values' accumulator after a point that clears it. -/
theorem dv_first (h : t.val % 16 = 0) (r : Fin 2304) (d : Fin 128) :
    (outsAt0 m c t.val t.isLt).2.2.2.2.2.2 (ix2 r d) = (0 : EReal) + band (fun n j => (kin m c).dvb n (tk t) j d) r (tb t) := by
  rw [← zero28 r d, ← dv_upd]
  by_cases h1 : t.val % 32 = 0
  · rw [outsAt0_A m c t h h1 (by omega)]
    frame_out
    exact canon_band _ _ _ _ _ (off1 t) _ r d
  · rw [outsAt0_D m c t h h1 (by omega)]
    frame_out
    exact canon_band _ _ _ _ _ (off1 t) _ r d

/-- The values' accumulator after any other point. -/
theorem dv_next (h : ¬t.val % 16 = 0) (r : Fin 2304) (d : Fin 128) :
    (outsAt0 m c t.val t.isLt).2.2.2.2.2.2 (ix2 r d) =
      (outsAt0 m c (t.val - 1) (by have := t.isLt; omega)).2.2.2.2.2.2 (ix2 r d) + band (fun n j => (kin m c).dvb n (tk t) j d) r (tb t) := by
  rw [← dv_upd]
  by_cases h2 : t.val % 16 = 15
  · rw [outsAt0_C m c t h (by omega) h2]
    frame_out
    refine (read_band _ _ _ _ _ (off1 t) _ r d).trans ?_
    rw [read_unread_whole]
    rfl
  · rw [outsAt0_B m c t h (by omega) h2]
    frame_out
    refine (read_band _ _ _ _ _ (off1 t) _ r d).trans ?_
    rw [read_unread_whole]
    rfl

/-- The bias's gradient after a point that clears it. -/
theorem db_first (h : t.val % 16 = 0) (g : Fin 4) (q : Fin 128) (j : Fin 384) :
    (outsAt0 m c t.val t.isLt).2.2.2.1 (ix3 g q j) = (0 : EReal) + (kin m c).D (tb t) (tk t) g q j := by
  rw [← zero29 g q j, ← ds_row]
  by_cases h1 : t.val % 32 = 0
  · rw [outsAt0_A m c t h h1 (by omega)]
    frame_out
    exact pay33 _ _ g q j
  · rw [outsAt0_D m c t h h1 (by omega)]
    frame_out
    exact pay33 _ _ g q j

/-- The bias's gradient after any other point. -/
theorem db_next (h : ¬t.val % 16 = 0) (g : Fin 4) (q : Fin 128) (j : Fin 384) :
    (outsAt0 m c t.val t.isLt).2.2.2.1 (ix3 g q j) =
      (outsAt0 m c (t.val - 1) (by have := t.isLt; omega)).2.2.2.1 (ix3 g q j) + (kin m c).D (tb t) (tk t) g q j := by
  rw [← ds_row]
  by_cases h2 : t.val % 16 = 15
  · rw [outsAt0_C m c t h (by omega) h2]
    frame_out
    exact pay33 _ _ g q j
  · rw [outsAt0_B m c t h (by omega) h2]
    frame_out
    exact pay33 _ _ g q j

/-- What a point adds to a head's sink. -/
def sk_add (h : Fin 8) : EReal :=
  if e : (tk t).val * 4 ≤ h.val ∧ h.val < (tk t).val * 4 + 4 then 0 - ∑ q : Fin 128, (kin m c).K (tb t) (tk t) ⟨h.val - (tk t).val * 4, by omega⟩ q else 0

/-- The update of the sinks' block at an index. -/
theorem sk_upd (v : FVec Ideal S8x128 .f32) (h : Fin 8) (l : Fin 128) :
    k0_pay1 (F := Ideal) (BitVec.ofNat 32 (grid0.coords t 0).val) (iota .tc S8x128 32 [0] iota_S8x128_d0_w32) (k0_pay34 (F := Ideal) (PK m c t) (DL m c t))
      (k0_pay35 (F := Ideal) (BitVec.ofNat 32 (grid0.coords t 0).val) (PK m c t) (DL m c t)) v (ix2 h l) = v (ix2 h l) + sk_add m c t h := by
  have e : (grid0.coords t 0).val = (tk t).val := (co t).1
  rw [e, pay1 (tk t) _ _ _ rfl]
  unfold sk_add
  simp only [dk_row]

/-- The sinks' gradient after the first point. -/
theorem sk_first (h : t.val % 32 = 0) (r : Fin 8) (l : Fin 128) :
    (outsAt0 m c t.val t.isLt).2.2.2.2.1 (ix2 r l) = (0 : EReal) + sk_add m c t r := by
  rw [← zero30 r l, ← sk_upd, outsAt0_A m c t (by omega) h (by omega)]
  frame_out
  rfl

/-- The sinks' gradient after any other point. -/
theorem sk_next (h : ¬t.val % 32 = 0) (r : Fin 8) (l : Fin 128) :
    (outsAt0 m c t.val t.isLt).2.2.2.2.1 (ix2 r l) =
      (outsAt0 m c (t.val - 1) (by have := t.isLt; omega)).2.2.2.2.1 (ix2 r l) + sk_add m c t r := by
  rw [← sk_upd]
  by_cases h0 : t.val % 16 = 0
  · rw [outsAt0_D m c t h0 h (by omega)]
    frame_out
    rfl
  by_cases h2 : t.val % 16 = 15
  · rw [outsAt0_C m c t h0 h h2]
    frame_out
    rfl
  · rw [outsAt0_B m c t h0 h h2]
    frame_out
    rfl

/-- A head's last point. -/
def last (kv : Fin 2) : Fin cfg0.N := ⟨kv.val * 16 + 15, by have := N_eq; omega⟩

/-- The key head of a point given by head and block. -/
theorem tk_of (kv : Fin 2) (n : Fin 16) (h : kv.val * 16 + n.val < cfg0.N) : tk ⟨kv.val * 16 + n.val, h⟩ = kv := Fin.ext (by dsimp only [tk]; omega)
/-- The block of a point given by head and block. -/
theorem tb_of (kv : Fin 2) (n : Fin 16) (h : kv.val * 16 + n.val < cfg0.N) : tb ⟨kv.val * 16 + n.val, h⟩ = n := Fin.ext (by dsimp only [tb]; omega)

/-- The keys' accumulator after a head's sixteen points. -/
theorem dk_last (kv : Fin 2) (r : Fin 2304) (d : Fin 128) :
    (outsAt0 m c (last kv).val (last kv).isLt).2.2.2.2.2.1 (ix2 r d) = (kin m c).dkp r kv d := by
  refine (fold_sum 16 (fun k h => (outsAt0 m c k h).2.2.2.2.2.1 (ix2 r d)) (fun k h => band (fun n j => (kin m c).dkb n (tk ⟨k, h⟩) j d) r (tb ⟨k, h⟩))
    (fun k h e => dk_first m c ⟨k, h⟩ e r d) (fun k h e => dk_next m c ⟨k, h⟩ e r d) (kv.val * 16) (by omega) 15 (by omega) (last kv).isLt).trans ?_
  unfold Inp.dkp
  refine Finset.sum_congr rfl fun n _ => ?_
  rw [tk_of kv n, tb_of kv n]

/-- The values' accumulator after a head's sixteen points. -/
theorem dv_last (kv : Fin 2) (r : Fin 2304) (d : Fin 128) :
    (outsAt0 m c (last kv).val (last kv).isLt).2.2.2.2.2.2 (ix2 r d) = (kin m c).dvp r kv d := by
  refine (fold_sum 16 (fun k h => (outsAt0 m c k h).2.2.2.2.2.2 (ix2 r d)) (fun k h => band (fun n j => (kin m c).dvb n (tk ⟨k, h⟩) j d) r (tb ⟨k, h⟩))
    (fun k h e => dv_first m c ⟨k, h⟩ e r d) (fun k h e => dv_next m c ⟨k, h⟩ e r d) (kv.val * 16) (by omega) 15 (by omega) (last kv).isLt).trans ?_
  unfold Inp.dvp
  refine Finset.sum_congr rfl fun n _ => ?_
  rw [tk_of kv n, tb_of kv n]

/-- The bias's block after a head's sixteen points. -/
theorem db_last (kv : Fin 2) (g : Fin 4) (q : Fin 128) (j : Fin 384) :
    (outsAt0 m c (last kv).val (last kv).isLt).2.2.2.1 (ix3 g q j) = (kin m c).db kv g q j := by
  refine (fold_sum 16 (fun k h => (outsAt0 m c k h).2.2.2.1 (ix3 g q j)) (fun k h => (kin m c).D (tb ⟨k, h⟩) (tk ⟨k, h⟩) g q j)
    (fun k h e => db_first m c ⟨k, h⟩ e g q j) (fun k h e => db_next m c ⟨k, h⟩ e g q j) (kv.val * 16) (by omega) 15 (by omega) (last kv).isLt).trans ?_
  unfold Inp.db
  refine Finset.sum_congr rfl fun n _ => ?_
  rw [tk_of kv n, tb_of kv n]

/-- A sum over the grid's points, by key head and block. -/
theorem sum_points (f : Fin 32 → EReal) : ∑ r, f r = ∑ kv : Fin 2, ∑ n : Fin 16, f ⟨kv.val * 16 + n.val, by omega⟩ := by
  rw [← (finProdFinEquiv (m := 2) (n := 16)).sum_comp, Fintype.sum_prod_type]
  refine Finset.sum_congr rfl fun g _ => Finset.sum_congr rfl fun q _ => congrArg f (Fin.ext ?_)
  simp only [finProdFinEquiv_apply_val]
  omega

/-- What a point leaves depends on its number alone. -/
theorem outs_congr (k k' : ℕ) (h : k < cfg0.N) (h' : k' < cfg0.N) (e : k = k') : outsAt0 m c k h = outsAt0 m c k' h' := by
  subst e
  rfl

/-- The sinks' block after all the points. -/
theorem sk_last (kv : Fin 2) (g : Fin 4) (l : Fin 128) (k : ℕ) (h : k < cfg0.N) (hk : k = 31) :
    (outsAt0 m c k h).2.2.2.2.1 (ix2 (head kv g) l) = (kin m c).dsink kv g := by
  have h31 : 0 + 31 < cfg0.N := by have := N_eq; omega
  rw [outs_congr m c k (0 + 31) h h31 (by omega)]
  refine (fold_sum 32 (fun k h => (outsAt0 m c k h).2.2.2.2.1 (ix2 (head kv g) l)) (fun k h => sk_add m c ⟨k, h⟩ (head kv g))
    (fun k h e => sk_first m c ⟨k, h⟩ e (head kv g) l) (fun k h e => sk_next m c ⟨k, h⟩ e (head kv g) l) 0 (by omega) 31 (by omega) h31).trans ?_
  have hN := N_eq
  have one : ∀ (k : Fin 2) (n : Fin 16) (h : 0 + (k.val * 16 + n.val) < cfg0.N), sk_add m c ⟨0 + (k.val * 16 + n.val), h⟩ (head kv g) =
      if k = kv then 0 - ∑ q : Fin 128, (kin m c).K n kv g q else 0 := by
    intro k n h
    have e : (⟨0 + (k.val * 16 + n.val), h⟩ : Fin cfg0.N) = ⟨k.val * 16 + n.val, by omega⟩ := Fin.ext (Nat.zero_add _)
    unfold sk_add
    rw [e]
    by_cases hk : k = kv
    · subst hk
      rw [if_pos rfl, dif_pos (by rw [tk_of k n]; dsimp only [head]; omega)]
      rw [tb_of k n]
      have hb : k.val * 16 + n.val < cfg0.N := by omega
      have htk : (tk ⟨k.val * 16 + n.val, hb⟩).val = k.val := by rw [tk_of k n]
      have hg : ∀ h' : (head k g).val - (tk ⟨k.val * 16 + n.val, hb⟩).val * 4 < 4, (⟨(head k g).val - (tk ⟨k.val * 16 + n.val, hb⟩).val * 4, h'⟩ : Fin 4) = g :=
        fun h' => Fin.ext (by show (head k g).val - (tk ⟨k.val * 16 + n.val, hb⟩).val * 4 = g.val; rw [htk]; dsimp only [head]; omega)
      rw [hg, tk_of k n]
    · rw [if_neg hk, dif_neg]
      rw [tk_of k n]
      dsimp only [head]
      have : k.val ≠ kv.val := fun e => hk (Fin.ext e)
      omega
  refine (sum_points fun r => sk_add m c ⟨0 + r.val, by omega⟩ (head kv g)).trans ?_
  simp only [one]
  unfold Inp.dsink
  rw [Finset.sum_comm]
  refine Finset.sum_congr rfl fun n _ => ?_
  simp only [Finset.sum_ite_eq', Finset.mem_univ, if_true]

end Cert.KernelIdeal.Att
-- ==== Proof.Arr.lean ====
module

public import proofs.«01_k».proof.Proof.Fold

/-! The five arrays the kernel leaves, entry by entry. -/

@[expose] public section

noncomputable section

namespace Cert.KernelIdeal.Att

open Cert.KernelIdeal Cert.KernelIdeal.Gen Cert.KernelIdeal.Value Idealize.ShloMosaic Idealize.ShloMosaic.TcCoe Idealize.SL.Sem _root_.Att

variable (m : (ℓ : Loc nD τ sig) → Buf (Elt Ideal) ℓ) (c : Dev nD) (t : Fin cfg0.N)

/-- The keys' accumulator is stored as it is. -/
theorem pay2 (v : Vec Ideal S2304x128 .f32) (r : Fin 2304) (d : Fin 128) : k0_pay2 (F := Ideal) v (ix2 r d) = v (ix2 r d) := by
  pointwise [k0_pay2]
/-- The values' accumulator is stored as it is. -/
theorem pay3 (v : Vec Ideal S2304x128 .f32) (r : Fin 2304) (d : Fin 128) : k0_pay3 (F := Ideal) v (ix2 r d) = v (ix2 r d) := by
  pointwise [k0_pay3]

/-- The keys' block at the last point of a head is the accumulator. -/
theorem blk7 (h2 : t.val % 16 = 15) (r : Fin 2304) (d : Fin 128) :
    (outsAt0 m c t.val t.isLt).2.1 (ix2 r d) = (outsAt0 m c t.val t.isLt).2.2.2.2.2.1 (ix2 r d) := by
  rw [outsAt0_C m c t (by omega) (by omega) h2]
  refine Eq.trans ?_ (pay2 _ r d)
  frame_out

/-- The values' block at the last point of a head is the accumulator. -/
theorem blk8 (h2 : t.val % 16 = 15) (r : Fin 2304) (d : Fin 128) :
    (outsAt0 m c t.val t.isLt).2.2.1 (ix2 r d) = (outsAt0 m c t.val t.isLt).2.2.2.2.2.2 (ix2 r d) := by
  rw [outsAt0_C m c t (by omega) (by omega) h2]
  refine Eq.trans ?_ (pay3 _ r d)
  frame_out

/-- A head's last point, by its remainder. -/
theorem last_tk (h2 : t.val % 16 = 15) : t = last (tk t) := Fin.ext (by dsimp only [last, tk]; omega)

/-- Where each result's block lies. -/
theorem idx_o (p : Fin cfg0.N) : win0_7.index p = ![0, p.val / 16] ∧ win0_8.index p = ![0, p.val / 16] ∧ win0_9.index p = ![p.val / 16, 0, 0]
    ∧ win0_10.index p = ![0, 0] ∧ win0_6.index p = ![p.val % 16, 4 + p.val / 16] :=
  (by decide +kernel : ∀ p : Fin grid0.N, win0_7.index p = ![0, p.val / 16] ∧ win0_8.index p = ![0, p.val / 16] ∧ win0_9.index p = ![p.val / 16, 0, 0]
    ∧ win0_10.index p = ![0, 0] ∧ win0_6.index p = ![p.val % 16, 4 + p.val / 16]) p

/-- The keys' accumulator at a head's last point is the whole gradient. -/
theorem dk_at_last (h2 : t.val % 16 = 15) (r : Fin 2304) (d : Fin 128) : (outsAt0 m c t.val t.isLt).2.2.2.2.2.1 (ix2 r d) = (kin m c).dkp r (tk t) d := by
  rw [outs_congr m c t.val (last (tk t)).val t.isLt (last (tk t)).isLt (congrArg Fin.val (last_tk t h2))]
  exact dk_last m c (tk t) r d
/-- The values' accumulator at a head's last point is the whole gradient. -/
theorem dv_at_last (h2 : t.val % 16 = 15) (r : Fin 2304) (d : Fin 128) : (outsAt0 m c t.val t.isLt).2.2.2.2.2.2 (ix2 r d) = (kin m c).dvp r (tk t) d := by
  rw [outs_congr m c t.val (last (tk t)).val t.isLt (last (tk t)).isLt (congrArg Fin.val (last_tk t h2))]
  exact dv_last m c (tk t) r d
/-- The bias's block at a head's last point is the whole gradient. -/
theorem db_at_last (h2 : t.val % 16 = 15) (g : Fin 4) (q : Fin 128) (j : Fin 384) : (outsAt0 m c t.val t.isLt).2.2.2.1 (ix3 g q j) = (kin m c).db (tk t) g q j := by
  rw [outs_congr m c t.val (last (tk t)).val t.isLt (last (tk t)).isLt (congrArg Fin.val (last_tk t h2))]
  exact db_last m c (tk t) g q j

/-- The gradients of the padded keys, as an array. -/
def dkA (I : Inp) : S2304x256.Idx → EReal := fun i => I.dkp (i 0) ⟨(i 1).val / 128, by have : (i 1).val < 256 := (i 1).isLt; omega⟩ ⟨(i 1).val % 128, by omega⟩
/-- The gradients of the padded values, as an array. -/
def dvA (I : Inp) : S2304x256.Idx → EReal := fun i => I.dvp (i 0) ⟨(i 1).val / 128, by have : (i 1).val < 256 := (i 1).isLt; omega⟩ ⟨(i 1).val % 128, by omega⟩
/-- The gradients of the bias, as an array. -/
def dbA (I : Inp) : S8x128x384.Idx → EReal := fun i =>
  I.db ⟨(i 0).val / 4, by have : (i 0).val < 8 := (i 0).isLt; omega⟩ ⟨(i 0).val % 4, by omega⟩ (i 1) (i 2)
/-- The gradients of the sinks, in every lane, as an array. -/
def dsA (I : Inp) : S8x128.Idx → EReal := fun i => I.dsink ⟨(i 0).val / 4, by have : (i 0).val < 8 := (i 0).isLt; omega⟩ ⟨(i 0).val % 4, by omega⟩

/-- The keys' array at an index. -/
theorem dkA_at (I : Inp) (i : S2304x256.Idx) (r : Fin 2304) (kv : Fin 2) (d : Fin 128) (h0 : (i 0).val = r.val) (h1 : (i 1).val = kv.val * 128 + d.val) :
    dkA I i = I.dkp r kv d := by
  unfold dkA
  congr 1 <;> (apply Fin.ext; dsimp only; omega)
/-- The values' array at an index. -/
theorem dvA_at (I : Inp) (i : S2304x256.Idx) (r : Fin 2304) (kv : Fin 2) (d : Fin 128) (h0 : (i 0).val = r.val) (h1 : (i 1).val = kv.val * 128 + d.val) :
    dvA I i = I.dvp r kv d := by
  unfold dvA
  congr 1 <;> (apply Fin.ext; dsimp only; omega)
/-- The bias's array at an index. -/
theorem dbA_at (I : Inp) (i : S8x128x384.Idx) (kv : Fin 2) (g : Fin 4) (q : Fin 128) (j : Fin 384) (h0 : (i 0).val = kv.val * 4 + g.val) (h1 : (i 1).val = q.val)
    (h2 : (i 2).val = j.val) : dbA I i = I.db kv g q j := by
  unfold dbA
  congr 1 <;> (apply Fin.ext; dsimp only; omega)
/-- The sinks' array at an index. -/
theorem dsA_at (I : Inp) (i : S8x128.Idx) (kv : Fin 2) (g : Fin 4) (h0 : (i 0).val = kv.val * 4 + g.val) : dsA I i = I.dsink kv g := by
  unfold dsA
  congr 1 <;> (apply Fin.ext; dsimp only; omega)

/-- The array of the padded keys' gradients after the run. -/
theorem arr7 : (dats m 0 c).arrAt 7 cfg0.N = (dkA (kin m c) : Vec Ideal S2304x256 .f32) := by
  refine (dats m 0 c).arrAt_eq_of_covers 7 _ (by decide +kernel) fun t hf y => ?_
  have h2 := (flush0_7 t).mp hf
  blk_simp
  rw [after0_7]
  refine ((congrArg (outsAt0 m c t.val t.isLt).2.1 (eq_ix2 (n0 := 2304) (n1 := 128) y)).trans ((blk7 m c t h2 (y 0) (y 1)).trans (dk_at_last m c t h2 (y 0) (y 1)))).trans ?_
  refine (dkA_at _ _ _ _ _ ?_ ?_).symm
  · blk_simp [(idx_o t).1] <;> try omega
  · blk_simp [(idx_o t).1] <;> rfl

/-- The array of the padded values' gradients after the run. -/
theorem arr8 : (dats m 0 c).arrAt 8 cfg0.N = (dvA (kin m c) : Vec Ideal S2304x256 .f32) := by
  refine (dats m 0 c).arrAt_eq_of_covers 8 _ (by decide +kernel) fun t hf y => ?_
  have h2 := (flush0_8 t).mp hf
  blk_simp
  rw [after0_8]
  refine ((congrArg (outsAt0 m c t.val t.isLt).2.2.1 (eq_ix2 (n0 := 2304) (n1 := 128) y)).trans ((blk8 m c t h2 (y 0) (y 1)).trans (dv_at_last m c t h2 (y 0) (y 1)))).trans ?_
  refine (dvA_at _ _ _ _ _ ?_ ?_).symm
  · blk_simp [(idx_o t).2.1] <;> try omega
  · blk_simp [(idx_o t).2.1] <;> rfl

/-- The array of the bias's gradients after the run. -/
theorem arr9 : (dats m 0 c).arrAt 9 cfg0.N = (dbA (kin m c) : Vec Ideal S8x128x384 .f32) := by
  refine (dats m 0 c).arrAt_eq_of_covers 9 _ (by decide +kernel) fun t hf y => ?_
  have h2 := (flush0_9 t).mp hf
  blk_simp
  rw [after0_9]
  refine (congrArg (outsAt0 m c t.val t.isLt).2.2.2.1 (eq_ix3 (n0 := 4) (n1 := 128) (n2 := 384) y)).trans ((db_at_last m c t h2 (y 0) (y 1) (y 2)).trans ?_)
  refine (dbA_at _ _ _ _ _ _ ?_ ?_ ?_).symm
  · blk_simp [(idx_o t).2.2.1] <;> rfl
  · blk_simp [(idx_o t).2.2.1] <;> try omega
  · blk_simp [(idx_o t).2.2.1] <;> try omega

/-- The array of the sinks' gradients after the run. -/
theorem arr10 : (dats m 0 c).arrAt 10 cfg0.N = (dsA (kin m c) : Vec Ideal S8x128 .f32) := by
  refine (dats m 0 c).arrAt_eq_of_covers 10 _ (by decide +kernel) fun t hf y => ?_
  have h2 := (flush0_10 t).mp hf
  have hN := N_eq
  have ht := t.isLt
  blk_simp
  rw [after0_10]
  have hy : (y (0 : Fin 2)).val < 8 := (y (0 : Fin 2)).isLt
  have e : y = ix2 (n0 := 8) (n1 := 128) (head ⟨(y (0 : Fin 2)).val / 4, by omega⟩ ⟨(y (0 : Fin 2)).val % 4, by omega⟩) (y 1) := by
    refine (eq_ix2 (n0 := 8) (n1 := 128) y).trans (congrArg (ix2 · _) (Fin.ext ?_))
    dsimp only [head]; omega
  refine ((congrArg (outsAt0 m c t.val t.isLt).2.2.2.2.1 e).trans (sk_last m c _ _ _ t.val t.isLt (by omega))).trans ?_
  refine (dsA_at _ _ _ _ ?_).symm
  blk_simp [(idx_o t).2.2.2.1] <;> (try dsimp only) <;> omega

/-- Of a block stored in four column pieces, the last of them. -/
theorem canon_col (o : ℕ) (inb : ∀ a, (![0, o] : Fin 2 → ℕ) a + ![128, 128] a ≤ S128x512.size a)
    (w : (⟨2, ![128, 128]⟩ : Shape).Idx → EReal) (L : List (View.Piece (Elt Ideal) S128x512 .bf16)) (q : Fin 128) (e : Fin 512) :
    View.canon (Val := Elt Ideal) (s := S128x512) (e := .bf16) (⟨Rect.unit ![0, o] ![128, 128] inb, w⟩ :: L) (ix2 q e) =
      if h : o ≤ e.val ∧ e.val < o + 128 then w (ix2 q ⟨e.val - o, by omega⟩) else View.canon L (ix2 q e) := by
  split
  · rename_i h
    have e : (ix2 q e : S128x512.Idx) = (Rect.unit (s := S128x512) ![0, o] ![128, 128] inb).emb (ix2 q ⟨e.val - o, by omega⟩) := by
      funext a; apply Fin.ext
      match a with
      | ⟨0, _⟩ => show q.val = 0 + 1 * q.val; omega
      | ⟨1, _⟩ => show e.val = o + 1 * (e.val - o); omega
    rw [e]
    exact View.canon_cons_emb _ _ _ _
  · rename_i h
    rw [View.canon_cons_of_not_mem]
    rw [Rect.mem_set_unit]
    intro hh
    exact h (hh 1)

/-- A block stored in four column pieces, at a head's column. -/
theorem canon_cols (i0 i1 i2 i3) (A B C D : (⟨2, ![128, 128]⟩ : Shape).Idx → EReal) (g : Fin 4) (q d : Fin 128) :
    View.canon (Val := Elt Ideal) (s := S128x512) (e := .bf16) [⟨Rect.unit ![0, 384] ![128, 128] i3, D⟩, ⟨Rect.unit ![0, 256] ![128, 128] i2, C⟩,
      ⟨Rect.unit ![0, 128] ![128, 128] i1, B⟩, ⟨Rect.unit ![0, 0] ![128, 128] i0, A⟩] (ix2 q (cg g d)) = (![A, B, C, D] g) (ix2 q d) := by
  simp only [canon_col]
  match g with
  | ⟨0, _⟩ =>
    rw [dif_neg (by dsimp only [cg]; omega), dif_neg (by dsimp only [cg]; omega), dif_neg (by dsimp only [cg]; omega), dif_pos (by dsimp only [cg]; omega)]
    exact congrArg (fun x => A (ix2 q x)) (Fin.ext (by dsimp only [cg]; omega))
  | ⟨1, _⟩ =>
    rw [dif_neg (by dsimp only [cg]; omega), dif_neg (by dsimp only [cg]; omega), dif_pos (by dsimp only [cg]; omega)]
    exact congrArg (fun x => B (ix2 q x)) (Fin.ext (by dsimp only [cg]; omega))
  | ⟨2, _⟩ =>
    rw [dif_neg (by dsimp only [cg]; omega), dif_pos (by dsimp only [cg]; omega)]
    exact congrArg (fun x => C (ix2 q x)) (Fin.ext (by dsimp only [cg]; omega))
  | ⟨3, _⟩ =>
    rw [dif_pos (by dsimp only [cg]; omega)]
    exact congrArg (fun x => D (ix2 q x)) (Fin.ext (by dsimp only [cg]; omega))

/-- The four heads' gradients of the queries. -/
theorem dq_pay (g : Fin 4) (q d : Fin 128) : (![k0_pay23 (F := Ideal) (k0_pay4 (KB m c t)) (DSS m c t), k0_pay24 (k0_pay4 (KB m c t)) (DSS m c t),
    k0_pay25 (k0_pay4 (KB m c t)) (DSS m c t), k0_pay26 (k0_pay4 (KB m c t)) (DSS m c t)] g) (ix2 q d) = (kin m c).dq (tb t) (tk t) g q d := by
  rw [← dq_row]
  match g with
  | ⟨0, _⟩ => exact pay23 _ _ q d
  | ⟨1, _⟩ => exact pay24 _ _ q d
  | ⟨2, _⟩ => exact pay25 _ _ q d
  | ⟨3, _⟩ => exact pay26 _ _ q d

/-- The queries' block after any point. -/
theorem blk6 (g : Fin 4) (q d : Fin 128) : (outsAt0 m c t.val t.isLt).1 (ix2 q (cg g d)) = (kin m c).dq (tb t) (tk t) g q d := by
  rw [← dq_pay]
  by_cases h0 : t.val % 16 = 0
  · by_cases h1 : t.val % 32 = 0
    · rw [outsAt0_A m c t h0 h1 (by omega)]
      frame_out
      exact canon_cols _ _ _ _ _ _ _ _ g q d
    · rw [outsAt0_D m c t h0 h1 (by omega)]
      frame_out
      exact canon_cols _ _ _ _ _ _ _ _ g q d
  · by_cases h2 : t.val % 16 = 15
    · rw [outsAt0_C m c t h0 (by omega) h2]
      frame_out
      exact canon_cols _ _ _ _ _ _ _ _ g q d
    · rw [outsAt0_B m c t h0 (by omega) h2]
      frame_out
      exact canon_cols _ _ _ _ _ _ _ _ g q d

/-- The projections' gradients, with the queries' columns written. -/
def dqA (I : Inp) : S2048x7680.Idx → EReal := fun i =>
  if h : 2048 ≤ (i 1).val ∧ (i 1).val < 3072 then
    I.dq ⟨(i 0).val / 128, by have : (i 0).val < 2048 := (i 0).isLt; omega⟩ ⟨((i 1).val - 2048) / 512, by omega⟩ ⟨((i 1).val - 2048) / 128 % 4, by omega⟩
      ⟨(i 0).val % 128, by omega⟩ ⟨(i 1).val % 128, by omega⟩
  else 0
/-- The queries' columns at an index. -/
theorem dqA_at (I : Inp) (i : S2048x7680.Idx) (n : Fin 16) (kv : Fin 2) (g : Fin 4) (q d : Fin 128) (h0 : (i 0).val = n.val * 128 + q.val)
    (h1 : (i 1).val = 2048 + (kv.val * 512 + g.val * 128 + d.val)) : dqA I i = I.dq n kv g q d := by
  unfold dqA
  rw [dif_pos (by omega)]
  congr 1 <;> (apply Fin.ext; dsimp only; omega)

/-- The array of the projections' gradients after the run. -/
theorem arr6 : (dats m 0 c).arrAt 6 cfg0.N = ((fun i => if 2048 ≤ (i 1).val ∧ (i 1).val < 3072 then dqA (kin m c) i else V m c main_v50_0 i : S2048x7680.Idx → EReal) : Vec Ideal S2048x7680 .bf16) := by
  refine (dats m 0 c).arrAt_eq_of_coversWhere 6 _ (fun β => 4 ≤ β 1 ∧ β 1 < 6) (by decide +kernel) (fun t hf y => ?_)
    (fun j => by blk_simp [Pipeline.Window.cell_apply]; omega)
  blk_simp
  rw [after0_6]
  have h0 : (y (0 : Fin 2)).val < 128 := (y (0 : Fin 2)).isLt
  have h1 : (y (1 : Fin 2)).val < 512 := (y (1 : Fin 2)).isLt
  have e : y = ix2 (n0 := 128) (n1 := 512) (y 0) (cg ⟨(y (1 : Fin 2)).val / 128, by omega⟩ ⟨(y (1 : Fin 2)).val % 128, by omega⟩) := by
    refine (eq_ix2 (n0 := 128) (n1 := 512) y).trans (congrArg (ix2 _) (Fin.ext ?_))
    dsimp only [cg]; omega
  refine (congrArg (outsAt0 m c t.val t.isLt).1 e).trans ((blk6 m c t _ _ _).trans ?_)
  refine (dqA_at _ _ _ _ _ _ _ ?_ ?_).symm
  · blk_simp [(idx_o t).2.2.2.2] <;> rfl
  · blk_simp [(idx_o t).2.2.2.2]
    dsimp only [tk]; omega

end Cert.KernelIdeal.Att
-- ==== Proof.Close.lean ====
module

public import proofs.«01_k».proof.Defs
public import proofs.«01_k».proof.Proof.Arr
public import proofs.«01_k».proof.Proof.Gen.Kernel.Frame
public import proofs.«01_k».proof.Proof.Gen.Pre_finite_inputs
public import Idealize.ShloMosaic.Lib.ReduceAll
public import Idealize.ShloMosaic.Lib.Quiescent

/-! The claims: the precondition read as finiteness, the reference's arrays in the kernel's form, and both runs. -/

@[expose] public section

noncomputable section

namespace Cert.Proof

open Idealize.ShloMosaic Idealize.ShloMosaic.TcCoe Idealize.SL.Sem _root_.Att Cert.KernelIdeal.Att Cert.ReferenceIdeal.Att

/-- The side conditions of the precondition. -/
instance : Cert.Pre_finite_inputs.Facts := Cert.Pre_finite_inputs.Gen.facts

/-- An absolute value below infinity is that of a real number. -/
theorem real_of_olt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Every entry of the arguments the precondition names is a real number. -/
theorem fin_args (a0 : FVec Ideal Cert.Pre_finite_inputs.S1x8 .f32) (a1 : FVec Ideal Cert.Pre_finite_inputs.S32x8 .f32) (a2 : FVec Ideal Cert.Pre_finite_inputs.S2048x7680 .bf16)
    (a3 : FVec Ideal Cert.Pre_finite_inputs.S2048x1024 .bf16) (a4 : FVec Ideal Cert.Pre_finite_inputs.S2048x7680 .bf16)
    (h : Cert.Pre_finite_inputs.fn (F := Ideal) a0 a1 a2 a3 a4 = fun _ => 1#1) :
    (∀ i, IsReal (a0 i)) ∧ (∀ i, IsReal (a1 i)) ∧ (∀ i, IsReal (a2 i)) ∧ ∀ i, IsReal (a3 i) := by
  have e := congrFun h (Shape.Idx.first Cert.Pre_finite_inputs.Facts.h_S_)
  unfold Cert.Pre_finite_inputs.fn Cert.Pre_finite_inputs.fn_part1 at e
  obtain ⟨e1, e2⟩ := IntOp.andi_eq_one.1 e
  obtain ⟨e0, e1⟩ := IntOp.andi_eq_one.1 e1
  obtain ⟨e2, e3⟩ := IntOp.andi_eq_one.1 e2
  haveI : Subsingleton Cert.Pre_finite_inputs.S_.Idx := ⟨fun a b => funext fun k => k.elim0⟩
  exact ⟨fun i => real_of_olt _ (Host.reduce_andi_all _ _ _ _ _ e0 i), fun i => real_of_olt _ (Host.reduce_andi_all _ _ _ _ _ e1 i),
    fun i => real_of_olt _ (Host.reduce_andi_all _ _ _ _ _ e2 i), fun i => real_of_olt _ (Host.reduce_andi_all _ _ _ _ _ e3 i)⟩

section
variable (m : (ℓ : Loc Cert.KernelIdeal.nD Cert.KernelIdeal.τ Cert.KernelIdeal.sig) → Buf (Elt Ideal) ℓ)
  (V0 : Valuation Cert.ReferenceIdeal.τ Cert.ReferenceIdeal.sig (Elt Ideal)) (c : Dev Cert.KernelIdeal.nD)

/-- The reference's arguments are the kernel's. -/
structure Agree : Prop where
  a0 : V0 (Proc.devRef .tc Cert.ReferenceIdeal.main_arg0) = m ((c : Thread Cert.KernelIdeal.nD Cert.KernelIdeal.τ).loc Cert.KernelIdeal.main_arg0)
  a1 : V0 (Proc.devRef .tc Cert.ReferenceIdeal.main_arg1) = m ((c : Thread Cert.KernelIdeal.nD Cert.KernelIdeal.τ).loc Cert.KernelIdeal.main_arg1)
  a2 : V0 (Proc.devRef .tc Cert.ReferenceIdeal.main_arg2) = m ((c : Thread Cert.KernelIdeal.nD Cert.KernelIdeal.τ).loc Cert.KernelIdeal.main_arg2)
  a3 : V0 (Proc.devRef .tc Cert.ReferenceIdeal.main_arg3) = m ((c : Thread Cert.KernelIdeal.nD Cert.KernelIdeal.τ).loc Cert.KernelIdeal.main_arg3)
  a4 : V0 (Proc.devRef .tc Cert.ReferenceIdeal.main_arg4) = m ((c : Thread Cert.KernelIdeal.nD Cert.KernelIdeal.τ).loc Cert.KernelIdeal.main_arg4)

variable {m V0 c}

/-- Both programs read the same entries. -/
theorem Agree.inp_eq (h : Agree m V0 c) : inp V0 = kin m c := by
  unfold inp kin
  rw [h.a0, h.a2, h.a3, bias_eq m c V0 h.a1]

/-- The entries are real under the precondition. -/
theorem Agree.fin (h : Agree m V0 c) (hp : Cert.Pre_KernelIdeal_finite_inputs m) : (kin m c).Fin := by
  obtain ⟨f0, f1, f2, f3⟩ := fin_args _ _ _ _ _ (hp c)
  refine ⟨fun r k => f2 _, fun r k => f3 _, fun k => f0 _, fun k q j => ?_⟩
  show IsReal (Cert.KernelIdeal.Gen.V m c Cert.KernelIdeal.main_v39 (ix3 q j k))
  rw [bias_eq m c V0 h.a1]
  unfold bias
  rw [h.a1]
  exact f1 _

/-- The column's key head and place. -/
theorem col_eq (k : Fin 256) : k = kcol ⟨k.val / 128, by omega⟩ ⟨k.val % 128, by omega⟩ := Fin.ext (by dsimp only [kcol]; omega)
/-- A head as key head and place in its group. -/
theorem head_eq (k : Fin 8) : k = head ⟨k.val / 4, by omega⟩ ⟨k.val % 4, by omega⟩ := Fin.ext (by dsimp only [head]; omega)

/-- The reference's gradient of the padded keys. -/
theorem ref7 (h : Agree m V0 c) (hF : (kin m c).Fin) :
    Cert.ReferenceIdeal.Value.val5 V0 (Proc.devRef .tc Cert.ReferenceIdeal.main_v211) = (dkA (kin m c) : Vec Ideal Cert.KernelIdeal.S2304x256 .f32) := by
  rw [← h.inp_eq] at hF ⊢
  funext i
  have e := (eq_ix2 (n0 := 2304) (n1 := 256) i).trans (congrArg (ix2 _) (col_eq (i 1)))
  exact (congrArg _ e).trans (dk_at V0 hF _ _ _)

/-- The reference's gradient of the padded values. -/
theorem ref8 (h : Agree m V0 c) :
    Cert.ReferenceIdeal.Value.val5 V0 (Proc.devRef .tc Cert.ReferenceIdeal.main_v212) = (dvA (kin m c) : Vec Ideal Cert.KernelIdeal.S2304x256 .f32) := by
  rw [← h.inp_eq]
  funext i
  have e := (eq_ix2 (n0 := 2304) (n1 := 256) i).trans (congrArg (ix2 _) (col_eq (i 1)))
  exact (congrArg _ e).trans (dv_at V0 _ _ _)

/-- The reference's gradient of the bias. -/
theorem ref9 (h : Agree m V0 c) (hF : (kin m c).Fin) :
    Cert.ReferenceIdeal.Value.val5 V0 (Proc.devRef .tc Cert.ReferenceIdeal.main_v177) = (dbA (kin m c) : Vec Ideal Cert.KernelIdeal.S8x128x384 .f32) := by
  rw [← h.inp_eq] at hF ⊢
  funext i
  have e := (eq_ix3 (n0 := 8) (n1 := 128) (n2 := 384) i).trans (congrArg (ix3 · (i 1) (i 2)) (head_eq (i 0)))
  exact (congrArg _ e).trans (db_at V0 hF _ _ _ _)

/-- The reference's gradient of the sinks. -/
theorem ref10 (h : Agree m V0 c) (hF : (kin m c).Fin) :
    Cert.ReferenceIdeal.Value.val5 V0 (Proc.devRef .tc Cert.ReferenceIdeal.main_v214) = (dsA (kin m c) : Vec Ideal Cert.KernelIdeal.S8x128 .f32) := by
  rw [← h.inp_eq] at hF ⊢
  funext i
  have e := (eq_ix2 (n0 := 8) (n1 := 128) i).trans (congrArg (ix2 · (i 1)) (head_eq (i 0)))
  exact (congrArg _ e).trans (dsink_at V0 hF _ _ _)

open Cert.KernelIdeal Cert.KernelIdeal.Gen in
/-- The array written in place starts as a copy of its argument. -/
theorem entry_dz : V m c main_v50_0 = m ((c : Thread nD τ).loc main_arg4) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_simp
  rfl

/-- The reference's gradient of the projections. -/
theorem ref6 (h : Agree m V0 c) (hF : (kin m c).Fin) :
    Cert.ReferenceIdeal.Value.val5 V0 (Proc.devRef .tc Cert.ReferenceIdeal.main_v210) =
      ((fun i => if 2048 ≤ (i 1).val ∧ (i 1).val < 3072 then dqA (kin m c) i else Cert.KernelIdeal.Gen.V m c Cert.KernelIdeal.main_v50_0 i : Cert.KernelIdeal.S2048x7680.Idx → EReal) : Vec Ideal Cert.KernelIdeal.S2048x7680 .bf16) := by
  rw [entry_dz, ← h.a4]
  rw [← h.inp_eq] at hF ⊢
  funext i
  refine (congrArg _ (eq_ix2 (n0 := 2048) (n1 := 7680) i)).trans ((dz_at V0 hF (i 0) (i 1)).trans ?_)
  by_cases hc : 2048 ≤ (i 1).val ∧ (i 1).val < 3072
  · rw [dif_pos hc, if_pos hc]
    have h0 : (i 0).val < 2048 := (i 0).isLt
    exact (dqA_at _ i _ _ _ _ _ (by dsimp only; omega) (by dsimp only; omega)).symm
  · rw [dif_neg hc, if_neg hc]
    exact congrArg (V0 (Proc.devRef .tc Cert.ReferenceIdeal.main_arg4)) (eq_ix2 (n0 := 2048) (n1 := 7680) i).symm

end

/-- The kernel and the reference end with equal results. -/
theorem algebraic : Cert.algebraic_KernelIdeal_ReferenceIdeal_pre_finite_inputs
    (hKernelIdeal := Cert.KernelIdeal.Gen.facts) (hReferenceIdeal := Cert.ReferenceIdeal.Gen.facts) (hPre_finite_inputs := Cert.Pre_finite_inputs.Gen.facts) := by
  intro m g m' g' hp hag
  have ha : ∀ c : Dev Cert.KernelIdeal.nD, Agree m (StableHlo.launchContents m' c) c := fun c => ⟨(hag c).1, (hag c).2.1, (hag c).2.2.1, (hag c).2.2.2.1, (hag c).2.2.2.2⟩
  have hF : ∀ c : Dev Cert.KernelIdeal.nD, (kin m c).Fin := fun c => (ha c).fin hp
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, Cert.KernelIdeal.Value.run_blocks (F := Ideal) m g, ?_⟩
  refine (θ_run Cert.ReferenceIdeal.defs _ _).mono (fun r h c => ⟨?_, ?_, ?_, ?_, ?_, (h c).2.2.2.2.2⟩) (Cert.ReferenceIdeal.Value.run (F := Ideal) m' g')
  · exact ((h c).1.trans (Cert.ReferenceIdeal.Value.val5_main_v210 (StableHlo.launchContents m' c)).symm).trans ((ref6 (ha c) (hF c)).trans (arr6 m c).symm)
  · exact ((h c).2.1.trans (Cert.ReferenceIdeal.Value.val5_main_v211 (StableHlo.launchContents m' c)).symm).trans ((ref7 (ha c) (hF c)).trans (arr7 m c).symm)
  · exact ((h c).2.2.1.trans (Cert.ReferenceIdeal.Value.val5_main_v212 (StableHlo.launchContents m' c)).symm).trans ((ref8 (ha c)).trans (arr8 m c).symm)
  · exact ((h c).2.2.2.1.trans (Cert.ReferenceIdeal.Value.val5_main_v177 (StableHlo.launchContents m' c)).symm).trans ((ref9 (ha c) (hF c)).trans (arr9 m c).symm)
  · exact ((h c).2.2.2.2.1.trans (Cert.ReferenceIdeal.Value.val5_main_v214 (StableHlo.launchContents m' c)).symm).trans ((ref10 (ha c) (hF c)).trans (arr10 m c).symm)

/-- The reference's frame. -/
theorem frame_ref : Cert.quiescent_ReferenceIdeal (hReferenceIdeal := Cert.ReferenceIdeal.Gen.facts) := fun m' g' _ =>
  (θ_run Cert.ReferenceIdeal.defs _ _).mono (fun r h => ⟨fun c => (h c).2.2.2.2.2, sem_eq_zero_of_no_sems (by decide) r.2⟩) (Cert.ReferenceIdeal.Value.run (F := Ideal) m' g')

end Cert.Proof
-- ==== Proof.Mat.lean ====
module

public import Idealize.ShloMosaic.Lib.Pointwise

/-! Products of two matrices over the extended reals, in the three orientations of a step's products. -/

@[expose] public section

noncomputable section

namespace Mat

open Idealize.ShloMosaic

variable {a b k : ℕ}

/-- Rows of the first by columns of the second. -/
def nn (A : (⟨2, ![a, k]⟩ : Shape).Idx → EReal) (B : (⟨2, ![k, b]⟩ : Shape).Idx → EReal) : (⟨2, ![a, b]⟩ : Shape).Idx → EReal :=
  fun y => ∑ x : Fin k, A (ix2 (y 0) x) * B (ix2 x (y 1))

/-- Rows of the first by rows of the second. -/
def nt (A : (⟨2, ![a, k]⟩ : Shape).Idx → EReal) (B : (⟨2, ![b, k]⟩ : Shape).Idx → EReal) : (⟨2, ![a, b]⟩ : Shape).Idx → EReal :=
  fun y => ∑ x : Fin k, A (ix2 (y 0) x) * B (ix2 (y 1) x)

/-- Columns of the first by columns of the second. -/
def tn (A : (⟨2, ![k, a]⟩ : Shape).Idx → EReal) (B : (⟨2, ![k, b]⟩ : Shape).Idx → EReal) : (⟨2, ![a, b]⟩ : Shape).Idx → EReal :=
  fun y => ∑ x : Fin k, A (ix2 x (y 0)) * B (ix2 x (y 1))

/-- The logistic function. -/
def sg (x : EReal) : EReal := Ideal.div 1 (1 + Ideal.exp (-x))

/-- The unit's product of the gate's and the other branch's entry. -/
def act (g u : EReal) : EReal := g * sg g * u
/-- The gradient of the gate's entry. -/
def dgate (d g u : EReal) : EReal := d * u * (sg g + g * sg g * (1 - sg g))
/-- Equal entries give equal gradients. -/
theorem dgate_congr {d d' g g' u u' : EReal} (h1 : d = d') (h2 : g = g') (h3 : u = u') : dgate d g u = dgate d' g' u' := by rw [h1, h2, h3]
/-- The gradient of the other branch's entry. -/
def dother (d g : EReal) : EReal := d * (g * sg g)

section
variable (h : (⟨2, ![2048, 2048]⟩ : Shape).Idx → EReal) (wg wu : (⟨2, ![2048, 5632]⟩ : Shape).Idx → EReal) (wd : (⟨2, ![5632, 2048]⟩ : Shape).Idx → EReal) (dx : (⟨2, ![2048, 2048]⟩ : Shape).Idx → EReal)
/-- A branch's product of the layer's input with a weight. -/
def br (h : (⟨2, ![2048, 2048]⟩ : Shape).Idx → EReal) (w : (⟨2, ![2048, 5632]⟩ : Shape).Idx → EReal) : (⟨2, ![2048, 5632]⟩ : Shape).Idx → EReal := nn h w
/-- The unit's result. -/
def fa : (⟨2, ![2048, 5632]⟩ : Shape).Idx → EReal := fun y => act (br h wg y) (br h wu y)
/-- The gradient of the unit's result. -/
def df : (⟨2, ![2048, 5632]⟩ : Shape).Idx → EReal := nt (a := 2048) (k := 2048) (b := 5632) dx wd
/-- The gradient of the gate's product. -/
def dg : (⟨2, ![2048, 5632]⟩ : Shape).Idx → EReal := fun y => dgate (df wd dx y) (br h wg y) (br h wu y)
/-- The gradient of the other branch's product. -/
def du : (⟨2, ![2048, 5632]⟩ : Shape).Idx → EReal := fun y => dother (df wd dx y) (br h wg y)
/-- The gradient of the input through the gate. -/
def dh : (⟨2, ![2048, 2048]⟩ : Shape).Idx → EReal := nt (a := 2048) (k := 5632) (b := 2048) (dg h wg wu wd dx) wg
/-- The gradient of the gate's weight. -/
def gg : (⟨2, ![2048, 5632]⟩ : Shape).Idx → EReal := tn (a := 2048) (k := 2048) (b := 5632) h (dg h wg wu wd dx)
/-- The gradient of the other branch's weight. -/
def gu : (⟨2, ![2048, 5632]⟩ : Shape).Idx → EReal := tn (a := 2048) (k := 2048) (b := 5632) h (du h wg wd dx)
/-- The gradient of the last weight. -/
def gd : (⟨2, ![5632, 2048]⟩ : Shape).Idx → EReal := tn (a := 5632) (k := 2048) (b := 2048) (fa h wg wu) dx
end

end Mat
-- ==== Proof.FfnK.lean ====
module

public import proofs.«01_k».proof.Proof.Mat
public import proofs.«01_k».proof.Proof.Gen.Kernel2Ideal.Frame
public import Idealize.ShloMosaic.Lib.Pointwise
public import Idealize.ShloMosaic.Lib.Claim
public import Idealize.ShloMosaic.Lib.StableHlo.ReadAt
public import Idealize.ShloMosaic.Lib.StableHlo.RunRead
public import Idealize.ShloMosaic.Lib.Pipeline.ValueKit
public import Idealize.ShloMosaic.Lib.Pipeline.ReadBack
public import Idealize.ShloMosaic.Lib.Pipeline.Value

/-! What each of the five calls leaves in its arrays, from the contents it is entered with. -/

@[expose] public section

set_option maxRecDepth 16384

noncomputable section

namespace Cert.Kernel2Ideal.Ffn

open _root_.Mat (act dgate dother dgate_congr)

open Cert.Kernel2Ideal Cert.Kernel2Ideal.Gen Idealize.ShloMosaic Idealize.ShloMosaic.TcCoe Idealize.SL.Sem

variable (V : (c : Dev nD) → (b : Ref sig .tc) → Buf (Elt Ideal) ((c : Thread nD τ).loc b)) (c : Dev nD)

/-- Where the blocks of call 0 lie. -/
theorem idx0 (p : Fin cfg0.N) : win0_0.index p = ![p.val / 11, 0] ∧ win0_1.index p = ![0, p.val % 11] ∧ win0_2.index p = ![0, p.val % 11] ∧ win0_3.index p = ![p.val / 11, p.val % 11] ∧ win0_4.index p = ![p.val / 11, p.val % 11] ∧ win0_5.index p = ![p.val / 11, p.val % 11] :=
  (by decide +kernel : ∀ p : Fin grid0.N, win0_0.index p = ![p.val / 11, 0] ∧ win0_1.index p = ![0, p.val % 11] ∧ win0_2.index p = ![0, p.val % 11] ∧ win0_3.index p = ![p.val / 11, p.val % 11] ∧ win0_4.index p = ![p.val / 11, p.val % 11] ∧ win0_5.index p = ![p.val / 11, p.val % 11]) p

/-- Where the blocks of call 1 lie. -/
theorem idx1 (p : Fin cfg1.N) : win1_0.index p = ![p.val / 11, 0] ∧ win1_1.index p = ![p.val % 11, 0] ∧ win1_2.index p = ![p.val / 11, p.val % 11] ∧ win1_3.index p = ![p.val / 11, p.val % 11] ∧ win1_4.index p = ![p.val / 11, p.val % 11] ∧ win1_5.index p = ![p.val / 11, p.val % 11] :=
  (by decide +kernel : ∀ p : Fin grid1.N, win1_0.index p = ![p.val / 11, 0] ∧ win1_1.index p = ![p.val % 11, 0] ∧ win1_2.index p = ![p.val / 11, p.val % 11] ∧ win1_3.index p = ![p.val / 11, p.val % 11] ∧ win1_4.index p = ![p.val / 11, p.val % 11] ∧ win1_5.index p = ![p.val / 11, p.val % 11]) p

/-- Where the blocks of call 2 lie. -/
theorem idx2 (p : Fin cfg2.N) : win2_0.index p = ![0, p.val / 2] ∧ win2_1.index p = ![0, p.val % 2] ∧ win2_2.index p = ![p.val / 2, p.val % 2] :=
  (by decide +kernel : ∀ p : Fin grid2.N, win2_0.index p = ![0, p.val / 2] ∧ win2_1.index p = ![0, p.val % 2] ∧ win2_2.index p = ![p.val / 2, p.val % 2]) p

/-- Where the blocks of call 3 lie. -/
theorem idx3 (p : Fin cfg3.N) : win3_0.index p = ![p.val / 8, 0] ∧ win3_1.index p = ![p.val % 8, 0] ∧ win3_2.index p = ![p.val / 8, p.val % 8] :=
  (by decide +kernel : ∀ p : Fin grid3.N, win3_0.index p = ![p.val / 8, 0] ∧ win3_1.index p = ![p.val % 8, 0] ∧ win3_2.index p = ![p.val / 8, p.val % 8]) p

/-- Where the blocks of call 4 lie. -/
theorem idx4 (p : Fin cfg4.N) : win4_0.index p = ![0, p.val / 11] ∧ win4_1.index p = ![0, p.val % 11] ∧ win4_2.index p = ![0, p.val % 11] ∧ win4_3.index p = ![p.val / 11, p.val % 11] ∧ win4_4.index p = ![p.val / 11, p.val % 11] :=
  (by decide +kernel : ∀ p : Fin grid4.N, win4_0.index p = ![0, p.val / 11] ∧ win4_1.index p = ![0, p.val % 11] ∧ win4_2.index p = ![0, p.val % 11] ∧ win4_3.index p = ![p.val / 11, p.val % 11] ∧ win4_4.index p = ![p.val / 11, p.val % 11]) p

/-- A block of the gate's product. -/
theorem out03 (x0 : Vec Ideal S1024x2048 .bf16) (x1 : Vec Ideal S2048x512 .bf16) (x2 : Vec Ideal S2048x512 .bf16) (p : Fin 1024) (q : Fin 512) : out0_3 x0 x1 x2 (ix2 p q) = ∑ k : Fin 2048, x0 (ix2 p k) * x1 (ix2 k q) := by
  have e : k0_pay3 (F := Ideal) x0 x1 (ix2 p q) = ∑ k : Fin 2048, x0 (ix2 p k) * x1 (ix2 k q) := by
    pointwise [k0_pay3, k0_pay1]
  rw [← e]
  frame_out

/-- A block of the other branch's product. -/
theorem out04 (x0 : Vec Ideal S1024x2048 .bf16) (x1 : Vec Ideal S2048x512 .bf16) (x2 : Vec Ideal S2048x512 .bf16) (p : Fin 1024) (q : Fin 512) : out0_4 x0 x1 x2 (ix2 p q) = ∑ k : Fin 2048, x0 (ix2 p k) * x2 (ix2 k q) := by
  have e : k0_pay4 (F := Ideal) x0 x2 (ix2 p q) = ∑ k : Fin 2048, x0 (ix2 p k) * x2 (ix2 k q) := by
    pointwise [k0_pay4, k0_pay2]
  rw [← e]
  frame_out

/-- A block of the unit's result. -/
theorem out05 (x0 : Vec Ideal S1024x2048 .bf16) (x1 : Vec Ideal S2048x512 .bf16) (x2 : Vec Ideal S2048x512 .bf16) (p : Fin 1024) (q : Fin 512) : out0_5 x0 x1 x2 (ix2 p q) = act (∑ k : Fin 2048, x0 (ix2 p k) * x1 (ix2 k q)) (∑ k : Fin 2048, x0 (ix2 p k) * x2 (ix2 k q)) := by
  have e : k0_pay5 (F := Ideal) x0 x1 x0 x2 (ix2 p q) = act (∑ k : Fin 2048, x0 (ix2 p k) * x1 (ix2 k q)) (∑ k : Fin 2048, x0 (ix2 p k) * x2 (ix2 k q)) := by
    pointwise [k0_pay5, k0_pay1, k0_pay2]
    simp only [zero_sub]
    rfl
  rw [← e]
  frame_out

/-- A block of the gate's gradient. -/
theorem out14 (x0 : Vec Ideal S1024x2048 .bf16) (x1 : Vec Ideal S512x2048 .bf16) (x2 : Vec Ideal S1024x512 .bf16) (x3 : Vec Ideal S1024x512 .bf16) (p : Fin 1024) (q : Fin 512) : out1_4 x0 x1 x2 x3 (ix2 p q) = dgate (∑ k : Fin 2048, x0 (ix2 p k) * x1 (ix2 q k)) (x2 (ix2 p q)) (x3 (ix2 p q)) := by
  have e : k1_pay4 (F := Ideal) x0 x1 x2 x3 (ix2 p q) = dgate (∑ k : Fin 2048, x0 (ix2 p k) * x1 (ix2 q k)) (x2 (ix2 p q)) (x3 (ix2 p q)) := by
    pointwise [k1_pay4, k1_pay3, k1_pay1, k1_pay2]
    simp only [zero_sub]
    rfl
  rw [← e]
  frame_out

/-- A block of the other branch's gradient. -/
theorem out15 (x0 : Vec Ideal S1024x2048 .bf16) (x1 : Vec Ideal S512x2048 .bf16) (x2 : Vec Ideal S1024x512 .bf16) (x3 : Vec Ideal S1024x512 .bf16) (p : Fin 1024) (q : Fin 512) : out1_5 x0 x1 x2 x3 (ix2 p q) = dother (∑ k : Fin 2048, x0 (ix2 p k) * x1 (ix2 q k)) (x2 (ix2 p q)) := by
  have e : k1_pay5 (F := Ideal) x0 x1 x2 (ix2 p q) = dother (∑ k : Fin 2048, x0 (ix2 p k) * x1 (ix2 q k)) (x2 (ix2 p q)) := by
    pointwise [k1_pay5, k1_pay3, k1_pay1, k1_pay2]
    simp only [zero_sub]
    rfl
  rw [← e]
  frame_out

/-- A block of the last weight's gradient. -/
theorem out22 (x0 : Vec Ideal S2048x1408 .bf16) (x1 : Vec Ideal S2048x1024 .bf16) (p : Fin 1408) (q : Fin 1024) : out2_2 x0 x1 (ix2 p q) = ∑ k : Fin 2048, x0 (ix2 k p) * x1 (ix2 k q) := by
  have e : k2_pay1 (F := Ideal) x0 x1 (ix2 p q) = ∑ k : Fin 2048, x0 (ix2 k p) * x1 (ix2 k q) := by
    pointwise [k2_pay1]
  rw [← e]
  frame_out

/-- A block of the input's gradient. -/
theorem out32 (x0 : Vec Ideal S1024x5632 .bf16) (x1 : Vec Ideal S256x5632 .bf16) (p : Fin 1024) (q : Fin 256) : out3_2 x0 x1 (ix2 p q) = ∑ k : Fin 5632, x0 (ix2 p k) * x1 (ix2 q k) := by
  have e : k3_pay1 (F := Ideal) x0 x1 (ix2 p q) = ∑ k : Fin 5632, x0 (ix2 p k) * x1 (ix2 q k) := by
    pointwise [k3_pay1]
  rw [← e]
  frame_out

/-- A block of the gate's weight's gradient. -/
theorem out43 (x0 : Vec Ideal S2048x1024 .bf16) (x1 : Vec Ideal S2048x512 .bf16) (x2 : Vec Ideal S2048x512 .bf16) (p : Fin 1024) (q : Fin 512) : out4_3 x0 x1 x2 (ix2 p q) = ∑ k : Fin 2048, x0 (ix2 k p) * x1 (ix2 k q) := by
  have e : k4_pay1 (F := Ideal) x0 x1 (ix2 p q) = ∑ k : Fin 2048, x0 (ix2 k p) * x1 (ix2 k q) := by
    pointwise [k4_pay1]
  rw [← e]
  frame_out

/-- A block of the other weight's gradient. -/
theorem out44 (x0 : Vec Ideal S2048x1024 .bf16) (x1 : Vec Ideal S2048x512 .bf16) (x2 : Vec Ideal S2048x512 .bf16) (p : Fin 1024) (q : Fin 512) : out4_4 x0 x1 x2 (ix2 p q) = ∑ k : Fin 2048, x0 (ix2 k p) * x2 (ix2 k q) := by
  have e : k4_pay2 (F := Ideal) x0 x2 (ix2 p q) = ∑ k : Fin 2048, x0 (ix2 k p) * x2 (ix2 k q) := by
    pointwise [k4_pay2]
  rw [← e]
  frame_out

/-- The gate's product. -/
theorem arr03 : (dat0 V c).arrAt 3 cfg0.N = (Mat.nn (a := 2048) (k := 2048) (b := 5632) (V c main_arg0) (V c main_v0) : Vec Ideal S2048x5632 .bf16) := by
  refine (dat0 V c).arrAt_eq_of_covers 3 _ (by decide +kernel) fun t hf y => ?_
  blk_simp
  rw [after0_3]
  refine (congrArg (out0_3 _ _ _) (eq_ix2 (n0 := 1024) (n1 := 512) y)).trans ?_
  refine (out03 _ _ _ _ _).trans ?_
  unfold Mat.nn
  refine Finset.sum_congr rfl fun k _ => ?_
  refine congrArg₂ (· * ·) ?_ ?_ <;> (unfold iblk0; blk_simp; blk_ext [idx0 t])

/-- The other branch's product. -/
theorem arr04 : (dat0 V c).arrAt 4 cfg0.N = (Mat.nn (a := 2048) (k := 2048) (b := 5632) (V c main_arg0) (V c main_v1) : Vec Ideal S2048x5632 .bf16) := by
  refine (dat0 V c).arrAt_eq_of_covers 4 _ (by decide +kernel) fun t hf y => ?_
  blk_simp
  rw [after0_4]
  refine (congrArg (out0_4 _ _ _) (eq_ix2 (n0 := 1024) (n1 := 512) y)).trans ?_
  refine (out04 _ _ _ _ _).trans ?_
  unfold Mat.nn
  refine Finset.sum_congr rfl fun k _ => ?_
  refine congrArg₂ (· * ·) ?_ ?_ <;> (unfold iblk0; blk_simp; blk_ext [idx0 t])

/-- The unit's result. -/
theorem arr05 : (dat0 V c).arrAt 5 cfg0.N = (fun y : S2048x5632.Idx => act (Mat.nn (a := 2048) (k := 2048) (b := 5632) (V c main_arg0) (V c main_v0) y) (Mat.nn (a := 2048) (k := 2048) (b := 5632) (V c main_arg0) (V c main_v1) y) : Vec Ideal S2048x5632 .bf16) := by
  refine (dat0 V c).arrAt_eq_of_covers 5 _ (by decide +kernel) fun t hf y => ?_
  blk_simp
  rw [after0_5]
  refine (congrArg (out0_5 _ _ _) (eq_ix2 (n0 := 1024) (n1 := 512) y)).trans ?_
  refine (out05 _ _ _ _ _).trans ?_
  unfold Mat.nn
  refine congrArg₂ act ?_ ?_ <;> (refine Finset.sum_congr rfl fun k _ => ?_; refine congrArg₂ (· * ·) ?_ ?_ <;> (unfold iblk0; blk_simp; blk_ext [idx0 t]))

/-- The gate's gradient. -/
theorem arr14 : (dat1 V c).arrAt 4 cfg1.N = (fun y : S2048x5632.Idx => dgate (Mat.nt (a := 2048) (k := 2048) (b := 5632) (V c main_v3) (V c main_v2) y) ((V c main_v4_0 : S2048x5632.Idx → EReal) y) ((V c main_v4_1 : S2048x5632.Idx → EReal) y) : Vec Ideal S2048x5632 .bf16) := by
  refine (dat1 V c).arrAt_eq_of_covers 4 _ (by decide +kernel) fun t hf y => ?_
  blk_simp
  rw [after1_4]
  refine (congrArg (out1_4 _ _ _ _) (eq_ix2 (n0 := 1024) (n1 := 512) y)).trans ?_
  refine (out14 _ _ _ _ _ _).trans ?_
  unfold Mat.nt
  refine dgate_congr ?_ ?_ ?_
  · (refine Finset.sum_congr rfl fun k _ => ?_; refine congrArg₂ (· * ·) ?_ ?_ <;> (unfold iblk1; blk_simp; blk_ext [idx1 t]))
  all_goals (unfold iblk1; blk_simp; blk_ext [idx1 t])

/-- The other branch's gradient. -/
theorem arr15 : (dat1 V c).arrAt 5 cfg1.N = (fun y : S2048x5632.Idx => dother (Mat.nt (a := 2048) (k := 2048) (b := 5632) (V c main_v3) (V c main_v2) y) ((V c main_v4_0 : S2048x5632.Idx → EReal) y) : Vec Ideal S2048x5632 .bf16) := by
  refine (dat1 V c).arrAt_eq_of_covers 5 _ (by decide +kernel) fun t hf y => ?_
  blk_simp
  rw [after1_5]
  refine (congrArg (out1_5 _ _ _ _) (eq_ix2 (n0 := 1024) (n1 := 512) y)).trans ?_
  refine (out15 _ _ _ _ _ _).trans ?_
  unfold Mat.nt
  refine congrArg₂ dother ?_ ?_
  · (refine Finset.sum_congr rfl fun k _ => ?_; refine congrArg₂ (· * ·) ?_ ?_ <;> (unfold iblk1; blk_simp; blk_ext [idx1 t]))
  all_goals (unfold iblk1; blk_simp; blk_ext [idx1 t])

/-- The last weight's gradient. -/
theorem arr22 : (dat2 V c).arrAt 2 cfg2.N = (Mat.tn (a := 5632) (k := 2048) (b := 2048) (V c main_v4_2) (V c main_v3) : Vec Ideal S5632x2048 .bf16) := by
  refine (dat2 V c).arrAt_eq_of_covers 2 _ (by decide +kernel) fun t hf y => ?_
  blk_simp
  rw [after2_2]
  refine (congrArg (out2_2 _ _) (eq_ix2 (n0 := 1408) (n1 := 1024) y)).trans ?_
  refine (out22 _ _ _ _).trans ?_
  unfold Mat.tn
  refine Finset.sum_congr rfl fun k _ => ?_
  refine congrArg₂ (· * ·) ?_ ?_ <;> (unfold iblk2; blk_simp; blk_ext [idx2 t])

/-- The input's gradient through the gate. -/
theorem arr32 : (dat3 V c).arrAt 2 cfg3.N = (Mat.nt (a := 2048) (k := 5632) (b := 2048) (V c main_v5_0) (V c main_v0) : Vec Ideal S2048x2048 .f32) := by
  refine (dat3 V c).arrAt_eq_of_covers 2 _ (by decide +kernel) fun t hf y => ?_
  blk_simp
  rw [after3_2]
  refine (congrArg (out3_2 _ _) (eq_ix2 (n0 := 1024) (n1 := 256) y)).trans ?_
  refine (out32 _ _ _ _).trans ?_
  unfold Mat.nt
  refine Finset.sum_congr rfl fun k _ => ?_
  refine congrArg₂ (· * ·) ?_ ?_ <;> (unfold iblk3; blk_simp; blk_ext [idx3 t])

/-- The gate's weight's gradient. -/
theorem arr43 : (dat4 V c).arrAt 3 cfg4.N = (Mat.tn (a := 2048) (k := 2048) (b := 5632) (V c main_arg0) (V c main_v5_0) : Vec Ideal S2048x5632 .bf16) := by
  refine (dat4 V c).arrAt_eq_of_covers 3 _ (by decide +kernel) fun t hf y => ?_
  blk_simp
  rw [after4_3]
  refine (congrArg (out4_3 _ _ _) (eq_ix2 (n0 := 1024) (n1 := 512) y)).trans ?_
  refine (out43 _ _ _ _ _).trans ?_
  unfold Mat.tn
  refine Finset.sum_congr rfl fun k _ => ?_
  refine congrArg₂ (· * ·) ?_ ?_ <;> (unfold iblk4; blk_simp; blk_ext [idx4 t])

/-- The other weight's gradient. -/
theorem arr44 : (dat4 V c).arrAt 4 cfg4.N = (Mat.tn (a := 2048) (k := 2048) (b := 5632) (V c main_arg0) (V c main_v5_1) : Vec Ideal S2048x5632 .bf16) := by
  refine (dat4 V c).arrAt_eq_of_covers 4 _ (by decide +kernel) fun t hf y => ?_
  blk_simp
  rw [after4_4]
  refine (congrArg (out4_4 _ _ _) (eq_ix2 (n0 := 1024) (n1 := 512) y)).trans ?_
  refine (out44 _ _ _ _ _).trans ?_
  unfold Mat.tn
  refine Finset.sum_congr rfl fun k _ => ?_
  refine congrArg₂ (· * ·) ?_ ?_ <;> (unfold iblk4; blk_simp; blk_ext [idx4 t])

end Cert.Kernel2Ideal.Ffn
-- ==== Proof.FfnRun.lean ====
module

public import proofs.«01_k».proof.Proof.FfnK

/-! The five calls one after the other: what each array holds at the end, from the arguments. -/

@[expose] public section

set_option maxRecDepth 16384

noncomputable section

namespace Cert.Kernel2Ideal.Ffn

open Cert.Kernel2Ideal Cert.Kernel2Ideal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg) (c : Dev nD)

/-- The layer's input. -/
def h0 : S2048x2048.Idx → EReal := m ((c : Thread nD τ).loc main_arg0)
/-- The gate's weight. -/
def wg0 : S2048x5632.Idx → EReal := m ((c : Thread nD τ).loc main_arg1)
/-- The other branch's weight. -/
def wu0 : S2048x5632.Idx → EReal := m ((c : Thread nD τ).loc main_arg2)
/-- The last weight. -/
def wd0 : S5632x2048.Idx → EReal := m ((c : Thread nD τ).loc main_arg3)
/-- The result's gradient. -/
def dx0 : S2048x2048.Idx → EReal := m ((c : Thread nD τ).loc main_arg4)

/-- The first call is entered with the layer's input as given. -/
theorem v1_arg0 : V1 m ρ c main_arg0 = h0 m c := W1_args m ρ c main_arg0 (by decide)
/-- The first call is entered with the gate's weight. -/
theorem v1_v0 : V1 m ρ c main_v0 = (wg0 m c : Vec Ideal S2048x5632 .bf16) := by
  show StableHlo.after hostOps0 (W0 m ρ c) (Proc.devRef .tc main_v0) = _
  unfold hostOps0
  after_results_simp
  rfl
/-- The first call is entered with the other branch's weight. -/
theorem v1_v1 : V1 m ρ c main_v1 = (wu0 m c : Vec Ideal S2048x5632 .bf16) := by
  show StableHlo.after hostOps0 (W0 m ρ c) (Proc.devRef .tc main_v1) = _
  unfold hostOps0
  after_results_simp
  rfl
/-- The first call is entered with the last weight. -/
theorem v1_v2 : V1 m ρ c main_v2 = (wd0 m c : Vec Ideal S5632x2048 .bf16) := by
  show StableHlo.after hostOps0 (W0 m ρ c) (Proc.devRef .tc main_v2) = _
  unfold hostOps0
  after_results_simp
  rfl
/-- The first call is entered with the result's gradient. -/
theorem v1_v3 : V1 m ρ c main_v3 = (dx0 m c : Vec Ideal S2048x2048 .bf16) := by
  show StableHlo.after hostOps0 (W0 m ρ c) (Proc.devRef .tc main_v3) = _
  unfold hostOps0
  after_results_simp
  rfl

/-- The gate's product after the first call. -/
theorem v2_g : V2 m ρ c main_v4_0 = (Mat.br (h0 m c) (wg0 m c) : Vec Ideal S2048x5632 .bf16) :=
  (W2_arr m ρ c 3).trans ((arr03 _ c).trans (by rw [v1_arg0, v1_v0]; rfl))
/-- The other branch's product after the first call. -/
theorem v2_u : V2 m ρ c main_v4_1 = (Mat.br (h0 m c) (wu0 m c) : Vec Ideal S2048x5632 .bf16) :=
  (W2_arr m ρ c 4).trans ((arr04 _ c).trans (by rw [v1_arg0, v1_v1]; rfl))
/-- The unit's result after the first call. -/
theorem v2_f : V2 m ρ c main_v4_2 = (Mat.fa (h0 m c) (wg0 m c) (wu0 m c) : Vec Ideal S2048x5632 .bf16) :=
  (W2_arr m ρ c 5).trans ((arr05 _ c).trans (by rw [v1_arg0, v1_v0, v1_v1]; rfl))

/-- The last weight after the first call. -/
theorem v2_v2 : V2 m ρ c main_v2 = (wd0 m c : Vec Ideal S5632x2048 .bf16) :=
  (W2_of m ρ c main_v2 (by decide +kernel)).trans (v1_v2 m ρ c)
/-- The result's gradient after the first call. -/
theorem v2_v3 : V2 m ρ c main_v3 = (dx0 m c : Vec Ideal S2048x2048 .bf16) :=
  (W2_of m ρ c main_v3 (by decide +kernel)).trans (v1_v3 m ρ c)
/-- The gate's weight after the first call. -/
theorem v2_v0 : V2 m ρ c main_v0 = (wg0 m c : Vec Ideal S2048x5632 .bf16) :=
  (W2_of m ρ c main_v0 (by decide +kernel)).trans (v1_v0 m ρ c)

/-- The gate's gradient after the second call. -/
theorem v3_dg : V3 m ρ c main_v5_0 = (Mat.dg (h0 m c) (wg0 m c) (wu0 m c) (wd0 m c) (dx0 m c) : Vec Ideal S2048x5632 .bf16) :=
  (W3_arr m ρ c 4).trans ((arr14 _ c).trans (by rw [v2_v3, v2_v2, v2_g, v2_u]; rfl))
/-- The other branch's gradient after the second call. -/
theorem v3_du : V3 m ρ c main_v5_1 = (Mat.du (h0 m c) (wg0 m c) (wd0 m c) (dx0 m c) : Vec Ideal S2048x5632 .bf16) :=
  (W3_arr m ρ c 5).trans ((arr15 _ c).trans (by rw [v2_v3, v2_v2, v2_g]; rfl))
/-- The unit's result after the second call. -/
theorem v3_f : V3 m ρ c main_v4_2 = (Mat.fa (h0 m c) (wg0 m c) (wu0 m c) : Vec Ideal S2048x5632 .bf16) :=
  (W3_of m ρ c main_v4_2 (by decide +kernel)).trans (v2_f m ρ c)
/-- The result's gradient after the second call. -/
theorem v3_v3 : V3 m ρ c main_v3 = (dx0 m c : Vec Ideal S2048x2048 .bf16) :=
  (W3_of m ρ c main_v3 (by decide +kernel)).trans (v2_v3 m ρ c)
/-- The last weight's gradient after the third call. -/
theorem v4_gd : V4 m ρ c main_v6 = (Mat.gd (h0 m c) (wg0 m c) (wu0 m c) (dx0 m c) : Vec Ideal S5632x2048 .bf16) :=
  (W4_arr m ρ c 2).trans ((arr22 _ c).trans (by rw [v3_f, v3_v3]; rfl))
/-- The gate's gradient after the third call. -/
theorem v4_dg : V4 m ρ c main_v5_0 = (Mat.dg (h0 m c) (wg0 m c) (wu0 m c) (wd0 m c) (dx0 m c) : Vec Ideal S2048x5632 .bf16) :=
  (W4_of m ρ c main_v5_0 (by decide +kernel)).trans (v3_dg m ρ c)
/-- The gate's weight after the third call. -/
theorem v4_v0 : V4 m ρ c main_v0 = (wg0 m c : Vec Ideal S2048x5632 .bf16) :=
  (W4_of m ρ c main_v0 (by decide +kernel)).trans ((W3_of m ρ c main_v0 (by decide +kernel)).trans (v2_v0 m ρ c))
/-- The input's gradient after the fourth call. -/
theorem v5_dh : V5 m ρ c main_v7 = (Mat.dh (h0 m c) (wg0 m c) (wu0 m c) (wd0 m c) (dx0 m c) : Vec Ideal S2048x2048 .f32) :=
  (W5_arr m ρ c 2).trans ((arr32 _ c).trans (by rw [v4_dg, v4_v0]; rfl))
/-- The gate's gradient after the fourth call. -/
theorem v5_dg : V5 m ρ c main_v5_0 = (Mat.dg (h0 m c) (wg0 m c) (wu0 m c) (wd0 m c) (dx0 m c) : Vec Ideal S2048x5632 .bf16) :=
  (W5_of m ρ c main_v5_0 (by decide +kernel)).trans (v4_dg m ρ c)
/-- The other branch's gradient after the fourth call. -/
theorem v5_du : V5 m ρ c main_v5_1 = (Mat.du (h0 m c) (wg0 m c) (wd0 m c) (dx0 m c) : Vec Ideal S2048x5632 .bf16) :=
  (W5_of m ρ c main_v5_1 (by decide +kernel)).trans ((W4_of m ρ c main_v5_1 (by decide +kernel)).trans (v3_du m ρ c))
/-- The layer's input after the fourth call. -/
theorem v5_arg0 : V5 m ρ c main_arg0 = h0 m c := W5_args m ρ c main_arg0 (by decide)

/-- The gate's weight's gradient at the end. -/
theorem end_gg : W6 m ρ c (Proc.devRef .tc main_v8_0) = (Mat.gg (h0 m c) (wg0 m c) (wu0 m c) (wd0 m c) (dx0 m c) : Vec Ideal S2048x5632 .bf16) :=
  (W6_arr m ρ c 3).trans ((arr43 _ c).trans (by rw [v5_dg, v5_arg0]; rfl))
/-- The other weight's gradient at the end. -/
theorem end_gu : W6 m ρ c (Proc.devRef .tc main_v8_1) = (Mat.gu (h0 m c) (wg0 m c) (wd0 m c) (dx0 m c) : Vec Ideal S2048x5632 .bf16) :=
  (W6_arr m ρ c 4).trans ((arr44 _ c).trans (by rw [v5_du, v5_arg0]; rfl))
/-- The input's gradient at the end. -/
theorem end_dh : W6 m ρ c (Proc.devRef .tc main_v7) = (Mat.dh (h0 m c) (wg0 m c) (wu0 m c) (wd0 m c) (dx0 m c) : Vec Ideal S2048x2048 .f32) :=
  (W6_of m ρ c main_v7 (by decide +kernel)).trans (v5_dh m ρ c)
/-- The last weight's gradient at the end. -/
theorem end_gd : W6 m ρ c (Proc.devRef .tc main_v6) = (Mat.gd (h0 m c) (wg0 m c) (wu0 m c) (dx0 m c) : Vec Ideal S5632x2048 .bf16) :=
  (W6_of m ρ c main_v6 (by decide +kernel)).trans ((W5_of m ρ c main_v6 (by decide +kernel)).trans (v4_gd m ρ c))

/-- The program runs, ends with the four gradients and leaves its arguments unchanged. -/
theorem run : θ_run defs (onTc (τ := τ) (main (F := Ideal))) ⟨m, fun _ => 0, ρ⟩ (fun r => ∀ c : Dev nD,
      r.2.mem ((c.tc : Thread nD τ).loc main_v7) = (Mat.dh (h0 m c) (wg0 m c) (wu0 m c) (wd0 m c) (dx0 m c) : Vec Ideal S2048x2048 .f32)
      ∧ r.2.mem ((c.tc : Thread nD τ).loc main_v8_0) = (Mat.gg (h0 m c) (wg0 m c) (wu0 m c) (wd0 m c) (dx0 m c) : Vec Ideal S2048x5632 .bf16)
      ∧ r.2.mem ((c.tc : Thread nD τ).loc main_v8_1) = (Mat.gu (h0 m c) (wg0 m c) (wd0 m c) (dx0 m c) : Vec Ideal S2048x5632 .bf16)
      ∧ r.2.mem ((c.tc : Thread nD τ).loc main_v6) = (Mat.gd (h0 m c) (wg0 m c) (wu0 m c) (dx0 m c) : Vec Ideal S5632x2048 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v7 (by decide))).trans (end_dh m ρ c),
       (h c _ (mem_uc main_v8_0 (by decide))).trans (end_gg m ρ c),
       (h c _ (mem_uc main_v8_1 (by decide))).trans (end_gu m ρ c),
       (h c _ (mem_uc main_v6 (by decide))).trans (end_gd m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.Kernel2Ideal.Ffn
-- ==== Proof.FfnRef.lean ====
module

public import proofs.«01_k».proof.Proof.Mat
public import proofs.«01_k».proof.Proof.Row
public import proofs.«01_k».proof.Proof.Gen.Reference2Ideal.Run
public import Idealize.ShloMosaic.Lib.Pointwise
public import Idealize.ShloMosaic.Lib.IdealHost

/-! The reference's four results as products of matrices, and the one equation between its form and the kernel's. -/

@[expose] public section

set_option maxRecDepth 16384

noncomputable section

namespace Mat

open Idealize.ShloMosaic Att

/-- The gradient of the gate's entry, as the reference adds it up. -/
def rgate (d g u : EReal) : EReal := d * u * sg g + g * (d * u) * (sg g * (1 - sg g))

/-- The two forms agree at real numbers. -/
theorem rgate_eq {d g u : EReal} (hd : IsReal d) (hg : IsReal g) (hu : IsReal u) : rgate d g u = dgate d g u := by
  obtain ⟨d, rfl⟩ := hd; obtain ⟨g, rfl⟩ := hg; obtain ⟨u, rfl⟩ := hu
  have hs : ∃ s : ℝ, sg (g : EReal) = s := by
    refine ⟨1 / (1 + Real.exp (-g)), ?_⟩
    have hp : (1 + Real.exp (-g)) ≠ 0 := (add_pos one_pos (Real.exp_pos _)).ne'
    unfold sg
    rw [← EReal.coe_neg, Ideal.exp_coe, ← EReal.coe_one, ← EReal.coe_add, Ideal.div_coe hp, EReal.coe_one, one_mul]
  obtain ⟨s, hs⟩ := hs
  unfold rgate dgate
  rw [hs]
  norm_cast
  ring_nf

section
variable {h : (⟨2, ![2048, 2048]⟩ : Shape).Idx → EReal} {wg wu : (⟨2, ![2048, 5632]⟩ : Shape).Idx → EReal} {wd : (⟨2, ![5632, 2048]⟩ : Shape).Idx → EReal} {dx : (⟨2, ![2048, 2048]⟩ : Shape).Idx → EReal}

/-- The gate's gradient, as the reference adds it up, at real entries. -/
theorem dg_ref (h0 : ∀ i, IsReal (h i)) (h1 : ∀ i, IsReal (wg i)) (h2 : ∀ i, IsReal (wu i)) (h3 : ∀ i, IsReal (wd i)) (h4 : ∀ i, IsReal (dx i)) (y : (⟨2, ![2048, 5632]⟩ : Shape).Idx) :
    rgate (df wd dx y) (br h wg y) (br h wu y) = dg h wg wu wd dx y :=
  rgate_eq (IsReal.sum fun _ => (h4 _).mul (h3 _)) (IsReal.sum fun _ => (h0 _).mul (h1 _)) (IsReal.sum fun _ => (h0 _).mul (h2 _))
end

end Mat

namespace Cert.Reference2Ideal.Ffn

open Cert.Reference2Ideal Cert.Reference2Ideal.Gen Idealize.ShloMosaic Idealize.ShloMosaic.TcCoe Idealize.SL.Sem Att

variable (m : (ℓ : Loc nD τ sig) → Buf (Elt Ideal) ℓ) (ρ : Dev nD → PrngReg) (c : Dev nD)

/-- The layer's input. -/
def h0 : S2048x2048.Idx → EReal := m ((c.tc : Thread nD τ).loc main_arg0)
/-- The gate's weight. -/
def wg0 : S2048x5632.Idx → EReal := m ((c.tc : Thread nD τ).loc main_arg1)
/-- The other branch's weight. -/
def wu0 : S2048x5632.Idx → EReal := m ((c.tc : Thread nD τ).loc main_arg2)
/-- The last weight. -/
def wd0 : S5632x2048.Idx → EReal := m ((c.tc : Thread nD τ).loc main_arg3)
/-- The result's gradient. -/
def dx0 : S2048x2048.Idx → EReal := m ((c.tc : Thread nD τ).loc main_arg4)

/-- Every entry of the arguments is a real number. -/
structure Fin : Prop where
  h : ∀ i, IsReal (h0 m c i)
  wg : ∀ i, IsReal (wg0 m c i)
  wu : ∀ i, IsReal (wu0 m c i)
  wd : ∀ i, IsReal (wd0 m c i)
  dx : ∀ i, IsReal (dx0 m c i)

/-- The reference runs and, at real arguments, ends with the four gradients in the kernel's form. -/
theorem run (hF : ∀ c, Fin m c) : θ_run defs (onTc (τ := τ) (main (F := Ideal))) ⟨m, fun _ => 0, ρ⟩ (fun r => ∀ c : Dev nD,
      r.2.mem ((c.tc : Thread nD τ).loc main_v17) = (Mat.dh (h0 m c) (wg0 m c) (wu0 m c) (wd0 m c) (dx0 m c) : Vec Ideal S2048x2048 .f32)
      ∧ r.2.mem ((c.tc : Thread nD τ).loc main_v18) = (Mat.gg (h0 m c) (wg0 m c) (wu0 m c) (wd0 m c) (dx0 m c) : Vec Ideal S2048x5632 .bf16)
      ∧ r.2.mem ((c.tc : Thread nD τ).loc main_v19) = (Mat.gu (h0 m c) (wg0 m c) (wd0 m c) (dx0 m c) : Vec Ideal S2048x5632 .bf16)
      ∧ r.2.mem ((c.tc : Thread nD τ).loc main_v20) = (Mat.gd (h0 m c) (wg0 m c) (wu0 m c) (dx0 m c) : Vec Ideal S5632x2048 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run Cert.Reference2Ideal.defs _ _).mono (fun r h c => ⟨(h c).1.trans ?_, (h c).2.1.trans ?_, (h c).2.2.1.trans ?_, (h c).2.2.2.1.trans ?_, (h c).2.2.2.2⟩) (Cert.Reference2Ideal.Value.run (F := Ideal) m ρ)
  all_goals clear h
  · refine funext fun y => (congrArg _ (eq_ix2 (n0 := 2048) (n1 := 2048) y)).trans ?_
    pointwise
    unfold Mat.dh Mat.nt
    refine Finset.sum_congr rfl fun k _ => ?_
    exact congrArg (· * _) (Mat.dg_ref (hF c).h (hF c).wg (hF c).wu (hF c).wd (hF c).dx (ix2 (y 0) k))
  · refine funext fun y => (congrArg _ (eq_ix2 (n0 := 2048) (n1 := 5632) y)).trans ?_
    pointwise
    unfold Mat.gg Mat.tn
    refine Finset.sum_congr rfl fun k _ => ?_
    refine (mul_comm _ _).trans ?_
    exact congrArg (fun x : EReal => (_ : EReal) * x) (Mat.dg_ref (hF c).h (hF c).wg (hF c).wu (hF c).wd (hF c).dx (ix2 k (y 1)))
  · refine funext fun y => (congrArg _ (eq_ix2 (n0 := 2048) (n1 := 5632) y)).trans ?_
    pointwise
    unfold Mat.gu Mat.tn
    refine Finset.sum_congr rfl fun k _ => ?_
    refine (mul_comm _ _).trans ?_
    exact congrArg (fun x : EReal => (_ : EReal) * x) (mul_comm _ _)
  · refine funext fun y => (congrArg _ (eq_ix2 (n0 := 5632) (n1 := 2048) y)).trans ?_
    pointwise
    unfold Mat.gd Mat.tn
    exact Finset.sum_congr rfl fun k _ => mul_comm _ _

end Cert.Reference2Ideal.Ffn
-- ==== Proof.FfnClose.lean ====
module

public import proofs.«01_k».proof.Defs
public import proofs.«01_k».proof.Proof.FfnRun
public import proofs.«01_k».proof.Proof.FfnRef
public import proofs.«01_k».proof.Proof.Close
public import proofs.«01_k».proof.Proof.Gen.Pre_finite_ffn
public import Idealize.ShloMosaic.Lib.ReduceAll
public import Idealize.ShloMosaic.Lib.Quiescent

/-! The claims of the feed-forward layer's backward calls. -/

@[expose] public section

noncomputable section

namespace Cert.Proof

open Idealize.ShloMosaic Idealize.ShloMosaic.TcCoe Idealize.SL.Sem _root_.Att

/-- The side conditions of the precondition. -/
instance : Cert.Pre_finite_ffn.Facts := Cert.Pre_finite_ffn.Gen.facts

/-- Every entry of the arguments is a real number. -/
theorem fin_ffn (a0 : FVec Ideal Cert.Pre_finite_ffn.S2048x2048 .bf16) (a1 a2 : FVec Ideal Cert.Pre_finite_ffn.S2048x5632 .f32)
    (a3 : FVec Ideal Cert.Pre_finite_ffn.S5632x2048 .f32) (a4 : FVec Ideal Cert.Pre_finite_ffn.S2048x2048 .f32)
    (h : Cert.Pre_finite_ffn.fn (F := Ideal) a0 a1 a2 a3 a4 = fun _ => 1#1) :
    (∀ i, IsReal (a0 i)) ∧ (∀ i, IsReal (a1 i)) ∧ (∀ i, IsReal (a2 i)) ∧ (∀ i, IsReal (a3 i)) ∧ ∀ i, IsReal (a4 i) := by
  have e := congrFun h (Shape.Idx.first Cert.Pre_finite_ffn.Facts.h_S_)
  unfold Cert.Pre_finite_ffn.fn Cert.Pre_finite_ffn.fn_part1 at e
  obtain ⟨e0, e⟩ := IntOp.andi_eq_one.1 e
  obtain ⟨e1, e⟩ := IntOp.andi_eq_one.1 e
  obtain ⟨e1, e2⟩ := IntOp.andi_eq_one.1 e1
  obtain ⟨e3, e4⟩ := IntOp.andi_eq_one.1 e
  haveI : Subsingleton Cert.Pre_finite_ffn.S_.Idx := ⟨fun a b => funext fun k => k.elim0⟩
  exact ⟨fun i => real_of_olt _ (Host.reduce_andi_all _ _ _ _ _ e0 i), fun i => real_of_olt _ (Host.reduce_andi_all _ _ _ _ _ e1 i),
    fun i => real_of_olt _ (Host.reduce_andi_all _ _ _ _ _ e2 i), fun i => real_of_olt _ (Host.reduce_andi_all _ _ _ _ _ e3 i),
    fun i => real_of_olt _ (Host.reduce_andi_all _ _ _ _ _ e4 i)⟩

/-- The kernel and the reference end with equal results. -/
theorem algebraic2 : Cert.algebraic_Kernel2Ideal_Reference2Ideal_pre_finite_ffn
    (hKernel2Ideal := Cert.Kernel2Ideal.Gen.facts) (hReference2Ideal := Cert.Reference2Ideal.Gen.facts) (hPre_finite_ffn := Cert.Pre_finite_ffn.Gen.facts) := by
  intro m g m' g' hp hag
  have e0 : ∀ c, Cert.Reference2Ideal.Ffn.h0 m' c = Cert.Kernel2Ideal.Ffn.h0 m c := fun c => (hag c).1
  have e1 : ∀ c, Cert.Reference2Ideal.Ffn.wg0 m' c = Cert.Kernel2Ideal.Ffn.wg0 m c := fun c => (hag c).2.1
  have e2 : ∀ c, Cert.Reference2Ideal.Ffn.wu0 m' c = Cert.Kernel2Ideal.Ffn.wu0 m c := fun c => (hag c).2.2.1
  have e3 : ∀ c, Cert.Reference2Ideal.Ffn.wd0 m' c = Cert.Kernel2Ideal.Ffn.wd0 m c := fun c => (hag c).2.2.2.1
  have e4 : ∀ c, Cert.Reference2Ideal.Ffn.dx0 m' c = Cert.Kernel2Ideal.Ffn.dx0 m c := fun c => (hag c).2.2.2.2
  have hF : ∀ c, Cert.Reference2Ideal.Ffn.Fin m' c := fun c => by
    obtain ⟨f0, f1, f2, f3, f4⟩ := fin_ffn _ _ _ _ _ (hp c)
    exact ⟨fun i => (congrFun (e0 c) i).symm ▸ f0 i, fun i => (congrFun (e1 c) i).symm ▸ f1 i, fun i => (congrFun (e2 c) i).symm ▸ f2 i,
      fun i => (congrFun (e3 c) i).symm ▸ f3 i, fun i => (congrFun (e4 c) i).symm ▸ f4 i⟩
  refine ⟨_, _, _, _, Cert.Kernel2Ideal.Ffn.run m g, ?_⟩
  have hr := Cert.Reference2Ideal.Ffn.run m' g' hF
  simp only [e0, e1, e2, e3, e4] at hr
  exact hr

/-- The reference's frame. -/
theorem frame_ref2 : Cert.quiescent_Reference2Ideal (hReference2Ideal := Cert.Reference2Ideal.Gen.facts) := fun m' g' _ =>
  (θ_run Cert.Reference2Ideal.defs _ _).mono (fun r h => ⟨fun c => (h c).2.2.2.2, sem_eq_zero_of_no_sems (by decide) r.2⟩) (Cert.Reference2Ideal.Value.run (F := Ideal) m' g')

end Cert.Proof
-- ==== Proof.MixK.lean ====
module

public import proofs.«01_k».proof.Proof.Mat
public import proofs.«01_k».proof.Proof.Gen.Kernel4Ideal.Frame
public import Idealize.ShloMosaic.Lib.Pointwise
public import Idealize.ShloMosaic.Lib.Claim
public import Idealize.ShloMosaic.Lib.StableHlo.ReadAt
public import Idealize.ShloMosaic.Lib.StableHlo.RunRead
public import Idealize.ShloMosaic.Lib.Pipeline.ValueKit
public import Idealize.ShloMosaic.Lib.Pipeline.ReadBack
public import Idealize.ShloMosaic.Lib.Pipeline.Value

/-! The input projection and the gated merge of the two branches: what each of the five calls leaves in its arrays, from the contents it is entered with. -/

@[expose] public section

set_option maxRecDepth 16384

noncomputable section

namespace Mat

open Idealize.ShloMosaic

/-- The entry of the projected input that gates the first branch at a place of the merge. -/
def ga (z : (⟨2, ![2048, 7680]⟩ : Shape).Idx → EReal) (y : (⟨2, ![2048, 2048]⟩ : Shape).Idx) : EReal :=
  z (ix2 (y 0) ⟨3584 + (y 1).val, by have : (y 1).val < 2048 := (y 1).isLt; omega⟩)
/-- The entry of the projected input that gates the second branch at a place of the merge. -/
def gb (z : (⟨2, ![2048, 7680]⟩ : Shape).Idx → EReal) (y : (⟨2, ![2048, 2048]⟩ : Shape).Idx) : EReal :=
  z (ix2 (y 0) ⟨5632 + (y 1).val, by have : (y 1).val < 2048 := (y 1).isLt; omega⟩)
/-- The merge of two entries under their gates. -/
def mix (g h a b : EReal) : EReal := sg g * a + sg h * b
/-- Equal entries have equal merges. -/
theorem mix_congr {g g' h h' a a' b b' : EReal} (h1 : g = g') (h2 : h = h') (h3 : a = a') (h4 : b = b') : mix g h a b = mix g' h' a' b' := by rw [h1, h2, h3, h4]

section
variable (h : (⟨2, ![2048, 2048]⟩ : Shape).Idx → EReal) (a b : (⟨2, ![2048, 1024]⟩ : Shape).Idx → EReal)
  (wi : (⟨2, ![2048, 7680]⟩ : Shape).Idx → EReal) (wa wb : (⟨2, ![1024, 2048]⟩ : Shape).Idx → EReal) (dx : (⟨2, ![2048, 2048]⟩ : Shape).Idx → EReal)
/-- The projected input. -/
def z : (⟨2, ![2048, 7680]⟩ : Shape).Idx → EReal := nn (a := 2048) (k := 2048) (b := 7680) h wi
/-- A branch's projection. -/
def yo : (⟨2, ![2048, 2048]⟩ : Shape).Idx → EReal := nn (a := 2048) (k := 1024) (b := 2048) a wa
/-- The gated merge. -/
def mg : (⟨2, ![2048, 2048]⟩ : Shape).Idx → EReal := fun y => mix (ga (z h wi) y) (gb (z h wi) y) (yo a wa y) (yo b wb y)
/-- The gradient of the merge's output weight. -/
def gwo : (⟨2, ![2048, 2048]⟩ : Shape).Idx → EReal := tn (a := 2048) (k := 2048) (b := 2048) (mg h a b wi wa wb) dx
/-- The gradient of a branch's result. -/
def dbr : (⟨2, ![2048, 1024]⟩ : Shape).Idx → EReal := nt (a := 2048) (k := 2048) (b := 1024) dx wa
/-- The gradient of a branch's weight. -/
def gbr : (⟨2, ![1024, 2048]⟩ : Shape).Idx → EReal := tn (a := 1024) (k := 2048) (b := 2048) a dx
end

end Mat

namespace Cert.Kernel4Ideal.Mix

open _root_.Mat (mix mix_congr)

open Cert.Kernel4Ideal Cert.Kernel4Ideal.Gen Idealize.ShloMosaic Idealize.ShloMosaic.TcCoe Idealize.SL.Sem

variable (V : (c : Dev nD) → (b : Ref sig .tc) → Buf (Elt Ideal) ((c : Thread nD τ).loc b)) (c : Dev nD)

/-- Where the blocks of call 0 lie. -/
theorem idx0 (p : Fin cfg0.N) : win0_0.index p = ![p.val / 10, 0] ∧ win0_1.index p = ![0, p.val % 10] ∧ win0_2.index p = ![p.val / 10, p.val % 10] :=
  (by decide +kernel : ∀ p : Fin grid0.N, win0_0.index p = ![p.val / 10, 0] ∧ win0_1.index p = ![0, p.val % 10] ∧ win0_2.index p = ![p.val / 10, p.val % 10]) p

/-- Where the blocks of call 1 lie. -/
theorem idx1 (p : Fin cfg1.N) : win1_0.index p = ![p.val / 4, 0] ∧ win1_1.index p = ![0, p.val % 4] ∧ win1_2.index p = ![p.val / 4, 0] ∧ win1_3.index p = ![0, p.val % 4] ∧ win1_4.index p = ![p.val / 4, 7 + p.val % 4] ∧ win1_5.index p = ![p.val / 4, 11 + p.val % 4] ∧ win1_6.index p = ![p.val / 4, p.val % 4] ∧ win1_7.index p = ![p.val / 4, p.val % 4] ∧ win1_8.index p = ![p.val / 4, p.val % 4] :=
  (by decide +kernel : ∀ p : Fin grid1.N, win1_0.index p = ![p.val / 4, 0] ∧ win1_1.index p = ![0, p.val % 4] ∧ win1_2.index p = ![p.val / 4, 0] ∧ win1_3.index p = ![0, p.val % 4] ∧ win1_4.index p = ![p.val / 4, 7 + p.val % 4] ∧ win1_5.index p = ![p.val / 4, 11 + p.val % 4] ∧ win1_6.index p = ![p.val / 4, p.val % 4] ∧ win1_7.index p = ![p.val / 4, p.val % 4] ∧ win1_8.index p = ![p.val / 4, p.val % 4]) p

/-- Where the blocks of call 2 lie. -/
theorem idx2 (p : Fin cfg2.N) : win2_0.index p = ![0, p.val / 2] ∧ win2_1.index p = ![0, p.val % 2] ∧ win2_2.index p = ![p.val / 2, p.val % 2] :=
  (by decide +kernel : ∀ p : Fin grid2.N, win2_0.index p = ![0, p.val / 2] ∧ win2_1.index p = ![0, p.val % 2] ∧ win2_2.index p = ![p.val / 2, p.val % 2]) p

/-- Where the blocks of call 3 lie. -/
theorem idx3 (p : Fin cfg3.N) : win3_0.index p = ![p.val, 0] ∧ win3_1.index p = ![0, 0] ∧ win3_2.index p = ![p.val, 0] ∧ win3_3.index p = ![0, 0] ∧ win3_4.index p = ![p.val, 0] ∧ win3_5.index p = ![p.val, 0] :=
  (by decide +kernel : ∀ p : Fin grid3.N, win3_0.index p = ![p.val, 0] ∧ win3_1.index p = ![0, 0] ∧ win3_2.index p = ![p.val, 0] ∧ win3_3.index p = ![0, 0] ∧ win3_4.index p = ![p.val, 0] ∧ win3_5.index p = ![p.val, 0]) p

/-- Where the blocks of call 4 lie. -/
theorem idx4 (p : Fin cfg4.N) : win4_0.index p = ![0, 0] ∧ win4_1.index p = ![0, p.val] ∧ win4_2.index p = ![0, 0] ∧ win4_3.index p = ![0, p.val] ∧ win4_4.index p = ![0, p.val] ∧ win4_5.index p = ![0, p.val] :=
  (by decide +kernel : ∀ p : Fin grid4.N, win4_0.index p = ![0, 0] ∧ win4_1.index p = ![0, p.val] ∧ win4_2.index p = ![0, 0] ∧ win4_3.index p = ![0, p.val] ∧ win4_4.index p = ![0, p.val] ∧ win4_5.index p = ![0, p.val]) p

/-- A block of the projected input. -/
theorem out02 (x0 : Vec Ideal S1024x2048 .bf16) (x1 : Vec Ideal S2048x768 .bf16) (p : Fin 1024) (q : Fin 768) : out0_2 x0 x1 (ix2 p q) = ∑ k : Fin 2048, x0 (ix2 p k) * x1 (ix2 k q) := by
  have e : k0_pay1 (F := Ideal) x0 x1 (ix2 p q) = ∑ k : Fin 2048, x0 (ix2 p k) * x1 (ix2 k q) := by
    pointwise [k0_pay1]
  rw [← e]
  frame_out

/-- A block of the merge. -/
theorem out16 (x0 : Vec Ideal S1024x1024 .bf16) (x1 : Vec Ideal S1024x512 .bf16) (x2 : Vec Ideal S1024x1024 .bf16) (x3 : Vec Ideal S1024x512 .bf16) (x4 : Vec Ideal S1024x512 .bf16) (x5 : Vec Ideal S1024x512 .bf16) (p : Fin 1024) (q : Fin 512) : out1_6 x0 x1 x2 x3 x4 x5 (ix2 p q) = mix (x4 (ix2 p q)) (x5 (ix2 p q)) (∑ k : Fin 1024, x0 (ix2 p k) * x1 (ix2 k q)) (∑ k : Fin 1024, x2 (ix2 p k) * x3 (ix2 k q)) := by
  have e : k1_pay5 (F := Ideal) x0 x1 x2 x3 x4 x5 (ix2 p q) = mix (x4 (ix2 p q)) (x5 (ix2 p q)) (∑ k : Fin 1024, x0 (ix2 p k) * x1 (ix2 k q)) (∑ k : Fin 1024, x2 (ix2 p k) * x3 (ix2 k q)) := by
    pointwise [k1_pay5, k1_pay3, k1_pay4]
    simp only [zero_sub]
    rfl
  rw [← e]
  frame_out

/-- A block of the first branch. -/
theorem out17 (x0 : Vec Ideal S1024x1024 .bf16) (x1 : Vec Ideal S1024x512 .bf16) (x2 : Vec Ideal S1024x1024 .bf16) (x3 : Vec Ideal S1024x512 .bf16) (x4 : Vec Ideal S1024x512 .bf16) (x5 : Vec Ideal S1024x512 .bf16) (p : Fin 1024) (q : Fin 512) : out1_7 x0 x1 x2 x3 x4 x5 (ix2 p q) = ∑ k : Fin 1024, x0 (ix2 p k) * x1 (ix2 k q) := by
  have e : k1_pay1 (F := Ideal) (k1_pay6 (F := Ideal) x0 x1) (ix2 p q) = ∑ k : Fin 1024, x0 (ix2 p k) * x1 (ix2 k q) := by
    pointwise [k1_pay1, k1_pay6, k1_pay3]
  rw [← e]
  frame_out

/-- A block of the second branch. -/
theorem out18 (x0 : Vec Ideal S1024x1024 .bf16) (x1 : Vec Ideal S1024x512 .bf16) (x2 : Vec Ideal S1024x1024 .bf16) (x3 : Vec Ideal S1024x512 .bf16) (x4 : Vec Ideal S1024x512 .bf16) (x5 : Vec Ideal S1024x512 .bf16) (p : Fin 1024) (q : Fin 512) : out1_8 x0 x1 x2 x3 x4 x5 (ix2 p q) = ∑ k : Fin 1024, x2 (ix2 p k) * x3 (ix2 k q) := by
  have e : k1_pay2 (F := Ideal) (k1_pay4 (F := Ideal) x2 x3) (ix2 p q) = ∑ k : Fin 1024, x2 (ix2 p k) * x3 (ix2 k q) := by
    pointwise [k1_pay2, k1_pay4]
  rw [← e]
  frame_out

/-- A block of the output weight's gradient. -/
theorem out22 (x0 : Vec Ideal S2048x1024 .bf16) (x1 : Vec Ideal S2048x1024 .bf16) (p : Fin 1024) (q : Fin 1024) : out2_2 x0 x1 (ix2 p q) = ∑ k : Fin 2048, x0 (ix2 k p) * x1 (ix2 k q) := by
  have e : k2_pay1 (F := Ideal) x0 x1 (ix2 p q) = ∑ k : Fin 2048, x0 (ix2 k p) * x1 (ix2 k q) := by
    pointwise [k2_pay1]
  rw [← e]
  frame_out

/-- A block of the first branch's gradient. -/
theorem out34 (x0 : Vec Ideal S1024x2048 .bf16) (x1 : Vec Ideal S1024x2048 .bf16) (x2 : Vec Ideal S1024x2048 .bf16) (x3 : Vec Ideal S1024x2048 .bf16) (p : Fin 1024) (q : Fin 1024) : out3_4 x0 x1 x2 x3 (ix2 p q) = ∑ k : Fin 2048, x0 (ix2 p k) * x1 (ix2 q k) := by
  have e : k3_pay1 (F := Ideal) x0 x1 (ix2 p q) = ∑ k : Fin 2048, x0 (ix2 p k) * x1 (ix2 q k) := by
    pointwise [k3_pay1]
  rw [← e]
  frame_out

/-- A block of the second branch's gradient. -/
theorem out35 (x0 : Vec Ideal S1024x2048 .bf16) (x1 : Vec Ideal S1024x2048 .bf16) (x2 : Vec Ideal S1024x2048 .bf16) (x3 : Vec Ideal S1024x2048 .bf16) (p : Fin 1024) (q : Fin 1024) : out3_5 x0 x1 x2 x3 (ix2 p q) = ∑ k : Fin 2048, x2 (ix2 p k) * x3 (ix2 q k) := by
  have e : k3_pay2 (F := Ideal) x2 x3 (ix2 p q) = ∑ k : Fin 2048, x2 (ix2 p k) * x3 (ix2 q k) := by
    pointwise [k3_pay2]
  rw [← e]
  frame_out

/-- A block of the first branch's weight's gradient. -/
theorem out44 (x0 : Vec Ideal S2048x1024 .bf16) (x1 : Vec Ideal S2048x1024 .bf16) (x2 : Vec Ideal S2048x1024 .bf16) (x3 : Vec Ideal S2048x1024 .bf16) (p : Fin 1024) (q : Fin 1024) : out4_4 x0 x1 x2 x3 (ix2 p q) = ∑ k : Fin 2048, x0 (ix2 k p) * x1 (ix2 k q) := by
  have e : k4_pay1 (F := Ideal) x0 x1 (ix2 p q) = ∑ k : Fin 2048, x0 (ix2 k p) * x1 (ix2 k q) := by
    pointwise [k4_pay1]
  rw [← e]
  frame_out

/-- A block of the second branch's weight's gradient. -/
theorem out45 (x0 : Vec Ideal S2048x1024 .bf16) (x1 : Vec Ideal S2048x1024 .bf16) (x2 : Vec Ideal S2048x1024 .bf16) (x3 : Vec Ideal S2048x1024 .bf16) (p : Fin 1024) (q : Fin 1024) : out4_5 x0 x1 x2 x3 (ix2 p q) = ∑ k : Fin 2048, x2 (ix2 k p) * x3 (ix2 k q) := by
  have e : k4_pay2 (F := Ideal) x2 x3 (ix2 p q) = ∑ k : Fin 2048, x2 (ix2 k p) * x3 (ix2 k q) := by
    pointwise [k4_pay2]
  rw [← e]
  frame_out

/-- The projected input. -/
theorem arr02 : (dat0 V c).arrAt 2 cfg0.N = (Mat.nn (a := 2048) (k := 2048) (b := 7680) (V c main_arg0) (V c main_v0) : Vec Ideal S2048x7680 .bf16) := by
  refine (dat0 V c).arrAt_eq_of_covers 2 _ (by decide +kernel) fun t hf y => ?_
  blk_simp
  rw [after0_2]
  refine (congrArg (out0_2 _ _) (eq_ix2 (n0 := 1024) (n1 := 768) y)).trans ?_
  refine (out02 _ _ _ _).trans ?_
  unfold Mat.nn
  refine Finset.sum_congr rfl fun k _ => ?_
  refine congrArg₂ (· * ·) ?_ ?_ <;> (unfold iblk0; blk_simp; blk_ext [idx0 t])

/-- The merge. -/
theorem arr16 : (dat1 V c).arrAt 6 cfg1.N = (fun y : S2048x2048.Idx => mix (Mat.ga (V c main_v4) y) (Mat.gb (V c main_v4) y) (Mat.nn (a := 2048) (k := 1024) (b := 2048) (V c main_arg1) (V c main_v1) y) (Mat.nn (a := 2048) (k := 1024) (b := 2048) (V c main_arg2) (V c main_v2) y) : Vec Ideal S2048x2048 .bf16) := by
  refine (dat1 V c).arrAt_eq_of_covers 6 _ (by decide +kernel) fun t hf y => ?_
  blk_simp
  rw [after1_6]
  refine (congrArg (out1_6 _ _ _ _ _ _) (eq_ix2 (n0 := 1024) (n1 := 512) y)).trans ?_
  refine (out16 _ _ _ _ _ _ _ _).trans ?_
  unfold Mat.nn Mat.ga Mat.gb
  refine mix_congr ?_ ?_ ?_ ?_
  · unfold iblk1; blk_simp; blk_ext [idx1 t]
  · unfold iblk1; blk_simp; blk_ext [idx1 t]
  all_goals
    refine Finset.sum_congr rfl fun k _ => ?_
    refine congrArg₂ (· * ·) ?_ ?_ <;> (unfold iblk1; blk_simp; blk_ext [idx1 t])

/-- The first branch's projection. -/
theorem arr17 : (dat1 V c).arrAt 7 cfg1.N = (Mat.nn (a := 2048) (k := 1024) (b := 2048) (V c main_arg1) (V c main_v1) : Vec Ideal S2048x2048 .bf16) := by
  refine (dat1 V c).arrAt_eq_of_covers 7 _ (by decide +kernel) fun t hf y => ?_
  blk_simp
  rw [after1_7]
  refine (congrArg (out1_7 _ _ _ _ _ _) (eq_ix2 (n0 := 1024) (n1 := 512) y)).trans ?_
  refine (out17 _ _ _ _ _ _ _ _).trans ?_
  unfold Mat.nn
  refine Finset.sum_congr rfl fun k _ => ?_
  refine congrArg₂ (· * ·) ?_ ?_ <;> (unfold iblk1; blk_simp; blk_ext [idx1 t])

/-- The second branch's projection. -/
theorem arr18 : (dat1 V c).arrAt 8 cfg1.N = (Mat.nn (a := 2048) (k := 1024) (b := 2048) (V c main_arg2) (V c main_v2) : Vec Ideal S2048x2048 .bf16) := by
  refine (dat1 V c).arrAt_eq_of_covers 8 _ (by decide +kernel) fun t hf y => ?_
  blk_simp
  rw [after1_8]
  refine (congrArg (out1_8 _ _ _ _ _ _) (eq_ix2 (n0 := 1024) (n1 := 512) y)).trans ?_
  refine (out18 _ _ _ _ _ _ _ _).trans ?_
  unfold Mat.nn
  refine Finset.sum_congr rfl fun k _ => ?_
  refine congrArg₂ (· * ·) ?_ ?_ <;> (unfold iblk1; blk_simp; blk_ext [idx1 t])

/-- The output weight's gradient. -/
theorem arr22 : (dat2 V c).arrAt 2 cfg2.N = (Mat.tn (a := 2048) (k := 2048) (b := 2048) (V c main_v5_0) (V c main_v3) : Vec Ideal S2048x2048 .bf16) := by
  refine (dat2 V c).arrAt_eq_of_covers 2 _ (by decide +kernel) fun t hf y => ?_
  blk_simp
  rw [after2_2]
  refine (congrArg (out2_2 _ _) (eq_ix2 (n0 := 1024) (n1 := 1024) y)).trans ?_
  refine (out22 _ _ _ _).trans ?_
  unfold Mat.tn
  refine Finset.sum_congr rfl fun k _ => ?_
  refine congrArg₂ (· * ·) ?_ ?_ <;> (unfold iblk2; blk_simp; blk_ext [idx2 t])

/-- The first branch's gradient. -/
theorem arr34 : (dat3 V c).arrAt 4 cfg3.N = (Mat.nt (a := 2048) (k := 2048) (b := 1024) (V c main_arg7) (V c main_v1) : Vec Ideal S2048x1024 .bf16) := by
  refine (dat3 V c).arrAt_eq_of_covers 4 _ (by decide +kernel) fun t hf y => ?_
  blk_simp
  rw [after3_4]
  refine (congrArg (out3_4 _ _ _ _) (eq_ix2 (n0 := 1024) (n1 := 1024) y)).trans ?_
  refine (out34 _ _ _ _ _ _).trans ?_
  unfold Mat.nt
  refine Finset.sum_congr rfl fun k _ => ?_
  refine congrArg₂ (· * ·) ?_ ?_ <;> (unfold iblk3; blk_simp; blk_ext [idx3 t])

/-- The second branch's gradient. -/
theorem arr35 : (dat3 V c).arrAt 5 cfg3.N = (Mat.nt (a := 2048) (k := 2048) (b := 1024) (V c main_arg8) (V c main_v2) : Vec Ideal S2048x1024 .bf16) := by
  refine (dat3 V c).arrAt_eq_of_covers 5 _ (by decide +kernel) fun t hf y => ?_
  blk_simp
  rw [after3_5]
  refine (congrArg (out3_5 _ _ _ _) (eq_ix2 (n0 := 1024) (n1 := 1024) y)).trans ?_
  refine (out35 _ _ _ _ _ _).trans ?_
  unfold Mat.nt
  refine Finset.sum_congr rfl fun k _ => ?_
  refine congrArg₂ (· * ·) ?_ ?_ <;> (unfold iblk3; blk_simp; blk_ext [idx3 t])

/-- The first branch's weight's gradient. -/
theorem arr44 : (dat4 V c).arrAt 4 cfg4.N = (Mat.tn (a := 1024) (k := 2048) (b := 2048) (V c main_arg1) (V c main_arg7) : Vec Ideal S1024x2048 .bf16) := by
  refine (dat4 V c).arrAt_eq_of_covers 4 _ (by decide +kernel) fun t hf y => ?_
  blk_simp
  rw [after4_4]
  refine (congrArg (out4_4 _ _ _ _) (eq_ix2 (n0 := 1024) (n1 := 1024) y)).trans ?_
  refine (out44 _ _ _ _ _ _).trans ?_
  unfold Mat.tn
  refine Finset.sum_congr rfl fun k _ => ?_
  refine congrArg₂ (· * ·) ?_ ?_ <;> (unfold iblk4; blk_simp; blk_ext [idx4 t])

/-- The second branch's weight's gradient. -/
theorem arr45 : (dat4 V c).arrAt 5 cfg4.N = (Mat.tn (a := 1024) (k := 2048) (b := 2048) (V c main_arg2) (V c main_arg8) : Vec Ideal S1024x2048 .bf16) := by
  refine (dat4 V c).arrAt_eq_of_covers 5 _ (by decide +kernel) fun t hf y => ?_
  blk_simp
  rw [after4_5]
  refine (congrArg (out4_5 _ _ _ _) (eq_ix2 (n0 := 1024) (n1 := 1024) y)).trans ?_
  refine (out45 _ _ _ _ _ _).trans ?_
  unfold Mat.tn
  refine Finset.sum_congr rfl fun k _ => ?_
  refine congrArg₂ (· * ·) ?_ ?_ <;> (unfold iblk4; blk_simp; blk_ext [idx4 t])

end Cert.Kernel4Ideal.Mix
-- ==== Proof.MixRun.lean ====
module

public import proofs.«01_k».proof.Proof.MixK

/-! The five calls of the projection and the merge one after the other: what each array holds at the end, from the arguments. -/

@[expose] public section

set_option maxRecDepth 16384

noncomputable section

namespace Cert.Kernel4Ideal.Mix

open Cert.Kernel4Ideal Cert.Kernel4Ideal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg) (c : Dev nD)

/-- The layer's input. -/
def h0 : S2048x2048.Idx → EReal := m ((c : Thread nD τ).loc main_arg0)
/-- The first branch's result. -/
def a0 : S2048x1024.Idx → EReal := m ((c : Thread nD τ).loc main_arg1)
/-- The second branch's result. -/
def b0 : S2048x1024.Idx → EReal := m ((c : Thread nD τ).loc main_arg2)
/-- The input projection's weight. -/
def wi0 : S2048x7680.Idx → EReal := m ((c : Thread nD τ).loc main_arg3)
/-- The first branch's weight. -/
def wa0 : S1024x2048.Idx → EReal := m ((c : Thread nD τ).loc main_arg4)
/-- The second branch's weight. -/
def wb0 : S1024x2048.Idx → EReal := m ((c : Thread nD τ).loc main_arg5)
/-- The merge's gradient. -/
def dx0 : S2048x2048.Idx → EReal := m ((c : Thread nD τ).loc main_arg6)
/-- The first branch's projection's gradient. -/
def dya0 : S2048x2048.Idx → EReal := m ((c : Thread nD τ).loc main_arg7)
/-- The second branch's projection's gradient. -/
def dyb0 : S2048x2048.Idx → EReal := m ((c : Thread nD τ).loc main_arg8)

/-- The first call is entered with this operand: the input projection's weight. -/
theorem v1_v0 : V1 m ρ c main_v0 = (wi0 m c : Vec Ideal S2048x7680 .bf16) := by
  show StableHlo.after hostOps0 (W0 m ρ c) (Proc.devRef .tc main_v0) = _
  unfold hostOps0
  after_results_simp
  rfl
/-- The first call is entered with this operand: the first branch's weight. -/
theorem v1_v1 : V1 m ρ c main_v1 = (wa0 m c : Vec Ideal S1024x2048 .bf16) := by
  show StableHlo.after hostOps0 (W0 m ρ c) (Proc.devRef .tc main_v1) = _
  unfold hostOps0
  after_results_simp
  rfl
/-- The first call is entered with this operand: the second branch's weight. -/
theorem v1_v2 : V1 m ρ c main_v2 = (wb0 m c : Vec Ideal S1024x2048 .bf16) := by
  show StableHlo.after hostOps0 (W0 m ρ c) (Proc.devRef .tc main_v2) = _
  unfold hostOps0
  after_results_simp
  rfl
/-- The first call is entered with this operand: the merge's gradient. -/
theorem v1_v3 : V1 m ρ c main_v3 = (dx0 m c : Vec Ideal S2048x2048 .bf16) := by
  show StableHlo.after hostOps0 (W0 m ρ c) (Proc.devRef .tc main_v3) = _
  unfold hostOps0
  after_results_simp
  rfl
/-- An argument is unchanged when call 1 is entered. -/
theorem v1_arg0 : V1 m ρ c main_arg0 = h0 m c :=
  W1_args m ρ c main_arg0 (by decide)
/-- The projected input after the first call. -/
theorem v2_v4 : V2 m ρ c main_v4 = (Mat.z (h0 m c) (wi0 m c) : Vec Ideal S2048x7680 .bf16) :=
  (W2_arr m ρ c 2).trans ((arr02 _ c).trans (by rw [v1_arg0, v1_v0]; rfl))
/-- An argument is unchanged when call 2 is entered. -/
theorem v2_arg1 : V2 m ρ c main_arg1 = a0 m c :=
  W2_args m ρ c main_arg1 (by decide)
/-- An argument is unchanged when call 2 is entered. -/
theorem v2_arg2 : V2 m ρ c main_arg2 = b0 m c :=
  W2_args m ρ c main_arg2 (by decide)
/-- An operand is unchanged when call 2 is entered. -/
theorem v2_v1 : V2 m ρ c main_v1 = (wa0 m c : Vec Ideal S1024x2048 .bf16) :=
  (W2_of m ρ c main_v1 (by decide +kernel)).trans (v1_v1 m ρ c)
/-- An operand is unchanged when call 2 is entered. -/
theorem v2_v2 : V2 m ρ c main_v2 = (wb0 m c : Vec Ideal S1024x2048 .bf16) :=
  (W2_of m ρ c main_v2 (by decide +kernel)).trans (v1_v2 m ρ c)
/-- The merge after the second call. -/
theorem v3_mg : V3 m ρ c main_v5_0 = (Mat.mg (h0 m c) (a0 m c) (b0 m c) (wi0 m c) (wa0 m c) (wb0 m c) : Vec Ideal S2048x2048 .bf16) :=
  (W3_arr m ρ c 6).trans ((arr16 _ c).trans (by rw [v2_v4, v2_arg1, v2_arg2, v2_v1, v2_v2]; rfl))
/-- The first branch after the second call. -/
theorem v3_ya : V3 m ρ c main_v5_1 = (Mat.yo (a0 m c) (wa0 m c) : Vec Ideal S2048x2048 .bf16) :=
  (W3_arr m ρ c 7).trans ((arr17 _ c).trans (by rw [v2_arg1, v2_v1]; rfl))
/-- The second branch after the second call. -/
theorem v3_yb : V3 m ρ c main_v5_2 = (Mat.yo (b0 m c) (wb0 m c) : Vec Ideal S2048x2048 .bf16) :=
  (W3_arr m ρ c 8).trans ((arr18 _ c).trans (by rw [v2_arg2, v2_v2]; rfl))
/-- An operand is unchanged when call 3 is entered. -/
theorem v3_v3 : V3 m ρ c main_v3 = (dx0 m c : Vec Ideal S2048x2048 .bf16) :=
  (W3_of m ρ c main_v3 (by decide +kernel)).trans ((W2_of m ρ c main_v3 (by decide +kernel)).trans (v1_v3 m ρ c))
/-- The output weight's gradient after the third call. -/
theorem v4_gwo : V4 m ρ c main_v6 = (Mat.gwo (h0 m c) (a0 m c) (b0 m c) (wi0 m c) (wa0 m c) (wb0 m c) (dx0 m c) : Vec Ideal S2048x2048 .bf16) :=
  (W4_arr m ρ c 2).trans ((arr22 _ c).trans (by rw [v3_mg, v3_v3]; rfl))
/-- An argument is unchanged when call 4 is entered. -/
theorem v4_arg7 : V4 m ρ c main_arg7 = dya0 m c :=
  W4_args m ρ c main_arg7 (by decide)
/-- An argument is unchanged when call 4 is entered. -/
theorem v4_arg8 : V4 m ρ c main_arg8 = dyb0 m c :=
  W4_args m ρ c main_arg8 (by decide)
/-- An operand is unchanged when call 4 is entered. -/
theorem v4_v1 : V4 m ρ c main_v1 = (wa0 m c : Vec Ideal S1024x2048 .bf16) :=
  (W4_of m ρ c main_v1 (by decide +kernel)).trans ((W3_of m ρ c main_v1 (by decide +kernel)).trans (v2_v1 m ρ c))
/-- An operand is unchanged when call 4 is entered. -/
theorem v4_v2 : V4 m ρ c main_v2 = (wb0 m c : Vec Ideal S1024x2048 .bf16) :=
  (W4_of m ρ c main_v2 (by decide +kernel)).trans ((W3_of m ρ c main_v2 (by decide +kernel)).trans (v2_v2 m ρ c))
/-- The first branch's gradient after the fourth call. -/
theorem v5_da : V5 m ρ c main_v7_0 = (Mat.dbr (wa0 m c) (dya0 m c) : Vec Ideal S2048x1024 .bf16) :=
  (W5_arr m ρ c 4).trans ((arr34 _ c).trans (by rw [v4_arg7, v4_v1]; rfl))
/-- The second branch's gradient after the fourth call. -/
theorem v5_db : V5 m ρ c main_v7_1 = (Mat.dbr (wb0 m c) (dyb0 m c) : Vec Ideal S2048x1024 .bf16) :=
  (W5_arr m ρ c 5).trans ((arr35 _ c).trans (by rw [v4_arg8, v4_v2]; rfl))
/-- An argument is unchanged when call 5 is entered. -/
theorem v5_arg1 : V5 m ρ c main_arg1 = a0 m c :=
  W5_args m ρ c main_arg1 (by decide)
/-- An argument is unchanged when call 5 is entered. -/
theorem v5_arg2 : V5 m ρ c main_arg2 = b0 m c :=
  W5_args m ρ c main_arg2 (by decide)
/-- An argument is unchanged when call 5 is entered. -/
theorem v5_arg7 : V5 m ρ c main_arg7 = dya0 m c :=
  W5_args m ρ c main_arg7 (by decide)
/-- An argument is unchanged when call 5 is entered. -/
theorem v5_arg8 : V5 m ρ c main_arg8 = dyb0 m c :=
  W5_args m ρ c main_arg8 (by decide)
/-- A result at the end. -/
theorem end_z : W6 m ρ c (Proc.devRef .tc main_v4) = (Mat.z (h0 m c) (wi0 m c) : Vec Ideal S2048x7680 .bf16) :=
  (W6_of m ρ c main_v4 (by decide +kernel)).trans ((W5_of m ρ c main_v4 (by decide +kernel)).trans ((W4_of m ρ c main_v4 (by decide +kernel)).trans ((W3_of m ρ c main_v4 (by decide +kernel)).trans (v2_v4 m ρ c))))
/-- A result at the end. -/
theorem end_mg : W6 m ρ c (Proc.devRef .tc main_v5_0) = (Mat.mg (h0 m c) (a0 m c) (b0 m c) (wi0 m c) (wa0 m c) (wb0 m c) : Vec Ideal S2048x2048 .bf16) :=
  (W6_of m ρ c main_v5_0 (by decide +kernel)).trans ((W5_of m ρ c main_v5_0 (by decide +kernel)).trans ((W4_of m ρ c main_v5_0 (by decide +kernel)).trans (v3_mg m ρ c)))
/-- A result at the end. -/
theorem end_ya : W6 m ρ c (Proc.devRef .tc main_v5_1) = (Mat.yo (a0 m c) (wa0 m c) : Vec Ideal S2048x2048 .bf16) :=
  (W6_of m ρ c main_v5_1 (by decide +kernel)).trans ((W5_of m ρ c main_v5_1 (by decide +kernel)).trans ((W4_of m ρ c main_v5_1 (by decide +kernel)).trans (v3_ya m ρ c)))
/-- A result at the end. -/
theorem end_yb : W6 m ρ c (Proc.devRef .tc main_v5_2) = (Mat.yo (b0 m c) (wb0 m c) : Vec Ideal S2048x2048 .bf16) :=
  (W6_of m ρ c main_v5_2 (by decide +kernel)).trans ((W5_of m ρ c main_v5_2 (by decide +kernel)).trans ((W4_of m ρ c main_v5_2 (by decide +kernel)).trans (v3_yb m ρ c)))
/-- A result at the end. -/
theorem end_gwo : W6 m ρ c (Proc.devRef .tc main_v6) = (Mat.gwo (h0 m c) (a0 m c) (b0 m c) (wi0 m c) (wa0 m c) (wb0 m c) (dx0 m c) : Vec Ideal S2048x2048 .bf16) :=
  (W6_of m ρ c main_v6 (by decide +kernel)).trans ((W5_of m ρ c main_v6 (by decide +kernel)).trans (v4_gwo m ρ c))
/-- A result at the end. -/
theorem end_da : W6 m ρ c (Proc.devRef .tc main_v7_0) = (Mat.dbr (wa0 m c) (dya0 m c) : Vec Ideal S2048x1024 .bf16) :=
  (W6_of m ρ c main_v7_0 (by decide +kernel)).trans (v5_da m ρ c)
/-- A result at the end. -/
theorem end_db : W6 m ρ c (Proc.devRef .tc main_v7_1) = (Mat.dbr (wb0 m c) (dyb0 m c) : Vec Ideal S2048x1024 .bf16) :=
  (W6_of m ρ c main_v7_1 (by decide +kernel)).trans (v5_db m ρ c)
/-- The first branch's weight's gradient at the end. -/
theorem end_gwa : W6 m ρ c (Proc.devRef .tc main_v8_0) = (Mat.gbr (a0 m c) (dya0 m c) : Vec Ideal S1024x2048 .bf16) :=
  (W6_arr m ρ c 4).trans ((arr44 _ c).trans (by rw [v5_arg1, v5_arg7]; rfl))
/-- The second branch's weight's gradient at the end. -/
theorem end_gwb : W6 m ρ c (Proc.devRef .tc main_v8_1) = (Mat.gbr (b0 m c) (dyb0 m c) : Vec Ideal S1024x2048 .bf16) :=
  (W6_arr m ρ c 5).trans ((arr45 _ c).trans (by rw [v5_arg2, v5_arg8]; rfl))

/-- The program runs, ends with the nine results and leaves its arguments unchanged. -/
theorem run : θ_run defs (onTc (τ := τ) (main (F := Ideal))) ⟨m, fun _ => 0, ρ⟩ (fun r => ∀ c : Dev nD,
      r.2.mem ((c.tc : Thread nD τ).loc main_v4) = (Mat.z (h0 m c) (wi0 m c) : Vec Ideal S2048x7680 .bf16)
      ∧ r.2.mem ((c.tc : Thread nD τ).loc main_v5_0) = (Mat.mg (h0 m c) (a0 m c) (b0 m c) (wi0 m c) (wa0 m c) (wb0 m c) : Vec Ideal S2048x2048 .bf16)
      ∧ r.2.mem ((c.tc : Thread nD τ).loc main_v5_1) = (Mat.yo (a0 m c) (wa0 m c) : Vec Ideal S2048x2048 .bf16)
      ∧ r.2.mem ((c.tc : Thread nD τ).loc main_v5_2) = (Mat.yo (b0 m c) (wb0 m c) : Vec Ideal S2048x2048 .bf16)
      ∧ r.2.mem ((c.tc : Thread nD τ).loc main_v6) = (Mat.gwo (h0 m c) (a0 m c) (b0 m c) (wi0 m c) (wa0 m c) (wb0 m c) (dx0 m c) : Vec Ideal S2048x2048 .bf16)
      ∧ r.2.mem ((c.tc : Thread nD τ).loc main_v7_0) = (Mat.dbr (wa0 m c) (dya0 m c) : Vec Ideal S2048x1024 .bf16)
      ∧ r.2.mem ((c.tc : Thread nD τ).loc main_v7_1) = (Mat.dbr (wb0 m c) (dyb0 m c) : Vec Ideal S2048x1024 .bf16)
      ∧ r.2.mem ((c.tc : Thread nD τ).loc main_v8_0) = (Mat.gbr (a0 m c) (dya0 m c) : Vec Ideal S1024x2048 .bf16)
      ∧ r.2.mem ((c.tc : Thread nD τ).loc main_v8_1) = (Mat.gbr (b0 m c) (dyb0 m c) : Vec Ideal S1024x2048 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v4 (by decide))).trans (end_z m ρ c),
       (h c _ (mem_uc main_v5_0 (by decide))).trans (end_mg m ρ c),
       (h c _ (mem_uc main_v5_1 (by decide))).trans (end_ya m ρ c),
       (h c _ (mem_uc main_v5_2 (by decide))).trans (end_yb m ρ c),
       (h c _ (mem_uc main_v6 (by decide))).trans (end_gwo m ρ c),
       (h c _ (mem_uc main_v7_0 (by decide))).trans (end_da m ρ c),
       (h c _ (mem_uc main_v7_1 (by decide))).trans (end_db m ρ c),
       (h c _ (mem_uc main_v8_0 (by decide))).trans (end_gwa m ρ c),
       (h c _ (mem_uc main_v8_1 (by decide))).trans (end_gwb m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.Kernel4Ideal.Mix
-- ==== Proof.MixRef.lean ====
module

public import proofs.«01_k».proof.Proof.MixK
public import proofs.«01_k».proof.Proof.Gen.Reference4Ideal.Run
public import Idealize.ShloMosaic.Lib.Pointwise
public import Idealize.ShloMosaic.Lib.IdealHost

/-! The nine results of the projection's and the merge's reference as products of matrices. -/

@[expose] public section

set_option maxRecDepth 16384

noncomputable section

namespace Cert.Reference4Ideal.Mix

open Cert.Reference4Ideal Cert.Reference4Ideal.Gen Idealize.ShloMosaic Idealize.ShloMosaic.TcCoe Idealize.SL.Sem

variable (m : (ℓ : Loc nD τ sig) → Buf (Elt Ideal) ℓ) (ρ : Dev nD → PrngReg) (c : Dev nD)

/-- The layer's input. -/
def h0 : S2048x2048.Idx → EReal := m ((c.tc : Thread nD τ).loc main_arg0)
/-- The first branch's result. -/
def a0 : S2048x1024.Idx → EReal := m ((c.tc : Thread nD τ).loc main_arg1)
/-- The second branch's result. -/
def b0 : S2048x1024.Idx → EReal := m ((c.tc : Thread nD τ).loc main_arg2)
/-- The input projection's weight. -/
def wi0 : S2048x7680.Idx → EReal := m ((c.tc : Thread nD τ).loc main_arg3)
/-- The first branch's weight. -/
def wa0 : S1024x2048.Idx → EReal := m ((c.tc : Thread nD τ).loc main_arg4)
/-- The second branch's weight. -/
def wb0 : S1024x2048.Idx → EReal := m ((c.tc : Thread nD τ).loc main_arg5)
/-- The merge's gradient. -/
def dx0 : S2048x2048.Idx → EReal := m ((c.tc : Thread nD τ).loc main_arg6)
/-- The first branch's projection's gradient. -/
def dya0 : S2048x2048.Idx → EReal := m ((c.tc : Thread nD τ).loc main_arg7)
/-- The second branch's projection's gradient. -/
def dyb0 : S2048x2048.Idx → EReal := m ((c.tc : Thread nD τ).loc main_arg8)

/-- The reference runs and ends with the nine results in the kernel's form. -/
theorem run : θ_run defs (onTc (τ := τ) (main (F := Ideal))) ⟨m, fun _ => 0, ρ⟩ (fun r => ∀ c : Dev nD,
      r.2.mem ((c.tc : Thread nD τ).loc main_v35) = (Mat.z (h0 m c) (wi0 m c) : Vec Ideal S2048x7680 .bf16)
      ∧ r.2.mem ((c.tc : Thread nD τ).loc main_v36) = (Mat.mg (h0 m c) (a0 m c) (b0 m c) (wi0 m c) (wa0 m c) (wb0 m c) : Vec Ideal S2048x2048 .bf16)
      ∧ r.2.mem ((c.tc : Thread nD τ).loc main_v37) = (Mat.yo (a0 m c) (wa0 m c) : Vec Ideal S2048x2048 .bf16)
      ∧ r.2.mem ((c.tc : Thread nD τ).loc main_v38) = (Mat.yo (b0 m c) (wb0 m c) : Vec Ideal S2048x2048 .bf16)
      ∧ r.2.mem ((c.tc : Thread nD τ).loc main_v39) = (Mat.gwo (h0 m c) (a0 m c) (b0 m c) (wi0 m c) (wa0 m c) (wb0 m c) (dx0 m c) : Vec Ideal S2048x2048 .bf16)
      ∧ r.2.mem ((c.tc : Thread nD τ).loc main_v40) = (Mat.dbr (wa0 m c) (dya0 m c) : Vec Ideal S2048x1024 .bf16)
      ∧ r.2.mem ((c.tc : Thread nD τ).loc main_v41) = (Mat.dbr (wb0 m c) (dyb0 m c) : Vec Ideal S2048x1024 .bf16)
      ∧ r.2.mem ((c.tc : Thread nD τ).loc main_v42) = (Mat.gbr (a0 m c) (dya0 m c) : Vec Ideal S1024x2048 .bf16)
      ∧ r.2.mem ((c.tc : Thread nD τ).loc main_v43) = (Mat.gbr (b0 m c) (dyb0 m c) : Vec Ideal S1024x2048 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run Cert.Reference4Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Cert.Reference4Ideal.Value.run (F := Ideal) m ρ)
  all_goals clear h
  · refine funext fun y => (congrArg _ (eq_ix2 (n0 := 2048) (n1 := 7680) y)).trans ?_
    pointwise
    rfl
  · refine funext fun y => (congrArg _ (eq_ix2 (n0 := 2048) (n1 := 2048) y)).trans ?_
    pointwise
    rfl
  · refine funext fun y => (congrArg _ (eq_ix2 (n0 := 2048) (n1 := 2048) y)).trans ?_
    pointwise
    rfl
  · refine funext fun y => (congrArg _ (eq_ix2 (n0 := 2048) (n1 := 2048) y)).trans ?_
    pointwise
    rfl
  · refine funext fun y => (congrArg _ (eq_ix2 (n0 := 2048) (n1 := 2048) y)).trans ?_
    pointwise
    unfold Mat.gwo Mat.tn
    refine Finset.sum_congr rfl fun k _ => ?_
    exact mul_comm _ _
  · refine funext fun y => (congrArg _ (eq_ix2 (n0 := 2048) (n1 := 1024) y)).trans ?_
    pointwise
    rfl
  · refine funext fun y => (congrArg _ (eq_ix2 (n0 := 2048) (n1 := 1024) y)).trans ?_
    pointwise
    rfl
  · refine funext fun y => (congrArg _ (eq_ix2 (n0 := 1024) (n1 := 2048) y)).trans ?_
    pointwise
    unfold Mat.gbr Mat.tn
    exact Finset.sum_congr rfl fun k _ => mul_comm _ _
  · refine funext fun y => (congrArg _ (eq_ix2 (n0 := 1024) (n1 := 2048) y)).trans ?_
    pointwise
    unfold Mat.gbr Mat.tn
    exact Finset.sum_congr rfl fun k _ => mul_comm _ _

end Cert.Reference4Ideal.Mix
-- ==== Proof.MixClose.lean ====
module

public import proofs.«01_k».proof.Defs
public import proofs.«01_k».proof.Proof.MixRun
public import proofs.«01_k».proof.Proof.MixRef
public import Idealize.ShloMosaic.Lib.Quiescent

/-! The claims of the input projection and the gated merge. -/

@[expose] public section

noncomputable section

namespace Cert.Proof

open Idealize.ShloMosaic Idealize.ShloMosaic.TcCoe Idealize.SL.Sem

/-- The kernel and the reference end with equal results. -/
theorem algebraic4 : Cert.algebraic_Kernel4Ideal_Reference4Ideal (hKernel4Ideal := Cert.Kernel4Ideal.Gen.facts) (hReference4Ideal := Cert.Reference4Ideal.Gen.facts) := by
  intro m g m' g' _ hag
  have e0 : ∀ c, Cert.Reference4Ideal.Mix.h0 m' c = Cert.Kernel4Ideal.Mix.h0 m c := fun c => (hag c).1
  have e1 : ∀ c, Cert.Reference4Ideal.Mix.a0 m' c = Cert.Kernel4Ideal.Mix.a0 m c := fun c => (hag c).2.1
  have e2 : ∀ c, Cert.Reference4Ideal.Mix.b0 m' c = Cert.Kernel4Ideal.Mix.b0 m c := fun c => (hag c).2.2.1
  have e3 : ∀ c, Cert.Reference4Ideal.Mix.wi0 m' c = Cert.Kernel4Ideal.Mix.wi0 m c := fun c => (hag c).2.2.2.1
  have e4 : ∀ c, Cert.Reference4Ideal.Mix.wa0 m' c = Cert.Kernel4Ideal.Mix.wa0 m c := fun c => (hag c).2.2.2.2.1
  have e5 : ∀ c, Cert.Reference4Ideal.Mix.wb0 m' c = Cert.Kernel4Ideal.Mix.wb0 m c := fun c => (hag c).2.2.2.2.2.1
  have e6 : ∀ c, Cert.Reference4Ideal.Mix.dx0 m' c = Cert.Kernel4Ideal.Mix.dx0 m c := fun c => (hag c).2.2.2.2.2.2.1
  have e7 : ∀ c, Cert.Reference4Ideal.Mix.dya0 m' c = Cert.Kernel4Ideal.Mix.dya0 m c := fun c => (hag c).2.2.2.2.2.2.2.1
  have e8 : ∀ c, Cert.Reference4Ideal.Mix.dyb0 m' c = Cert.Kernel4Ideal.Mix.dyb0 m c := fun c => (hag c).2.2.2.2.2.2.2.2
  refine ⟨_, _, _, _, _, _, _, _, _, Cert.Kernel4Ideal.Mix.run m g, ?_⟩
  have hr := Cert.Reference4Ideal.Mix.run m' g'
  simp only [e0, e1, e2, e3, e4, e5, e6, e7, e8] at hr
  exact hr

/-- The reference's frame. -/
theorem frame_ref4 : Cert.quiescent_Reference4Ideal (hReference4Ideal := Cert.Reference4Ideal.Gen.facts) := fun m' g' _ =>
  (θ_run Cert.Reference4Ideal.defs _ _).mono (fun r h => ⟨fun c => (h c).2.2.2.2.2.2.2.2.2, sem_eq_zero_of_no_sems (by decide) r.2⟩) (Cert.Reference4Ideal.Value.run (F := Ideal) m' g')

end Cert.Proof
-- ==== Proof.SguModel.lean ====
module

public import proofs.«01_k».proof.Proof.Row

/-! The gated unit's gradients over the extended reals, one chunk of 128 positions at a time: eight groups of 128
channels, each mixed along the positions by a matrix of its own. -/

@[expose] public section

noncomputable section

namespace Sgu

open Idealize.ShloMosaic Att

/-- One half. -/
def hf : EReal := Ideal.ofBits .f32 0x3F000000#32
/-- The root of 2/π, as a word. -/
def c0 : EReal := Ideal.ofBits .f32 0x3F4C422A#32
/-- One over the number of channels. -/
def iN : EReal := Ideal.ofBits .f32 0x3A800000#32
/-- The number of channels. -/
def kN : EReal := Ideal.ofBits .f32 0x44800000#32
/-- What is added to the mean of the squares. -/
def ep : EReal := Ideal.ofBits .f32 0x358637BD#32
/-- The cubic's coefficient. -/
def a1 : EReal := ((8943 / 200000 : ℝ) : EReal)
/-- Three times the cubic's coefficient. -/
def a3 : EReal := ((26829 / 200000 : ℝ) : EReal)

/-- The hyperbolic tangent inside the activation. -/
def th (x : EReal) : EReal := Ideal.tanh (c0 * (x + a1 * (x * x * x)))
/-- The activation. -/
def gl (x : EReal) : EReal := hf * x * (1 + th x)
/-- The activation's derivative. -/
def gd (x : EReal) : EReal := hf * (1 + th x) + hf * x * (1 - th x * th x) * (c0 * (1 + a3 * (x * x)))

/-- What one chunk reads: the two halves of the input and the result's gradient by position, group and channel; the
    gain, the mixing matrices and the bias. -/
structure Blk where
  zu : Fin 128 → Fin 8 → Fin 128 → EReal
  zv : Fin 128 → Fin 8 → Fin 128 → EReal
  da : Fin 128 → Fin 8 → Fin 128 → EReal
  gn : Fin 8 → Fin 128 → EReal
  w : Fin 8 → Fin 128 → Fin 128 → EReal
  b : Fin 8 → Fin 128 → EReal

namespace Blk

variable (B : Blk)

/-- The activated gate. -/
def vv (p : Fin 128) (g : Fin 8) (e : Fin 128) : EReal := gl (B.zv p g e)
/-- The sum of a position's squares. -/
def ss (p : Fin 128) : EReal := ∑ g, ∑ e, B.vv p g e * B.vv p g e
/-- The reciprocal of a position's root mean square. -/
def rr (p : Fin 128) : EReal := Ideal.rsqrt (B.ss p * iN + ep)
/-- The normalised gate. -/
def xh (p : Fin 128) (g : Fin 8) (e : Fin 128) : EReal := B.vv p g e * B.rr p
/-- The normalised gate with its gain. -/
def vn (p : Fin 128) (g : Fin 8) (e : Fin 128) : EReal := B.xh p g e * B.gn g e
/-- The gradient of the mixed gate. -/
def dm (p : Fin 128) (g : Fin 8) (e : Fin 128) : EReal := B.da p g e * gl (B.zu p g e)
/-- The mixed gate. -/
def mx (p : Fin 128) (g : Fin 8) (e : Fin 128) : EReal := ∑ q, B.w g p q * B.vn q g e + B.b g p
/-- The gradient of the first half. -/
def dzu (p : Fin 128) (g : Fin 8) (e : Fin 128) : EReal := B.da p g e * B.mx p g e * gd (B.zu p g e)
/-- The gradient of the normalised gate with its gain. -/
def dvn (p : Fin 128) (g : Fin 8) (e : Fin 128) : EReal := ∑ q, B.w g q p * B.dm q g e
/-- The gradient of the normalised gate. -/
def dxh (p : Fin 128) (g : Fin 8) (e : Fin 128) : EReal := B.dvn p g e * B.gn g e
/-- A position's sum of the normalised gate times its gradient. -/
def dot (p : Fin 128) : EReal := ∑ g, ∑ e, B.dxh p g e * B.xh p g e
/-- The gradient of the second half. -/
def dzv (p : Fin 128) (g : Fin 8) (e : Fin 128) : EReal :=
  B.rr p * (B.dxh p g e - B.xh p g e * (B.dot p * iN)) * gd (B.zv p g e)
/-- The chunk's part of a mixing matrix's gradient. -/
def dws (g : Fin 8) (p q : Fin 128) : EReal := ∑ e, B.dm p g e * B.vn q g e
/-- The chunk's part of the bias's gradient. -/
def dbs (g : Fin 8) (p : Fin 128) : EReal := ∑ e, B.dm p g e
/-- The chunk's part of the gain's gradient, over every eighth position. -/
def dgn (s : Fin 8) (g : Fin 8) (e : Fin 128) : EReal :=
  ∑ k : Fin 16, B.dvn ⟨k.val * 8 + s.val, by omega⟩ g e * B.xh ⟨k.val * 8 + s.val, by omega⟩ g e

end Blk

/-! The reference's forms, and why they agree at real numbers. -/

/-- The cubic's coefficient, before the division. -/
def k1 : EReal := Ideal.ofBits .f32 0x472EAB00#32
/-- The divisor of the cubic's coefficient. -/
def k2 : EReal := Ideal.ofBits .f32 0x49742400#32
/-- Three. -/
def k3 : EReal := Ideal.ofBits .f32 0x40400000#32
/-- Minus one half. -/
def mh : EReal := Ideal.ofBits .f32 0xBF000000#32

/-- One half, as a real number. -/
theorem hf_eq : hf = ((1 / 2 : ℝ) : EReal) := by
  unfold hf; simp [Ideal.ofBits, Ideal.ieee, -EReal.coe_mul]; norm_num
/-- The root of 2/π's word is a real number. -/
theorem c0_real : IsReal c0 := by
  unfold c0; simp [Ideal.ofBits, Ideal.ieee, -EReal.coe_mul]; exact ⟨_, rfl⟩
/-- One over the number of channels, as a real number. -/
theorem iN_eq : iN = ((1 / 1024 : ℝ) : EReal) := by
  unfold iN; simp [Ideal.ofBits, Ideal.ieee, -EReal.coe_mul]; norm_num
/-- The number of channels, as a real number. -/
theorem kN_eq : kN = ((1024 : ℝ) : EReal) := by
  unfold kN; simp [Ideal.ofBits, Ideal.ieee, -EReal.coe_mul]; norm_num
/-- What is added to the mean is a positive real number. -/
theorem ep_eq : ∃ r : ℝ, 0 < r ∧ ep = r := by
  unfold ep; simp [Ideal.ofBits, Ideal.ieee, -EReal.coe_mul]
/-- The coefficient before the division, as a real number. -/
theorem k1_eq : k1 = ((44715 : ℝ) : EReal) := by
  unfold k1; simp [Ideal.ofBits, Ideal.ieee, -EReal.coe_mul]; norm_num
/-- The coefficient's divisor, as a real number. -/
theorem k2_eq : k2 = ((1000000 : ℝ) : EReal) := by
  unfold k2; simp [Ideal.ofBits, Ideal.ieee, -EReal.coe_mul]; norm_num
/-- Three, as a real number. -/
theorem k3_eq : k3 = ((3 : ℝ) : EReal) := by
  unfold k3; simp [Ideal.ofBits, Ideal.ieee, -EReal.coe_mul]; norm_num
/-- Minus one half, as a real number. -/
theorem mh_eq : mh = ((-(1 / 2) : ℝ) : EReal) := by
  unfold mh; simp [Ideal.ofBits, Ideal.ieee, -EReal.coe_mul, -EReal.coe_neg]; norm_num

/-- The tangent as the reference writes it. -/
def rth (x : EReal) : EReal := Ideal.tanh (c0 * (x + Ideal.div (k1 * (x * x * x)) k2))
/-- The activation as the reference writes it. -/
def rgl (x : EReal) : EReal := x * (hf * (1 + rth x))
/-- The part of the gradient that goes through the tangent. -/
def rgt (d x : EReal) : EReal := c0 * (hf * (x * d) * ((1 + rth x) * (1 - rth x)))
/-- The gradient through the activation as the reference adds it up. -/
def rgd (d x : EReal) : EReal := d * (hf * (1 + rth x)) + rgt d x + k1 * Ideal.div (rgt d x) k2 * (k3 * (x * x))
/-- The mean of the squares with its addition, as the reference divides it. -/
def rms (s : EReal) : EReal := Ideal.div s kN + ep
/-- What the root mean square adds to the gradient, once for each factor of the square. -/
def rq (s D : EReal) : EReal := Ideal.div (D * (mh * Ideal.div (Ideal.rsqrt (rms s)) (rms s))) kN
/-- The gradient through the normalisation as the reference adds it up. -/
def rdv (v d s D : EReal) : EReal := d * Ideal.rsqrt (rms s) + v * rq s D + rq s D * v

/-- The tangents agree, and are real. -/
theorem rth_eq {x : EReal} (h : IsReal x) : rth x = th x := by
  obtain ⟨x, rfl⟩ := h
  obtain ⟨c, hc⟩ := c0_real
  unfold rth th a1
  rw [k1_eq, k2_eq, hc]
  simp only [← EReal.coe_mul, ← EReal.coe_add, Ideal.div_coe (show (1000000 : ℝ) ≠ 0 by norm_num), Ideal.tanh_coe]
  congr 3
  ring
/-- The tangent of a real is real. -/
theorem th_real {x : EReal} (h : IsReal x) : IsReal (th x) := by
  obtain ⟨x, rfl⟩ := h
  obtain ⟨c, hc⟩ := c0_real
  unfold th a1
  rw [hc]
  simp only [← EReal.coe_mul, ← EReal.coe_add, Ideal.tanh_coe]
  exact ⟨_, rfl⟩
/-- The activations agree. -/
theorem rgl_eq {x : EReal} (h : IsReal x) : rgl x = gl x := by
  unfold rgl gl
  rw [rth_eq h]
  exact (mul_left_comm _ _ _).trans (mul_assoc _ _ _).symm
/-- The activation of a real is real. -/
theorem gl_real {x : EReal} (h : IsReal x) : IsReal (gl x) := by
  unfold gl
  rw [hf_eq]
  exact (IsReal.mul ⟨_, rfl⟩ h).mul (IsReal.add ⟨1, rfl⟩ (th_real h))
/-- The gradients through the activation agree. -/
theorem rgd_eq {d x : EReal} (hd : IsReal d) (h : IsReal x) : rgd d x = d * gd x := by
  obtain ⟨t, ht⟩ := th_real h
  obtain ⟨c, hc⟩ := c0_real
  unfold rgd rgt gd
  rw [rth_eq h, ht, hc, hf_eq, k1_eq, k2_eq, k3_eq]
  unfold a3
  obtain ⟨x, rfl⟩ := h
  obtain ⟨d, rfl⟩ := hd
  rw [← EReal.coe_one]
  simp only [← EReal.coe_mul, ← EReal.coe_add, ← EReal.coe_sub, Ideal.div_coe (show (1000000 : ℝ) ≠ 0 by norm_num)]
  congr 1
  ring
/-- The mean of the squares with its addition agrees, and is a positive real. -/
theorem rms_eq {s : EReal} (h : ∃ r : ℝ, 0 ≤ r ∧ s = r) : ∃ r : ℝ, 0 < r ∧ rms s = r ∧ s * iN + ep = r := by
  obtain ⟨s, h0, rfl⟩ := h
  obtain ⟨e, he, hep⟩ := ep_eq
  refine ⟨s * (1 / 1024) + e, by positivity, ?_, ?_⟩
  · unfold rms
    rw [kN_eq, hep]
    simp only [← EReal.coe_mul, ← EReal.coe_add, Ideal.div_coe (show (1024 : ℝ) ≠ 0 by norm_num)]
  · rw [iN_eq, hep]
    simp only [← EReal.coe_mul, ← EReal.coe_add]
/-- The gradients through the normalisation agree. -/
theorem rdv_eq {v d s D : EReal} (hv : IsReal v) (hd : IsReal d) (hs : ∃ r : ℝ, 0 ≤ r ∧ s = r) (hD : IsReal D) :
    rdv v d s D = Ideal.rsqrt (s * iN + ep) * (d - v * Ideal.rsqrt (s * iN + ep) * (D * Ideal.rsqrt (s * iN + ep) * iN)) := by
  obtain ⟨m, hm, h1, h2⟩ := rms_eq hs
  unfold rdv rq
  rw [h1, h2, kN_eq, iN_eq, mh_eq, Ideal.rsqrt_coe, if_neg (not_lt.mpr hm.le), if_neg hm.ne']
  obtain ⟨v, rfl⟩ := hv; obtain ⟨d, rfl⟩ := hd; obtain ⟨D, rfl⟩ := hD
  have hq : m * ((Real.sqrt m)⁻¹ * (Real.sqrt m)⁻¹) = 1 := by
    rw [← mul_inv, Real.mul_self_sqrt hm.le, mul_inv_cancel₀ hm.ne']
  generalize (Real.sqrt m)⁻¹ = r at hq ⊢
  simp only [← EReal.coe_mul, ← EReal.coe_add, ← EReal.coe_sub, Ideal.div_coe (show (1024 : ℝ) ≠ 0 by norm_num), Ideal.div_coe hm.ne']
  congr 1
  have : r * (1 / m) = r * (r * r) := by
    rw [← eq_one_div_of_mul_eq_one_right hq]
  linear_combination (-(1 / 1024) * v * D) * this

end Sgu
-- ==== Proof.SguRaw.lean ====
module

public import proofs.«01_k».proof.Proof.SguModel

/-! The gated unit's gradients over all 2048 positions: sixteen chunks, and the sums over the chunks. -/

@[expose] public section

noncomputable section

namespace Sgu

open Idealize.ShloMosaic Att

/-- A position, by its chunk. -/
def pos (n : Fin 16) (p : Fin 128) : Fin 2048 := ⟨n.val * 128 + p.val, by omega⟩
/-- A channel, by its group. -/
def ch (g : Fin 8) (e : Fin 128) : Fin 1024 := ⟨128 * g.val + e.val, by omega⟩
/-- A channel's column among the first half. -/
def cu (j : Fin 1024) : Fin 7680 := ⟨j.val, by omega⟩
/-- A channel's column among the second half. -/
def cv (j : Fin 1024) : Fin 7680 := ⟨1024 + j.val, by omega⟩

/-- What both programs read. -/
structure Raw where
  z : Fin 2048 → Fin 7680 → EReal
  da : Fin 2048 → Fin 1024 → EReal
  gn : Fin 1024 → EReal
  w : Fin 8 → Fin 128 → Fin 128 → EReal
  b : Fin 8 → Fin 128 → EReal

namespace Raw

variable (R : Raw)

/-- What one chunk reads. -/
def blk (n : Fin 16) : Blk where
  zu p g e := R.z (pos n p) (cu (ch g e))
  zv p g e := R.z (pos n p) (cv (ch g e))
  da p g e := R.da (pos n p) (ch g e)
  gn g e := R.gn (ch g e)
  w := R.w
  b := R.b

/-- The mixing matrices' gradients. -/
def dws (g : Fin 8) (p q : Fin 128) : EReal := ∑ n, (R.blk n).dws g p q
/-- The biases' gradients. -/
def dbs (g : Fin 8) (p : Fin 128) : EReal := ∑ n, (R.blk n).dbs g p
/-- The gain's gradient. -/
def dgn (g : Fin 8) (e : Fin 128) : EReal := ∑ s, ∑ n, (R.blk n).dgn s g e

end Raw

/-- A sum over the channels, by group. -/
theorem sum_ch (f : Fin 1024 → EReal) : ∑ j, f j = ∑ g, ∑ e, f (ch g e) := by
  rw [← (finProdFinEquiv (m := 8) (n := 128)).sum_comp, Fintype.sum_prod_type]
  refine Finset.sum_congr rfl fun g _ => Finset.sum_congr rfl fun q _ => congrArg f (Fin.ext ?_)
  simp only [finProdFinEquiv_apply_val, ch]
  omega

/-- A sum over the positions, by chunk. -/
theorem sum_pos (f : Fin 2048 → EReal) : ∑ r, f r = ∑ n, ∑ p, f (pos n p) := by
  rw [← (finProdFinEquiv (m := 16) (n := 128)).sum_comp, Fintype.sum_prod_type]
  refine Finset.sum_congr rfl fun g _ => Finset.sum_congr rfl fun q _ => congrArg f (Fin.ext ?_)
  simp only [finProdFinEquiv_apply_val, pos]
  omega

/-- A sum over a chunk's positions, every eighth at a time. -/
theorem sum_mod (f : Fin 128 → EReal) : ∑ p, f p = ∑ s : Fin 8, ∑ k : Fin 16, f ⟨k.val * 8 + s.val, by omega⟩ := by
  rw [← (finProdFinEquiv (m := 16) (n := 8)).sum_comp, Fintype.sum_prod_type, Finset.sum_comm]
  refine Finset.sum_congr rfl fun g _ => Finset.sum_congr rfl fun q _ => congrArg f (Fin.ext ?_)
  simp only [finProdFinEquiv_apply_val]
  omega

/-- The gain's gradient, position by position. -/
theorem Raw.dgn_eq (R : Raw) (g : Fin 8) (e : Fin 128) : R.dgn g e = ∑ n, ∑ p, (R.blk n).dvn p g e * (R.blk n).xh p g e := by
  unfold Raw.dgn Blk.dgn
  rw [Finset.sum_comm]
  exact Finset.sum_congr rfl fun n _ => (sum_mod fun p => (R.blk n).dvn p g e * (R.blk n).xh p g e).symm

/-- A channel is its group's. -/
theorem ch_eq (j : Fin 1024) : j = ch ⟨j.val / 128, by omega⟩ ⟨j.val % 128, by omega⟩ := Fin.ext (by dsimp only [ch]; omega)
/-- A position is its chunk's. -/
theorem pos_eq (r : Fin 2048) : r = pos ⟨r.val / 128, by omega⟩ ⟨r.val % 128, by omega⟩ := Fin.ext (by dsimp only [pos]; omega)

end Sgu
-- ==== Proof.SguReal.lean ====
module

public import proofs.«01_k».proof.Proof.SguRaw

/-! Everything a chunk of the gated unit computes is a real number where its inputs are. -/

@[expose] public section

noncomputable section

namespace Sgu

open Idealize.ShloMosaic Att

/-- Every input of a chunk is a real number. -/
structure Blk.Real (B : Blk) : Prop where
  zu : ∀ p g e, IsReal (B.zu p g e)
  zv : ∀ p g e, IsReal (B.zv p g e)
  da : ∀ p g e, IsReal (B.da p g e)
  gn : ∀ g e, IsReal (B.gn g e)
  w : ∀ g p q, IsReal (B.w g p q)
  b : ∀ g p, IsReal (B.b g p)

/-- A sum of nonnegative reals is one. -/
theorem sum_nonneg {n : ℕ} {f : Fin n → EReal} (h : ∀ i, ∃ r : ℝ, 0 ≤ r ∧ f i = r) : ∃ r : ℝ, 0 ≤ r ∧ ∑ i, f i = r := by
  choose r h0 h1 using h
  refine ⟨∑ i, r i, Finset.sum_nonneg fun i _ => h0 i, ?_⟩
  rw [coe_sum]
  exact Finset.sum_congr rfl fun i _ => h1 i

/-- A real factor goes into a sum of reals. -/
theorem sum_mul_real {n : ℕ} {f : Fin n → EReal} {x : EReal} (h : ∀ i, IsReal (f i)) (hx : IsReal x) : (∑ i, f i) * x = ∑ i, f i * x := by
  choose r h1 using h
  obtain ⟨x, rfl⟩ := hx
  simp only [h1, ← EReal.coe_mul, ← coe_sum, Finset.sum_mul]

namespace Blk.Real

variable {B : Blk} (h : B.Real)
include h

/-- The activated gate is real. -/
theorem vv (p : Fin 128) (g : Fin 8) (e : Fin 128) : IsReal (B.vv p g e) := gl_real (h.zv p g e)
/-- The sum of the squares is a nonnegative real. -/
theorem ss (p : Fin 128) : ∃ r : ℝ, 0 ≤ r ∧ B.ss p = r := by
  refine sum_nonneg fun g => sum_nonneg fun e => ?_
  obtain ⟨r, hr⟩ := h.vv p g e
  exact ⟨r * r, mul_self_nonneg r, by rw [hr, EReal.coe_mul]⟩
/-- The reciprocal root is real. -/
theorem rr (p : Fin 128) : IsReal (B.rr p) := by
  obtain ⟨m, hm, -, h2⟩ := rms_eq (h.ss p)
  unfold Blk.rr
  rw [h2, Ideal.rsqrt_coe, if_neg (not_lt.mpr hm.le), if_neg hm.ne']
  exact ⟨_, rfl⟩
/-- The reference's reciprocal root is the kernel's. -/
theorem rr_eq (p : Fin 128) : Ideal.rsqrt (rms (B.ss p)) = B.rr p := by
  obtain ⟨m, hm, h1, h2⟩ := rms_eq (h.ss p)
  unfold Blk.rr
  rw [h1, h2]
/-- The normalised gate is real. -/
theorem xh (p : Fin 128) (g : Fin 8) (e : Fin 128) : IsReal (B.xh p g e) := (h.vv p g e).mul (h.rr p)
/-- The normalised gate with its gain is real. -/
theorem vn (p : Fin 128) (g : Fin 8) (e : Fin 128) : IsReal (B.vn p g e) := (h.xh p g e).mul (h.gn g e)
/-- The gradient of the mixed gate is real. -/
theorem dm (p : Fin 128) (g : Fin 8) (e : Fin 128) : IsReal (B.dm p g e) := (h.da p g e).mul (gl_real (h.zu p g e))
/-- The mixed gate is real. -/
theorem mx (p : Fin 128) (g : Fin 8) (e : Fin 128) : IsReal (B.mx p g e) := (IsReal.sum fun q => (h.w g p q).mul (h.vn q g e)).add (h.b g p)
/-- The gradient of the normalised gate with its gain is real. -/
theorem dvn (p : Fin 128) (g : Fin 8) (e : Fin 128) : IsReal (B.dvn p g e) := IsReal.sum fun q => (h.w g q p).mul (h.dm q g e)
/-- The gradient of the normalised gate is real. -/
theorem dxh (p : Fin 128) (g : Fin 8) (e : Fin 128) : IsReal (B.dxh p g e) := (h.dvn p g e).mul (h.gn g e)
/-- A position's sum of the gate times its gradient, before the normalisation, is real. -/
theorem dot0 (p : Fin 128) : IsReal (∑ g, ∑ e, B.vv p g e * B.dxh p g e) := IsReal.sum fun g => IsReal.sum fun e => (h.vv p g e).mul (h.dxh p g e)
/-- The same sum after the normalisation. -/
theorem dot_eq (p : Fin 128) : (∑ g, ∑ e, B.vv p g e * B.dxh p g e) * B.rr p = B.dot p := by
  rw [sum_mul_real (fun g => IsReal.sum fun e => (h.vv p g e).mul (h.dxh p g e)) (h.rr p)]
  refine Finset.sum_congr rfl fun g _ => ?_
  rw [sum_mul_real (fun e => (h.vv p g e).mul (h.dxh p g e)) (h.rr p)]
  refine Finset.sum_congr rfl fun e _ => ?_
  unfold Blk.xh
  rw [mul_comm (B.vv p g e), mul_assoc]
/-- The reference's gradient through the normalisation is the kernel's. -/
theorem rdv_at (p : Fin 128) (g : Fin 8) (e : Fin 128) :
    rdv (B.vv p g e) (B.dxh p g e) (B.ss p) (∑ g, ∑ e, B.vv p g e * B.dxh p g e) = B.rr p * (B.dxh p g e - B.xh p g e * (B.dot p * iN)) := by
  rw [rdv_eq (h.vv p g e) (h.dxh p g e) (h.ss p) (h.dot0 p), ← h.dot_eq p]
  rfl
/-- It is real. -/
theorem dvr (p : Fin 128) (g : Fin 8) (e : Fin 128) : IsReal (B.rr p * (B.dxh p g e - B.xh p g e * (B.dot p * iN))) := by
  obtain ⟨r, hr⟩ := h.rr p
  obtain ⟨d, hd⟩ := h.dxh p g e
  obtain ⟨x, hx⟩ := h.xh p g e
  obtain ⟨D, hD⟩ := h.dot0 p
  rw [← h.dot_eq p, hr, hd, hx, hD, iN_eq]
  simp only [← EReal.coe_mul, ← EReal.coe_sub]
  exact ⟨_, rfl⟩
/-- The reference's gradient of the first half is the kernel's. -/
theorem dzu_eq (p : Fin 128) (g : Fin 8) (e : Fin 128) : rgd (B.da p g e * B.mx p g e) (B.zu p g e) = B.dzu p g e :=
  rgd_eq ((h.da p g e).mul (h.mx p g e)) (h.zu p g e)
/-- The reference's gradient of the second half is the kernel's. -/
theorem dzv_eq (p : Fin 128) (g : Fin 8) (e : Fin 128) :
    rgd (rdv (B.vv p g e) (B.dxh p g e) (B.ss p) (∑ g, ∑ e, B.vv p g e * B.dxh p g e)) (B.zv p g e) = B.dzv p g e := by
  rw [h.rdv_at p g e]
  exact rgd_eq (h.dvr p g e) (h.zv p g e)

end Blk.Real

/-- Every entry both programs compute with is a real number. -/
structure Raw.Real (R : Raw) : Prop where
  zu : ∀ r j, IsReal (R.z r (cu j))
  zv : ∀ r j, IsReal (R.z r (cv j))
  da : ∀ r j, IsReal (R.da r j)
  gn : ∀ j, IsReal (R.gn j)
  w : ∀ g p q, IsReal (R.w g p q)
  b : ∀ g p, IsReal (R.b g p)

/-- Then so is every chunk's. -/
theorem Raw.Real.blk {R : Raw} (h : R.Real) (n : Fin 16) : (R.blk n).Real :=
  ⟨fun _ _ _ => h.zu _ _, fun _ _ _ => h.zv _ _, fun _ _ _ => h.da _ _, fun _ _ => h.gn _, h.w, h.b⟩

end Sgu
-- ==== Proof.SguRef.lean ====
module

public import proofs.«01_k».proof.Proof.SguReal
public import proofs.«01_k».proof.Proof.Gen.Reference5Ideal.Run
public import Idealize.ShloMosaic.Lib.Pointwise
public import Idealize.ShloMosaic.Lib.IdealHost

/-! The gated unit's reference at an index: its intermediate arrays and its four results, at real arguments. -/

@[expose] public section

set_option maxRecDepth 16384

noncomputable section

namespace Cert.Reference5Ideal.Sgu

open Cert.Reference5Ideal Cert.Reference5Ideal.Gen Cert.Reference5Ideal.Value Idealize.ShloMosaic Idealize.ShloMosaic.TcCoe Idealize.SL.Sem _root_.Sgu Att

/-- A reduction over several axes at an index: the sum over the indices `e` lists, when these are the ones that drop to it. -/
theorem reduce_of {K : Type} [Fintype K] {s t : Shape} {axes : List (Fin s.rank)} (h : s.ReducesTo axes t) (x : s.Idx → EReal)
    (init : EReal) (j : t.Idx) (e : K → s.Idx) (he : Function.Injective e) (hh : ∀ i, h.drop i = j ↔ ∃ k, e k = i) :
    Ideal.hostReduceAdd h x init j = init + ∑ k, x (e k) :=
  congrArg (init + ·) (Finset.sum_filter_eq_sum_of_fiber _ e he hh x)
/-- Two axes of length one, around one that is kept. -/
theorem red02 (x : S1x2048x1.Idx → EReal) (init : EReal) (r : Fin 2048) :
    Ideal.hostReduceAdd reducesTo_S1x2048x1_S2048_d0_2 x init (ix1 r) = init + x (ix3 0 r 0) := by
  refine (reduce_of _ x init (ix1 r) (fun _ : Unit => ix3 0 r 0) (fun _ _ _ => rfl) fun i => ⟨fun e => ⟨(), ?_⟩, ?_⟩).trans ?_
  · have e0 := congrArg Fin.val (congrFun e 0)
    funext a; apply Fin.ext
    match a with
    | ⟨0, _⟩ => have := (i 0).isLt; change _ < 1 at this; change 0 = (i 0).val; omega
    | ⟨1, _⟩ => exact e0.symm
    | ⟨2, _⟩ => have := (i 2).isLt; change _ < 1 at this; change 0 = (i 2).val; omega
  · rintro ⟨k, rfl⟩
    exact funext fun | ⟨0, _⟩ => rfl
  · simp only [Finset.univ_unique, Finset.sum_singleton]
/-- Two axes of length one before one that is kept. -/
theorem red01 (x : S1x1x1024.Idx → EReal) (init : EReal) (r : Fin 1024) :
    Ideal.hostReduceAdd reducesTo_S1x1x1024_S1024_d0_1 x init (ix1 r) = init + x (ix3 0 0 r) := by
  refine (reduce_of _ x init (ix1 r) (fun _ : Unit => ix3 0 0 r) (fun _ _ _ => rfl) fun i => ⟨fun e => ⟨(), ?_⟩, ?_⟩).trans ?_
  · have e0 := congrArg Fin.val (congrFun e 0)
    funext a; apply Fin.ext
    match a with
    | ⟨0, _⟩ => have := (i 0).isLt; change _ < 1 at this; change 0 = (i 0).val; omega
    | ⟨1, _⟩ => have := (i 1).isLt; change _ < 1 at this; change 0 = (i 1).val; omega
    | ⟨2, _⟩ => exact e0.symm
  · rintro ⟨k, rfl⟩
    exact funext fun | ⟨0, _⟩ => rfl
  · simp only [Finset.univ_unique, Finset.sum_singleton]
/-- Three axes of length one around two that are kept. -/
theorem red014 (x : S1x1x128x8x1.Idx → EReal) (init : EReal) (p : Fin 128) (g : Fin 8) :
    Ideal.hostReduceAdd reducesTo_S1x1x128x8x1_S128x8_d0_1_4 x init (ix2 p g) = init + x (ix5 0 0 p g 0) := by
  refine (reduce_of _ x init (ix2 p g) (fun _ : Unit => ix5 0 0 p g 0) (fun _ _ _ => rfl) fun i => ⟨fun e => ⟨(), ?_⟩, ?_⟩).trans ?_
  · have e0 := congrArg Fin.val (congrFun e 0)
    have e1 := congrArg Fin.val (congrFun e 1)
    funext a; apply Fin.ext
    match a with
    | ⟨0, _⟩ => have := (i 0).isLt; change _ < 1 at this; change 0 = (i 0).val; omega
    | ⟨1, _⟩ => have := (i 1).isLt; change _ < 1 at this; change 0 = (i 1).val; omega
    | ⟨2, _⟩ => exact e0.symm
    | ⟨3, _⟩ => exact e1.symm
    | ⟨4, _⟩ => have := (i 4).isLt; change _ < 1 at this; change 0 = (i 4).val; omega
  · rintro ⟨k, rfl⟩
    exact funext fun | ⟨0, _⟩ => rfl | ⟨1, _⟩ => rfl
  · simp only [Finset.univ_unique, Finset.sum_singleton]
/-- The chunks and a group's channels. -/
theorem red14 (x : S1x16x128x8x128.Idx → EReal) (init : EReal) (p : Fin 128) (g : Fin 8) :
    Ideal.hostReduceAdd reducesTo_S1x16x128x8x128_S1x128x8_d1_4 x init (ix3 0 p g) = init + ∑ n, ∑ e, x (ix5 0 n p g e) := by
  refine (reduce_of _ x init (ix3 0 p g) (fun k : Fin 16 × Fin 128 => ix5 0 k.1 p g k.2)
    (fun _ _ e => Prod.ext (congrFun e 1) (congrFun e 4)) fun i => ⟨fun e => ⟨(i 1, i 4), ?_⟩, ?_⟩).trans ?_
  · have e1 := congrArg Fin.val (congrFun e 1)
    have e2 := congrArg Fin.val (congrFun e 2)
    funext a; apply Fin.ext
    match a with
    | ⟨0, _⟩ => have := (i 0).isLt; change _ < 1 at this; change 0 = (i 0).val; omega
    | ⟨1, _⟩ => rfl
    | ⟨2, _⟩ => exact e1.symm
    | ⟨3, _⟩ => exact e2.symm
    | ⟨4, _⟩ => rfl
  · rintro ⟨k, rfl⟩
    exact funext fun | ⟨0, _⟩ => rfl | ⟨1, _⟩ => rfl | ⟨2, _⟩ => rfl
  · simp only [Fintype.sum_prod_type]

/-- A product with its factors swapped. -/
theorem swap (a b : EReal) : a * b = b * a := mul_comm a b
/-- A sum of products, with the factors swapped. -/
theorem sum_swap (f h : Fin 128 → EReal) : ∑ q, f q * h q = ∑ q, h q * f q := Finset.sum_congr rfl fun _ _ => mul_comm _ _
/-- A position's chunk. -/
theorem pos_div (n : Fin 16) (p : Fin 128) (h : (pos n p).val / 128 < 16) : (⟨(pos n p).val / 128, h⟩ : Fin 16) = n := Fin.ext (by dsimp only [pos]; omega)
/-- A position within its chunk. -/
theorem pos_mod (n : Fin 16) (p : Fin 128) (h : (pos n p).val % 128 < 128) : (⟨(pos n p).val % 128, h⟩ : Fin 128) = p := Fin.ext (by dsimp only [pos]; omega)
/-- A channel's group. -/
theorem ch_div (g : Fin 8) (e : Fin 128) (h : (ch g e).val / 128 < 8) : (⟨(ch g e).val / 128, h⟩ : Fin 8) = g := Fin.ext (by dsimp only [ch]; omega)
/-- A channel within its group. -/
theorem ch_mod (g : Fin 8) (e : Fin 128) (h : (ch g e).val % 128 < 128) : (⟨(ch g e).val % 128, h⟩ : Fin 128) = e := Fin.ext (by dsimp only [ch]; omega)
/-- A channel from its group. -/
theorem ch_mk (g : Fin 8) (e : Fin 128) (h : g.val * 128 + e.val < 1024) : (⟨g.val * 128 + e.val, h⟩ : Fin 1024) = ch g e := Fin.ext (by dsimp only [ch]; omega)
/-- A position from its chunk. -/
theorem pos_mk (n : Fin 16) (p : Fin 128) (h : n.val * 128 + p.val < 2048) : (⟨n.val * 128 + p.val, h⟩ : Fin 2048) = pos n p := rfl

variable (V0 : Valuation τ sig (Elt Ideal))

/-- The arguments' entries. -/
def rraw : Raw where
  z r k := V0 (Proc.devRef .tc main_arg0) (ix2 r k)
  da r k := V0 (Proc.devRef .tc main_arg1) (ix2 r k)
  gn k := V0 (Proc.devRef .tc main_arg2) (ix2 0 k)
  w g p q := V0 (Proc.devRef .tc main_arg3) (ix4 0 g p q)
  b g p := V0 (Proc.devRef .tc main_arg4) (ix3 0 g p)

/-- The input's first half. -/
theorem v2_at (r : Fin 2048) (j : Fin 1024) : res_main_v2 V0 (ix3 0 r j) = (rraw V0).z r (cu j) := by
  unfold rraw res_main_v2
  pointwise
  try rfl
/-- The input's second half. -/
theorem v5_at (r : Fin 2048) (j : Fin 1024) : res_main_v5 V0 (ix3 0 r j) = (rraw V0).z r (cv j) := by
  unfold rraw res_main_v5
  pointwise
  try rfl
/-- The first half's tangent. -/
theorem v18_at (r : Fin 2048) (j : Fin 1024) : res_main_v18 V0 (ix3 0 r j) = rth ((rraw V0).z r (cu j)) := by
  rw [← v2_at]
  unfold res_main_v18
  pointwise
  try rfl
/-- The second half's tangent. -/
theorem v41_at (r : Fin 2048) (j : Fin 1024) : res_main_v41 V0 (ix3 0 r j) = rth ((rraw V0).z r (cv j)) := by
  rw [← v5_at]
  unfold res_main_v41
  pointwise
  try rfl
/-- Half of one and the first half's tangent. -/
theorem v27_at (r : Fin 2048) (j : Fin 1024) : res_main_v27 V0 (ix3 0 r j) = hf * (1 + rth ((rraw V0).z r (cu j))) := by
  rw [← v18_at]
  unfold res_main_v27
  pointwise
  try rfl
/-- Half of one and the second half's tangent. -/
theorem v50_at (r : Fin 2048) (j : Fin 1024) : res_main_v50 V0 (ix3 0 r j) = hf * (1 + rth ((rraw V0).z r (cv j))) := by
  rw [← v41_at]
  unfold res_main_v50
  pointwise
  try rfl
/-- The gain. -/
theorem v68_at (j : Fin 1024) : res_main_v68 V0 (ix3 0 0 j) = (rraw V0).gn j := by
  unfold rraw res_main_v68
  pointwise
  try rfl
/-- The matrices. -/
theorem v53_at (g : Fin 8) (p q : Fin 128) : res_main_v53 V0 (ix3 g p q) = (rraw V0).w g p q := by
  unfold rraw res_main_v53
  pointwise
  try rfl
/-- The result's gradient. -/
theorem v82_at (r : Fin 2048) (j : Fin 1024) : res_main_v82 V0 (ix3 0 r j) = (rraw V0).da r j := by
  unfold rraw res_main_v82
  pointwise
  try rfl

section
variable {V0} (hR : (rraw V0).Real)
include hR

/-- The activated first half. -/
theorem v28_at (r : Fin 2048) (j : Fin 1024) : res_main_v28 V0 (ix3 0 r j) = gl ((rraw V0).z r (cu j)) := by
  rw [← rgl_eq (hR.zu r j)]
  unfold res_main_v28
  pointwise
  rw [v2_at, v27_at]
  rfl
/-- The activated gate. -/
theorem v51_at (n : Fin 16) (p : Fin 128) (g : Fin 8) (e : Fin 128) : res_main_v51 V0 (ix3 0 (pos n p) (ch g e)) = ((rraw V0).blk n).vv p g e := by
  refine Eq.trans ?_ (rgl_eq (hR.zv (pos n p) (ch g e)))
  unfold res_main_v51
  pointwise
  rw [v5_at, v50_at]
  rfl
/-- The mean of the squares with its addition. -/
theorem v61_at (n : Fin 16) (p : Fin 128) : res_main_v61 V0 (ix3 0 (pos n p) 0) = rms (((rraw V0).blk n).ss p) := by
  unfold res_main_v61
  pointwise
  unfold rms Blk.ss
  simp only [sum_ch, v51_at hR]
  rfl
/-- The reciprocal root. -/
theorem v62_at (n : Fin 16) (p : Fin 128) : res_main_v62 V0 (ix3 0 (pos n p) 0) = ((rraw V0).blk n).rr p := by
  rw [← (hR.blk n).rr_eq, ← v61_at hR]
  unfold res_main_v62
  pointwise
/-- The normalised gate. -/
theorem v67_at (n : Fin 16) (p : Fin 128) (g : Fin 8) (e : Fin 128) : res_main_v67 V0 (ix3 0 (pos n p) (ch g e)) = ((rraw V0).blk n).xh p g e := by
  unfold res_main_v67
  pointwise
  rw [v51_at hR, v62_at hR]
  rfl
/-- The normalised gate with its gain. -/
theorem v71_at (n : Fin 16) (p : Fin 128) (g : Fin 8) (e : Fin 128) : res_main_v71 V0 (ix5 0 n p g e) = ((rraw V0).blk n).vn p g e := by
  unfold res_main_v71
  pointwise
  rw [pos_mk, ch_mk, v67_at hR, v68_at]
  rfl
/-- The mixed gate. -/
theorem v79_at (n : Fin 16) (p : Fin 128) (g : Fin 8) (e : Fin 128) : res_main_v79 V0 (ix3 0 (pos n p) (ch g e)) = ((rraw V0).blk n).mx p g e := by
  unfold res_main_v79
  pointwise
  simp only [pos_div, pos_mod, ch_div, ch_mod, v71_at hR, v53_at]
  exact congrArg (· + (rraw V0).b g p) (sum_swap _ _)
/-- The gradient of the mixed gate. -/
theorem v85_at (n : Fin 16) (p : Fin 128) (g : Fin 8) (e : Fin 128) : res_main_v85 V0 (ix5 0 n p g e) = ((rraw V0).blk n).dm p g e := by
  unfold res_main_v85
  pointwise
  rw [pos_mk, ch_mk, v28_at hR, v82_at]
  exact swap _ _
/-- The same, transposed. -/
theorem v92_at (n : Fin 16) (p : Fin 128) (g : Fin 8) (e : Fin 128) : res_main_v92 V0 (ix5 g 0 n e p) = ((rraw V0).blk n).dm p g e := by
  rw [← v85_at hR]
  unfold res_main_v92
  pointwise
/-- The gradient of the normalised gate with its gain. -/
theorem v96_at (n : Fin 16) (p : Fin 128) (g : Fin 8) (e : Fin 128) : res_main_v96 V0 (ix3 0 (pos n p) (ch g e)) = ((rraw V0).blk n).dvn p g e := by
  unfold res_main_v96
  pointwise
  simp only [pos_div, pos_mod, ch_div, ch_mod, v92_at hR, v53_at]
  exact sum_swap _ _
/-- The gradient of the normalised gate. -/
theorem v101_at (n : Fin 16) (p : Fin 128) (g : Fin 8) (e : Fin 128) : res_main_v101 V0 (ix3 0 (pos n p) (ch g e)) = ((rraw V0).blk n).dxh p g e := by
  unfold res_main_v101
  pointwise
  rw [v96_at hR, v68_at]
  rfl
/-- What the root mean square adds. -/
theorem v113_at (n : Fin 16) (p : Fin 128) (g : Fin 8) (e : Fin 128) : res_main_v113 V0 (ix3 0 (pos n p) (ch g e)) =
    rq (((rraw V0).blk n).ss p) (∑ g, ∑ e, ((rraw V0).blk n).vv p g e * ((rraw V0).blk n).dxh p g e) := by
  unfold res_main_v113
  pointwise
  rw [red02]
  pointwise
  simp only [sum_ch, v51_at hR, v101_at hR, v61_at hR, v62_at hR, ← (hR.blk n).rr_eq]
  rfl
/-- The gradient of the activated gate. -/
theorem v117_at (n : Fin 16) (p : Fin 128) (g : Fin 8) (e : Fin 128) : res_main_v117 V0 (ix3 0 (pos n p) (ch g e)) =
    rdv (((rraw V0).blk n).vv p g e) (((rraw V0).blk n).dxh p g e) (((rraw V0).blk n).ss p)
      (∑ g, ∑ e, ((rraw V0).blk n).vv p g e * ((rraw V0).blk n).dxh p g e) := by
  unfold res_main_v117
  pointwise
  rw [v51_at hR, v101_at hR, v62_at hR, v113_at hR, ← (hR.blk n).rr_eq]
  rfl
/-- The gradient of the activated first half. -/
theorem v84_at (n : Fin 16) (p : Fin 128) (g : Fin 8) (e : Fin 128) : res_main_v84 V0 (ix3 0 (pos n p) (ch g e)) =
    ((rraw V0).blk n).da p g e * ((rraw V0).blk n).mx p g e := by
  unfold res_main_v84
  pointwise
  rw [v82_at, v79_at hR]
  rfl
/-- The second half's gradient through the tangent. -/
theorem v127_at (r : Fin 2048) (j : Fin 1024) : res_main_v127 V0 (ix3 0 r j) = rgt (res_main_v117 V0 (ix3 0 r j)) ((rraw V0).z r (cv j)) := by
  unfold res_main_v127
  pointwise
  rw [v5_at, v41_at]
  rfl
/-- The first half's gradient through the tangent. -/
theorem v141_at (r : Fin 2048) (j : Fin 1024) : res_main_v141 V0 (ix3 0 r j) = rgt (res_main_v84 V0 (ix3 0 r j)) ((rraw V0).z r (cu j)) := by
  unfold res_main_v141
  pointwise
  rw [v2_at, v18_at]
  rfl

end

end Cert.Reference5Ideal.Sgu
-- ==== Proof.SguPay.lean ====
module

public import proofs.«01_k».proof.Proof.SguModel
public import proofs.«01_k».proof.Proof.Gen.Kernel5Ideal.Skeleton
public import Idealize.ShloMosaic.Lib.Pointwise

/-! What one grid point of the gated unit's kernel computes from the eight groups' slices, word by word, and each word
at an index as the formula of `SguModel.lean`. -/

@[expose] public section

set_option maxRecDepth 16384

noncomputable section

namespace Cert.Kernel5Ideal.Sgu

open Cert.Kernel5Ideal Cert.Kernel5Ideal.Gen Idealize.ShloMosaic Idealize.ShloMosaic.TcCoe _root_.Sgu

/-- The slices that a grid point loads, group by group. -/
structure Sl where
  zu : Fin 8 → Vec Ideal S128x128 .bf16
  zv : Fin 8 → Vec Ideal S128x128 .bf16
  da : Fin 8 → Vec Ideal S128x128 .bf16
  gn : Fin 8 → Vec Ideal S1x128 .f32
  w : Fin 8 → Vec Ideal S1x128x128 .bf16
  wt : Fin 8 → Vec Ideal S1x128x128 .bf16
  b : Fin 8 → Vec Ideal S1x128x1 .f32

namespace Sl

variable (S : Sl)

/-- The slices as the model's chunk. -/
def blk : Blk where
  zu p g e := S.zu g (ix2 p e)
  zv p g e := S.zv g (ix2 p e)
  da p g e := S.da g (ix2 p e)
  gn g e := S.gn g (ix2 0 e)
  w g p q := S.w g (ix3 0 p q)
  b g p := S.b g (ix3 0 p 0)

/-- The activation's derivative over a slice. -/
def gdv (z : Vec Ideal S128x128 .bf16) : FVec Ideal S128x128 .f32 := k0_pay12 (F := Ideal) (k0_pay8 z) (k0_pay9 z) (k0_pay10 z) k0_pay11
/-- The sums of squares, group after group. -/
def sv : FVec Ideal S128x1 .f32 :=
  k0_pay13 (F := Ideal) (k0_pay13 (k0_pay13 (k0_pay13 (k0_pay13 (k0_pay13 (k0_pay13 (k0_pay13 k0_pay3 (k0_pay5 (S.zv 0))) (k0_pay5 (S.zv 1)))
    (k0_pay5 (S.zv 2))) (k0_pay5 (S.zv 3))) (k0_pay5 (S.zv 4))) (k0_pay5 (S.zv 5))) (k0_pay5 (S.zv 6))) (k0_pay5 (S.zv 7))
/-- The reciprocal root mean squares. -/
def rv : FVec Ideal S128x1 .f32 := k0_pay68 (F := Ideal) (mulf S.sv (broadcast S128x1 (Scalar.ofBits .f32 0x3A800000#32))) k0_pay67
/-- The normalised slice. -/
def xv (g : Fin 8) : FVec Ideal S128x128 .f32 := k0_pay92 (F := Ideal) S.rv (k0_pay6 (S.zv g))
/-- The normalised slice with its gain. -/
def nv (g : Fin 8) : FVec Ideal S128x128 .bf16 := k0_pay93 (F := Ideal) S.rv (S.gn g) (k0_pay6 (S.zv g))
/-- The gradient of the mixed slice. -/
def dv (g : Fin 8) : FVec Ideal S128x128 .bf16 := k0_pay97 (F := Ideal) (S.zu g) (S.da g)
/-- The stored gradient of the first half. -/
def uv (g : Fin 8) : FVec Ideal S128x128 .bf16 := k0_pay98 (F := Ideal) (S.nv g) (k0_pay94 (S.zu g)) (k0_pay95 (S.da g)) (S.w g) (S.b g)
/-- The gradient of the normalised slice with its gain. -/
def tv (g : Fin 8) : FVec Ideal S128x128 .f32 := k0_pay99 (F := Ideal) (S.dv g) (S.wt g)
/-- The gradient of the normalised slice. -/
def yv (g : Fin 8) : FVec Ideal S128x128 .f32 := k0_pay90 (F := Ideal) (S.gn g) (S.tv g)
/-- The sums of the normalised slices times their gradients, after one more group. -/
def dd (a : FVec Ideal S128x1 .f32) (g : Fin 8) : FVec Ideal S128x1 .f32 := k0_pay91 (F := Ideal) a (S.gn g) (S.xv g) (S.tv g)
/-- These sums over all groups, times one over the number of channels. -/
def mv : FVec Ideal S128x1 .f32 :=
  mulf (S.dd (S.dd (S.dd (S.dd (S.dd (S.dd (S.dd (S.dd (k0_pay69 (F := Ideal)) 0) 1) 2) 3) 4) 5) 6) 7) (broadcast S128x1 (Scalar.ofBits .f32 0x3A800000#32))
/-- The stored gradient of the second half. -/
def zzv (g : Fin 8) : FVec Ideal S128x128 .bf16 := k0_pay264 (F := Ideal) S.rv S.mv (S.yv g) (k0_pay6 (S.zv g)) (gdv (S.zv g))
/-- The chunk's part of a mixing matrix's gradient. -/
def wv (g : Fin 8) : FVec Ideal S128x128 .f32 := k0_pay80 (F := Ideal) (S.nv g) (S.dv g)
/-- The chunk's part of a bias's gradient. -/
def bv (g : Fin 8) : FVec Ideal S128x1 .f32 := k0_pay81 (F := Ideal) (k0_pay96 (S.zu g) (S.da g))
/-- The chunk's part of the gain's gradient. -/
def gv (g : Fin 8) : FVec Ideal S8x128 .f32 := k0_pay82 (F := Ideal) (S.xv g) (S.dv g) (S.wt g)

/-- The activation at an index. -/
theorem pay5 (z : Vec Ideal S128x128 .bf16) (p e : Fin 128) : k0_pay5 (F := Ideal) z (ix2 p e) = gl (z (ix2 p e)) := by
  unfold k0_pay5
  pointwise [k0_pay4]
  rfl
/-- The stored activation at an index. -/
theorem pay6 (z : Vec Ideal S128x128 .bf16) (p e : Fin 128) : k0_pay6 (F := Ideal) z (ix2 p e) = gl (z (ix2 p e)) := by
  unfold k0_pay6
  pointwise
  exact pay5 z p e
/-- The derivative at an index. -/
theorem gdv_at (z : Vec Ideal S128x128 .bf16) (p e : Fin 128) : gdv z (ix2 p e) = gd (z (ix2 p e)) := by
  unfold gdv
  pointwise [k0_pay12, k0_pay8, k0_pay9, k0_pay10, k0_pay11, k0_pay7, k0_pay4]
  rfl
/-- One more group's squares. -/
theorem pay13 (a : FVec Ideal S128x1 .f32) (v : FVec Ideal S128x128 .f32) (p : Fin 128) :
    k0_pay13 (F := Ideal) a v (ix2 p 0) = a (ix2 p 0) + ∑ e : Fin 128, v (ix2 p e) * v (ix2 p e) := by
  unfold k0_pay13
  pointwise
/-- The sums of squares at a position. -/
theorem sv_at (p : Fin 128) : S.sv (ix2 p 0) = S.blk.ss p := by
  unfold sv Blk.ss
  simp only [pay13, pay5]
  rw [Fin.sum_univ_eight, show k0_pay3 (F := Ideal) (ix2 p 0) = 0 by unfold k0_pay3; pointwise, zero_add]
  rfl
/-- The reciprocal root mean square at a position. -/
theorem rv_at (p : Fin 128) : S.rv (ix2 p 0) = S.blk.rr p := by
  unfold rv Blk.rr
  pointwise [k0_pay68, k0_pay67]
  rw [sv_at]
  rfl
/-- The normalised slice at an index. -/
theorem xv_at (g : Fin 8) (p e : Fin 128) : S.xv g (ix2 p e) = S.blk.xh p g e := by
  unfold xv Blk.xh
  pointwise [k0_pay92]
  rw [pay6, rv_at]
  rfl
/-- The normalised slice with its gain at an index. -/
theorem nv_at (g : Fin 8) (p e : Fin 128) : S.nv g (ix2 p e) = S.blk.vn p g e := by
  unfold nv Blk.vn
  pointwise [k0_pay93]
  exact congrArg (· * _) (S.xv_at g p e)
/-- The gradient of the mixed slice before its cast at an index. -/
theorem pay96 (g : Fin 8) (p e : Fin 128) : k0_pay96 (F := Ideal) (S.zu g) (S.da g) (ix2 p e) = S.blk.dm p g e := by
  pointwise [k0_pay96, k0_pay95, k0_pay94]
  rfl
/-- The gradient of the mixed slice at an index. -/
theorem dv_at (g : Fin 8) (p e : Fin 128) : S.dv g (ix2 p e) = S.blk.dm p g e := by
  unfold dv k0_pay97
  pointwise
  exact S.pay96 g p e
/-- The stored gradient of the first half at an index. -/
theorem uv_at (g : Fin 8) (p e : Fin 128) : S.uv g (ix2 p e) = S.blk.dzu p g e := by
  unfold uv
  pointwise [k0_pay98, k0_pay95, k0_pay94]
  simp only [nv_at]
  rfl

variable (hw : ∀ g p q, S.wt g (ix3 0 p q) = S.w g (ix3 0 q p))
include hw

/-- The gradient of the normalised slice with its gain at an index. -/
theorem tv_at (g : Fin 8) (p e : Fin 128) : S.tv g (ix2 p e) = S.blk.dvn p g e := by
  unfold tv
  pointwise [k0_pay99]
  simp only [dv_at, hw]
  rfl
/-- The gradient of the normalised slice at an index. -/
theorem yv_at (g : Fin 8) (p e : Fin 128) : S.yv g (ix2 p e) = S.blk.dxh p g e := by
  unfold yv
  pointwise [k0_pay90, k0_pay89]
  rw [S.tv_at hw]
  rfl
/-- One more group's products. -/
theorem dd_at (a : FVec Ideal S128x1 .f32) (g : Fin 8) (p : Fin 128) :
    S.dd a g (ix2 p 0) = a (ix2 p 0) + ∑ e : Fin 128, S.blk.dxh p g e * S.blk.xh p g e := by
  unfold dd
  pointwise [k0_pay91, k0_pay89]
  simp only [S.tv_at hw, xv_at]
  rfl
/-- The mean of these products at a position. -/
theorem mv_at (p : Fin 128) : S.mv (ix2 p 0) = S.blk.dot p * iN := by
  unfold mv Blk.dot
  pointwise
  simp only [S.dd_at hw]
  rw [Fin.sum_univ_eight, show k0_pay69 (F := Ideal) (ix2 p 0) = 0 by unfold k0_pay69; pointwise, zero_add]
  rfl
/-- The stored gradient of the second half at an index. -/
theorem zzv_at (g : Fin 8) (p e : Fin 128) : S.zzv g (ix2 p e) = S.blk.dzv p g e := by
  unfold zzv Blk.dzv
  pointwise [k0_pay264]
  rw [S.yv_at hw, S.mv_at hw, rv_at, pay6, gdv_at]
  rfl
/-- The chunk's part of the gain's gradient at an index. -/
theorem gv_at (g : Fin 8) (s : Fin 8) (e : Fin 128) : S.gv g (ix2 s e) = S.blk.dgn s g e := by
  unfold gv Blk.dgn
  pointwise [k0_pay82]
  refine Finset.sum_congr rfl fun k _ => ?_
  exact congrArg₂ (· * ·) (S.tv_at hw g _ e) (S.xv_at g _ e)

omit hw

/-- The chunk's part of a mixing matrix's gradient at an index. -/
theorem wv_at (g : Fin 8) (p q : Fin 128) : S.wv g (ix2 p q) = S.blk.dws g p q := by
  unfold wv Blk.dws
  pointwise [k0_pay80]
  simp only [nv_at, dv_at]
/-- The chunk's part of a bias's gradient at an index. -/
theorem bv_at (g : Fin 8) (p : Fin 128) : S.bv g (ix2 p 0) = S.blk.dbs g p := by
  unfold bv Blk.dbs
  pointwise [k0_pay81]
  simp only [pay96]

/-- What is stored of the matrix's part at the first point. -/
theorem pay83 (v : FVec Ideal S128x128 .f32) (p q : Fin 128) : k0_pay83 (F := Ideal) v (ix3 0 p q) = v (ix2 p q) := by
  pointwise [k0_pay83]
/-- What is stored of the matrix's part at a later point. -/
theorem pay86 (v : FVec Ideal S128x128 .f32) (o : Vec Ideal S1x128x128 .f32) (p q : Fin 128) :
    k0_pay86 (F := Ideal) v o (ix3 0 p q) = o (ix3 0 p q) + v (ix2 p q) := by
  pointwise [k0_pay86]
/-- What is stored of the bias's part at the first point. -/
theorem pay84 (v : FVec Ideal S128x1 .f32) (p : Fin 128) : k0_pay84 (F := Ideal) v (ix3 0 p 0) = v (ix2 p 0) := by
  pointwise [k0_pay84]
/-- What is stored of the bias's part at a later point. -/
theorem pay87 (v : FVec Ideal S128x1 .f32) (o : Vec Ideal S1x128x1 .f32) (p : Fin 128) :
    k0_pay87 (F := Ideal) v o (ix3 0 p 0) = o (ix3 0 p 0) + v (ix2 p 0) := by
  pointwise [k0_pay87]
/-- What is stored of the gain's part at the first point. -/
theorem pay85 (v : FVec Ideal S8x128 .f32) (s : Fin 8) (e : Fin 128) : k0_pay85 (F := Ideal) v (ix2 s e) = v (ix2 s e) := by
  pointwise [k0_pay85]
/-- What is stored of the gain's part at a later point. -/
theorem pay88 (v o : FVec Ideal S8x128 .f32) (s : Fin 8) (e : Fin 128) : k0_pay88 (F := Ideal) v o (ix2 s e) = o (ix2 s e) + v (ix2 s e) := by
  pointwise [k0_pay88]
/-- The gain's gradient from the eight rows. -/
theorem pay2 (v : FVec Ideal S8x1024 .f32) (j : Fin 1024) : k0_pay2 (F := Ideal) v (ix2 0 j) = ∑ s : Fin 8, v (ix2 s j) := by
  pointwise [k0_pay2]

end Sl

end Cert.Kernel5Ideal.Sgu
-- ==== Proof.SguPt.lean ====
module

public import proofs.«01_k».proof.Proof.SguPay
public import proofs.«01_k».proof.Proof.Gen.Kernel5Ideal.Value
public import Idealize.ShloMosaic.Lib.Pipeline.ReadBack
public import Idealize.ShloMosaic.Lib.Pipeline.ValueKit.Acc
public import Idealize.ShloMosaic.Lib.Pipeline.ValueKit.Tiles

/-! What one grid point of the gated unit's kernel leaves in its blocks: the pieces it stores, and each block at an
index. -/

@[expose] public section

set_option maxRecDepth 16384

noncomputable section

namespace Cert.Kernel5Ideal.Sgu

open Cert.Kernel5Ideal Cert.Kernel5Ideal.Gen Cert.Kernel5Ideal.Value Idealize.ShloMosaic Idealize.ShloMosaic.TcCoe Idealize.SL.Sem _root_.Sgu

/-- A group's columns of a block of positions. -/
abbrev rx (g : Fin 8) : Rect S128x1024 := Rect.unit ![0, 128 * g.val] ![128, 128] (by revert g; decide)
/-- A group's columns of a row. -/
abbrev rg (g : Fin 8) : Rect S1x1024 := Rect.unit ![0, 128 * g.val] ![1, 128] (by revert g; decide)
/-- A group's columns of eight rows. -/
abbrev ra (g : Fin 8) : Rect S8x1024 := Rect.unit ![0, 128 * g.val] ![8, 128] (by revert g; decide)
/-- A group's matrix. -/
abbrev rw (g : Fin 8) : Rect S8x128x128 := Rect.unit ![g.val, 0, 0] ![1, 128, 128] (by revert g; decide)
/-- A group's bias. -/
abbrev rb (g : Fin 8) : Rect S8x128x1 := Rect.unit ![g.val, 0, 0] ![1, 128, 1] (by revert g; decide)
/-- A group's columns of the first half of the result. -/
abbrev ru (g : Fin 8) : Rect S128x2048 := Rect.unit ![0, 128 * g.val] ![128, 128] (by revert g; decide)
/-- A group's columns of the second half of the result. -/
abbrev rv (g : Fin 8) : Rect S128x2048 := Rect.unit ![0, 1024 + 128 * g.val] ![128, 128] (by revert g; decide)

/-- The slices of a point's blocks. -/
def slices (x0 x1 x2 : Vec Ideal S128x1024 .bf16) (x3 : Vec Ideal S1x1024 .f32) (x4 x5 : Vec Ideal S8x128x128 .bf16) (x6 : Vec Ideal S8x128x1 .f32) : Sl where
  zu g := View.ld x0 (rx g)
  zv g := View.ld x1 (rx g)
  da g := View.ld x2 (rx g)
  gn g := View.ld x3 (rg g)
  w g := View.ld x4 (rw g)
  wt g := View.ld x5 (rw g)
  b g := View.ld x6 (rb g)

/-- The pieces of the block of the result. -/
def l7 (f h : (g : Fin 8) → FVec Ideal S128x128 .bf16) : List (View.Piece (Elt Ideal) S128x2048 .bf16) :=
  [⟨rv 7, h 7⟩, ⟨rv 6, h 6⟩, ⟨rv 5, h 5⟩, ⟨rv 4, h 4⟩, ⟨rv 3, h 3⟩, ⟨rv 2, h 2⟩, ⟨rv 1, h 1⟩, ⟨rv 0, h 0⟩,
    ⟨ru 7, f 7⟩, ⟨ru 6, f 6⟩, ⟨ru 5, f 5⟩, ⟨ru 4, f 4⟩, ⟨ru 3, f 3⟩, ⟨ru 2, f 2⟩, ⟨ru 1, f 1⟩, ⟨ru 0, f 0⟩]
/-- The pieces of the matrices' gradients. -/
def l8 (f : (g : Fin 8) → Vec Ideal S1x128x128 .f32) : List (View.Piece (Elt Ideal) S8x128x128 .f32) :=
  [⟨rw 7, f 7⟩, ⟨rw 6, f 6⟩, ⟨rw 5, f 5⟩, ⟨rw 4, f 4⟩, ⟨rw 3, f 3⟩, ⟨rw 2, f 2⟩, ⟨rw 1, f 1⟩, ⟨rw 0, f 0⟩]
/-- The pieces of the biases' gradients. -/
def l9 (f : (g : Fin 8) → Vec Ideal S1x128x1 .f32) : List (View.Piece (Elt Ideal) S8x128x1 .f32) :=
  [⟨rb 7, f 7⟩, ⟨rb 6, f 6⟩, ⟨rb 5, f 5⟩, ⟨rb 4, f 4⟩, ⟨rb 3, f 3⟩, ⟨rb 2, f 2⟩, ⟨rb 1, f 1⟩, ⟨rb 0, f 0⟩]
/-- The pieces of the accumulated gain's gradient. -/
def la (f : (g : Fin 8) → Vec Ideal S8x128 .f32) : List (View.Piece (Elt Ideal) S8x1024 .f32) :=
  [⟨ra 7, f 7⟩, ⟨ra 6, f 6⟩, ⟨ra 5, f 5⟩, ⟨ra 4, f 4⟩, ⟨ra 3, f 3⟩, ⟨ra 2, f 2⟩, ⟨ra 1, f 1⟩, ⟨ra 0, f 0⟩]

variable (m : (ℓ : Loc nD τ sig) → Buf (Elt Ideal) ℓ) (c : Dev nD) (t : Fin cfg0.N)

/-- The slices of a grid point. -/
abbrev st : Sl := slices (X0_0 m c t) (X0_1 m c t) (iblk m c 2 t) (iblk m c 3 t) (iblk m c 4 t) (iblk m c 5 t) (iblk m c 6 t)

/-- A load of a whole buffer after stores reads what they left. -/
theorem read_back {κ : Kind} {sp : Space} {Sh : Shape} {e : EltTy} (v : View sig κ sp Sh e) (L : List (View.Piece (Elt Ideal) Sh e)) {off : Fin Sh.rank → ℕ}
    (inb : ∀ a, off a + Sh.size a ≤ Sh.size a) (h : ∀ a, off a = 0) :
    v.readCov L (Rect.unit off Sh.size inb).toLoadRect = View.canon L :=
  (View.readCov_eq_canon' v L _).trans (View.ld_unit_lit inb (View.canon L) h)

/-- What the point before left. -/
abbrev prev : Vec Ideal S128x2048 .bf16 × Vec Ideal S8x128x128 .f32 × Vec Ideal S8x128x1 .f32 × Vec Ideal S1x1024 .f32 × Vec Ideal S8x1024 .f32 :=
  outsAt0 m c (t.val - 1) (Nat.lt_of_le_of_lt (Nat.sub_le _ _) t.isLt)

/-- The matrices' pieces at the first point. -/
def w0 (g : Fin 8) : Vec Ideal S1x128x128 .f32 := k0_pay83 (F := Ideal) ((st m c t).wv g)
/-- The matrices' pieces at a later point. -/
def w1 (g : Fin 8) : Vec Ideal S1x128x128 .f32 := k0_pay86 (F := Ideal) ((st m c t).wv g) (View.ld (prev m c t).2.1 (rw g))
/-- The biases' pieces at the first point. -/
def b0 (g : Fin 8) : Vec Ideal S1x128x1 .f32 := k0_pay84 (F := Ideal) ((st m c t).bv g)
/-- The biases' pieces at a later point. -/
def b1 (g : Fin 8) : Vec Ideal S1x128x1 .f32 := k0_pay87 (F := Ideal) ((st m c t).bv g) (View.ld (prev m c t).2.2.1 (rb g))
/-- The gain's pieces at the first point. -/
def g0 (g : Fin 8) : Vec Ideal S8x128 .f32 := k0_pay85 (F := Ideal) ((st m c t).gv g)
/-- The gain's pieces at a later point. -/
def g1 (g : Fin 8) : Vec Ideal S8x128 .f32 := k0_pay88 (F := Ideal) ((st m c t).gv g) (View.ld (prev m c t).2.2.2.2 (ra g))

/-- The result's block at the first point. -/
theorem o7_A (h : t.val % 16 = 0) (h' : ¬ 1 ≤ t.val) (hl : ¬ t.val % 16 = 15) :
    (outsAt0 m c t.val t.isLt).1 = View.canon (l7 (st m c t).uv (st m c t).zzv) := by
  rw [outsAt0_A m c t h h' h h' h h' h h' h h' h h' h h' h h' hl]
  frame_out
  try simp (discharger := decide) only [↓ View.readCov_skip, View.readCov_cons_toLoadRect, read_unread_whole]
  sl_kernel_rfl

/-- The result's block at a middle point. -/
theorem o7_B (h : ¬ t.val % 16 = 0) (h' : 1 ≤ t.val) (hl : ¬ t.val % 16 = 15) :
    (outsAt0 m c t.val t.isLt).1 = View.canon (l7 (st m c t).uv (st m c t).zzv) := by
  rw [outsAt0_B m c t h h' h h' h h' h h' h h' h h' h h' h h' hl]
  frame_out
  try simp (discharger := decide) only [↓ View.readCov_skip, View.readCov_cons_toLoadRect, read_unread_whole]
  sl_kernel_rfl

/-- The result's block at the last point. -/
theorem o7_C (h : ¬ t.val % 16 = 0) (h' : 1 ≤ t.val) (hl : t.val % 16 = 15) :
    (outsAt0 m c t.val t.isLt).1 = View.canon (l7 (st m c t).uv (st m c t).zzv) := by
  rw [outsAt0_C m c t h h' h h' h h' h h' h h' h h' h h' h h' hl]
  frame_out
  try simp (discharger := decide) only [↓ View.readCov_skip, View.readCov_cons_toLoadRect, read_unread_whole]
  sl_kernel_rfl

/-- The matrices' gradients at the first point. -/
theorem o8_A (h : t.val % 16 = 0) (h' : ¬ 1 ≤ t.val) (hl : ¬ t.val % 16 = 15) :
    (outsAt0 m c t.val t.isLt).2.1 = View.canon (l8 (w0 m c t)) := by
  rw [outsAt0_A m c t h h' h h' h h' h h' h h' h h' h h' h h' hl]
  frame_out
  try simp (discharger := decide) only [↓ View.readCov_skip, View.readCov_cons_toLoadRect, read_unread_whole]
  sl_kernel_rfl

/-- The matrices' gradients at a middle point. -/
theorem o8_B (h : ¬ t.val % 16 = 0) (h' : 1 ≤ t.val) (hl : ¬ t.val % 16 = 15) :
    (outsAt0 m c t.val t.isLt).2.1 = View.canon (l8 (w1 m c t)) := by
  rw [outsAt0_B m c t h h' h h' h h' h h' h h' h h' h h' h h' hl]
  frame_out
  try simp (discharger := decide) only [↓ View.readCov_skip, View.readCov_cons_toLoadRect, read_unread_whole]
  sl_kernel_rfl

/-- The matrices' gradients at the last point. -/
theorem o8_C (h : ¬ t.val % 16 = 0) (h' : 1 ≤ t.val) (hl : t.val % 16 = 15) :
    (outsAt0 m c t.val t.isLt).2.1 = View.canon (l8 (w1 m c t)) := by
  rw [outsAt0_C m c t h h' h h' h h' h h' h h' h h' h h' h h' hl]
  frame_out
  try simp (discharger := decide) only [↓ View.readCov_skip, View.readCov_cons_toLoadRect, read_unread_whole]
  sl_kernel_rfl

/-- The biases' gradients at the first point. -/
theorem o9_A (h : t.val % 16 = 0) (h' : ¬ 1 ≤ t.val) (hl : ¬ t.val % 16 = 15) :
    (outsAt0 m c t.val t.isLt).2.2.1 = View.canon (l9 (b0 m c t)) := by
  rw [outsAt0_A m c t h h' h h' h h' h h' h h' h h' h h' h h' hl]
  frame_out
  try simp (discharger := decide) only [↓ View.readCov_skip, View.readCov_cons_toLoadRect, read_unread_whole]
  sl_kernel_rfl

/-- The biases' gradients at a middle point. -/
theorem o9_B (h : ¬ t.val % 16 = 0) (h' : 1 ≤ t.val) (hl : ¬ t.val % 16 = 15) :
    (outsAt0 m c t.val t.isLt).2.2.1 = View.canon (l9 (b1 m c t)) := by
  rw [outsAt0_B m c t h h' h h' h h' h h' h h' h h' h h' h h' hl]
  frame_out
  try simp (discharger := decide) only [↓ View.readCov_skip, View.readCov_cons_toLoadRect, read_unread_whole]
  sl_kernel_rfl

/-- The biases' gradients at the last point. -/
theorem o9_C (h : ¬ t.val % 16 = 0) (h' : 1 ≤ t.val) (hl : t.val % 16 = 15) :
    (outsAt0 m c t.val t.isLt).2.2.1 = View.canon (l9 (b1 m c t)) := by
  rw [outsAt0_C m c t h h' h h' h h' h h' h h' h h' h h' h h' hl]
  frame_out
  try simp (discharger := decide) only [↓ View.readCov_skip, View.readCov_cons_toLoadRect, read_unread_whole]
  sl_kernel_rfl

/-- The gain's accumulated gradient at the first point. -/
theorem oa_A (h : t.val % 16 = 0) (h' : ¬ 1 ≤ t.val) (hl : ¬ t.val % 16 = 15) :
    (outsAt0 m c t.val t.isLt).2.2.2.2 = View.canon (la (g0 m c t)) := by
  rw [outsAt0_A m c t h h' h h' h h' h h' h h' h h' h h' h h' hl]
  frame_out
  try simp (discharger := decide) only [↓ View.readCov_skip, View.readCov_cons_toLoadRect, read_unread_whole]
  sl_kernel_rfl

/-- The gain's accumulated gradient at a middle point. -/
theorem oa_B (h : ¬ t.val % 16 = 0) (h' : 1 ≤ t.val) (hl : ¬ t.val % 16 = 15) :
    (outsAt0 m c t.val t.isLt).2.2.2.2 = View.canon (la (g1 m c t)) := by
  rw [outsAt0_B m c t h h' h h' h h' h h' h h' h h' h h' h h' hl]
  frame_out
  try simp (discharger := decide) only [↓ View.readCov_skip, View.readCov_cons_toLoadRect, read_unread_whole]
  sl_kernel_rfl

/-- The gain's accumulated gradient at the last point. -/
theorem oa_C (h : ¬ t.val % 16 = 0) (h' : 1 ≤ t.val) (hl : t.val % 16 = 15) :
    (outsAt0 m c t.val t.isLt).2.2.2.2 = View.canon (la (g1 m c t)) := by
  rw [outsAt0_C m c t h h' h h' h h' h h' h h' h h' h h' h h' hl]
  frame_out
  try simp (discharger := decide) only [↓ View.readCov_skip, View.readCov_cons_toLoadRect, read_unread_whole]
  sl_kernel_rfl

/-- The gain's gradient at the last point. -/
theorem o10_C (h : ¬ t.val % 16 = 0) (h' : 1 ≤ t.val) (hl : t.val % 16 = 15) :
    (outsAt0 m c t.val t.isLt).2.2.2.1 = k0_pay2 (F := Ideal) (View.canon (la (g1 m c t))) := by
  rw [outsAt0_C m c t h h' h h' h h' h h' h h' h h' h h' h h' hl]
  frame_out
  refine congrArg (k0_pay2 (F := Ideal)) ((read_back _ _ _ (by decide)).trans ?_)
  try simp (discharger := decide) only [↓ View.readCov_skip, View.readCov_cons_toLoadRect, read_unread_whole]
  sl_kernel_rfl

end Cert.Kernel5Ideal.Sgu
-- ==== Proof.SguBlk.lean ====
module

public import proofs.«01_k».proof.Proof.SguPt
public import proofs.«01_k».proof.Proof.SguRaw
public import Idealize.ShloMosaic.Lib.Claim
public import Idealize.ShloMosaic.Lib.StableHlo.ReadAt
public import Idealize.ShloMosaic.Lib.StableHlo.RunRead
public import Idealize.ShloMosaic.Lib.Pipeline.ValueKit

/-! The gated unit's blocks at an index: what a grid point reads, and what its stores leave. -/

@[expose] public section

set_option maxRecDepth 16384

noncomputable section

namespace Cert.Kernel5Ideal.Sgu

open Cert.Kernel5Ideal Cert.Kernel5Ideal.Gen Cert.Kernel5Ideal.Value Idealize.ShloMosaic Idealize.ShloMosaic.TcCoe Idealize.SL.Sem _root_.Sgu

/-- Pieces stored one for each group of a list, over what was stored before. -/
def pcs {Sh : Shape} {e : EltTy} (r : Fin 8 → Rect Sh) (f : (g : Fin 8) → (r g).shape.Idx → Elt Ideal e) (L : List (View.Piece (Elt Ideal) Sh e)) :
    List (Fin 8) → List (View.Piece (Elt Ideal) Sh e)
  | [] => L
  | g :: l => ⟨r g, f g⟩ :: pcs r f L l

/-- An index in none of the pieces. -/
theorem pcs_skip {Sh : Shape} {e : EltTy} (r : Fin 8 → Rect Sh) (f : (g : Fin 8) → (r g).shape.Idx → Elt Ideal e) (L : List (View.Piece (Elt Ideal) Sh e))
    (i : Sh.Idx) (h : ∀ g, i ∉ (r g).set) : ∀ l, View.canon (pcs r f L l) i = View.canon L i
  | [] => rfl
  | g :: l => (View.canon_cons_of_not_mem ⟨r g, f g⟩ (pcs r f L l) (h g)).trans (pcs_skip r f L i h l)

/-- An index in the piece of a group of the list. -/
theorem pcs_at {Sh : Shape} {e : EltTy} (r : Fin 8 → Rect Sh) (f : (g : Fin 8) → (r g).shape.Idx → Elt Ideal e) (L : List (View.Piece (Elt Ideal) Sh e))
    (i : Sh.Idx) (g : Fin 8) (j : (r g).shape.Idx) (hi : i = (r g).emb j) (h : ∀ k, k ≠ g → i ∉ (r k).set) :
    ∀ l, g ∈ l → View.canon (pcs r f L l) i = f g j
  | k :: l, hl => by
    by_cases hk : k = g
    · subst hk
      rw [hi]
      exact View.canon_cons_emb (r k) (f k) (pcs r f L l) j
    · exact (View.canon_cons_of_not_mem ⟨r k, f k⟩ (pcs r f L l) (h k hk)).trans
        (pcs_at r f L i g j hi h l ((List.mem_cons.mp hl).resolve_left fun e => hk e.symm))

/-- The order in which a point's groups are stored, the last first. -/
def all8 : List (Fin 8) := [7, 6, 5, 4, 3, 2, 1, 0]
/-- Every group is stored. -/
theorem mem8 (g : Fin 8) : g ∈ all8 := by revert g; decide

/-- The first half's column in the result's block. -/
def ku (g : Fin 8) (e : Fin 128) : Fin 2048 := ⟨128 * g.val + e.val, by omega⟩
/-- The second half's column in the result's block. -/
def kv (g : Fin 8) (e : Fin 128) : Fin 2048 := ⟨1024 + 128 * g.val + e.val, by omega⟩

/-- The stored matrices at an index. -/
theorem l8_at (f : (g : Fin 8) → Vec Ideal S1x128x128 .f32) (g : Fin 8) (p q : Fin 128) : View.canon (l8 f) (ix3 g p q) = f g (ix3 0 p q) := by
  refine pcs_at (e := .f32) rw f [] (ix3 g p q) g (ix3 0 p q) ?_ (fun k hk => ?_) all8 (mem8 g)
  · funext a; apply Fin.ext
    match a with
    | ⟨0, _⟩ => show g.val = g.val + 1 * 0; omega
    | ⟨1, _⟩ => show p.val = 0 + 1 * p.val; omega
    | ⟨2, _⟩ => show q.val = 0 + 1 * q.val; omega
  · rw [Rect.mem_set_unit]
    intro hh
    have h : k.val ≤ g.val ∧ g.val < k.val + 1 := hh 0
    exact hk (Fin.ext (by omega))

/-- The stored biases at an index. -/
theorem l9_at (f : (g : Fin 8) → Vec Ideal S1x128x1 .f32) (g : Fin 8) (p : Fin 128) : View.canon (l9 f) (ix3 g p 0) = f g (ix3 0 p 0) := by
  refine pcs_at (e := .f32) rb f [] (ix3 g p 0) g (ix3 0 p 0) ?_ (fun k hk => ?_) all8 (mem8 g)
  · funext a; apply Fin.ext
    match a with
    | ⟨0, _⟩ => show g.val = g.val + 1 * 0; omega
    | ⟨1, _⟩ => show p.val = 0 + 1 * p.val; omega
    | ⟨2, _⟩ => rfl
  · rw [Rect.mem_set_unit]
    intro hh
    have h : k.val ≤ g.val ∧ g.val < k.val + 1 := hh 0
    exact hk (Fin.ext (by omega))

/-- The stored rows of the gain at an index. -/
theorem la_at (f : (g : Fin 8) → Vec Ideal S8x128 .f32) (s g : Fin 8) (e : Fin 128) : View.canon (la f) (ix2 s (ch g e)) = f g (ix2 s e) := by
  refine pcs_at (e := .f32) ra f [] (ix2 s (ch g e)) g (ix2 s e) ?_ (fun k hk => ?_) all8 (mem8 g)
  · funext a; apply Fin.ext
    match a with
    | ⟨0, _⟩ => show s.val = 0 + 1 * s.val; omega
    | ⟨1, _⟩ => show 128 * g.val + e.val = 128 * g.val + 1 * e.val; omega
  · rw [Rect.mem_set_unit]
    intro hh
    have h : 128 * k.val ≤ 128 * g.val + e.val ∧ 128 * g.val + e.val < 128 * k.val + 128 := hh 1
    exact hk (Fin.ext (by omega))

/-- The result's block at a column of its second half. -/
theorem l7_v (f h : (g : Fin 8) → FVec Ideal S128x128 .bf16) (p : Fin 128) (g : Fin 8) (e : Fin 128) :
    View.canon (l7 f h) (ix2 p (kv g e)) = h g (ix2 p e) := by
  refine pcs_at (e := .bf16) rv h (pcs (e := .bf16) ru f [] all8) (ix2 p (kv g e)) g (ix2 p e) ?_ (fun k hk => ?_) all8 (mem8 g)
  · funext a; apply Fin.ext
    match a with
    | ⟨0, _⟩ => show p.val = 0 + 1 * p.val; omega
    | ⟨1, _⟩ => show 1024 + 128 * g.val + e.val = 1024 + 128 * g.val + 1 * e.val; omega
  · rw [Rect.mem_set_unit]
    intro hh
    have h : 1024 + 128 * k.val ≤ 1024 + 128 * g.val + e.val ∧ 1024 + 128 * g.val + e.val < 1024 + 128 * k.val + 128 := hh 1
    exact hk (Fin.ext (by omega))

/-- The result's block at a column of its first half. -/
theorem l7_u (f h : (g : Fin 8) → FVec Ideal S128x128 .bf16) (p : Fin 128) (g : Fin 8) (e : Fin 128) :
    View.canon (l7 f h) (ix2 p (ku g e)) = f g (ix2 p e) := by
  refine (pcs_skip (e := .bf16) rv h (pcs (e := .bf16) ru f [] all8) (ix2 p (ku g e)) (fun k => ?_) all8).trans
    (pcs_at (e := .bf16) ru f [] (ix2 p (ku g e)) g (ix2 p e) ?_ (fun k hk => ?_) all8 (mem8 g))
  · rw [Rect.mem_set_unit]
    intro hh
    have h : 1024 + 128 * k.val ≤ 128 * g.val + e.val ∧ 128 * g.val + e.val < 1024 + 128 * k.val + 128 := hh 1
    omega
  · funext a; apply Fin.ext
    match a with
    | ⟨0, _⟩ => show p.val = 0 + 1 * p.val; omega
    | ⟨1, _⟩ => show 128 * g.val + e.val = 128 * g.val + 1 * e.val; omega
  · rw [Rect.mem_set_unit]
    intro hh
    have h : 128 * k.val ≤ 128 * g.val + e.val ∧ 128 * g.val + e.val < 128 * k.val + 128 := hh 1
    exact hk (Fin.ext (by omega))

variable (m : (ℓ : Loc nD τ sig) → Buf (Elt Ideal) ℓ) (c : Dev nD) (t : Fin cfg0.N)

/-- The arguments' entries. -/
def kraw : Raw where
  z r k := m ((c : Thread nD τ).loc main_arg0) (ix2 r k)
  da r k := m ((c : Thread nD τ).loc main_arg1) (ix2 r k)
  gn k := m ((c : Thread nD τ).loc main_arg2) (ix2 0 k)
  w g p q := m ((c : Thread nD τ).loc main_arg3) (ix4 0 g p q)
  b g p := m ((c : Thread nD τ).loc main_arg4) (ix3 0 g p)

/-- The matrices the host passes. -/
theorem hw1 (g : Fin 8) (p q : Fin 128) : V m c main_v1 (ix3 g p q) = (kraw m c).w g p q := by
  unfold kraw
  simp only [V, hostOps0, List.flatten_cons, List.flatten_nil, List.cons_append, List.nil_append, List.append_nil]
  after_reads_at
  try rfl
/-- The transposed matrices the host passes. -/
theorem hw4 (g : Fin 8) (p q : Fin 128) : V m c main_v4 (ix3 g p q) = (kraw m c).w g q p := by
  unfold kraw
  simp only [V, hostOps0, List.flatten_cons, List.flatten_nil, List.cons_append, List.nil_append, List.append_nil]
  after_reads_at
  try rfl
/-- The biases the host passes. -/
theorem hw6 (g : Fin 8) (p : Fin 128) : V m c main_v6 (ix3 g p 0) = (kraw m c).b g p := by
  unfold kraw
  simp only [V, hostOps0, List.flatten_cons, List.flatten_nil, List.cons_append, List.nil_append, List.append_nil]
  after_reads_at
  try rfl
/-- What the projections' gradients hold before the run. -/
theorem hw7 : V m c main_v7_0 = m ((c : Thread nD τ).loc main_arg5) := by
  simp only [V, hostOps0, List.flatten_cons, List.flatten_nil, List.cons_append, List.nil_append, List.append_nil]
  after_reads_simp
  try rfl

/-- The grid has 16 points. -/
theorem N_eq : cfg0.N = 16 := by decide
/-- The point's chunk. -/
def tn : Fin 16 := ⟨t.val, by have := t.isLt; have := N_eq; omega⟩

/-- Where each block lies. -/
theorem idx (t : Fin cfg0.N) : win0_0.index t = ![t.val, 0] ∧ win0_1.index t = ![t.val, 1] ∧ win0_2.index t = ![t.val, 0]
    ∧ win0_3.index t = ![0, 0] ∧ win0_4.index t = ![0, 0, 0] ∧ win0_5.index t = ![0, 0, 0] ∧ win0_6.index t = ![0, 0, 0] ∧ win0_7.index t = ![t.val, 0]
    ∧ win0_8.index t = ![0, 0, 0] ∧ win0_9.index t = ![0, 0, 0] ∧ win0_10.index t = ![0, 0] :=
  (by decide +kernel : ∀ t : Fin grid0.N, win0_0.index t = ![t.val, 0] ∧ win0_1.index t = ![t.val, 1] ∧ win0_2.index t = ![t.val, 0]
    ∧ win0_3.index t = ![0, 0] ∧ win0_4.index t = ![0, 0, 0] ∧ win0_5.index t = ![0, 0, 0] ∧ win0_6.index t = ![0, 0, 0] ∧ win0_7.index t = ![t.val, 0]
    ∧ win0_8.index t = ![0, 0, 0] ∧ win0_9.index t = ![0, 0, 0] ∧ win0_10.index t = ![0, 0]) t

/-- The first half's block. -/
theorem blk0 (p : Fin 128) (k : Fin 1024) : X0_0 m c t (ix2 p k) = (kraw m c).z (pos (tn t) p) (cu k) := by
  unfold kraw X0_0 Pipeline.Window.fill; dsimp only
  rw [dif_pos (moved0_0 t _)]
  blk_simp [iblk]
  blk_ext [idx t]
  all_goals dsimp only [pos, tn, cu]
  all_goals omega

/-- The second half's block. -/
theorem blk1 (p : Fin 128) (k : Fin 1024) : X0_1 m c t (ix2 p k) = (kraw m c).z (pos (tn t) p) (cv k) := by
  unfold kraw X0_1 Pipeline.Window.fill; dsimp only
  rw [dif_pos (moved0_1 t _)]
  blk_simp [iblk]
  blk_ext [idx t]
  all_goals dsimp only [pos, tn, cv]
  all_goals omega

/-- The block of the result's gradient. -/
theorem blk2 (p : Fin 128) (k : Fin 1024) : iblk m c 2 t (ix2 p k) = (kraw m c).da (pos (tn t) p) k := by
  unfold kraw; dsimp only
  blk_simp [iblk]
  blk_ext [idx t]
  all_goals dsimp only [pos, tn]
  all_goals omega

/-- The gain's block. -/
theorem blk3 (k : Fin 1024) : iblk m c 3 t (ix2 0 k) = (kraw m c).gn k := by
  unfold kraw; dsimp only
  blk_simp [iblk]
  blk_ext [idx t]

/-- The matrices' block. -/
theorem blk4 (g : Fin 8) (p q : Fin 128) : iblk m c 4 t (ix3 g p q) = (kraw m c).w g p q := by
  rw [← hw1]
  blk_simp [iblk]
  blk_ext [idx t]

/-- The transposed matrices' block. -/
theorem blk5 (g : Fin 8) (p q : Fin 128) : iblk m c 5 t (ix3 g p q) = (kraw m c).w g q p := by
  rw [← hw4]
  blk_simp [iblk]
  blk_ext [idx t]

/-- The biases' block. -/
theorem blk6 (g : Fin 8) (p : Fin 128) : iblk m c 6 t (ix3 g p 0) = (kraw m c).b g p := by
  rw [← hw6]
  blk_simp [iblk]
  blk_ext [idx t]

/-- A group's columns of a block of positions, at an index. -/
theorem ldx (x : Vec Ideal S128x1024 .bf16) (g : Fin 8) (p e : Fin 128) : View.ld x (rx g) (ix2 p e) = x (ix2 p (ch g e)) := by
  refine View.ld_unit_apply_of _ _ _ _ _ _ fun a => ?_
  match a with
  | ⟨0, _⟩ => exact (Nat.zero_add _).symm
  | ⟨1, _⟩ => rfl
/-- A group's columns of a row, at an index. -/
theorem ldg (x : Vec Ideal S1x1024 .f32) (g : Fin 8) (e : Fin 128) : View.ld x (rg g) (ix2 0 e) = x (ix2 0 (ch g e)) := by
  refine View.ld_unit_apply_of _ _ _ _ _ _ fun a => ?_
  match a with
  | ⟨0, _⟩ => rfl
  | ⟨1, _⟩ => rfl
/-- A group's columns of eight rows, at an index. -/
theorem lda (x : Vec Ideal S8x1024 .f32) (g s : Fin 8) (e : Fin 128) : View.ld x (ra g) (ix2 s e) = x (ix2 s (ch g e)) := by
  refine View.ld_unit_apply_of _ _ _ _ _ _ fun a => ?_
  match a with
  | ⟨0, _⟩ => exact (Nat.zero_add _).symm
  | ⟨1, _⟩ => rfl
/-- A group's matrix, at an index. -/
theorem ldw {e : EltTy} (x : Vec Ideal S8x128x128 e) (g : Fin 8) (p q : Fin 128) : View.ld x (rw g) (ix3 0 p q) = x (ix3 g p q) := by
  refine View.ld_unit_apply_of _ _ _ _ _ _ fun a => ?_
  match a with
  | ⟨0, _⟩ => rfl
  | ⟨1, _⟩ => exact (Nat.zero_add _).symm
  | ⟨2, _⟩ => exact (Nat.zero_add _).symm
/-- A group's bias, at an index. -/
theorem ldb (x : Vec Ideal S8x128x1 .f32) (g : Fin 8) (p : Fin 128) : View.ld x (rb g) (ix3 0 p 0) = x (ix3 g p 0) := by
  refine View.ld_unit_apply_of _ _ _ _ _ _ fun a => ?_
  match a with
  | ⟨0, _⟩ => rfl
  | ⟨1, _⟩ => exact (Nat.zero_add _).symm
  | ⟨2, _⟩ => rfl

/-- The point's slices are its chunk's. -/
theorem st_blk : (st m c t).blk = (kraw m c).blk (tn t) := by
  unfold Sl.blk Raw.blk
  congr 1
  · funext p g e; exact (ldx _ g p e).trans (blk0 m c t p _)
  · funext p g e; exact (ldx _ g p e).trans (blk1 m c t p _)
  · funext p g e; exact (ldx _ g p e).trans (blk2 m c t p _)
  · funext g e; exact (ldg _ g e).trans (blk3 m c t _)
  · funext g p q; exact (ldw _ g p q).trans (blk4 m c t g p q)
  · funext g p; exact (ldb _ g p).trans (blk6 m c t g p)

/-- The point's transposed matrices are its matrices, transposed. -/
theorem st_wt (g : Fin 8) (p q : Fin 128) : (st m c t).wt g (ix3 0 p q) = (st m c t).w g (ix3 0 q p) := by
  exact ((ldw _ g p q).trans (blk5 m c t g p q)).trans ((ldw _ g q p).trans (blk4 m c t g q p)).symm

end Cert.Kernel5Ideal.Sgu
-- ==== Proof.SguRun.lean ====
module

public import proofs.«01_k».proof.Proof.SguBlk
public import proofs.«01_k».proof.Proof.Fold

/-! The gated unit's run: what the blocks hold after each grid point, and the four arrays the kernel leaves. -/

@[expose] public section

set_option maxRecDepth 16384

noncomputable section

namespace Cert.Kernel5Ideal.Sgu

open Cert.Kernel5Ideal Cert.Kernel5Ideal.Gen Cert.Kernel5Ideal.Value Idealize.ShloMosaic Idealize.ShloMosaic.TcCoe Idealize.SL.Sem _root_.Sgu

variable (m : (ℓ : Loc nD τ sig) → Buf (Elt Ideal) ℓ) (c : Dev nD) (t : Fin cfg0.N)

/-- The result's block after any point. -/
theorem o7 : (outsAt0 m c t.val t.isLt).1 = View.canon (l7 (st m c t).uv (st m c t).zzv) := by
  have hN := N_eq
  have ht := t.isLt
  by_cases h : t.val % 16 = 0
  · exact o7_A m c t h (by omega) (by omega)
  · by_cases hl : t.val % 16 = 15
    · exact o7_C m c t h (by omega) hl
    · exact o7_B m c t h (by omega) hl
/-- The matrices' gradients at a later point. -/
theorem o8 (h : ¬ t.val % 16 = 0) : (outsAt0 m c t.val t.isLt).2.1 = View.canon (l8 (w1 m c t)) := by
  by_cases hl : t.val % 16 = 15
  · exact o8_C m c t h (by omega) hl
  · exact o8_B m c t h (by omega) hl
/-- The biases' gradients at a later point. -/
theorem o9 (h : ¬ t.val % 16 = 0) : (outsAt0 m c t.val t.isLt).2.2.1 = View.canon (l9 (b1 m c t)) := by
  by_cases hl : t.val % 16 = 15
  · exact o9_C m c t h (by omega) hl
  · exact o9_B m c t h (by omega) hl
/-- The gain's accumulated gradient at a later point. -/
theorem oa (h : ¬ t.val % 16 = 0) : (outsAt0 m c t.val t.isLt).2.2.2.2 = View.canon (la (g1 m c t)) := by
  by_cases hl : t.val % 16 = 15
  · exact oa_C m c t h (by omega) hl
  · exact oa_B m c t h (by omega) hl

/-- The first half of the result's block. -/
theorem u_at (p : Fin 128) (g : Fin 8) (e : Fin 128) : (outsAt0 m c t.val t.isLt).1 (ix2 p (ku g e)) = ((kraw m c).blk (tn t)).dzu p g e := by
  rw [o7, l7_u, ← st_blk]
  exact Sl.uv_at _ g p e
/-- The second half of the result's block. -/
theorem v_at (p : Fin 128) (g : Fin 8) (e : Fin 128) : (outsAt0 m c t.val t.isLt).1 (ix2 p (kv g e)) = ((kraw m c).blk (tn t)).dzv p g e := by
  rw [o7, l7_v, ← st_blk]
  exact Sl.zzv_at _ (st_wt m c t) g p e

/-- The matrices' gradients after the first point. -/
theorem w_first (h : t.val % 16 = 0) (g : Fin 8) (p q : Fin 128) :
    (outsAt0 m c t.val t.isLt).2.1 (ix3 g p q) = 0 + ((kraw m c).blk (tn t)).dws g p q := by
  have hN := N_eq
  have ht := t.isLt
  rw [o8_A m c t h (by omega) (by omega), l8_at, ← st_blk, zero_add]
  unfold w0
  exact (Sl.pay83 _ p q).trans (Sl.wv_at _ g p q)
/-- The matrices' gradients after a later point. -/
theorem w_next (h : ¬ t.val % 16 = 0) (g : Fin 8) (p q : Fin 128) :
    (outsAt0 m c t.val t.isLt).2.1 (ix3 g p q) = (prev m c t).2.1 (ix3 g p q) + ((kraw m c).blk (tn t)).dws g p q := by
  rw [o8 m c t h, l8_at, ← st_blk]
  unfold w1
  refine (Sl.pay86 _ _ p q).trans (congrArg₂ (· + ·) (ldw _ g p q) (Sl.wv_at _ g p q))
/-- The biases' gradients after the first point. -/
theorem b_first (h : t.val % 16 = 0) (g : Fin 8) (p : Fin 128) :
    (outsAt0 m c t.val t.isLt).2.2.1 (ix3 g p 0) = 0 + ((kraw m c).blk (tn t)).dbs g p := by
  have hN := N_eq
  have ht := t.isLt
  rw [o9_A m c t h (by omega) (by omega), l9_at, ← st_blk, zero_add]
  unfold b0
  exact (Sl.pay84 _ p).trans (Sl.bv_at _ g p)
/-- The biases' gradients after a later point. -/
theorem b_next (h : ¬ t.val % 16 = 0) (g : Fin 8) (p : Fin 128) :
    (outsAt0 m c t.val t.isLt).2.2.1 (ix3 g p 0) = (prev m c t).2.2.1 (ix3 g p 0) + ((kraw m c).blk (tn t)).dbs g p := by
  rw [o9 m c t h, l9_at, ← st_blk]
  unfold b1
  refine (Sl.pay87 _ _ p).trans (congrArg₂ (· + ·) (ldb _ g p) (Sl.bv_at _ g p))
/-- The gain's accumulated gradient after the first point. -/
theorem g_first (h : t.val % 16 = 0) (s g : Fin 8) (e : Fin 128) :
    (outsAt0 m c t.val t.isLt).2.2.2.2 (ix2 s (ch g e)) = 0 + ((kraw m c).blk (tn t)).dgn s g e := by
  have hN := N_eq
  have ht := t.isLt
  rw [oa_A m c t h (by omega) (by omega), la_at, ← st_blk, zero_add]
  unfold g0
  exact (Sl.pay85 _ s e).trans (Sl.gv_at _ (st_wt m c t) g s e)
/-- The gain's accumulated gradient after a later point. -/
theorem g_next (h : ¬ t.val % 16 = 0) (s g : Fin 8) (e : Fin 128) :
    (outsAt0 m c t.val t.isLt).2.2.2.2 (ix2 s (ch g e)) = (prev m c t).2.2.2.2 (ix2 s (ch g e)) + ((kraw m c).blk (tn t)).dgn s g e := by
  rw [oa m c t h, la_at, ← st_blk]
  unfold g1
  refine (Sl.pay88 _ _ s e).trans (congrArg₂ (· + ·) (lda _ g s e) (Sl.gv_at _ (st_wt m c t) g s e))

/-- What a point leaves depends on its number alone. -/
theorem outs_congr (k k' : ℕ) (h : k < cfg0.N) (h' : k' < cfg0.N) (e : k = k') : outsAt0 m c k h = outsAt0 m c k' h' := by
  subst e
  rfl

/-- An accumulation over the grid's points. -/
theorem acc (f a : (k : ℕ) → k < cfg0.N → EReal) (A : Fin 16 → EReal) (hA : ∀ k h, a k h = A (tn ⟨k, h⟩))
    (h0 : ∀ k h, k % 16 = 0 → f k h = 0 + a k h) (hs : ∀ k h, ¬ k % 16 = 0 → f k h = f (k - 1) (by omega) + a k h)
    (k : ℕ) (h : k < cfg0.N) (hk : k % 16 = 15) : f k h = ∑ n, A n := by
  have hN := N_eq
  have e : k = 0 + 15 := by omega
  subst e
  refine (Cert.KernelIdeal.Att.fold_sum 16 f a h0 hs 0 (by omega) 15 (by omega) h).trans (Finset.sum_congr rfl fun n _ => ?_)
  rw [hA]
  exact congrArg A (Fin.ext (Nat.zero_add _))

/-- The matrices' gradients after the last point. -/
theorem w_last (h : t.val % 16 = 15) (g : Fin 8) (p q : Fin 128) : (outsAt0 m c t.val t.isLt).2.1 (ix3 g p q) = (kraw m c).dws g p q :=
  acc (fun k h => (outsAt0 m c k h).2.1 (ix3 g p q)) (fun k h => ((kraw m c).blk (tn ⟨k, h⟩)).dws g p q) (fun n => ((kraw m c).blk n).dws g p q) (fun _ _ => rfl)
    (fun k h e => w_first m c ⟨k, h⟩ e g p q) (fun k h e => w_next m c ⟨k, h⟩ e g p q) t.val t.isLt h
/-- The biases' gradients after the last point. -/
theorem b_last (h : t.val % 16 = 15) (g : Fin 8) (p : Fin 128) : (outsAt0 m c t.val t.isLt).2.2.1 (ix3 g p 0) = (kraw m c).dbs g p :=
  acc (fun k h => (outsAt0 m c k h).2.2.1 (ix3 g p 0)) (fun k h => ((kraw m c).blk (tn ⟨k, h⟩)).dbs g p) (fun n => ((kraw m c).blk n).dbs g p) (fun _ _ => rfl)
    (fun k h e => b_first m c ⟨k, h⟩ e g p) (fun k h e => b_next m c ⟨k, h⟩ e g p) t.val t.isLt h
/-- The gain's gradient after the last point. -/
theorem g_last (h : t.val % 16 = 15) (g : Fin 8) (e : Fin 128) : (outsAt0 m c t.val t.isLt).2.2.2.1 (ix2 0 (ch g e)) = (kraw m c).dgn g e := by
  rw [o10_C m c t (by omega) (by omega) h, ← oa_C m c t (by omega) (by omega) h, Sl.pay2]
  unfold Raw.dgn
  exact Finset.sum_congr rfl fun s _ =>
    acc (fun k h => (outsAt0 m c k h).2.2.2.2 (ix2 s (ch g e))) (fun k h => ((kraw m c).blk (tn ⟨k, h⟩)).dgn s g e) (fun n => ((kraw m c).blk n).dgn s g e) (fun _ _ => rfl)
      (fun k h e' => g_first m c ⟨k, h⟩ e' s g e) (fun k h e' => g_next m c ⟨k, h⟩ e' s g e) t.val t.isLt h

/-- The matrices' gradients, as an array. -/
def wA (R : Raw) : S8x128x128.Idx → EReal := fun i => R.dws (i 0) (i 1) (i 2)
/-- The biases' gradients, as an array. -/
def bA (R : Raw) : S8x128x1.Idx → EReal := fun i => R.dbs (i 0) (i 1)
/-- The gain's gradient, as an array. -/
def gA (R : Raw) : S1x1024.Idx → EReal := fun i => R.dgn ⟨(i 1).val / 128, by have : (i 1).val < 1024 := (i 1).isLt; omega⟩ ⟨(i 1).val % 128, by omega⟩
/-- The result, with the unit's columns written. -/
def zA (R : Raw) : S2048x7680.Idx → EReal := fun i =>
  if h : (i 1).val < 2048 then
    if (i 1).val < 1024 then (R.blk ⟨(i 0).val / 128, by have : (i 0).val < 2048 := (i 0).isLt; omega⟩).dzu ⟨(i 0).val % 128, by omega⟩ ⟨(i 1).val / 128 % 8, by omega⟩ ⟨(i 1).val % 128, by omega⟩
    else (R.blk ⟨(i 0).val / 128, by have : (i 0).val < 2048 := (i 0).isLt; omega⟩).dzv ⟨(i 0).val % 128, by omega⟩ ⟨(i 1).val / 128 % 8, by omega⟩ ⟨(i 1).val % 128, by omega⟩
  else 0

/-- The matrices' array at an index. -/
theorem wA_at (R : Raw) (i : S8x128x128.Idx) (g : Fin 8) (p q : Fin 128) (h0 : (i 0).val = g.val) (h1 : (i 1).val = p.val) (h2 : (i 2).val = q.val) :
    wA R i = R.dws g p q := by
  unfold wA
  congr 1 <;> (apply Fin.ext; assumption)
/-- The biases' array at an index. -/
theorem bA_at (R : Raw) (i : S8x128x1.Idx) (g : Fin 8) (p : Fin 128) (h0 : (i 0).val = g.val) (h1 : (i 1).val = p.val) : bA R i = R.dbs g p := by
  unfold bA
  congr 1 <;> (apply Fin.ext; assumption)
/-- The gain's array at an index. -/
theorem gA_at (R : Raw) (i : S1x1024.Idx) (g : Fin 8) (e : Fin 128) (h1 : (i 1).val = 128 * g.val + e.val) : gA R i = R.dgn g e := by
  unfold gA
  congr 1 <;> (apply Fin.ext; dsimp only; omega)
/-- The result at an index of its first half. -/
theorem zA_u (R : Raw) (i : S2048x7680.Idx) (n : Fin 16) (p : Fin 128) (g : Fin 8) (e : Fin 128) (h0 : (i 0).val = n.val * 128 + p.val)
    (h1 : (i 1).val = 128 * g.val + e.val) : zA R i = (R.blk n).dzu p g e := by
  unfold zA
  rw [dif_pos (by omega), if_pos (by omega)]
  congr 1 <;> first
    | (apply Fin.ext; dsimp only; omega)
    | (apply congrArg; apply Fin.ext; dsimp only; omega)
/-- The result at an index of its second half. -/
theorem zA_v (R : Raw) (i : S2048x7680.Idx) (n : Fin 16) (p : Fin 128) (g : Fin 8) (e : Fin 128) (h0 : (i 0).val = n.val * 128 + p.val)
    (h1 : (i 1).val = 1024 + 128 * g.val + e.val) : zA R i = (R.blk n).dzv p g e := by
  unfold zA
  rw [dif_pos (by omega), if_neg (by omega)]
  congr 1 <;> first
    | (apply Fin.ext; dsimp only; omega)
    | (apply congrArg; apply Fin.ext; dsimp only; omega)

/-- The array of the matrices' gradients after the run. -/
theorem arr8 : (dats m 0 c).arrAt 8 cfg0.N = (wA (kraw m c) : Vec Ideal S8x128x128 .f32) := by
  refine (dats m 0 c).arrAt_eq_of_covers 8 _ (by decide +kernel) fun t hf y => ?_
  have h2 := (flush0_8 t).mp hf
  blk_simp
  rw [after0_8]
  refine (congrArg (outsAt0 m c t.val t.isLt).2.1 (eq_ix3 (n0 := 8) (n1 := 128) (n2 := 128) y)).trans ((w_last m c t h2 (y 0) (y 1) (y 2)).trans ?_)
  refine (wA_at _ _ _ _ _ ?_ ?_ ?_).symm
  all_goals blk_simp [idx t] <;> try omega

/-- The array of the biases' gradients after the run. -/
theorem arr9 : (dats m 0 c).arrAt 9 cfg0.N = (bA (kraw m c) : Vec Ideal S8x128x1 .f32) := by
  refine (dats m 0 c).arrAt_eq_of_covers 9 _ (by decide +kernel) fun t hf y => ?_
  have h2 := (flush0_9 t).mp hf
  blk_simp
  rw [after0_9]
  have e : y = ix3 (n0 := 8) (n1 := 128) (n2 := 1) (y 0) (y 1) 0 :=
    (eq_ix3 (n0 := 8) (n1 := 128) (n2 := 1) y).trans (congrArg (ix3 _ _) (Subsingleton.elim _ _))
  refine (congrArg (outsAt0 m c t.val t.isLt).2.2.1 e).trans ((b_last m c t h2 (y 0) (y 1)).trans ?_)
  refine (bA_at _ _ _ _ ?_ ?_).symm
  all_goals blk_simp [idx t] <;> try omega

/-- The array of the gain's gradient after the run. -/
theorem arr10 : (dats m 0 c).arrAt 10 cfg0.N = (gA (kraw m c) : Vec Ideal S1x1024 .f32) := by
  refine (dats m 0 c).arrAt_eq_of_covers 10 _ (by decide +kernel) fun t hf y => ?_
  have h2 := (flush0_10 t).mp hf
  blk_simp
  rw [after0_10]
  have h1 : (y (1 : Fin 2)).val < 1024 := (y (1 : Fin 2)).isLt
  have e : y = ix2 (n0 := 1) (n1 := 1024) 0 (ch ⟨(y (1 : Fin 2)).val / 128, by omega⟩ ⟨(y (1 : Fin 2)).val % 128, by omega⟩) := by
    refine (eq_ix2 (n0 := 1) (n1 := 1024) y).trans (congrArg₂ ix2 (Subsingleton.elim _ _) (Fin.ext ?_))
    dsimp only [ch]; omega
  refine (congrArg (outsAt0 m c t.val t.isLt).2.2.2.1 e).trans ((g_last m c t h2 _ _).trans ?_)
  refine (gA_at _ _ _ _ ?_).symm
  blk_simp [idx t]
  dsimp only; omega

/-- No block of the result is cut. -/
theorem whole7 : ∀ t : Fin cfg0.N, ∀ a, (cfg0.win 7).xsize (cfg0.grid.coords t) a = (cfg0.win 7).size a := by decide +kernel

/-- The array of the projections' gradients after the run. -/
theorem arr7 : (dats m 0 c).arrAt 7 cfg0.N = ((fun i => if (i 1).val < 2048 then zA (kraw m c) i else V m c main_v7_0 i : S2048x7680.Idx → EReal) : Vec Ideal S2048x7680 .bf16) := by
  refine (dats m 0 c).arrAt_eq_of_coversWhere 7 _ (fun β => β 1 < 1) (by decide +kernel) (fun t hf y => ?_)
    (fun j => by blk_simp [Pipeline.Window.cell_apply]; omega)
  blk_simp
  rw [after0_7]
  have h0 : (y (0 : Fin 2)).val < 128 := Nat.lt_of_lt_of_eq (y (0 : Fin 2)).isLt (whole7 t 0)
  have h1 : (y (1 : Fin 2)).val < 2048 := Nat.lt_of_lt_of_eq (y (1 : Fin 2)).isLt (whole7 t 1)
  by_cases hu : (y (1 : Fin 2)).val < 1024
  · have e : (cfg0.win 7).xinj (cfg0.grid.coords t) y = ix2 (n0 := 128) (n1 := 2048) ⟨(y (0 : Fin 2)).val, h0⟩
        (ku ⟨(y (1 : Fin 2)).val / 128, by omega⟩ ⟨(y (1 : Fin 2)).val % 128, by omega⟩) := by
      refine (eq_ix2 (n0 := 128) (n1 := 2048) _).trans (congrArg₂ ix2 (Fin.ext rfl) (Fin.ext ?_))
      show (y (1 : Fin 2)).val = _
      dsimp only [ku]; omega
    refine (congrArg (outsAt0 m c t.val t.isLt).1 e).trans ((u_at m c t _ _ _).trans ?_)
    refine (zA_u _ _ _ _ _ _ ?_ ?_).symm
    · blk_simp [idx t]
      dsimp only [tn]
    · blk_simp [idx t]
      dsimp only; omega
  · have e : (cfg0.win 7).xinj (cfg0.grid.coords t) y = ix2 (n0 := 128) (n1 := 2048) ⟨(y (0 : Fin 2)).val, h0⟩
        (kv ⟨(y (1 : Fin 2)).val / 128 - 8, by omega⟩ ⟨(y (1 : Fin 2)).val % 128, by omega⟩) := by
      refine (eq_ix2 (n0 := 128) (n1 := 2048) _).trans (congrArg₂ ix2 (Fin.ext rfl) (Fin.ext ?_))
      show (y (1 : Fin 2)).val = _
      dsimp only [kv]; omega
    refine (congrArg (outsAt0 m c t.val t.isLt).1 e).trans ((v_at m c t _ _ _).trans ?_)
    refine (zA_v _ _ _ _ _ _ ?_ ?_).symm
    · blk_simp [idx t]
      dsimp only [tn]
    · blk_simp [idx t]
      dsimp only; omega

end Cert.Kernel5Ideal.Sgu
-- ==== Proof.SguEnd.lean ====
module

public import proofs.«01_k».proof.Proof.SguRef
public import proofs.«01_k».proof.Proof.SguRun

/-! The gated unit's reference: its four results, as the kernel's arrays. -/

@[expose] public section

set_option maxRecDepth 16384

noncomputable section

namespace Cert.Reference5Ideal.Sgu

open Cert.Reference5Ideal Cert.Reference5Ideal.Gen Cert.Reference5Ideal.Value Idealize.ShloMosaic Idealize.ShloMosaic.TcCoe Idealize.SL.Sem _root_.Sgu Att
open Cert.Kernel5Ideal.Sgu (wA bA gA zA wA_at bA_at gA_at zA_u zA_v)

variable (m : (ℓ : Loc nD τ sig) → Buf (Elt Ideal) ℓ) (ρ : Dev nD → PrngReg) (c : Dev nD)

/-- The arguments' entries. -/
def raw : Raw := rraw (StableHlo.launchContents m c)

/-- A contracted index of the mixing matrices' gradient: a chunk and a channel. -/
def ci (k : Fin 16 × Fin 128) : (dot_S8x1x16x128x128_S1x16x128x8x128_S8x128x128_123_014_4_2_0_3).contr.Idx := fun a =>
  match a with
  | ⟨0, _⟩ => (0 : Fin 1)
  | ⟨1, _⟩ => k.1
  | ⟨2, _⟩ => k.2

/-- Every contracted index is one of these. -/
theorem ci_bij : Function.Bijective ci := by
  refine ⟨fun k l h => Prod.ext (congrFun h ⟨1, by decide⟩) (congrFun h ⟨2, by decide⟩), fun i => ⟨(i ⟨1, by decide⟩, i ⟨2, by decide⟩), ?_⟩⟩
  funext a
  match a with
  | ⟨0, _⟩ => exact Subsingleton.elim (α := Fin 1) _ _
  | ⟨1, _⟩ => rfl
  | ⟨2, _⟩ => rfl

/-- The left factor's index. -/
theorem ci_lhs (g : Fin 8) (p q : Fin 128) (k : Fin 16 × Fin 128) :
    (dot_S8x1x16x128x128_S1x16x128x8x128_S8x128x128_123_014_4_2_0_3).lhsIdx (ix3 g p q) (ci k) = ix5 g 0 k.1 k.2 p :=
  funext fun | ⟨0, _⟩ => rfl | ⟨1, _⟩ => rfl | ⟨2, _⟩ => rfl | ⟨3, _⟩ => rfl | ⟨4, _⟩ => rfl
/-- The right factor's index. -/
theorem ci_rhs (g : Fin 8) (p q : Fin 128) (k : Fin 16 × Fin 128) :
    (dot_S8x1x16x128x128_S1x16x128x8x128_S8x128x128_123_014_4_2_0_3).rhsIdx (ix3 g p q) (ci k) = ix5 0 k.1 q g k.2 :=
  funext fun | ⟨0, _⟩ => rfl | ⟨1, _⟩ => rfl | ⟨2, _⟩ => rfl | ⟨3, _⟩ => rfl | ⟨4, _⟩ => rfl

/-- The mixing matrices' gradient's product at an index. -/
theorem dot_at (x : S8x1x16x128x128.Idx → EReal) (y : S1x16x128x8x128.Idx → EReal) (g : Fin 8) (p q : Fin 128) :
    Ideal.matmul dot_S8x1x16x128x128_S1x16x128x8x128_S8x128x128_123_014_4_2_0_3 x y (fun _ => 0) (ix3 g p q) =
      ∑ n, ∑ e, x (ix5 g 0 n e p) * y (ix5 0 n q g e) := by
  unfold Ideal.matmul
  rw [zero_add, ← Fintype.sum_bijective ci ci_bij _ _ fun _ => rfl, Fintype.sum_prod_type]
  simp only [ci_lhs, ci_rhs]

/-- The gradient through the activation, from its parts. -/
def radd (a b t x : EReal) : EReal := a * b + t + k1 * Ideal.div t k2 * (k3 * (x * x))

/-- The first half's gradient. -/
theorem zu_at {V0 : Valuation τ sig (Elt Ideal)} (hR : (rraw V0).Real) (r : Fin 2048) (j : Fin 1024) (n : Fin 16) (p : Fin 128) (g : Fin 8) (e : Fin 128)
    (h0 : r = pos n p) (h1 : j = ch g e) :
    radd (res_main_v84 V0 (ix3 0 r j)) (res_main_v27 V0 (ix3 0 r j)) (res_main_v141 V0 (ix3 0 r j)) (res_main_v2 V0 (ix3 0 r j)) =
      ((rraw V0).blk n).dzu p g e := by
  subst h0 h1
  rw [v141_at hR, v84_at hR, v27_at, v2_at]
  exact (hR.blk n).dzu_eq p g e
/-- The second half's gradient. -/
theorem zv_at {V0 : Valuation τ sig (Elt Ideal)} (hR : (rraw V0).Real) (r : Fin 2048) (j : Fin 1024) (n : Fin 16) (p : Fin 128) (g : Fin 8) (e : Fin 128)
    (h0 : r = pos n p) (h1 : j = ch g e) :
    radd (res_main_v117 V0 (ix3 0 r j)) (res_main_v50 V0 (ix3 0 r j)) (res_main_v127 V0 (ix3 0 r j)) (res_main_v5 V0 (ix3 0 r j)) =
      ((rraw V0).blk n).dzv p g e := by
  subst h0 h1
  rw [v127_at hR, v117_at hR, v50_at, v5_at]
  exact (hR.blk n).dzv_eq p g e

/-- The reference runs and, at real arguments, ends with the four gradients in the kernel's form. -/
theorem run (hF : ∀ c, (raw m c).Real) : θ_run defs (onTc (τ := τ) (main (F := Ideal))) ⟨m, fun _ => 0, ρ⟩ (fun r => ∀ c : Dev nD,
      r.2.mem ((c.tc : Thread nD τ).loc main_v154) = (fun i => if (i 1).val < 2048 then zA (raw m c) i else m ((c.tc : Thread nD τ).loc main_arg5) i : Vec Ideal S2048x7680 .bf16)
      ∧ r.2.mem ((c.tc : Thread nD τ).loc main_v155) = (wA (raw m c) : Vec Ideal S8x128x128 .f32)
      ∧ r.2.mem ((c.tc : Thread nD τ).loc main_v157) = (bA (raw m c) : Vec Ideal S8x128x1 .f32)
      ∧ r.2.mem ((c.tc : Thread nD τ).loc main_v120) = (gA (raw m c) : Vec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run Cert.Reference5Ideal.defs _ _).mono (fun r h c => ⟨(h c).1.trans ?_, (h c).2.1.trans ?_, (h c).2.2.1.trans ?_, (h c).2.2.2.1.trans ?_, (h c).2.2.2.2⟩) (Cert.Reference5Ideal.Value.run (F := Ideal) m ρ)
  all_goals clear h
  · refine funext fun y => (congrArg _ (eq_ix2 (n0 := 2048) (n1 := 7680) y)).trans ?_
    pointwise
    have hy : (y 0).val < 2048 := (y 0).isLt
    by_cases h1 : (y 1).val < 1024
    · refine (dif_pos h1).trans (Eq.trans ?_ (if_pos (by omega)).symm)
      exact (zu_at (hF c) (y 0) ⟨(y 1).val, h1⟩ _ _ _ _ (pos_eq _) (ch_eq _)).trans (zA_u (raw m c) y _ _ _ _ (by dsimp only; omega) (by dsimp only; omega)).symm
    by_cases h2 : (y 1).val < 2048
    · refine (dif_neg h1).trans ((dif_pos (by omega)).trans (Eq.trans ?_ (if_pos h2).symm))
      exact (zv_at (hF c) (y 0) ⟨(y 1).val - 1024, by omega⟩ _ _ _ _ (pos_eq _) (ch_eq _)).trans (zA_v (raw m c) y _ _ _ _ (by dsimp only; omega) (by dsimp only; omega)).symm
    · refine (dif_neg h1).trans ((dif_neg (by omega)).trans (Eq.trans ?_ (if_neg h2).symm))
      refine congrArg (m ((c.tc : Thread nD τ).loc main_arg5)) ((congrArg (ix2 (y 0)) (Fin.ext ?_)).trans (eq_ix2 (n0 := 2048) (n1 := 7680) y).symm)
      dsimp only
      omega
  · refine funext fun y => ?_
    obtain ⟨g, p, q, rfl⟩ : ∃ (g : Fin 8) (p q : Fin 128), y = ix3 g p q := ⟨y 0, y 1, y 2, eq_ix3 y⟩
    pointwise
    rw [dot_at]
    simp only [v92_at (hF c), v71_at (hF c)]
    rfl
  · refine funext fun y => ?_
    obtain ⟨g, p, q, rfl⟩ : ∃ (g : Fin 8) (p : Fin 128) (q : Fin 1), y = ix3 g p q := ⟨y 0, y 1, y 2, eq_ix3 y⟩
    pointwise
    simp only [red014]
    pointwise
    simp only [red14, v85_at (hF c)]
    simp only [Finset.univ_unique, Finset.sum_singleton, zero_add]
    exact (bA_at (raw m c) (ix3 g p q) g p rfl rfl).symm
  · refine funext fun y => ?_
    obtain ⟨z, j, rfl⟩ : ∃ (z : Fin 1) (j : Fin 1024), y = ix2 z j := ⟨y 0, y 1, eq_ix2 y⟩
    pointwise
    simp only [red01]
    pointwise
    rw [ch_eq j]
    simp only [sum_pos, v67_at (hF c), v96_at (hF c)]
    refine Eq.trans ?_ ((gA_at (raw m c) (ix2 z (ch _ _)) _ _ rfl).trans (Raw.dgn_eq _ _ _)).symm
    exact Finset.sum_congr rfl fun n _ => sum_swap _ _

end Cert.Reference5Ideal.Sgu
-- ==== Proof.SguClose.lean ====
module

public import proofs.«01_k».proof.Defs
public import proofs.«01_k».proof.Proof.SguEnd
public import proofs.«01_k».proof.Proof.Close
public import proofs.«01_k».proof.Proof.Gen.Pre_finite_sgu
public import Idealize.ShloMosaic.Lib.ReduceAll
public import Idealize.ShloMosaic.Lib.Quiescent

/-! The claims of the gated unit's backward call. -/

@[expose] public section

noncomputable section

namespace Cert.Proof

open Idealize.ShloMosaic Idealize.ShloMosaic.TcCoe Idealize.SL.Sem _root_.Att _root_.Sgu

/-- The side conditions of the precondition. -/
instance facts_sgu : Cert.Pre_finite_sgu.Facts := Cert.Pre_finite_sgu.Gen.facts

/-- Every entry the precondition names is a real number: of the input, those of the unit's columns. -/
theorem fin_sgu (a0 : FVec Ideal Cert.Pre_finite_sgu.S2048x7680 .bf16) (a1 : FVec Ideal Cert.Pre_finite_sgu.S2048x1024 .bf16)
    (a2 : FVec Ideal Cert.Pre_finite_sgu.S1x1024 .f32) (a3 : FVec Ideal Cert.Pre_finite_sgu.S1x8x128x128 .f32)
    (a4 : FVec Ideal Cert.Pre_finite_sgu.S1x8x128 .f32) (a5 : FVec Ideal Cert.Pre_finite_sgu.S2048x7680 .bf16)
    (h : Cert.Pre_finite_sgu.fn (F := Ideal) a0 a1 a2 a3 a4 a5 = fun _ => 1#1) :
    (∀ (r : Fin 2048) (k : Fin 2048), IsReal (a0 (ix2 r ⟨k.val, by omega⟩))) ∧ (∀ i, IsReal (a1 i)) ∧ (∀ i, IsReal (a2 i)) ∧ (∀ i, IsReal (a3 i)) ∧ ∀ i, IsReal (a4 i) := by
  have e := congrFun h (Shape.Idx.first Cert.Pre_finite_sgu.Facts.h_S_)
  unfold Cert.Pre_finite_sgu.fn Cert.Pre_finite_sgu.fn_part1 at e
  obtain ⟨e0, e⟩ := IntOp.andi_eq_one.1 e
  obtain ⟨e0, e1⟩ := IntOp.andi_eq_one.1 e0
  obtain ⟨e2, e⟩ := IntOp.andi_eq_one.1 e
  obtain ⟨e3, e4⟩ := IntOp.andi_eq_one.1 e
  haveI : Subsingleton Cert.Pre_finite_sgu.S_.Idx := ⟨fun a b => funext fun k => k.elim0⟩
  refine ⟨fun r k => ?_, fun i => real_of_olt _ (Host.reduce_andi_all _ _ _ _ _ e1 i),
    fun i => real_of_olt _ (Host.reduce_andi_all _ _ _ _ _ e2 i), fun i => real_of_olt _ (Host.reduce_andi_all _ _ _ _ _ e3 i),
    fun i => real_of_olt _ (Host.reduce_andi_all _ _ _ _ _ e4 i)⟩
  have hx := real_of_olt _ (Host.reduce_andi_all _ _ _ _ _ e0 (ix2 r k))
  have he : extractStridedSlice Cert.Pre_finite_sgu.S2048x2048 ![0, 0] a0 Cert.Pre_finite_sgu.Facts.slices_S2048x7680_S2048x2048_0_0 (ix2 r k) = a0 (ix2 r ⟨k.val, by omega⟩) := by
    pointwise
    try rfl
  exact he ▸ hx

/-- The projections' gradients after the run: the unit's columns written, the others as before. -/
def zfin (m : (ℓ : Loc Cert.Kernel5Ideal.nD Cert.Kernel5Ideal.τ Cert.Kernel5Ideal.sig) → Buf (Elt Ideal) ℓ) (c : Dev Cert.Kernel5Ideal.nD) : Cert.Kernel5Ideal.S2048x7680.Idx → EReal :=
  fun i => if (i 1).val < 2048 then Cert.Kernel5Ideal.Sgu.zA (Cert.Kernel5Ideal.Sgu.kraw m c) i
    else m ((c.tc : Thread Cert.Kernel5Ideal.nD Cert.Kernel5Ideal.τ).loc Cert.Kernel5Ideal.main_arg5) i

/-- The kernel and the reference end with equal results. -/
theorem algebraic5 : Cert.algebraic_Kernel5Ideal_Reference5Ideal_pre_finite_sgu
    (hKernel5Ideal := Cert.Kernel5Ideal.Gen.facts) (hReference5Ideal := Cert.Reference5Ideal.Gen.facts) (hPre_finite_sgu := Cert.Pre_finite_sgu.Gen.facts) := by
  intro m g m' g' hp hag
  have er : ∀ c, Cert.Reference5Ideal.Sgu.raw m' c = Cert.Kernel5Ideal.Sgu.kraw m c := fun c => by
    obtain ⟨h0, h1, h2, h3, h4, _⟩ := hag c
    unfold Cert.Reference5Ideal.Sgu.raw Cert.Reference5Ideal.Sgu.rraw Cert.Kernel5Ideal.Sgu.kraw
    congr 1
    · exact funext fun r => funext fun k => congrFun h0 (ix2 r k)
    · exact funext fun r => funext fun k => congrFun h1 (ix2 r k)
    · exact funext fun k => congrFun h2 (ix2 0 k)
    · exact funext fun a => funext fun p => funext fun q => congrFun h3 (ix4 0 a p q)
    · exact funext fun a => funext fun p => congrFun h4 (ix3 0 a p)
  have hF : ∀ c, (Cert.Reference5Ideal.Sgu.raw m' c).Real := fun c => by
    rw [er c]
    obtain ⟨f0, f1, f2, f3, f4⟩ := fin_sgu _ _ _ _ _ _ (hp c)
    exact ⟨fun r j => f0 r ⟨j.val, by omega⟩, fun r j => f0 r ⟨1024 + j.val, by omega⟩, fun r j => f1 _, fun j => f2 _, fun a p q => f3 _, fun a p => f4 _⟩
  refine ⟨fun c => zfin m c, fun c => Cert.Kernel5Ideal.Sgu.wA (Cert.Kernel5Ideal.Sgu.kraw m c), fun c => Cert.Kernel5Ideal.Sgu.bA (Cert.Kernel5Ideal.Sgu.kraw m c),
    fun c => Cert.Kernel5Ideal.Sgu.gA (Cert.Kernel5Ideal.Sgu.kraw m c), ?_, ?_⟩
  · refine (θ_run Cert.Kernel5Ideal.defs _ _).mono (fun r h c => ⟨(h c).1.trans ?_, (h c).2.1.trans (Cert.Kernel5Ideal.Sgu.arr8 m c), (h c).2.2.1.trans (Cert.Kernel5Ideal.Sgu.arr9 m c),
      (h c).2.2.2.1.trans (Cert.Kernel5Ideal.Sgu.arr10 m c), (h c).2.2.2.2⟩) (Cert.Kernel5Ideal.Value.run_blocks (F := Ideal) m g)
    refine (Cert.Kernel5Ideal.Sgu.arr7 m c).trans (funext fun i => ?_)
    rw [Cert.Kernel5Ideal.Sgu.hw7]
    rfl
  · refine (θ_run Cert.Reference5Ideal.defs _ _).mono (fun r h c => ⟨(h c).1.trans ?_, (h c).2.1.trans (by rw [er c]), (h c).2.2.1.trans (by rw [er c]),
      (h c).2.2.2.1.trans (by rw [er c]), (h c).2.2.2.2⟩) (Cert.Reference5Ideal.Sgu.run m' g' hF)
    rw [er c]
    refine funext fun i => ?_
    exact congrArg (fun x : EReal => if (i 1).val < 2048 then Cert.Kernel5Ideal.Sgu.zA (Cert.Kernel5Ideal.Sgu.kraw m c) i else x) (congrFun (hag c).2.2.2.2.2 i)

/-- The reference's frame. -/
theorem frame_ref5 : Cert.quiescent_Reference5Ideal (hReference5Ideal := Cert.Reference5Ideal.Gen.facts) := fun m' g' _ =>
  (θ_run Cert.Reference5Ideal.defs _ _).mono (fun r h => ⟨fun c => (h c).2.2.2.2, sem_eq_zero_of_no_sems (by decide) r.2⟩) (Cert.Reference5Ideal.Value.run (F := Ideal) m' g')

end Cert.Proof
-- ==== Proof.RmsModel.lean ====
module

public import proofs.«01_k».proof.Proof.SguModel
public import Idealize.ShloMosaic.Lib.IdealHost

/-! The gradient of a row's division by its root mean square, over the extended reals: 2048 entries a row. The formula with a
row's dot product and the formula that differentiates the square's two factors apart agree at all arguments: the mean of
the squares is a positive real, or it is +∞ and both are zero. -/

@[expose] public section

noncomputable section

namespace Rms

open Idealize.ShloMosaic Att
open Sgu (ep mh ep_eq mh_eq)

/-- The number of entries of a row. -/
def kN : EReal := Ideal.ofBits .f32 0x45000000#32

/-- The number of entries, as a real number. -/
theorem kN_eq : kN = ((2048 : ℝ) : EReal) := by
  unfold kN; simp [Ideal.ofBits, Ideal.ieee, -EReal.coe_mul]; norm_num

/-- A division by the number of entries. -/
theorem div_kN (x : EReal) : Ideal.div x kN = x * ((1 / 2048 : ℝ) : EReal) := by
  rw [kN_eq, Ideal.div_coe (by norm_num)]

variable (x d : Fin 2048 → EReal)

/-- The mean of a row's squares with its addition. -/
def ms : EReal := Ideal.div (∑ k, x k * x k) kN + ep
/-- The reciprocal of a row's root mean square. -/
def rr : EReal := Ideal.rsqrt (ms x)
/-- The normalised row. -/
def xh (k : Fin 2048) : EReal := x k * rr x
/-- The gradient through the normalisation, with the row's dot product. -/
def dx (k : Fin 2048) : EReal := rr x * (d k - xh x k * Ideal.div (∑ l, d l * xh x l) kN)
/-- What the root mean square adds to the gradient, once for each factor of the square. -/
def rq : EReal := Ideal.div ((∑ l, x l * d l) * (mh * Ideal.div (rr x) (ms x))) kN
/-- The gradient through the normalisation, added up from its three parts. -/
def rdx (k : Fin 2048) : EReal := d k * rr x + x k * rq x d + rq x d * x k

/-- A square is not negative. -/
theorem sq_nonneg' (a : EReal) : 0 ≤ a * a := by
  induction a with
  | bot => simp
  | coe r => rw [← EReal.coe_mul]; exact_mod_cast mul_self_nonneg r
  | top => simp

/-- A factor that is a real number and not negative comes out of a sum. -/
theorem sum_mul_real {ι : Type} [Fintype ι] (f : ι → EReal) (r : ℝ) (h : 0 ≤ r) : ∑ k, f k * (r : EReal) = (∑ k, f k) * r := by
  let F : EReal →+ EReal :=
    { toFun := fun a => a * r
      map_zero' := zero_mul _
      map_add' := fun a b => EReal.right_distrib_of_nonneg_of_ne_top (by exact_mod_cast h) (EReal.coe_ne_top r) a b }
  exact (map_sum F f Finset.univ).symm

/-- The mean of the squares with its addition is a positive real or +∞. -/
theorem ms_cases : ms x = ⊤ ∨ ∃ r : ℝ, 0 < r ∧ ms x = r := by
  obtain ⟨e, he, hep⟩ := ep_eq
  unfold ms
  rw [div_kN, hep]
  have h0 : 0 ≤ ∑ k, x k * x k := Finset.sum_nonneg fun k _ => sq_nonneg' (x k)
  revert h0
  generalize ∑ k, x k * x k = s
  intro h0
  induction s with
  | bot => simp at h0
  | coe s =>
    refine .inr ⟨s * (1 / 2048) + e, ?_, ?_⟩
    · have : 0 ≤ s := by exact_mod_cast h0
      positivity
    · rw [EReal.coe_add, EReal.coe_mul]
  | top =>
    left
    rw [EReal.top_mul_coe_of_pos (by norm_num)]
    rfl

/-- The two formulas agree. -/
theorem rdx_eq (k : Fin 2048) : rdx x d k = dx x d k := by
  unfold rdx dx rq xh
  simp only [div_kN]
  rcases ms_cases x with h | ⟨m, hm, h⟩
  · have hr : rr x = 0 := by unfold rr; rw [h]; rfl
    rw [hr, h, Ideal.zero_div (by simp)]
    simp
  · have hr : rr x = (((Real.sqrt m)⁻¹ : ℝ) : EReal) := by
      unfold rr
      rw [h, Ideal.rsqrt_coe, if_neg (not_lt.mpr hm.le), if_neg hm.ne']
    have hq : m * ((Real.sqrt m)⁻¹ * (Real.sqrt m)⁻¹) = 1 := by
      rw [← mul_inv, Real.mul_self_sqrt hm.le, mul_inv_cancel₀ hm.ne']
    have hp : 0 ≤ (Real.sqrt m)⁻¹ := by positivity
    rw [hr, h, mh_eq]
    generalize (Real.sqrt m)⁻¹ = r at hq hp ⊢
    have e : ∑ l, d l * (x l * (r : EReal)) = (∑ l, x l * d l) * r := by
      rw [← sum_mul_real _ r hp]
      exact Finset.sum_congr rfl fun l _ => by rw [← mul_assoc, mul_comm (d l)]
    rw [e, Ideal.div_coe hm.ne']
    generalize ∑ l, x l * d l = D
    have hd : r * (1 / m) = r * (r * r) := by rw [← eq_one_div_of_mul_eq_one_right hq]
    have e1 : D * (((-(1 / 2) : ℝ) : EReal) * ((r : EReal) * ((1 / m : ℝ) : EReal))) * ((1 / 2048 : ℝ) : EReal) =
        D * ((-(1 / 2) * (r * (r * r)) * (1 / 2048) : ℝ) : EReal) := by
      rw [mul_assoc, ← EReal.coe_mul, ← EReal.coe_mul, ← EReal.coe_mul, hd]
    have e2 : x k * (r : EReal) * (D * r * ((1 / 2048 : ℝ) : EReal)) = x k * D * ((r * r * (1 / 2048) : ℝ) : EReal) := by
      rw [EReal.coe_mul, EReal.coe_mul]
      ac_rfl
    rw [e1, e2, sub_eq_add_neg, EReal.left_distrib_of_nonneg_of_ne_top (by exact_mod_cast hp) (EReal.coe_ne_top r), mul_comm (d k), add_assoc,
      mul_comm _ (x k), ← mul_assoc]
    congr 1
    generalize x k * D = P
    rw [show ((-(1 / 2) * (r * (r * r)) * (1 / 2048) : ℝ) : EReal) = -((1 / 2 * (r * (r * r)) * (1 / 2048) : ℝ) : EReal) by
        rw [← EReal.coe_neg]; congr 1; ring,
      mul_neg, mul_neg, ← neg_mul, ← neg_mul]
    have hc : (0 : EReal) ≤ ((1 / 2 * (r * (r * r)) * (1 / 2048) : ℝ) : EReal) := by
      exact_mod_cast (by positivity : (0 : ℝ) ≤ 1 / 2 * (r * (r * r)) * (1 / 2048))
    rw [← EReal.left_distrib_of_nonneg hc hc, ← EReal.coe_add, neg_mul, neg_mul]
    refine congrArg Neg.neg ?_
    rw [mul_left_comm (r : EReal), ← EReal.coe_mul]
    congr 2
    ring

/-- A row from its point, its place among the sums kept apart, and its place in them. -/
def row (n : Fin 8) (j : Fin 32) (s : Fin 8) : Fin 2048 := ⟨n.val * 256 + (j.val * 8 + s.val), by omega⟩
/-- Every row is one of these. -/
theorem row_bij : Function.Bijective fun q : Fin 8 × Fin 8 × Fin 32 => row q.2.1 q.2.2 q.1 := by
  constructor
  · rintro ⟨s, n, j⟩ ⟨s', n', j'⟩ h
    have h := congrArg Fin.val h
    dsimp only [row] at h
    have e1 : s = s' := Fin.ext (by omega)
    have e2 : n = n' := Fin.ext (by omega)
    have e3 : j = j' := Fin.ext (by omega)
    rw [e1, e2, e3]
  · intro r
    exact ⟨(⟨r.val % 8, by omega⟩, ⟨r.val / 256, by omega⟩, ⟨r.val / 8 % 32, by omega⟩), Fin.ext (by dsimp only [row]; omega)⟩
/-- A sum over all rows, from the sums kept apart. -/
theorem sum_row (f : Fin 2048 → EReal) : ∑ s, ∑ n, ∑ j, f (row n j s) = ∑ r, f r := by
  rw [← Fintype.sum_bijective _ row_bij _ _ fun _ => rfl]
  simp only [Fintype.sum_prod_type]

/-- The arguments of the norm's backward call. -/
structure Raw where
  x : Fin 2048 → Fin 2048 → EReal
  g : Fin 2048 → EReal
  dh : Fin 2048 → Fin 2048 → EReal
  dres : Fin 2048 → Fin 2048 → EReal

/-- The gradient of the norm's input, with the gradient that passes beside it. -/
def Raw.dx (R : Raw) (r k : Fin 2048) : EReal := Rms.dx (R.x r) (fun l => R.dh r l * R.g l) k + R.dres r k
/-- A row's part of the gain's gradient. -/
def Raw.gr (R : Raw) (k r : Fin 2048) : EReal := R.dh r k * xh (R.x r) k
/-- The gain's gradient. -/
def Raw.dg (R : Raw) (k : Fin 2048) : EReal := ∑ r, R.gr k r

/-- The reference's gradient of the norm's input is the kernel's. -/
theorem Raw.dx_eq (R : Raw) (r k : Fin 2048) :
    R.dres r k + R.dh r k * R.g k * rr (R.x r) + R.x r k * rq (R.x r) (fun l => R.dh r l * R.g l) + rq (R.x r) (fun l => R.dh r l * R.g l) * R.x r k =
      R.dx r k := by
  unfold Raw.dx
  rw [← rdx_eq]
  unfold rdx
  dsimp only
  rw [add_comm (R.dres r k), add_right_comm _ (R.dres r k), add_right_comm _ (R.dres r k)]

end Rms

end
-- ==== Proof.RmsKer.lean ====
module

public import proofs.«01_k».proof.Proof.RmsModel
public import proofs.«01_k».proof.Proof.Fold
public import proofs.«01_k».proof.Proof.Gen.Kernel6Ideal.Value
public import Idealize.ShloMosaic.Lib.Pipeline.ReadBack
public import Idealize.ShloMosaic.Lib.Pipeline.ValueKit.Acc
public import Idealize.ShloMosaic.Lib.Pipeline.ValueKit.Tiles
public import Idealize.ShloMosaic.Lib.Pointwise

/-! What one grid point of the norm's backward kernel computes from its blocks, at an index. -/

@[expose] public section

set_option maxRecDepth 16384

noncomputable section

namespace Cert.Kernel6Ideal.Rms

open Cert.Kernel6Ideal Cert.Kernel6Ideal.Gen Cert.Kernel6Ideal.Value Idealize.ShloMosaic Idealize.ShloMosaic.TcCoe Idealize.SL.Sem _root_.Rms

variable (x h d : Vec Ideal S256x2048 .f32) (g : Vec Ideal S1x2048 .f32)

/-- A row of a block. -/
def rowOf (p : Fin 256) : Fin 2048 → EReal := fun k => x (ix2 p k)

/-- The reciprocal root mean square of a row. -/
theorem pay4 (p : Fin 256) : k0_pay4 (F := Ideal) x (ix2 p 0) = rr (rowOf x p) := by
  unfold rr ms kN Sgu.ep
  pointwise [k0_pay4]
  rfl
/-- The normalised row at an index. -/
theorem pay5 (p : Fin 256) (k : Fin 2048) : k0_pay5 (F := Ideal) x (ix2 p k) = xh (rowOf x p) k := by
  unfold xh
  pointwise [k0_pay5]
  rw [pay4]
  rfl
/-- The input's gradient at an index. -/
theorem pay6 (p : Fin 256) (k : Fin 2048) :
    k0_pay6 (F := Ideal) x h g d (ix2 p k) = dx (rowOf x p) (fun l => h (ix2 p l) * g (ix2 0 l)) k + d (ix2 p k) := by
  unfold dx kN
  pointwise [k0_pay6]
  simp only [pay4, pay5]
  try rfl
/-- The stored gradient at an index. -/
theorem pay7 (p : Fin 256) (k : Fin 2048) :
    k0_pay7 (F := Ideal) x h g d (ix2 p k) = dx (rowOf x p) (fun l => h (ix2 p l) * g (ix2 0 l)) k + d (ix2 p k) := by
  pointwise [k0_pay7]
  exact pay6 x h d g p k
/-- The stored short gradient at an index. -/
theorem pay8 (p : Fin 256) (k : Fin 2048) :
    k0_pay8 (F := Ideal) x h g d (ix2 p k) = dx (rowOf x p) (fun l => h (ix2 p l) * g (ix2 0 l)) k + d (ix2 p k) := by
  pointwise [k0_pay8]
  exact pay6 x h d g p k
/-- A block's row from its place. -/
def rj (j : Fin 32) (s : Fin 8) : Fin 256 := ⟨j.val * 8 + s.val, by omega⟩
/-- The block's part of the gain's gradient. -/
theorem pay9 (s : Fin 8) (k : Fin 2048) : k0_pay9 (F := Ideal) x h (ix2 s k) = ∑ j : Fin 32, h (ix2 (rj j s) k) * xh (rowOf x (rj j s)) k := by
  pointwise [k0_pay9]
  refine Finset.sum_congr rfl fun j _ => ?_
  rw [show ∀ q, k0_pay5 (F := Ideal) x (ix2 q k) = xh (rowOf x q) k from fun q => pay5 x q k]
  rfl
variable (a b : Vec Ideal S8x2048 .f32)
/-- The first store of the sums. -/
theorem pay1 (s : Fin 8) (k : Fin 2048) : k0_pay1 (F := Ideal) a (ix2 s k) = a (ix2 s k) := by
  pointwise [k0_pay1]
/-- The later stores of the sums. -/
theorem pay2 (s : Fin 8) (k : Fin 2048) : k0_pay2 (F := Ideal) a b (ix2 s k) = b (ix2 s k) + a (ix2 s k) := by
  pointwise [k0_pay2]
/-- The gain's gradient from the sums. -/
theorem pay3 (k : Fin 2048) : k0_pay3 (F := Ideal) a (ix2 0 k) = ∑ s : Fin 8, a (ix2 s k) := by
  pointwise [k0_pay3]
  try rfl

variable (m : (ℓ : Loc nD τ sig) → Buf (Elt Ideal) ℓ) (c : Dev nD) (t : Fin cfg0.N)

/-- The grid has 8 points. -/
theorem N_eq : cfg0.N = 8 := by decide
/-- The point's number. -/
def tn : Fin 8 := ⟨t.val, by have := t.isLt; have := N_eq; omega⟩
/-- A block's row in the array. -/
def pos (n : Fin 8) (p : Fin 256) : Fin 2048 := ⟨n.val * 256 + p.val, by omega⟩
/-- The arguments' entries. -/
def kraw : Raw where
  x r k := m ((c : Thread nD τ).loc main_arg0) (ix2 r k)
  g k := m ((c : Thread nD τ).loc main_arg1) (ix2 0 k)
  dh r k := m ((c : Thread nD τ).loc main_arg2) (ix2 r k)
  dres r k := m ((c : Thread nD τ).loc main_arg3) (ix2 r k)

/-- Where each block lies. -/
theorem idx (t : Fin cfg0.N) : win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0]) t

/-- The input's block. -/
theorem blk0 (p : Fin 256) (k : Fin 2048) : iblk m c 0 t (ix2 p k) = (kraw m c).x (pos (tn t) p) k := by
  unfold kraw; dsimp only
  blk_simp [iblk]
  blk_ext [idx t]
  all_goals dsimp only [pos, tn]
  all_goals omega
/-- The gain's block. -/
theorem blk1 (k : Fin 2048) : iblk m c 1 t (ix2 0 k) = (kraw m c).g k := by
  unfold kraw; dsimp only
  blk_simp [iblk]
  blk_ext [idx t]
/-- The block of the result's gradient. -/
theorem blk2 (p : Fin 256) (k : Fin 2048) : iblk m c 2 t (ix2 p k) = (kraw m c).dh (pos (tn t) p) k := by
  unfold kraw; dsimp only
  blk_simp [iblk]
  blk_ext [idx t]
  all_goals dsimp only [pos, tn]
  all_goals omega
/-- The block of the gradient that passes beside the norm. -/
theorem blk3 (p : Fin 256) (k : Fin 2048) : iblk m c 3 t (ix2 p k) = (kraw m c).dres (pos (tn t) p) k := by
  unfold kraw; dsimp only
  blk_simp [iblk]
  blk_ext [idx t]
  all_goals dsimp only [pos, tn]
  all_goals omega

/-- What the point before left. -/
abbrev prev : Vec Ideal S256x2048 .f32 × Vec Ideal S256x2048 .bf16 × Vec Ideal S1x2048 .f32 × Vec Ideal S8x2048 .f32 :=
  outsAt0 m c (t.val - 1) (Nat.lt_of_le_of_lt (Nat.sub_le _ _) t.isLt)
/-- The point's part of the sums. -/
abbrev part : Vec Ideal S8x2048 .f32 := k0_pay9 (F := Ideal) (iblk m c 0 t) (iblk m c 2 t)
/-- The point's stored gradient. -/
abbrev st4 : Vec Ideal S256x2048 .f32 := k0_pay7 (F := Ideal) (iblk m c 0 t) (iblk m c 2 t) (iblk m c 1 t) (iblk m c 3 t)
/-- The point's stored short gradient. -/
abbrev st5 : Vec Ideal S256x2048 .bf16 := k0_pay8 (F := Ideal) (iblk m c 0 t) (iblk m c 2 t) (iblk m c 1 t) (iblk m c 3 t)

/-- What the first point leaves. -/
theorem o_A (h : t.val % 8 = 0) (h' : ¬ 1 ≤ t.val) (hl : ¬ t.val % 8 = 7) :
    (outsAt0 m c t.val t.isLt).1 = st4 m c t ∧ (outsAt0 m c t.val t.isLt).2.1 = st5 m c t
      ∧ (outsAt0 m c t.val t.isLt).2.2.2 = k0_pay1 (F := Ideal) (part m c t) := by
  rw [outsAt0_A m c t h h' hl]
  refine ⟨?_, ?_, ?_⟩
  all_goals
    frame_out
    try simp (discharger := decide) only [↓ View.readCov_skip, View.readCov_cons_toLoadRect, read_unread_whole]
  all_goals sl_kernel_rfl

/-- What a middle point leaves. -/
theorem o_B (h : ¬ t.val % 8 = 0) (h' : 1 ≤ t.val) (hl : ¬ t.val % 8 = 7) :
    (outsAt0 m c t.val t.isLt).1 = st4 m c t ∧ (outsAt0 m c t.val t.isLt).2.1 = st5 m c t
      ∧ (outsAt0 m c t.val t.isLt).2.2.2 = k0_pay2 (F := Ideal) (part m c t) (prev m c t).2.2.2 := by
  rw [outsAt0_B m c t h h' hl]
  refine ⟨?_, ?_, ?_⟩
  all_goals
    frame_out
    try simp (discharger := decide) only [↓ View.readCov_skip, View.readCov_cons_toLoadRect, read_unread_whole]
  all_goals sl_kernel_rfl
/-- What the last point leaves. -/
theorem o_C (h : ¬ t.val % 8 = 0) (h' : 1 ≤ t.val) (hl : t.val % 8 = 7) :
    (outsAt0 m c t.val t.isLt).1 = st4 m c t ∧ (outsAt0 m c t.val t.isLt).2.1 = st5 m c t
      ∧ (outsAt0 m c t.val t.isLt).2.2.2 = k0_pay2 (F := Ideal) (part m c t) (prev m c t).2.2.2
      ∧ (outsAt0 m c t.val t.isLt).2.2.1 = k0_pay3 (F := Ideal) (k0_pay2 (F := Ideal) (part m c t) (prev m c t).2.2.2) := by
  rw [outsAt0_C m c t h h' hl]
  refine ⟨?_, ?_, ?_, ?_⟩
  all_goals
    frame_out
    try simp (discharger := decide) only [↓ View.readCov_skip, View.readCov_cons_toLoadRect, read_unread_whole]
  all_goals sl_kernel_rfl

/-- The gradient's blocks after any point. -/
theorem o45 : (outsAt0 m c t.val t.isLt).1 = st4 m c t ∧ (outsAt0 m c t.val t.isLt).2.1 = st5 m c t := by
  have hN := N_eq
  have ht := t.isLt
  by_cases h : t.val % 8 = 0
  · exact ⟨(o_A m c t h (by omega) (by omega)).1, (o_A m c t h (by omega) (by omega)).2.1⟩
  · by_cases hl : t.val % 8 = 7
    · exact ⟨(o_C m c t h (by omega) hl).1, (o_C m c t h (by omega) hl).2.1⟩
    · exact ⟨(o_B m c t h (by omega) hl).1, (o_B m c t h (by omega) hl).2.1⟩
/-- The sums after a later point. -/
theorem oa (h : ¬ t.val % 8 = 0) : (outsAt0 m c t.val t.isLt).2.2.2 = k0_pay2 (F := Ideal) (part m c t) (prev m c t).2.2.2 := by
  by_cases hl : t.val % 8 = 7
  · exact (o_C m c t h (by omega) hl).2.2.1
  · exact (o_B m c t h (by omega) hl).2.2

/-- A row of the input's block. -/
theorem rowOf_blk (p : Fin 256) : rowOf (iblk m c 0 t) p = (kraw m c).x (pos (tn t) p) := funext fun k => blk0 m c t p k
/-- A row's gradient from the arguments. -/
def rdx' (p : Fin 256) (k : Fin 2048) (x h d : Vec Ideal S256x2048 .f32) (g : Vec Ideal S1x2048 .f32) : EReal :=
  dx (rowOf x p) (fun l => h (ix2 p l) * g (ix2 0 l)) k + d (ix2 p k)
/-- A row's gradient. -/
theorem dx_blk (p : Fin 256) (k : Fin 2048) : rdx' p k (iblk m c 0 t) (iblk m c 2 t) (iblk m c 3 t) (iblk m c 1 t) = (kraw m c).dx (pos (tn t) p) k := by
  unfold rdx' Raw.dx
  exact congrArg₂ (fun a b : EReal => a + b) (congrArg₂ (fun u v => dx u v k) (rowOf_blk m c t p) (funext fun l => congrArg₂ (fun a b : EReal => a * b) (blk2 m c t p l) (blk1 m c t l)))
    (blk3 m c t p k)
/-- The gradient's block at an index. -/
theorem st4_at (p : Fin 256) (k : Fin 2048) : (outsAt0 m c t.val t.isLt).1 (ix2 p k) = (kraw m c).dx (pos (tn t) p) k := by
  rw [(o45 m c t).1]
  exact (pay7 _ _ _ _ p k).trans (dx_blk m c t p k)
/-- The short gradient's block at an index. -/
theorem st5_at (p : Fin 256) (k : Fin 2048) : (outsAt0 m c t.val t.isLt).2.1 (ix2 p k) = (kraw m c).dx (pos (tn t) p) k := by
  rw [(o45 m c t).2]
  exact (pay8 _ _ _ _ p k).trans (dx_blk m c t p k)
/-- The point's part of the sums at an index. -/
theorem part_at (s : Fin 8) (k : Fin 2048) : part m c t (ix2 s k) = ∑ j, (kraw m c).gr k (row (tn t) j s) := by
  refine (pay9 _ _ s k).trans (Finset.sum_congr rfl fun j _ => ?_)
  unfold Raw.gr
  exact congrArg₂ (· * ·) (blk2 m c t (rj j s) k) (congrArg (fun u => xh u k) (rowOf_blk m c t (rj j s)))
/-- The sums after the first point. -/
theorem a_first (h : t.val % 8 = 0) (s : Fin 8) (k : Fin 2048) :
    (outsAt0 m c t.val t.isLt).2.2.2 (ix2 s k) = 0 + ∑ j, (kraw m c).gr k (row (tn t) j s) := by
  have hN := N_eq
  have ht := t.isLt
  rw [(o_A m c t h (by omega) (by omega)).2.2, zero_add]
  exact (pay1 _ s k).trans (part_at m c t s k)
/-- The sums after a later point. -/
theorem a_next (h : ¬ t.val % 8 = 0) (s : Fin 8) (k : Fin 2048) :
    (outsAt0 m c t.val t.isLt).2.2.2 (ix2 s k) = (prev m c t).2.2.2 (ix2 s k) + ∑ j, (kraw m c).gr k (row (tn t) j s) := by
  rw [oa m c t h]
  exact (pay2 _ _ s k).trans (congrArg (_ + ·) (part_at m c t s k))
/-- The sums after the last point. -/
theorem a_last (h : t.val % 8 = 7) (s : Fin 8) (k : Fin 2048) :
    (outsAt0 m c t.val t.isLt).2.2.2 (ix2 s k) = ∑ n, ∑ j, (kraw m c).gr k (row n j s) := by
  have hN := N_eq
  obtain ⟨v, hv⟩ := t
  have e : v = 0 + 7 := by dsimp only at h; omega
  subst e
  refine (Cert.KernelIdeal.Att.fold_sum 8 (fun n h => (outsAt0 m c n h).2.2.2 (ix2 s k)) (fun n h => ∑ j, (kraw m c).gr k (row (tn ⟨n, h⟩) j s))
    (fun n h e => a_first m c ⟨n, h⟩ e s k) (fun n h e => a_next m c ⟨n, h⟩ e s k) 0 (by omega) 7 (by omega) hv).trans (Finset.sum_congr rfl fun n _ => ?_)
  refine Finset.sum_congr rfl fun j _ => congrArg (fun q => (kraw m c).gr k (row q j s)) (Fin.ext (Nat.zero_add _))
/-- The gain's gradient after the last point. -/
theorem st6_at (h : t.val % 8 = 7) (k : Fin 2048) : (outsAt0 m c t.val t.isLt).2.2.1 (ix2 0 k) = (kraw m c).dg k := by
  have ho := o_C m c t (by omega) (by omega) h
  rw [ho.2.2.2, ← ho.2.2.1]
  refine (pay3 _ k).trans ?_
  unfold Raw.dg
  rw [← sum_row]
  exact Finset.sum_congr rfl fun s _ => a_last m c t h s k

/-- The input's gradient, as an array. -/
def xA (R : Raw) : S2048x2048.Idx → EReal := fun i => R.dx (i 0) (i 1)
/-- The gain's gradient, as an array. -/
def gA (R : Raw) : S1x2048.Idx → EReal := fun i => R.dg (i 1)
/-- The input's gradient's array at an index. -/
theorem xA_at (R : Raw) (i : S2048x2048.Idx) (r k : Fin 2048) (h0 : (i 0).val = r.val) (h1 : (i 1).val = k.val) : xA R i = R.dx r k := by
  unfold xA
  congr 1 <;> (apply Fin.ext; assumption)
/-- The gain's gradient's array at an index. -/
theorem gA_at (R : Raw) (i : S1x2048.Idx) (k : Fin 2048) (h1 : (i 1).val = k.val) : gA R i = R.dg k := by
  unfold gA
  congr 1 <;> (apply Fin.ext; assumption)

/-- The array of the input's gradient after the run. -/
theorem arr4 : (dats m 0 c).arrAt 4 cfg0.N = (xA (kraw m c) : Vec Ideal S2048x2048 .f32) := by
  refine (dats m 0 c).arrAt_eq_of_covers 4 _ (by decide +kernel) fun t hf y => ?_
  blk_simp
  rw [after0_4]
  refine (congrArg (outsAt0 m c t.val t.isLt).1 (eq_ix2 (n0 := 256) (n1 := 2048) y)).trans ((st4_at m c t (y 0) (y 1)).trans ?_)
  refine (xA_at _ _ _ _ ?_ ?_).symm
  all_goals blk_simp [idx t] <;> try dsimp only [pos, tn]
  all_goals try omega
/-- The array of the short gradient after the run. -/
theorem arr5 : (dats m 0 c).arrAt 5 cfg0.N = (xA (kraw m c) : Vec Ideal S2048x2048 .bf16) := by
  refine (dats m 0 c).arrAt_eq_of_covers 5 _ (by decide +kernel) fun t hf y => ?_
  blk_simp
  rw [after0_5]
  refine (congrArg (outsAt0 m c t.val t.isLt).2.1 (eq_ix2 (n0 := 256) (n1 := 2048) y)).trans ((st5_at m c t (y 0) (y 1)).trans ?_)
  refine (xA_at _ _ _ _ ?_ ?_).symm
  all_goals blk_simp [idx t] <;> try dsimp only [pos, tn]
  all_goals try omega
/-- The array of the gain's gradient after the run. -/
theorem arr6 : (dats m 0 c).arrAt 6 cfg0.N = (gA (kraw m c) : Vec Ideal S1x2048 .f32) := by
  refine (dats m 0 c).arrAt_eq_of_covers 6 _ (by decide +kernel) fun t hf y => ?_
  have h2 := (flush0_6 t).mp hf
  blk_simp
  rw [after0_6]
  have hy : y = ix2 (0 : Fin 1) (y 1) := by
    funext a; apply Fin.ext
    match a with
    | ⟨0, _⟩ => have := (y 0).isLt; change _ < 1 at this; change (y 0).val = 0; omega
    | ⟨1, _⟩ => rfl
  refine (congrArg (outsAt0 m c t.val t.isLt).2.2.1 hy).trans ((st6_at m c t h2 (y 1)).trans ?_)
  refine (gA_at _ _ _ ?_).symm
  all_goals blk_simp [idx t] <;> try omega

end Cert.Kernel6Ideal.Rms

end
-- ==== Proof.RmsRef.lean ====
module

public import proofs.«01_k».proof.Proof.RmsKer
public import proofs.«01_k».proof.Proof.Gen.Reference6Ideal.Run
public import Idealize.ShloMosaic.Lib.Pointwise
public import Idealize.ShloMosaic.Lib.IdealHost

/-! The reference of the norm's backward call: its three results, as the kernel's arrays. -/

@[expose] public section

set_option maxRecDepth 16384

noncomputable section

namespace Cert.Reference6Ideal.Rms

open Cert.Reference6Ideal Cert.Reference6Ideal.Gen Cert.Reference6Ideal.Value Idealize.ShloMosaic Idealize.ShloMosaic.TcCoe Idealize.SL.Sem _root_.Rms
open Cert.Kernel6Ideal.Rms (xA gA xA_at gA_at)

variable (m : (ℓ : Loc nD τ sig) → Buf (Elt Ideal) ℓ) (ρ : Dev nD → PrngReg) (c : Dev nD)

/-- The arguments' entries. -/
def raw : Raw where
  x r k := m ((c.tc : Thread nD τ).loc main_arg0) (ix2 r k)
  g k := m ((c.tc : Thread nD τ).loc main_arg1) (ix2 0 k)
  dh r k := m ((c.tc : Thread nD τ).loc main_arg2) (ix2 r k)
  dres r k := m ((c.tc : Thread nD τ).loc main_arg3) (ix2 r k)

section
variable (x h : FVec Ideal S2048x2048 .f32) (g : FVec Ideal S1x2048 .f32)

/-- A row. -/
def rowR (r : Fin 2048) : Fin 2048 → EReal := fun k => x (ix2 r k)
/-- The means of the rows' squares with their addition. -/
def msv : FVec Ideal S2048x1 .f32 :=
  addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))
/-- The reciprocal root mean squares. -/
def rrv : FVec Ideal S2048x1 .f32 := Host.rsqrt (msv x)
/-- The normalised rows. -/
def xhv : FVec Ideal S2048x2048 .f32 := mulf x (broadcastInDim S2048x2048 ![0, 1] bcast_S2048x1_S2048x2048_0_1 (rrv x))
/-- The gain over all rows. -/
def gv : FVec Ideal S2048x2048 .f32 :=
  broadcastInDim S2048x2048 ![0, 1] bcast_S1x2048_S2048x2048_0_1 (broadcastInDim S1x2048 ![1] bcast_S2048_S1x2048_1 (shapeCast _ g shapeCasts_S1x2048_S2048))
/-- The rows' dot products. -/
def dotv : FVec Ideal S2048 .f32 := Host.reduceAdd (mulf x h) (constant S_ .f32 0x00000000#32) reducesTo_S2048x2048_S2048_d1 h_S_
/-- What the root mean square adds, before its last sum. -/
def qv : FVec Ideal S2048x1 .f32 :=
  Host.divf (mulf (shapeCast _ (dotv x h) shapeCasts_S2048_S2048x1) (mulf (broadcastInDim S2048x1 ![] bcast_S_S2048x1 (constant S_ .f32 0xBF000000#32)) (Host.divf (rrv x) (msv x)))) (broadcastInDim S2048x1 ![] bcast_S_S2048x1 (constant S_ .f32 0x45000000#32))
/-- What the root mean square adds, over all columns. -/
def rqv : FVec Ideal S2048x2048 .f32 :=
  broadcastInDim S2048x2048 ![0] bcast_S2048_S2048x2048_0 (Host.reduceAdd (qv x h) (constant S_ .f32 0x00000000#32) reducesTo_S2048x1_S2048_d1 h_S_)
/-- A gain's gradient. -/
def dgv : FVec Ideal S1x2048 .f32 :=
  broadcastInDim S1x2048 ![1] bcast_S2048_S1x2048_1 (Host.reduceAdd (shapeCast _ (Host.reduceAdd (mulf (xhv x) h) (constant S_ .f32 0x00000000#32) reducesTo_S2048x2048_S2048_d0 h_S_) shapeCasts_S2048_S1x2048) (constant S_ .f32 0x00000000#32) reducesTo_S1x2048_S2048_d0 h_S_)

/-- The means at a row. -/
theorem msv_at (r : Fin 2048) : msv x (ix2 r 0) = ms (rowR x r) := by
  unfold msv ms kN Sgu.ep
  pointwise
  rfl
/-- The reciprocals at a row. -/
theorem rrv_at (r : Fin 2048) : rrv x (ix2 r 0) = rr (rowR x r) := by
  unfold rrv rr
  pointwise
  rw [msv_at]
/-- The normalised rows at an index. -/
theorem xhv_at (r k : Fin 2048) : xhv x (ix2 r k) = xh (rowR x r) k := by
  unfold xhv xh
  pointwise
  rw [rrv_at]
  rfl
/-- The gain at an index. -/
theorem gv_at (r k : Fin 2048) : gv g (ix2 r k) = g (ix2 0 k) := by
  unfold gv
  pointwise
/-- The dot product at a row. -/
theorem dotv_at (r : Fin 2048) : dotv x h (ix1 r) = ∑ k, rowR x r k * rowR h r k := by
  unfold dotv
  pointwise
  rfl
/-- What the root mean square adds at a row. -/
theorem qv_at (r : Fin 2048) : qv x h (ix2 r 0) = rq (rowR x r) (rowR h r) := by
  unfold qv rq kN Sgu.mh
  pointwise
  rw [dotv_at, rrv_at, msv_at]
/-- What the root mean square adds at an index. -/
theorem rqv_at (r k : Fin 2048) : rqv x h (ix2 r k) = rq (rowR x r) (rowR h r) := by
  unfold rqv
  pointwise
  exact (Fin.sum_univ_one _).trans (qv_at x h r)
/-- A gain's gradient at an index. -/
theorem dgv_at (k : Fin 2048) : dgv x h (ix2 0 k) = ∑ r, h (ix2 r k) * xh (rowR x r) k := by
  unfold dgv
  pointwise
  refine (Fin.sum_univ_one _).trans (Finset.sum_congr rfl fun r _ => ?_)
  rw [xhv_at]
  exact mul_comm _ _

end

/-- The gradient of the norm's input, from its parts. -/
def radd (d a r x q : EReal) : EReal := d + a * r + x * q + q * x

/-- The input's gradient. -/
theorem v37_eq : res_main_v37 m c = (xA (raw m c) : Vec Ideal S2048x2048 .f32) := by
  refine funext fun y => ?_
  obtain ⟨r, k, rfl⟩ : ∃ (r k : Fin 2048), y = ix2 r k := ⟨y 0, y 1, eq_ix2 y⟩
  refine Eq.trans ?_ ((Raw.dx_eq _ r k).trans (xA_at (raw m c) (ix2 r k) r k rfl rfl).symm)
  have e : res_main_v37 m c = addf (addf (addf (m ((c.tc : Thread nD τ).loc main_arg3)) (mulf (mulf (m ((c.tc : Thread nD τ).loc main_arg2)) (gv (m ((c.tc : Thread nD τ).loc main_arg1))))
      (broadcastInDim S2048x2048 ![0, 1] bcast_S2048x1_S2048x2048_0_1 (rrv (m ((c.tc : Thread nD τ).loc main_arg0))))))
      (mulf (m ((c.tc : Thread nD τ).loc main_arg0)) (rqv (m ((c.tc : Thread nD τ).loc main_arg0)) (mulf (m ((c.tc : Thread nD τ).loc main_arg2)) (gv (m ((c.tc : Thread nD τ).loc main_arg1)))))))
      (mulf (rqv (m ((c.tc : Thread nD τ).loc main_arg0)) (mulf (m ((c.tc : Thread nD τ).loc main_arg2)) (gv (m ((c.tc : Thread nD τ).loc main_arg1))))) (m ((c.tc : Thread nD τ).loc main_arg0))) := rfl
  rw [e]
  generalize hx : m ((c.tc : Thread nD τ).loc main_arg0) = x
  generalize hh : m ((c.tc : Thread nD τ).loc main_arg2) = h
  generalize hg : m ((c.tc : Thread nD τ).loc main_arg1) = g
  generalize hd : m ((c.tc : Thread nD τ).loc main_arg3) = d
  pointwise
  rw [gv_at, rrv_at, rqv_at]
  have eq : rowR (mulf h (gv g)) r = fun l => rowR h r l * g (ix2 0 l) := funext fun l => by
    unfold rowR
    pointwise
    rw [gv_at]
  rw [eq]
  unfold raw
  simp only [hx, hh, hg, hd]
  rfl
/-- The short gradient. -/
theorem v39_eq : res_main_v39 m c = (xA (raw m c) : Vec Ideal S2048x2048 .bf16) := by
  refine Eq.trans ?_ (v37_eq m c)
  rfl

/-- The reference runs and ends with the three gradients in the kernel's form. -/
theorem run : θ_run defs (onTc (τ := τ) (main (F := Ideal))) ⟨m, fun _ => 0, ρ⟩ (fun r => ∀ c : Dev nD,
      r.2.mem ((c.tc : Thread nD τ).loc main_v37) = (xA (raw m c) : Vec Ideal S2048x2048 .f32)
      ∧ r.2.mem ((c.tc : Thread nD τ).loc main_v39) = (xA (raw m c) : Vec Ideal S2048x2048 .bf16)
      ∧ r.2.mem ((c.tc : Thread nD τ).loc main_v38) = (gA (raw m c) : Vec Ideal S1x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run Cert.Reference6Ideal.defs _ _).mono (fun r h c => ⟨(h c).1.trans (v37_eq m c), (h c).2.1.trans (v39_eq m c), (h c).2.2.1.trans ?_, (h c).2.2.2⟩)
    (Cert.Reference6Ideal.Value.run (F := Ideal) m ρ)
  clear h
  refine funext fun y => ?_
  obtain ⟨z, k, rfl⟩ : ∃ (z : Fin 1) (k : Fin 2048), y = ix2 z k := ⟨y 0, y 1, eq_ix2 y⟩
  obtain rfl : z = 0 := Subsingleton.elim _ _
  exact (dgv_at (m ((c.tc : Thread nD τ).loc main_arg0)) (m ((c.tc : Thread nD τ).loc main_arg2)) k).trans (gA_at (raw m c) (ix2 0 k) k rfl).symm

end Cert.Reference6Ideal.Rms

end
-- ==== Proof.RmsClose.lean ====
module

public import proofs.«01_k».proof.Defs
public import proofs.«01_k».proof.Proof.RmsRef
public import Idealize.ShloMosaic.Lib.Quiescent

/-! The claims of the norm's backward call. -/

@[expose] public section

noncomputable section

namespace Cert.Proof

open Idealize.ShloMosaic Idealize.ShloMosaic.TcCoe Idealize.SL.Sem

/-- The kernel and the reference end with equal results. -/
theorem algebraic6 : Cert.algebraic_Kernel6Ideal_Reference6Ideal
    (hKernel6Ideal := Cert.Kernel6Ideal.Gen.facts) (hReference6Ideal := Cert.Reference6Ideal.Gen.facts) := by
  intro m g m' g' _ hag
  have er : ∀ c, Cert.Reference6Ideal.Rms.raw m' c = Cert.Kernel6Ideal.Rms.kraw m c := fun c => by
    obtain ⟨h0, h1, h2, h3⟩ := hag c
    unfold Cert.Reference6Ideal.Rms.raw Cert.Kernel6Ideal.Rms.kraw
    congr 1
    · exact funext fun r => funext fun k => congrFun h0 (ix2 r k)
    · exact funext fun k => congrFun h1 (ix2 0 k)
    · exact funext fun r => funext fun k => congrFun h2 (ix2 r k)
    · exact funext fun r => funext fun k => congrFun h3 (ix2 r k)
  refine ⟨fun c => Cert.Kernel6Ideal.Rms.xA (Cert.Kernel6Ideal.Rms.kraw m c), fun c => Cert.Kernel6Ideal.Rms.xA (Cert.Kernel6Ideal.Rms.kraw m c),
    fun c => Cert.Kernel6Ideal.Rms.gA (Cert.Kernel6Ideal.Rms.kraw m c), ?_, ?_⟩
  · exact (θ_run Cert.Kernel6Ideal.defs _ _).mono (fun r h c => ⟨(h c).1.trans (Cert.Kernel6Ideal.Rms.arr4 m c), (h c).2.1.trans (Cert.Kernel6Ideal.Rms.arr5 m c),
      (h c).2.2.1.trans (Cert.Kernel6Ideal.Rms.arr6 m c), (h c).2.2.2⟩) (Cert.Kernel6Ideal.Value.run_blocks (F := Ideal) m g)
  · have hr := Cert.Reference6Ideal.Rms.run m' g'
    simp only [er] at hr
    exact hr

/-- The reference's frame. -/
theorem frame_ref6 : Cert.quiescent_Reference6Ideal (hReference6Ideal := Cert.Reference6Ideal.Gen.facts) := fun m' g' _ =>
  (θ_run Cert.Reference6Ideal.defs _ _).mono (fun r h => ⟨fun c => (h c).2.2.2, sem_eq_zero_of_no_sems (by decide) r.2⟩) (Cert.Reference6Ideal.Value.run (F := Ideal) m' g')

end Cert.Proof
-- ==== Proof.HeadModel.lean ====
module

public import proofs.«01_k».proof.Proof.RmsModel

/-! The final norm with the squared error to a target, over the extended reals: the error's gradient, the norm's, and
the loss. The constants are powers of two, so that the two orders of the multiplications agree at all arguments. -/

@[expose] public section

noncomputable section

namespace Head

open Idealize.ShloMosaic Rms

/-- One over the number of entries of a row. -/
def c1 : EReal := Ideal.ofBits .f32 0x3A000000#32
/-- One half of one over the number of entries of a row. -/
def c2 : EReal := Ideal.ofBits .f32 0x39800000#32
/-- One half. -/
def hf : EReal := Ideal.ofBits .f32 0x3F000000#32
/-- One. -/
def on : EReal := Ideal.ofBits .f32 0x3F800000#32
/-- Two. -/
def tw : EReal := Ideal.ofBits .f32 0x40000000#32

/-- The word as a real number. -/
theorem c1_eq : c1 = ((1 / 2048 : ℝ) : EReal) := by
  unfold c1; simp [Ideal.ofBits, Ideal.ieee, -EReal.coe_mul]; norm_num
/-- The word as a real number. -/
theorem c2_eq : c2 = ((1 / 4096 : ℝ) : EReal) := by
  unfold c2; simp [Ideal.ofBits, Ideal.ieee, -EReal.coe_mul]; norm_num
/-- The word as a real number. -/
theorem hf_eq : hf = ((1 / 2 : ℝ) : EReal) := by
  unfold hf; simp [Ideal.ofBits, Ideal.ieee, -EReal.coe_mul]; norm_num
/-- The word as a real number. -/
theorem on_eq : on = ((1 : ℝ) : EReal) := by
  unfold on; simp [Ideal.ofBits, Ideal.ieee, -EReal.coe_mul]; norm_num
/-- The word as a real number. -/
theorem tw_eq : tw = ((2 : ℝ) : EReal) := by
  unfold tw; simp [Ideal.ofBits, Ideal.ieee, -EReal.coe_mul]; norm_num

/-- The error's gradient: the reference's factors are one over the number of entries. -/
theorem dy_eq (e : EReal) : Ideal.div (hf * on) kN * (tw * e) = e * c1 := by
  rw [div_kN, hf_eq, on_eq, tw_eq, c1_eq, ← mul_assoc, mul_comm e]
  congr 1
  rw [← EReal.coe_mul, ← EReal.coe_mul, ← EReal.coe_mul]
  congr 1
  norm_num

/-- The arguments of the last norm and loss. -/
structure Raw where
  x : Fin 2048 → Fin 2048 → EReal
  g : Fin 2048 → EReal
  t : Fin 2048 → Fin 2048 → EReal

namespace Raw
variable (R : Raw)

/-- The error. -/
def e (r k : Fin 2048) : EReal := xh (R.x r) k * R.g k - R.t r k
/-- The error's gradient. -/
def dy (r k : Fin 2048) : EReal := R.e r k * c1
/-- The gradient of the norm's input. -/
def dx (r k : Fin 2048) : EReal := Rms.dx (R.x r) (fun l => R.dy r l * R.g l) k
/-- A row's part of the gain's gradient. -/
def gr (k r : Fin 2048) : EReal := R.dy r k * xh (R.x r) k
/-- The gain's gradient. -/
def dg (k : Fin 2048) : EReal := ∑ r, R.gr k r
/-- A row's squared error in a column. -/
def sq (k r : Fin 2048) : EReal := R.e r k * R.e r k
/-- The loss. -/
def loss : EReal := c2 * ∑ s : Fin 8, ∑ k, ∑ n : Fin 8, ∑ j : Fin 32, R.sq k (row n j s)

/-- The loss as the mean over a row's entries. -/
theorem loss_eq : hf * ∑ r, Ideal.div (∑ k, R.sq k r) kN = R.loss := by
  unfold loss
  have e1 : ∑ s : Fin 8, ∑ k, ∑ n : Fin 8, ∑ j : Fin 32, R.sq k (row n j s) = ∑ r, ∑ k, R.sq k r := by
    rw [Finset.sum_comm, Finset.sum_comm (f := fun r k => R.sq k r)]
    exact Finset.sum_congr rfl fun k _ => sum_row (R.sq k)
  rw [e1]
  simp only [div_kN]
  rw [sum_mul_real _ _ (by norm_num), hf_eq, c2_eq, mul_left_comm, mul_comm, ← EReal.coe_mul]
  congr 2
  norm_num

end Raw

end Head

end
-- ==== Proof.HeadKer.lean ====
module

public import proofs.«01_k».proof.Proof.HeadModel
public import proofs.«01_k».proof.Proof.Fold
public import proofs.«01_k».proof.Proof.Gen.Kernel7Ideal.Value
public import Idealize.ShloMosaic.Lib.Pipeline.ReadBack
public import Idealize.ShloMosaic.Lib.Pipeline.ValueKit.Acc
public import Idealize.ShloMosaic.Lib.Pipeline.ValueKit.Tiles
public import Idealize.ShloMosaic.Lib.Pointwise

/-! What one grid point of the last norm's and loss's kernel computes from its blocks, at an index. -/

@[expose] public section

set_option maxRecDepth 16384

noncomputable section

namespace Cert.Kernel7Ideal.Head

open Cert.Kernel7Ideal Cert.Kernel7Ideal.Gen Cert.Kernel7Ideal.Value Idealize.ShloMosaic Idealize.ShloMosaic.TcCoe Idealize.SL.Sem _root_.Rms _root_.Head

variable (x t : Vec Ideal S256x2048 .f32) (g : Vec Ideal S1x2048 .f32)

/-- A row of a block. -/
def rowOf (p : Fin 256) : Fin 2048 → EReal := fun k => x (ix2 p k)
/-- A block's error. -/
def eB (p : Fin 256) (k : Fin 2048) (x t : Vec Ideal S256x2048 .f32) (g : Vec Ideal S1x2048 .f32) : EReal := xh (rowOf x p) k * g (ix2 0 k) - t (ix2 p k)
/-- A block's gradient. -/
def dB (p : Fin 256) (k : Fin 2048) (x t : Vec Ideal S256x2048 .f32) (g : Vec Ideal S1x2048 .f32) : EReal :=
  dx (rowOf x p) (fun l => eB p l x t g * c1 * g (ix2 0 l)) k

/-- The reciprocal root mean square of a row. -/
theorem pay8 (p : Fin 256) : k0_pay8 (F := Ideal) x (ix2 p 0) = rr (rowOf x p) := by
  unfold rr ms kN Sgu.ep
  pointwise [k0_pay8]
  rfl
/-- The normalised row at an index. -/
theorem pay9 (p : Fin 256) (k : Fin 2048) : k0_pay9 (F := Ideal) x (ix2 p k) = xh (rowOf x p) k := by
  unfold xh
  pointwise [k0_pay9]
  rw [pay8]
  rfl
/-- The error at an index. -/
theorem pay10 (p : Fin 256) (k : Fin 2048) : k0_pay10 (F := Ideal) x g t (ix2 p k) = eB p k x t g := by
  unfold eB
  pointwise [k0_pay10]
  rw [pay9]
  try rfl
/-- The error's gradient at an index. -/
theorem pay11 (p : Fin 256) (k : Fin 2048) : k0_pay11 (F := Ideal) x g t (ix2 p k) = eB p k x t g * c1 := by
  unfold c1
  pointwise [k0_pay11]
  rw [pay10]
  try rfl
/-- The input's gradient at an index. -/
theorem pay12 (p : Fin 256) (k : Fin 2048) : k0_pay12 (F := Ideal) x g t (ix2 p k) = dB p k x t g := by
  unfold dB dx kN
  pointwise [k0_pay12]
  simp only [pay8, pay9, pay11]
  try rfl
/-- The stored gradient at an index. -/
theorem pay13 (p : Fin 256) (k : Fin 2048) : k0_pay13 (F := Ideal) x g t (ix2 p k) = dB p k x t g := by
  pointwise [k0_pay13]
  exact pay12 x t g p k
/-- The stored short gradient at an index. -/
theorem pay14 (p : Fin 256) (k : Fin 2048) : k0_pay14 (F := Ideal) x g t (ix2 p k) = dB p k x t g := by
  pointwise [k0_pay14]
  exact pay12 x t g p k
/-- A block's row from its place. -/
def rj (j : Fin 32) (s : Fin 8) : Fin 256 := ⟨j.val * 8 + s.val, by omega⟩
/-- The block's part of the gain's gradient. -/
theorem pay15 (s : Fin 8) (k : Fin 2048) : k0_pay15 (F := Ideal) x g t (ix2 s k) = ∑ j : Fin 32, eB (rj j s) k x t g * c1 * xh (rowOf x (rj j s)) k := by
  pointwise [k0_pay15]
  refine Finset.sum_congr rfl fun j _ => ?_
  rw [show ∀ q, k0_pay9 (F := Ideal) x (ix2 q k) = xh (rowOf x q) k from fun q => pay9 x q k, pay11]
  try rfl
variable (a b : Vec Ideal S8x2048 .f32) (e : Vec Ideal S256x2048 .f32)
/-- The block's part of the squared error. -/
theorem pay1 (s : Fin 8) (k : Fin 2048) : k0_pay1 (F := Ideal) e (ix2 s k) = ∑ j : Fin 32, rowOf e (rj j s) k * rowOf e (rj j s) k := by
  pointwise [k0_pay1]
  try rfl
/-- The first store of the gain's sums. -/
theorem pay2 (s : Fin 8) (k : Fin 2048) : k0_pay2 (F := Ideal) a (ix2 s k) = a (ix2 s k) := by
  pointwise [k0_pay2]
/-- The first store of the error's sums. -/
theorem pay3 (s : Fin 8) (k : Fin 2048) : k0_pay3 (F := Ideal) e (ix2 s k) = ∑ j : Fin 32, rowOf e (rj j s) k * rowOf e (rj j s) k := by
  pointwise [k0_pay3]
  exact pay1 e s k
/-- The later stores of the gain's sums. -/
theorem pay4 (s : Fin 8) (k : Fin 2048) : k0_pay4 (F := Ideal) a b (ix2 s k) = b (ix2 s k) + a (ix2 s k) := by
  pointwise [k0_pay4]
/-- The later stores of the error's sums. -/
theorem pay5 (s : Fin 8) (k : Fin 2048) : k0_pay5 (F := Ideal) e b (ix2 s k) = b (ix2 s k) + ∑ j : Fin 32, rowOf e (rj j s) k * rowOf e (rj j s) k := by
  pointwise [k0_pay5]
  rw [pay1]
/-- The gain's gradient from the sums. -/
theorem pay6 (k : Fin 2048) : k0_pay6 (F := Ideal) a (ix2 0 k) = ∑ s : Fin 8, a (ix2 s k) := by
  pointwise [k0_pay6]
/-- The loss from the sums. -/
theorem pay7 (k : Fin 128) : k0_pay7 (F := Ideal) a (ix2 0 k) = c2 * ∑ s : Fin 8, ∑ l : Fin 2048, a (ix2 s l) := by
  unfold c2
  pointwise [k0_pay7]
  try rfl
variable (m : (ℓ : Loc nD τ sig) → Buf (Elt Ideal) ℓ) (c : Dev nD) (t : Fin cfg0.N)

/-- The grid has 8 points. -/
theorem N_eq : cfg0.N = 8 := by decide
/-- The point's number. -/
def tn : Fin 8 := ⟨t.val, by have := t.isLt; have := N_eq; omega⟩
/-- A block's row in the array. -/
def pos (n : Fin 8) (p : Fin 256) : Fin 2048 := ⟨n.val * 256 + p.val, by omega⟩
/-- The arguments' entries. -/
def kraw : _root_.Head.Raw where
  x r k := m ((c : Thread nD τ).loc main_arg0) (ix2 r k)
  g k := m ((c : Thread nD τ).loc main_arg1) (ix2 0 k)
  t r k := m ((c : Thread nD τ).loc main_arg2) (ix2 r k)

/-- Where each block lies. -/
theorem idx (t : Fin cfg0.N) : win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]) t

/-- The input's block. -/
theorem blk0 (p : Fin 256) (k : Fin 2048) : iblk m c 0 t (ix2 p k) = (kraw m c).x (pos (tn t) p) k := by
  unfold kraw; dsimp only
  blk_simp [iblk]
  blk_ext [idx t]
  all_goals dsimp only [pos, tn]
  all_goals omega
/-- The gain's block. -/
theorem blk1 (k : Fin 2048) : iblk m c 1 t (ix2 0 k) = (kraw m c).g k := by
  unfold kraw; dsimp only
  blk_simp [iblk]
  blk_ext [idx t]
/-- The target's block. -/
theorem blk2 (p : Fin 256) (k : Fin 2048) : iblk m c 2 t (ix2 p k) = (kraw m c).t (pos (tn t) p) k := by
  unfold kraw; dsimp only
  blk_simp [iblk]
  blk_ext [idx t]
  all_goals dsimp only [pos, tn]
  all_goals omega

/-- What the point before left. -/
abbrev prev : Vec Ideal S256x2048 .f32 × Vec Ideal S256x2048 .bf16 × Vec Ideal S1x2048 .f32 × Vec Ideal S1x128 .f32 × Vec Ideal S8x2048 .f32 × Vec Ideal S8x2048 .f32 :=
  outsAt0 m c (t.val - 1) (Nat.lt_of_le_of_lt (Nat.sub_le _ _) t.isLt)
/-- The point's part of the gain's sums. -/
abbrev part : Vec Ideal S8x2048 .f32 := k0_pay15 (F := Ideal) (iblk m c 0 t) (iblk m c 1 t) (iblk m c 2 t)
/-- The point's error. -/
abbrev err : Vec Ideal S256x2048 .f32 := k0_pay10 (F := Ideal) (iblk m c 0 t) (iblk m c 1 t) (iblk m c 2 t)
/-- The point's stored gradient. -/
abbrev st3 : Vec Ideal S256x2048 .f32 := k0_pay13 (F := Ideal) (iblk m c 0 t) (iblk m c 1 t) (iblk m c 2 t)
/-- The point's stored short gradient. -/
abbrev st4 : Vec Ideal S256x2048 .bf16 := k0_pay14 (F := Ideal) (iblk m c 0 t) (iblk m c 1 t) (iblk m c 2 t)

/-- What the first point leaves. -/
theorem o_A (h : t.val % 8 = 0) (h' : ¬ 1 ≤ t.val) (hl : ¬ t.val % 8 = 7) :
    (outsAt0 m c t.val t.isLt).1 = st3 m c t ∧ (outsAt0 m c t.val t.isLt).2.1 = st4 m c t
      ∧ (outsAt0 m c t.val t.isLt).2.2.2.2.1 = k0_pay2 (F := Ideal) (part m c t) ∧ (outsAt0 m c t.val t.isLt).2.2.2.2.2 = k0_pay3 (F := Ideal) (err m c t) := by
  rw [outsAt0_A m c t h h' hl]
  refine ⟨?_, ?_, ?_, ?_⟩
  all_goals
    frame_out
    try simp (discharger := decide) only [↓ View.readCov_skip, View.readCov_cons_toLoadRect, read_unread_whole]
  all_goals sl_kernel_rfl
/-- What a middle point leaves. -/
theorem o_B (h : ¬ t.val % 8 = 0) (h' : 1 ≤ t.val) (hl : ¬ t.val % 8 = 7) :
    (outsAt0 m c t.val t.isLt).1 = st3 m c t ∧ (outsAt0 m c t.val t.isLt).2.1 = st4 m c t
      ∧ (outsAt0 m c t.val t.isLt).2.2.2.2.1 = k0_pay4 (F := Ideal) (part m c t) (prev m c t).2.2.2.2.1
      ∧ (outsAt0 m c t.val t.isLt).2.2.2.2.2 = k0_pay5 (F := Ideal) (err m c t) (prev m c t).2.2.2.2.2 := by
  rw [outsAt0_B m c t h h' hl]
  refine ⟨?_, ?_, ?_, ?_⟩
  all_goals
    frame_out
    try simp (discharger := decide) only [↓ View.readCov_skip, View.readCov_cons_toLoadRect, read_unread_whole]
  all_goals sl_kernel_rfl
/-- What the last point leaves. -/
theorem o_C (h : ¬ t.val % 8 = 0) (h' : 1 ≤ t.val) (hl : t.val % 8 = 7) :
    (outsAt0 m c t.val t.isLt).1 = st3 m c t ∧ (outsAt0 m c t.val t.isLt).2.1 = st4 m c t
      ∧ (outsAt0 m c t.val t.isLt).2.2.2.2.1 = k0_pay4 (F := Ideal) (part m c t) (prev m c t).2.2.2.2.1
      ∧ (outsAt0 m c t.val t.isLt).2.2.2.2.2 = k0_pay5 (F := Ideal) (err m c t) (prev m c t).2.2.2.2.2
      ∧ (outsAt0 m c t.val t.isLt).2.2.1 = k0_pay6 (F := Ideal) (k0_pay4 (F := Ideal) (part m c t) (prev m c t).2.2.2.2.1)
      ∧ (outsAt0 m c t.val t.isLt).2.2.2.1 = k0_pay7 (F := Ideal) (k0_pay5 (F := Ideal) (err m c t) (prev m c t).2.2.2.2.2) := by
  rw [outsAt0_C m c t h h' hl]
  refine ⟨?_, ?_, ?_, ?_, ?_, ?_⟩
  all_goals
    frame_out
    try simp (discharger := decide) only [↓ View.readCov_skip, View.readCov_cons_toLoadRect, read_unread_whole]
  all_goals sl_kernel_rfl

/-- The gradient's blocks after any point. -/
theorem o34 : (outsAt0 m c t.val t.isLt).1 = st3 m c t ∧ (outsAt0 m c t.val t.isLt).2.1 = st4 m c t := by
  have hN := N_eq
  have ht := t.isLt
  by_cases h : t.val % 8 = 0
  · exact ⟨(o_A m c t h (by omega) (by omega)).1, (o_A m c t h (by omega) (by omega)).2.1⟩
  · by_cases hl : t.val % 8 = 7
    · exact ⟨(o_C m c t h (by omega) hl).1, (o_C m c t h (by omega) hl).2.1⟩
    · exact ⟨(o_B m c t h (by omega) hl).1, (o_B m c t h (by omega) hl).2.1⟩
/-- The gain's sums after a later point. -/
theorem oa (h : ¬ t.val % 8 = 0) : (outsAt0 m c t.val t.isLt).2.2.2.2.1 = k0_pay4 (F := Ideal) (part m c t) (prev m c t).2.2.2.2.1 := by
  by_cases hl : t.val % 8 = 7
  · exact (o_C m c t h (by omega) hl).2.2.1
  · exact (o_B m c t h (by omega) hl).2.2.1
/-- The error's sums after a later point. -/
theorem ob (h : ¬ t.val % 8 = 0) : (outsAt0 m c t.val t.isLt).2.2.2.2.2 = k0_pay5 (F := Ideal) (err m c t) (prev m c t).2.2.2.2.2 := by
  by_cases hl : t.val % 8 = 7
  · exact (o_C m c t h (by omega) hl).2.2.2.1
  · exact (o_B m c t h (by omega) hl).2.2.2

/-- A row of the input's block. -/
theorem rowOf_blk (p : Fin 256) : rowOf (iblk m c 0 t) p = (kraw m c).x (pos (tn t) p) := funext fun k => blk0 m c t p k
/-- The error in a block. -/
theorem e_blk (p : Fin 256) (k : Fin 2048) : eB p k (iblk m c 0 t) (iblk m c 2 t) (iblk m c 1 t) = (kraw m c).e (pos (tn t) p) k := by
  unfold eB _root_.Head.Raw.e
  exact congrArg₂ (fun a b : EReal => a - b) (congrArg₂ (fun a b : EReal => a * b) (congrArg (fun u => xh u k) (rowOf_blk m c t p)) (blk1 m c t k)) (blk2 m c t p k)
/-- The gradient in a block. -/
theorem d_blk (p : Fin 256) (k : Fin 2048) : dB p k (iblk m c 0 t) (iblk m c 2 t) (iblk m c 1 t) = (kraw m c).dx (pos (tn t) p) k := by
  unfold dB _root_.Head.Raw.dx _root_.Head.Raw.dy
  exact congrArg₂ (fun u v => dx u v k) (rowOf_blk m c t p) (funext fun l =>
    congrArg₂ (fun a b : EReal => a * b) (congrArg (fun a : EReal => a * c1) (e_blk m c t p l)) (blk1 m c t l))
/-- The gradient's block at an index. -/
theorem st3_at (p : Fin 256) (k : Fin 2048) : (outsAt0 m c t.val t.isLt).1 (ix2 p k) = (kraw m c).dx (pos (tn t) p) k := by
  rw [(o34 m c t).1]
  exact (pay13 _ _ _ p k).trans (d_blk m c t p k)
/-- The short gradient's block at an index. -/
theorem st4_at (p : Fin 256) (k : Fin 2048) : (outsAt0 m c t.val t.isLt).2.1 (ix2 p k) = (kraw m c).dx (pos (tn t) p) k := by
  rw [(o34 m c t).2]
  exact (pay14 _ _ _ p k).trans (d_blk m c t p k)
/-- The point's part of the gain's sums at an index. -/
theorem part_at (s : Fin 8) (k : Fin 2048) : part m c t (ix2 s k) = ∑ j, (kraw m c).gr k (row (tn t) j s) := by
  refine (pay15 _ _ _ s k).trans (Finset.sum_congr rfl fun j _ => ?_)
  unfold _root_.Head.Raw.gr _root_.Head.Raw.dy
  exact congrArg₂ (fun a b : EReal => a * b) (congrArg (fun a : EReal => a * c1) (e_blk m c t (rj j s) k)) (congrArg (fun u => xh u k) (rowOf_blk m c t (rj j s)))
/-- The point's part of the squared error at an index. -/
theorem err_at (s : Fin 8) (k : Fin 2048) : ∑ j : Fin 32, rowOf (err m c t) (rj j s) k * rowOf (err m c t) (rj j s) k = ∑ j, (kraw m c).sq k (row (tn t) j s) := by
  refine Finset.sum_congr rfl fun j _ => ?_
  have e := (pay10 (iblk m c 0 t) (iblk m c 2 t) (iblk m c 1 t) (rj j s) k).trans (e_blk m c t (rj j s) k)
  exact congrArg₂ (fun a b : EReal => a * b) e e
/-- The gain's sums after the first point. -/
theorem a_first (h : t.val % 8 = 0) (s : Fin 8) (k : Fin 2048) :
    (outsAt0 m c t.val t.isLt).2.2.2.2.1 (ix2 s k) = 0 + ∑ j, (kraw m c).gr k (row (tn t) j s) := by
  have hN := N_eq
  have ht := t.isLt
  rw [(o_A m c t h (by omega) (by omega)).2.2.1, zero_add]
  exact (pay2 _ s k).trans (part_at m c t s k)
/-- The gain's sums after a later point. -/
theorem a_next (h : ¬ t.val % 8 = 0) (s : Fin 8) (k : Fin 2048) :
    (outsAt0 m c t.val t.isLt).2.2.2.2.1 (ix2 s k) = (prev m c t).2.2.2.2.1 (ix2 s k) + ∑ j, (kraw m c).gr k (row (tn t) j s) := by
  rw [oa m c t h]
  exact (pay4 _ _ s k).trans (congrArg (_ + ·) (part_at m c t s k))
/-- The error's sums after the first point. -/
theorem b_first (h : t.val % 8 = 0) (s : Fin 8) (k : Fin 2048) :
    (outsAt0 m c t.val t.isLt).2.2.2.2.2 (ix2 s k) = 0 + ∑ j, (kraw m c).sq k (row (tn t) j s) := by
  have hN := N_eq
  have ht := t.isLt
  rw [(o_A m c t h (by omega) (by omega)).2.2.2, zero_add]
  exact (pay3 _ s k).trans (err_at m c t s k)
/-- The error's sums after a later point. -/
theorem b_next (h : ¬ t.val % 8 = 0) (s : Fin 8) (k : Fin 2048) :
    (outsAt0 m c t.val t.isLt).2.2.2.2.2 (ix2 s k) = (prev m c t).2.2.2.2.2 (ix2 s k) + ∑ j, (kraw m c).sq k (row (tn t) j s) := by
  rw [ob m c t h]
  exact (pay5 _ _ s k).trans (congrArg (_ + ·) (err_at m c t s k))
/-- An accumulation over the grid's points. -/
theorem acc (f : (k : ℕ) → k < cfg0.N → EReal) (A : Fin 8 → EReal) (h0 : ∀ k h, k % 8 = 0 → f k h = 0 + A (tn ⟨k, h⟩))
    (hs : ∀ k h, ¬ k % 8 = 0 → f k h = f (k - 1) (by omega) + A (tn ⟨k, h⟩)) (k : ℕ) (h : k < cfg0.N) (hk : k % 8 = 7) : f k h = ∑ n, A n := by
  have hN := N_eq
  have e : k = 0 + 7 := by omega
  subst e
  exact (Cert.KernelIdeal.Att.fold_sum 8 f (fun k h => A (tn ⟨k, h⟩)) h0 hs 0 (by omega) 7 (by omega) h).trans
    (Finset.sum_congr rfl fun n _ => congrArg A (Fin.ext (Nat.zero_add _)))
/-- The gain's gradient after the last point. -/
theorem st5_at (h : t.val % 8 = 7) (k : Fin 2048) : (outsAt0 m c t.val t.isLt).2.2.1 (ix2 0 k) = (kraw m c).dg k := by
  have ho := o_C m c t (by omega) (by omega) h
  rw [ho.2.2.2.2.1, ← ho.2.2.1]
  refine (pay6 _ k).trans ?_
  unfold _root_.Head.Raw.dg
  rw [← sum_row]
  exact Finset.sum_congr rfl fun s _ => acc (fun n h => (outsAt0 m c n h).2.2.2.2.1 (ix2 s k)) (fun n => ∑ j, (kraw m c).gr k (row n j s))
    (fun n h e => a_first m c ⟨n, h⟩ e s k) (fun n h e => a_next m c ⟨n, h⟩ e s k) t.val t.isLt h
/-- The loss after the last point. -/
theorem st6_at (h : t.val % 8 = 7) (k : Fin 128) : (outsAt0 m c t.val t.isLt).2.2.2.1 (ix2 0 k) = (kraw m c).loss := by
  have ho := o_C m c t (by omega) (by omega) h
  rw [ho.2.2.2.2.2, ← ho.2.2.2.1]
  refine (pay7 _ k).trans ?_
  unfold _root_.Head.Raw.loss
  exact congrArg (c2 * ·) (Finset.sum_congr rfl fun s _ => Finset.sum_congr rfl fun l _ =>
    acc (fun n h => (outsAt0 m c n h).2.2.2.2.2 (ix2 s l)) (fun n => ∑ j, (kraw m c).sq l (row n j s))
      (fun n h e => b_first m c ⟨n, h⟩ e s l) (fun n h e => b_next m c ⟨n, h⟩ e s l) t.val t.isLt h)

/-- The input's gradient, as an array. -/
def xA (R : _root_.Head.Raw) : S2048x2048.Idx → EReal := fun i => R.dx (i 0) (i 1)
/-- The gain's gradient, as an array. -/
def gA (R : _root_.Head.Raw) : S1x2048.Idx → EReal := fun i => R.dg (i 1)
/-- The loss, as an array. -/
def lA (R : _root_.Head.Raw) : S1x128.Idx → EReal := fun _ => R.loss
/-- The input's gradient's array at an index. -/
theorem xA_at (R : _root_.Head.Raw) (i : S2048x2048.Idx) (r k : Fin 2048) (h0 : (i 0).val = r.val) (h1 : (i 1).val = k.val) : xA R i = R.dx r k := by
  unfold xA
  congr 1 <;> (apply Fin.ext; assumption)
/-- The gain's gradient's array at an index. -/
theorem gA_at (R : _root_.Head.Raw) (i : S1x2048.Idx) (k : Fin 2048) (h1 : (i 1).val = k.val) : gA R i = R.dg k := by
  unfold gA
  congr 1 <;> (apply Fin.ext; assumption)

/-- The array of the input's gradient after the run. -/
theorem arr3 : (dats m 0 c).arrAt 3 cfg0.N = (xA (kraw m c) : Vec Ideal S2048x2048 .f32) := by
  refine (dats m 0 c).arrAt_eq_of_covers 3 _ (by decide +kernel) fun t hf y => ?_
  blk_simp
  rw [after0_3]
  refine (congrArg (outsAt0 m c t.val t.isLt).1 (eq_ix2 (n0 := 256) (n1 := 2048) y)).trans ((st3_at m c t (y 0) (y 1)).trans ?_)
  refine (xA_at _ _ _ _ ?_ ?_).symm
  all_goals blk_simp [idx t] <;> try dsimp only [pos, tn]
  all_goals try omega
/-- The array of the short gradient after the run. -/
theorem arr4 : (dats m 0 c).arrAt 4 cfg0.N = (xA (kraw m c) : Vec Ideal S2048x2048 .bf16) := by
  refine (dats m 0 c).arrAt_eq_of_covers 4 _ (by decide +kernel) fun t hf y => ?_
  blk_simp
  rw [after0_4]
  refine (congrArg (outsAt0 m c t.val t.isLt).2.1 (eq_ix2 (n0 := 256) (n1 := 2048) y)).trans ((st4_at m c t (y 0) (y 1)).trans ?_)
  refine (xA_at _ _ _ _ ?_ ?_).symm
  all_goals blk_simp [idx t] <;> try dsimp only [pos, tn]
  all_goals try omega
/-- The array of the gain's gradient after the run. -/
theorem arr5 : (dats m 0 c).arrAt 5 cfg0.N = (gA (kraw m c) : Vec Ideal S1x2048 .f32) := by
  refine (dats m 0 c).arrAt_eq_of_covers 5 _ (by decide +kernel) fun t hf y => ?_
  have h2 := (flush0_5 t).mp hf
  blk_simp
  rw [after0_5]
  have hy : y = ix2 (0 : Fin 1) (y 1) := by
    funext a; apply Fin.ext
    match a with
    | ⟨0, _⟩ => have := (y 0).isLt; change _ < 1 at this; change (y 0).val = 0; omega
    | ⟨1, _⟩ => rfl
  refine (congrArg (outsAt0 m c t.val t.isLt).2.2.1 hy).trans ((st5_at m c t h2 (y 1)).trans ?_)
  refine (gA_at _ _ _ ?_).symm
  all_goals blk_simp [idx t] <;> try omega
/-- The array of the loss after the run. -/
theorem arr6 : (dats m 0 c).arrAt 6 cfg0.N = (lA (kraw m c) : Vec Ideal S1x128 .f32) := by
  refine (dats m 0 c).arrAt_eq_of_covers 6 _ (by decide +kernel) fun t hf y => ?_
  have h2 := (flush0_6 t).mp hf
  blk_simp
  rw [after0_6]
  have hy : y = ix2 (0 : Fin 1) (y 1) := by
    funext a; apply Fin.ext
    match a with
    | ⟨0, _⟩ => have := (y 0).isLt; change _ < 1 at this; change (y 0).val = 0; omega
    | ⟨1, _⟩ => rfl
  refine (congrArg (outsAt0 m c t.val t.isLt).2.2.2.1 hy).trans ((st6_at m c t h2 (y 1)).trans ?_)
  rfl

end Cert.Kernel7Ideal.Head

end
-- ==== Proof.HeadRef.lean ====
module

public import proofs.«01_k».proof.Proof.HeadKer
public import proofs.«01_k».proof.Proof.RmsRef
public import proofs.«01_k».proof.Proof.Gen.Reference7Ideal.Run
public import Idealize.ShloMosaic.Lib.Pointwise
public import Idealize.ShloMosaic.Lib.IdealHost

/-! The reference of the last norm and loss: its four results, as the kernel's arrays. -/

@[expose] public section

set_option maxRecDepth 16384

noncomputable section

namespace Cert.Reference7Ideal.Head

open Cert.Reference7Ideal Cert.Reference7Ideal.Gen Cert.Reference7Ideal.Value Idealize.ShloMosaic Idealize.ShloMosaic.TcCoe Idealize.SL.Sem
open _root_.Rms (rr rq xh rdx rdx_eq kN)
open _root_.Head
open Cert.Reference6Ideal.Rms (rowR rrv xhv gv rqv dgv rrv_at xhv_at gv_at rqv_at dgv_at)
open Cert.Kernel7Ideal.Head (xA gA lA xA_at gA_at)

variable (m : (ℓ : Loc nD τ sig) → Buf (Elt Ideal) ℓ) (ρ : Dev nD → PrngReg) (c : Dev nD)

/-- The arguments' entries. -/
def raw : _root_.Head.Raw where
  x r k := m ((c.tc : Thread nD τ).loc main_arg0) (ix2 r k)
  g k := m ((c.tc : Thread nD τ).loc main_arg1) (ix2 0 k)
  t r k := m ((c.tc : Thread nD τ).loc main_arg2) (ix2 r k)

section
variable (x t : FVec Ideal S2048x2048 .f32) (g : FVec Ideal S1x2048 .f32)

/-- The entries of three arrays. -/
def rawOf : _root_.Head.Raw where
  x r k := x (ix2 r k)
  g k := g (ix2 0 k)
  t r k := t (ix2 r k)

/-- The error. -/
def ev : FVec Ideal S2048x2048 .f32 := subf (mulf (xhv x) (gv g)) t
/-- The error's gradient. -/
def dyv : FVec Ideal S2048x2048 .f32 :=
  mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32))))
    (mulf (broadcastInDim S2048x2048 ![] bcast_S_S2048x2048 (constant S_ .f32 0x40000000#32)) (ev x t g))
/-- The normalised rows' gradient. -/
def dv : FVec Ideal S2048x2048 .f32 := mulf (dyv x t g) (gv g)
/-- The input's gradient. -/
def dxv : FVec Ideal S2048x2048 .f32 :=
  addf (addf (mulf (dv x t g) (broadcastInDim S2048x2048 ![0, 1] bcast_S2048x1_S2048x2048_0_1 (rrv x))) (mulf x (rqv x (dv x t g)))) (mulf (rqv x (dv x t g)) x)
/-- The loss. -/
def lv : FVec Ideal S1x128 .f32 :=
  broadcastInDim S1x128 ![] bcast_S_S1x128 (mulf (constant S_ .f32 0x3F000000#32) (Host.reduceAdd (Host.divf (Host.reduceAdd (mulf (ev x t g) (ev x t g)) (constant S_ .f32 0x00000000#32) reducesTo_S2048x2048_S2048_d1 h_S_) (broadcastInDim S2048 ![] bcast_S_S2048 (constant S_ .f32 0x45000000#32))) (constant S_ .f32 0x00000000#32) reducesTo_S2048_S_d0 h_S_))

/-- The error at an index. -/
theorem ev_at (r k : Fin 2048) : ev x t g (ix2 r k) = (rawOf x t g).e r k := by
  unfold ev Raw.e rawOf
  pointwise
  rw [xhv_at, gv_at]
  rfl
/-- The error's gradient at an index. -/
theorem dyv_at (r k : Fin 2048) : dyv x t g (ix2 r k) = (rawOf x t g).dy r k := by
  unfold Raw.dy
  rw [← dy_eq]
  unfold dyv hf on tw kN
  pointwise
  rw [ev_at]
/-- The normalised rows' gradient in a row. -/
theorem dv_row (r : Fin 2048) : rowR (dv x t g) r = fun l => (rawOf x t g).dy r l * (rawOf x t g).g l := funext fun l => by
  unfold rowR dv
  pointwise
  rw [dyv_at, gv_at]
  rfl
/-- The input's gradient at an index. -/
theorem dxv_at (r k : Fin 2048) : dxv x t g (ix2 r k) = (rawOf x t g).dx r k := by
  have e := congrFun (dv_row x t g r) k
  unfold Raw.dx
  rw [← rdx_eq]
  unfold rdx dxv
  pointwise
  rw [rrv_at, rqv_at, dv_row, show dv x t g (ix2 r k) = _ from e]
  rfl
/-- The loss at an index. -/
theorem lv_at (z : Fin 1) (k : Fin 128) : lv x t g (ix2 z k) = (rawOf x t g).loss := by
  rw [← Raw.loss_eq]
  unfold lv hf kN
  pointwise
  simp only [ev_at]
  rfl

end

/-- The input's gradient, as an array. -/
theorem v51_eq : res_main_v51 m c = (xA (raw m c) : Vec Ideal S2048x2048 .f32) := by
  refine funext fun y => ?_
  obtain ⟨r, k, rfl⟩ : ∃ (r k : Fin 2048), y = ix2 r k := ⟨y 0, y 1, eq_ix2 y⟩
  exact (dxv_at (m ((c.tc : Thread nD τ).loc main_arg0)) (m ((c.tc : Thread nD τ).loc main_arg2)) (m ((c.tc : Thread nD τ).loc main_arg1)) r k).trans
    (xA_at (raw m c) (ix2 r k) r k rfl rfl).symm
/-- The short gradient, as an array. -/
theorem v53_eq : res_main_v53 m c = (xA (raw m c) : Vec Ideal S2048x2048 .bf16) := by
  refine Eq.trans ?_ (v51_eq m c)
  rfl

/-- The reference runs and ends with the four results in the kernel's form. -/
theorem run : θ_run defs (onTc (τ := τ) (main (F := Ideal))) ⟨m, fun _ => 0, ρ⟩ (fun r => ∀ c : Dev nD,
      r.2.mem ((c.tc : Thread nD τ).loc main_v51) = (xA (raw m c) : Vec Ideal S2048x2048 .f32)
      ∧ r.2.mem ((c.tc : Thread nD τ).loc main_v53) = (xA (raw m c) : Vec Ideal S2048x2048 .bf16)
      ∧ r.2.mem ((c.tc : Thread nD τ).loc main_v52) = (gA (raw m c) : Vec Ideal S1x2048 .f32)
      ∧ r.2.mem ((c.tc : Thread nD τ).loc main_v54) = (lA (raw m c) : Vec Ideal S1x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run Cert.Reference7Ideal.defs _ _).mono (fun r h c => ⟨(h c).1.trans (v51_eq m c), (h c).2.1.trans (v53_eq m c), (h c).2.2.1.trans ?_, (h c).2.2.2.1.trans ?_, (h c).2.2.2.2⟩)
    (Cert.Reference7Ideal.Value.run (F := Ideal) m ρ)
  all_goals clear h
  · refine funext fun y => ?_
    obtain ⟨z, k, rfl⟩ : ∃ (z : Fin 1) (k : Fin 2048), y = ix2 z k := ⟨y 0, y 1, eq_ix2 y⟩
    obtain rfl : z = 0 := Subsingleton.elim _ _
    refine (dgv_at (m ((c.tc : Thread nD τ).loc main_arg0)) (dyv (m ((c.tc : Thread nD τ).loc main_arg0)) (m ((c.tc : Thread nD τ).loc main_arg2)) (m ((c.tc : Thread nD τ).loc main_arg1))) k).trans
      (Eq.trans ?_ (gA_at (raw m c) (ix2 0 k) k rfl).symm)
    refine Finset.sum_congr rfl fun r _ => ?_
    rw [dyv_at]
    rfl
  · refine funext fun y => ?_
    obtain ⟨z, k, rfl⟩ : ∃ (z : Fin 1) (k : Fin 128), y = ix2 z k := ⟨y 0, y 1, eq_ix2 y⟩
    exact lv_at (m ((c.tc : Thread nD τ).loc main_arg0)) (m ((c.tc : Thread nD τ).loc main_arg2)) (m ((c.tc : Thread nD τ).loc main_arg1)) z k

end Cert.Reference7Ideal.Head

end
-- ==== Proof.HeadClose.lean ====
module

public import proofs.«01_k».proof.Defs
public import proofs.«01_k».proof.Proof.HeadRef
public import Idealize.ShloMosaic.Lib.Quiescent

/-! The claims of the last norm and loss. -/

@[expose] public section

noncomputable section

namespace Cert.Proof

open Idealize.ShloMosaic Idealize.ShloMosaic.TcCoe Idealize.SL.Sem

/-- The kernel and the reference end with equal results. -/
theorem algebraic7 : Cert.algebraic_Kernel7Ideal_Reference7Ideal
    (hKernel7Ideal := Cert.Kernel7Ideal.Gen.facts) (hReference7Ideal := Cert.Reference7Ideal.Gen.facts) := by
  intro m g m' g' _ hag
  have er : ∀ c, Cert.Reference7Ideal.Head.raw m' c = Cert.Kernel7Ideal.Head.kraw m c := fun c => by
    obtain ⟨h0, h1, h2⟩ := hag c
    unfold Cert.Reference7Ideal.Head.raw Cert.Kernel7Ideal.Head.kraw
    congr 1
    · exact funext fun r => funext fun k => congrFun h0 (ix2 r k)
    · exact funext fun k => congrFun h1 (ix2 0 k)
    · exact funext fun r => funext fun k => congrFun h2 (ix2 r k)
  refine ⟨fun c => Cert.Kernel7Ideal.Head.xA (Cert.Kernel7Ideal.Head.kraw m c), fun c => Cert.Kernel7Ideal.Head.xA (Cert.Kernel7Ideal.Head.kraw m c),
    fun c => Cert.Kernel7Ideal.Head.gA (Cert.Kernel7Ideal.Head.kraw m c), fun c => Cert.Kernel7Ideal.Head.lA (Cert.Kernel7Ideal.Head.kraw m c), ?_, ?_⟩
  · exact (θ_run Cert.Kernel7Ideal.defs _ _).mono (fun r h c => ⟨(h c).1.trans (Cert.Kernel7Ideal.Head.arr3 m c), (h c).2.1.trans (Cert.Kernel7Ideal.Head.arr4 m c),
      (h c).2.2.1.trans (Cert.Kernel7Ideal.Head.arr5 m c), (h c).2.2.2.1.trans (Cert.Kernel7Ideal.Head.arr6 m c), (h c).2.2.2.2⟩) (Cert.Kernel7Ideal.Value.run_blocks (F := Ideal) m g)
  · have hr := Cert.Reference7Ideal.Head.run m' g'
    simp only [er] at hr
    exact hr

/-- The reference's frame. -/
theorem frame_ref7 : Cert.quiescent_Reference7Ideal (hReference7Ideal := Cert.Reference7Ideal.Gen.facts) := fun m' g' _ =>
  (θ_run Cert.Reference7Ideal.defs _ _).mono (fun r h => ⟨fun c => (h c).2.2.2.2, sem_eq_zero_of_no_sems (by decide) r.2⟩) (Cert.Reference7Ideal.Value.run (F := Ideal) m' g')

end Cert.Proof
-- ==== Proof.DgModel.lean ====
module

public import proofs.«01_k».proof.Proof.Mat

/-! The gates' backward over the extended reals: the gradient of a sum of two products, each a branch times the logistic
function of its gate, through a product with a weight. -/

@[expose] public section

noncomputable section

namespace Gates

open Idealize.ShloMosaic Mat

/-- The arguments of the gates' backward. -/
structure Raw where
  d : Fin 2048 → Fin 2048 → EReal
  w : Fin 2048 → Fin 2048 → EReal
  z : Fin 2048 → Fin 7680 → EReal
  a : Fin 2048 → Fin 2048 → EReal
  b : Fin 2048 → Fin 2048 → EReal

/-- A column of the first gate. -/
def col1 (k : Fin 2048) : Fin 7680 := ⟨3584 + k.val, by omega⟩
/-- A column of the second gate. -/
def col2 (k : Fin 2048) : Fin 7680 := ⟨5632 + k.val, by omega⟩

/-- The gradient of a gate's entry. -/
def dz (d y z : EReal) : EReal := d * y * (sg z * (1 - sg z))

namespace Raw
variable (R : Raw)

/-- The gradient of the gated sum. -/
def dot (r k : Fin 2048) : EReal := ∑ x, R.d r x * R.w k x
/-- The first branch's gradient. -/
def ya (r k : Fin 2048) : EReal := R.dot r k * sg (R.z r (col1 k))
/-- The second branch's gradient. -/
def yb (r k : Fin 2048) : EReal := R.dot r k * sg (R.z r (col2 k))
/-- The first gate's gradient. -/
def z1 (r k : Fin 2048) : EReal := dz (R.dot r k) (R.a r k) (R.z r (col1 k))
/-- The second gate's gradient. -/
def z2 (r k : Fin 2048) : EReal := dz (R.dot r k) (R.b r k) (R.z r (col2 k))
/-- The two gates' gradients, side by side. -/
def zz (r : Fin 2048) (k : ℕ) : EReal := if h : k < 2048 then R.z1 r ⟨k, h⟩ else if h : k - 2048 < 2048 then R.z2 r ⟨k - 2048, h⟩ else 0

/-- The side-by-side gradient in the first gate's columns. -/
theorem zz_left (r k : Fin 2048) (n : ℕ) (h : n = k.val) : R.zz r n = R.z1 r k := by
  subst h; unfold zz; rw [dif_pos k.isLt]
/-- The side-by-side gradient in the second gate's columns. -/
theorem zz_right (r k : Fin 2048) (n : ℕ) (h : n = 2048 + k.val) : R.zz r n = R.z2 r k := by
  subst h; unfold zz
  have e : 2048 + k.val - 2048 = k.val := by omega
  rw [dif_neg (by omega), dif_pos (by rw [e]; exact k.isLt)]
  exact congrArg (R.z2 r) (Fin.ext e)
end Raw

/-- A branch's gradient as an array. -/
def yA (f : Fin 2048 → Fin 2048 → EReal) : (⟨2, ![2048, 2048]⟩ : Shape).Idx → EReal := fun i => f (i 0) (i 1)
/-- The gates' gradient as an array. -/
def zA (f : Fin 2048 → ℕ → EReal) : (⟨2, ![2048, 4096]⟩ : Shape).Idx → EReal := fun i => f (i 0) (i 1).val
/-- The gates' gradient in its place among the other columns. -/
def bigA (f : Fin 2048 → ℕ → EReal) : (⟨2, ![2048, 7680]⟩ : Shape).Idx → EReal := fun i => f (i 0) ((i 1).val - 3584)

/-- A branch's array at an index. -/
theorem yA_at (f : Fin 2048 → Fin 2048 → EReal) (i : (⟨2, ![2048, 2048]⟩ : Shape).Idx) (r k : Fin 2048) (h0 : (i 0).val = r.val) (h1 : (i 1).val = k.val) :
    yA f i = f r k := by
  unfold yA
  congr 1 <;> (apply Fin.ext; assumption)
/-- The placed array at an index. -/
theorem bigA_at (f : Fin 2048 → ℕ → EReal) (i : (⟨2, ![2048, 7680]⟩ : Shape).Idx) (r : Fin 2048) (n : ℕ) (h0 : (i 0).val = r.val) (h1 : (i 1).val = 3584 + n) :
    bigA f i = f r n := by
  unfold bigA
  exact congrArg₂ f (Fin.ext h0) (by rw [h1]; exact Nat.add_sub_cancel_left 3584 n)

end Gates

end
-- ==== Proof.DgFrame.lean ====
module

public import proofs.«01_k».proof.Proof.Gen.Kernel8Ideal.Frame
public import proofs.«01_k».proof.Proof.Gen.Kernel8Ideal.Skeleton
public import Idealize.ShloMosaic.Lib.WritesUnit
public import Idealize.ShloMosaic.Lib.VecWindow
public import Idealize.ShloMosaic.Lib.Pointwise
public import Idealize.ShloMosaic.Lib.Claim

/-! The frame of the gates' backward call. At the first four points of a row of blocks the body computes the gradients and
keeps the second gate's in its scratch; at the last four it only copies a kept block out, and the two products' gradients
stay in their buffers as the fourth point left them. -/

@[expose] public section

set_option maxRecDepth 16384

noncomputable section

namespace Cert.Kernel8Ideal.Dg

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra of the proof. -/
abbrev MM (F : FTy → Type) := MT nD τ sig Unit (Elt F) ℕ (UR sig nD τ) ℕ

/-- The first branch is taken at the first four points of a row of blocks. -/
theorem hc1 : ∀ t : Fin cfg0.N, k0_cond1 (grid0.coords t) = 1#1 ↔ t.val % 8 < 4 :=
  (by decide +kernel : ∀ t : Fin grid0.N, k0_cond1 (grid0.coords t) = 1#1 ↔ t.val % 8 < 4)
/-- The second branch is taken at the last four. -/
theorem hc2 : ∀ t : Fin cfg0.N, k0_cond2 (grid0.coords t) = 1#1 ↔ ¬ t.val % 8 < 4 :=
  (by decide +kernel : ∀ t : Fin grid0.N, k0_cond2 (grid0.coords t) = 1#1 ↔ ¬ t.val % 8 < 4)
/-- Where the kept block is stored. -/
theorem off1 : ∀ t : Fin cfg0.N, t.val % 8 < 4 → k0_off1 (grid0.coords t) = ![t.val % 8, 0, 0] :=
  (by decide +kernel : ∀ t : Fin grid0.N, t.val % 8 < 4 → k0_off1 (grid0.coords t) = ![t.val % 8, 0, 0])
/-- Where the kept block is loaded. -/
theorem off2 : ∀ t : Fin cfg0.N, ¬ t.val % 8 < 4 → k0_off2 (grid0.coords t) = ![t.val % 8 - 4, 0, 0] :=
  (by decide +kernel : ∀ t : Fin grid0.N, ¬ t.val % 8 < 4 → k0_off2 (grid0.coords t) = ![t.val % 8 - 4, 0, 0])

/-- A kept block put in its place. -/
def put (s : Vec F S4x1024x512 .bf16) (j : ℕ) (w : Vec F S1x1024x512 .bf16) : Vec F S4x1024x512 .bf16 :=
  fun y => if (y 0).val = j then w (ix3 0 (y 1) (y 2)) else s y
/-- A kept block. -/
def get (s : Vec F S4x1024x512 .bf16) (j : ℕ) (hj : j < 4) : Vec F S1x1024x512 .bf16 :=
  fun x => s (ix3 ⟨j, hj⟩ (x 1) (x 2))

/-- The same block by another number. -/
theorem get_congr (s : Vec F S4x1024x512 .bf16) {j j' : ℕ} (hj : j < 4) (hj' : j' < 4) (h : j = j') : get s j hj = get s j' hj' := by
  subst h; rfl

/-- A load of a whole buffer reads what it holds. -/
theorem ld2 {n k : ℕ} (v : Memref sig .tc .vmem ⟨2, ![n, k]⟩ .bf16) (hv : v.IsWhole) (x : Vec F ⟨2, ![n, k]⟩ .bf16)
    (inb : ∀ a, (![0, 0] : Fin 2 → ℕ) a + (![n, k] : Fin 2 → ℕ) a ≤ (![n, k] : Fin 2 → ℕ) a) :
    View.readAt (Elt F) v.view (Rect.unit (s := ⟨2, ![n, k]⟩) ![0, 0] ![n, k] inb).toLoadRect (hv.unread x) = x :=
  (View.readAt_full (s := ⟨2, ![n, k]⟩) v.view _ inb).trans (hv.read_unread _)

/-- A store of a whole buffer leaves what was stored. -/
theorem st2 {n k : ℕ} (v : Memref sig .tc .vmem ⟨2, ![n, k]⟩ .bf16) (f : v.view.ty.Contents (Elt F)) (x : Vec F ⟨2, ![n, k]⟩ .bf16)
    (inb : ∀ a, (![0, 0] : Fin 2 → ℕ) a + (![n, k] : Fin 2 → ℕ) a ≤ (![n, k] : Fin 2 → ℕ) a) :
    View.read (Elt F) v.view (v.view.writes (Elt F) f [⟨Rect.unit (s := ⟨2, ![n, k]⟩) ![0, 0] ![n, k] inb, x⟩]) = x :=
  View.read_writes_full (s := ⟨2, ![n, k]⟩) v.view f inb x []

/-- A store of one kept block puts it in its place. -/
theorem st3 (v : Memref sig .tc .vmem S4x1024x512 .bf16) (hv : v.IsWhole) (s : Vec F S4x1024x512 .bf16) (w : Vec F S1x1024x512 .bf16) (j : ℕ)
    (off : Fin 3 → ℕ) (ho : off = ![j, 0, 0]) (inb : ∀ a, off a + S1x1024x512.size a ≤ S4x1024x512.size a) :
    View.read (Elt F) v.view (v.view.writes (Elt F) (hv.unread s) [⟨Rect.unit (s := S4x1024x512) off S1x1024x512.size inb, w⟩]) = put s j w := by
  funext y
  by_cases h : (y 0).val = j
  · refine (View.read_writes_cons_unit_of_mem (s := S4x1024x512) v.view _ inb w [] y (ix3 0 (y 1) (y 2)) ho ?_).trans ?_
    · intro a; fin_cases a
      · exact h
      · exact (Nat.zero_add _).symm
      · exact (Nat.zero_add _).symm
    · unfold put; rw [if_pos h]
  · refine (View.read_writes_cons_unit_of_not_mem (s := S4x1024x512) v.view _ inb w [] y ho 0 ?_).trans ?_
    · show (y 0).val < j ∨ j + 1 ≤ (y 0).val; omega
    · unfold put; rw [if_neg h]; exact congrFun (hv.read_unread s) y

/-- A load of one kept block. -/
theorem ld3 (v : Memref sig .tc .vmem S4x1024x512 .bf16) (hv : v.IsWhole) (s : Vec F S4x1024x512 .bf16) (j : ℕ) (hj : j < 4)
    (off : Fin 3 → ℕ) (ho : off = ![j, 0, 0]) (inb : ∀ a, off a + S1x1024x512.size a ≤ S4x1024x512.size a) :
    View.readAt (Elt F) v.view (Rect.unit (s := S4x1024x512) off S1x1024x512.size inb).toLoadRect (hv.unread s) = get s j hj := by
  subst ho
  funext x
  refine (congrFun (hv.read_unread s) _).trans (congrArg s (funext fun a => Fin.ext ?_))
  fin_cases a
  · show j + 1 * (x 0).val = j
    have : (x 0).val < 1 := (x 0).isLt
    omega
  · show 0 + 1 * (x 1).val = (x 1).val; omega
  · show 0 + 1 * (x 2).val = (x 2).val; omega

set_option maxHeartbeats 1000000 in
/-- The body at a point that computes. -/
theorem runA (c : Dev nD) (i : grid0.Coords) (j : ℕ) (arg2 : Memref sig .tc .vmem S1024x2048 .bf16) (harg2 : arg2.IsWhole) (arg3 : Memref sig .tc .vmem S512x2048 .bf16) (harg3 : arg3.IsWhole)
    (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole)
    (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole)
    (arg10 : Memref sig .tc .vmem S1024x512 .bf16) (harg10 : arg10.IsWhole) (arg11 : Memref sig .tc .vmem S4x1024x512 .bf16) (harg11 : arg11.IsWhole)
    (h1 : k0_cond1 i = 1#1) (h2 : ¬ k0_cond2 i = 1#1) (ho : k0_off1 i = ![j, 0, 0])
    (x0 : Vec F S1024x2048 .bf16) (x1 : Vec F S512x2048 .bf16) (x2 x3 x4 x5 : Vec F S1024x512 .bf16) (s : Vec F S4x1024x512 .bf16) (E : Set ℕ) (K : PUnit → sProp (MM F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d) ∗ owns (c : Thread nD τ) arg11 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay7 x0 x1 x2) ∗ owns (c : Thread nD τ) arg9 fullShare (k0_pay8 x0 x1 x3)
            ∗ owns (c : Thread nD τ) arg10 fullShare (k0_pay1 (k0_pay5 x2) (k0_pay9 x0 x1 x4) (Scalar.ofBits .f32 0x3F800000#32))
            ∗ owns (c : Thread nD τ) arg11 fullShare (put s j (k0_pay2 (k0_pay4 x0 x1) (k0_pay6 x3) x5))) -∗ K ⟨⟩))
      ⊢ wp frame (wpE (defs₀ (F := F)) Variants.none c none) E (cc0_mm_dgate i arg2 harg2 arg3 harg3 arg4 harg4 arg5 harg5 arg6 harg6 arg7 harg7 arg8 harg8 arg9 harg9 arg10 harg10 arg11 harg11) K := by
  simp only [cc0_mm_dgate_eq_skeleton]; unfold cc0_mm_dgate_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro; exact (st2 arg8 _ _ _).trans (congr (congr (congrArg k0_pay7 (ld2 arg2 harg2 x0 _)) (ld2 arg3 harg3 x1 _)) (ld2 arg4 harg4 x2 _))
  isplitl [H7]
  · iexists _; isplitr
    swap; · iexact H7
    ipureintro; exact (st2 arg9 _ _ _).trans (congr (congr (congrArg k0_pay8 (ld2 arg2 harg2 x0 _)) (ld2 arg3 harg3 x1 _)) (ld2 arg5 harg5 x3 _))
  isplitl [H8]
  · iexists _; isplitr
    swap; · iexact H8
    ipureintro; exact (st2 arg10 _ _ _).trans (congrFun (congr (congrArg (fun a b => k0_pay1 (k0_pay5 a) b) (ld2 arg4 harg4 x2 _)) (congr (congr (congrArg k0_pay9 (ld2 arg2 harg2 x0 _)) (ld2 arg3 harg3 x1 _)) (ld2 arg6 harg6 x4 _))) _)
  iexists _; isplitr
  swap; · iexact HS0
  ipureintro
  exact (st3 arg11 harg11 s _ j _ ho _).trans (congrArg (put s j) (congr (congr (congrArg (fun a b c => k0_pay2 (k0_pay4 a b) c) (ld2 arg2 harg2 x0 _)) (ld2 arg3 harg3 x1 _) |> fun h => congr h (congrArg k0_pay6 (ld2 arg5 harg5 x3 _))) (ld2 arg7 harg7 x5 _)))

set_option maxHeartbeats 1000000 in
/-- The body at a point that copies a kept block out. -/
theorem runB (c : Dev nD) (i : grid0.Coords) (j : ℕ) (hj : j < 4) (arg2 : Memref sig .tc .vmem S1024x2048 .bf16) (harg2 : arg2.IsWhole) (arg3 : Memref sig .tc .vmem S512x2048 .bf16) (harg3 : arg3.IsWhole)
    (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole)
    (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole)
    (arg10 : Memref sig .tc .vmem S1024x512 .bf16) (harg10 : arg10.IsWhole) (arg11 : Memref sig .tc .vmem S4x1024x512 .bf16) (harg11 : arg11.IsWhole)
    (h1 : ¬ k0_cond1 i = 1#1) (h2 : k0_cond2 i = 1#1) (ho : k0_off2 i = ![j, 0, 0])
    (s : Vec F S4x1024x512 .bf16) (E : Set ℕ) (K : PUnit → sProp (MM F)) :
    iprop((∃ d, owns (c : Thread nD τ) arg10 fullShare d) ∗ owns (c : Thread nD τ) arg11 fullShare s
        ∗ (iprop(owns (c : Thread nD τ) arg10 fullShare (k0_pay3 (get s j hj)) ∗ owns (c : Thread nD τ) arg11 fullShare s) -∗ K ⟨⟩))
      ⊢ wp frame (wpE (defs₀ (F := F)) Variants.none c none) E (cc0_mm_dgate i arg2 harg2 arg3 harg3 arg4 harg4 arg5 harg5 arg6 harg6 arg7 harg7 arg8 harg8 arg9 harg9 arg10 harg10 arg11 harg11) K := by
  simp only [cc0_mm_dgate_eq_skeleton]; unfold cc0_mm_dgate_skel
  simp only [k0_part1_eq_skeleton]
  unfold owns
  iintro ⟨⟨%d8, %f8, -, H8⟩, ⟨%fs0, %hfs0, HS0⟩, Hk⟩
  obtain rfl := harg11.eq_unread hfs0
  sl_exec (disch := first | sl_exact h1 | sl_exact h2)
  sl_step
  iapply Hk
  isplitl [H8]
  · iexists _; isplitr
    swap; · iexact H8
    ipureintro; exact (st2 arg10 _ _ _).trans (congrArg k0_pay3 (ld3 arg11 harg11 s j hj _ ho _))
  iexists _; isplitr
  swap; · iexact HS0
  ipureintro; exact harg11.read_unread _

variable (m : (ℓ : Loc nD τ sig) → Buf (Elt F) ℓ) (ρ : Dev nD → PrngReg)

/-- There are sixteen points. -/
theorem lt16 (t : Fin cfg0.N) : t.val < 16 := lt_of_lt_of_eq t.isLt (show cfg0.N = 16 from N_0)

/-- The point whose products' gradients the buffers hold at point `t`: `t` itself if it computes, else the last that did. -/
def bs (t : Fin cfg0.N) : Fin cfg0.N := ⟨t.val - (t.val % 8 - 3), lt_of_le_of_lt (Nat.sub_le _ _) t.isLt⟩
/-- The point that kept the block copied out at point `t`. -/
def pv (t : Fin cfg0.N) : Fin cfg0.N := ⟨t.val - 4, lt_of_le_of_lt (Nat.sub_le _ _) t.isLt⟩

/-- The first product's gradient of a point. -/
def outA (c : Dev nD) (t : Fin cfg0.N) : Vec F S1024x512 .bf16 := k0_pay7 (iblk m c 0 t) (iblk m c 1 t) (iblk m c 2 t)
/-- The second product's gradient of a point. -/
def outB (c : Dev nD) (t : Fin cfg0.N) : Vec F S1024x512 .bf16 := k0_pay8 (iblk m c 0 t) (iblk m c 1 t) (iblk m c 3 t)
/-- The first gate's gradient of a point. -/
def dzA (c : Dev nD) (t : Fin cfg0.N) : Vec F S1024x512 .bf16 :=
  k0_pay1 (k0_pay5 (iblk m c 2 t)) (k0_pay9 (iblk m c 0 t) (iblk m c 1 t) (iblk m c 4 t)) (Scalar.ofBits .f32 0x3F800000#32)
/-- The second gate's gradient of a point, as it is kept. -/
def kp (c : Dev nD) (t : Fin cfg0.N) : Vec F S1x1024x512 .bf16 :=
  k0_pay2 (k0_pay4 (iblk m c 0 t) (iblk m c 1 t)) (k0_pay6 (iblk m c 3 t)) (iblk m c 5 t)
/-- The third output's block after a point. -/
def outZ (c : Dev nD) (t : Fin cfg0.N) : Vec F S1024x512 .bf16 :=
  if t.val % 8 < 4 then dzA m c t else k0_pay3 (kp m c (pv t))

/-- What the scratch holds before point `n`: the kept blocks of this row's points so far. -/
def Good (c : Dev nD) (n : ℕ) (s : Vec F S4x1024x512 .bf16) : Prop :=
  ∀ u : Fin cfg0.N, 8 * (n / 8) ≤ u.val → u.val < n → u.val % 8 < 4 → get s (u.val % 8 % 4) (Nat.mod_lt _ (by decide)) = kp m c u

/-- Nothing is asked before the first point. -/
theorem good_zero (c : Dev nD) (s : Vec F S4x1024x512 .bf16) : Good m c 0 s := fun u _ h => absurd h (Nat.not_lt_zero _)

/-- A point that computes keeps its block and leaves the earlier ones. -/
theorem good_put (c : Dev nD) (t : Fin cfg0.N) (ht : t.val % 8 < 4) (s : Vec F S4x1024x512 .bf16) (h : Good m c t.val s) :
    Good m c (t.val + 1) (put s (t.val % 8) (kp m c t)) := by
  intro u hu hu' hu4
  have hr : u.val % 8 % 4 = u.val % 8 := Nat.mod_eq_of_lt hu4
  by_cases e : u = t
  · subst e
    funext x
    show (if u.val % 8 % 4 = u.val % 8 then _ else _) = _
    rw [if_pos hr]
    refine congrArg (kp m c u) (funext fun a => ?_)
    fin_cases a
    · exact Subsingleton.elim (α := Fin 1) _ _
    · rfl
    · rfl
  · have hne : u.val ≠ t.val := fun h => e (Fin.ext h)
    rw [← h u (by omega) (by omega) hu4]
    funext x
    show (if u.val % 8 % 4 = t.val % 8 then _ else _) = _
    rw [if_neg (by omega)]; rfl

/-- A point that only copies leaves the scratch. -/
theorem good_next (c : Dev nD) (t : Fin cfg0.N) (ht : ¬ t.val % 8 < 4) (s : Vec F S4x1024x512 .bf16) (h : Good m c t.val s) :
    Good m c (t.val + 1) s := by
  intro u hu hu' hu4
  have hne : u.val ≠ t.val := fun h => ht (h ▸ hu4)
  exact h u (by omega) (by omega) hu4

/-- The scratch, as the body is given it. -/
abbrev scM : Memref sig .tc .vmem S4x1024x512 .bf16 := Memref.whole cc0_scratch0

/-- The proof data: the arrays as the region finds them, the buffers after a point as named above, the scratch with the kept
blocks of the row so far, and each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outA m c (bs t)
    | ⟨7, _⟩ => outB m c (bs t)
    | ⟨8, _⟩ => outZ m c t
  Φ t := iprop((∃ s, ⌜Good m c t.val s⌝ ∗ owns (c : Thread nD τ) scM fullShare s) ∗ (∃ r, prngReg c r))
  q w := Pipeline.shareOf spec0 w
  owed _ := 0

/-- The proof data's arrays are the region's. -/
theorem A_eq (c : Dev nD) (w : Fin cfg0.W) : (dats m 0 c).A w = V m c (Pipeline.arrRef spec0 w) := by
  dsimp only [dats]

/-- The buffers after a point, one by one. -/
theorem after0 (c : Dev nD) (t : Fin cfg0.N) : (dats m 0 c).after 0 t = iblk m c 0 t := by dsimp only [dats]
/-- The second input's. -/
theorem after1 (c : Dev nD) (t : Fin cfg0.N) : (dats m 0 c).after 1 t = iblk m c 1 t := by dsimp only [dats]
/-- The third input's. -/
theorem after2 (c : Dev nD) (t : Fin cfg0.N) : (dats m 0 c).after 2 t = iblk m c 2 t := by dsimp only [dats]
/-- The fourth input's. -/
theorem after3 (c : Dev nD) (t : Fin cfg0.N) : (dats m 0 c).after 3 t = iblk m c 3 t := by dsimp only [dats]
/-- The fifth input's. -/
theorem after4 (c : Dev nD) (t : Fin cfg0.N) : (dats m 0 c).after 4 t = iblk m c 4 t := by dsimp only [dats]
/-- The sixth input's. -/
theorem after5 (c : Dev nD) (t : Fin cfg0.N) : (dats m 0 c).after 5 t = iblk m c 5 t := by dsimp only [dats]
/-- The first output's. -/
theorem after6 (c : Dev nD) (t : Fin cfg0.N) : (dats m 0 c).after 6 t = outA m c (bs t) := by dsimp only [dats]
/-- The second output's. -/
theorem after7 (c : Dev nD) (t : Fin cfg0.N) : (dats m 0 c).after 7 t = outB m c (bs t) := by dsimp only [dats]
/-- The third output's. -/
theorem after8 (c : Dev nD) (t : Fin cfg0.N) : (dats m 0 c).after 8 t = outZ m c t := by dsimp only [dats]

/-- An input's buffer holds its block. -/
theorem bef0 (c : Dev nD) (t : Fin cfg0.N) (d) : (dats m 0 c).before 0 t d = iblk m c 0 t := before0_0_of m (dats m 0 c) (A_eq m c 0) (after0 m c) t d
/-- The second's. -/
theorem bef1 (c : Dev nD) (t : Fin cfg0.N) (d) : (dats m 0 c).before 1 t d = iblk m c 1 t := before0_1_of m (dats m 0 c) (A_eq m c 1) (after1 m c) t d
/-- The third's. -/
theorem bef2 (c : Dev nD) (t : Fin cfg0.N) (d) : (dats m 0 c).before 2 t d = iblk m c 2 t := before0_2_of m (dats m 0 c) (A_eq m c 2) (after2 m c) t d
/-- The fourth's. -/
theorem bef3 (c : Dev nD) (t : Fin cfg0.N) (d) : (dats m 0 c).before 3 t d = iblk m c 3 t := before0_3_of m (dats m 0 c) (A_eq m c 3) (after3 m c) t d
/-- The fifth's. -/
theorem bef4 (c : Dev nD) (t : Fin cfg0.N) (d) : (dats m 0 c).before 4 t d = iblk m c 4 t := before0_4_of m (dats m 0 c) (A_eq m c 4) (after4 m c) t d
/-- The sixth's. -/
theorem bef5 (c : Dev nD) (t : Fin cfg0.N) (d) : (dats m 0 c).before 5 t d = iblk m c 5 t := before0_5_of m (dats m 0 c) (A_eq m c 5) (after5 m c) t d

/-- The windows a point always leaves at a block of its own. -/
theorem live : ∀ (w : Fin cfg0.W) (t : Fin cfg0.N), w.val < 6 ∨ w.val = 8 ∨ t.val % 8 < 4 → cfg0.idle w (cfg0.grid.coords t) = false :=
  (by decide +kernel : ∀ (w : Fin 9) (t : Fin grid0.N), w.val < 6 ∨ w.val = 8 ∨ t.val % 8 < 4 → cfg0.idle w (grid0.coords t) = false)
/-- The first output's buffer is let alone at a point that only copies, -/
theorem idle6 : ∀ t : Fin cfg0.N, ¬ t.val % 8 < 4 → cfg0.idle 6 (cfg0.grid.coords t) = true :=
  (by decide +kernel : ∀ t : Fin grid0.N, ¬ t.val % 8 < 4 → cfg0.idle 6 (grid0.coords t) = true)
/-- and the second's. -/
theorem idle7 : ∀ t : Fin cfg0.N, ¬ t.val % 8 < 4 → cfg0.idle 7 (cfg0.grid.coords t) = true :=
  (by decide +kernel : ∀ t : Fin grid0.N, ¬ t.val % 8 < 4 → cfg0.idle 7 (grid0.coords t) = true)
/-- The first output's block is written back at the points before the fourth of a row and at its last. -/
theorem flush6 : ∀ t : Fin cfg0.N, (cfg0.win 6).flush t = decide (t.val % 8 < 3 ∨ t.val % 8 = 7) :=
  (by decide +kernel : ∀ t : Fin grid0.N, win0_6.flush t = decide (t.val % 8 < 3 ∨ t.val % 8 = 7))
/-- The second's likewise. -/
theorem flush7 : ∀ t : Fin cfg0.N, (cfg0.win 7).flush t = decide (t.val % 8 < 3 ∨ t.val % 8 = 7) :=
  (by decide +kernel : ∀ t : Fin grid0.N, win0_7.flush t = decide (t.val % 8 < 3 ∨ t.val % 8 = 7))

/-- At a point that only copies, the first output's buffer holds what the row's fourth point left. -/
theorem bef6 (c : Dev nD) (d) : ∀ (n : ℕ) (hn : n < cfg0.N), ¬ n % 8 < 4 → (dats m 0 c).before 6 ⟨n, hn⟩ d = outA m c (bs ⟨n, hn⟩)
  | 0, _, h => absurd (by decide) h
  | n + 1, hn, h => by
    have hn' : n < cfg0.N := Nat.lt_of_succ_lt hn
    refine ((dats m 0 c).before_of_pos 6 ⟨n + 1, hn⟩ (Nat.succ_ne_zero n) rfl d).trans ?_
    have hf := flush6 ⟨n, hn'⟩
    rw [decide_eq_false (show ¬(n % 8 < 3 ∨ n % 8 = 7) by omega)] at hf
    refine (if_neg (by rw [show (⟨(n + 1) - 1, _⟩ : Fin cfg0.N) = ⟨n, hn'⟩ from rfl, hf]; exact Bool.false_ne_true)).trans ?_
    show (dats m 0 c).left 6 ⟨n, hn'⟩ d = _
    by_cases h3 : n % 8 < 4
    · have e : bs ⟨n + 1, hn⟩ = bs ⟨n, hn'⟩ := Fin.ext (by show n + 1 - ((n + 1) % 8 - 3) = n - (n % 8 - 3); omega)
      unfold Dat.left
      rw [live 6 ⟨n, hn'⟩ (Or.inr (Or.inr h3)), e]
      exact after6 m c ⟨n, hn'⟩
    · have e : bs ⟨n + 1, hn⟩ = bs ⟨n, hn'⟩ := Fin.ext (by show n + 1 - ((n + 1) % 8 - 3) = n - (n % 8 - 3); omega)
      unfold Dat.left
      rw [idle6 ⟨n, hn'⟩ h3, e]
      exact bef6 c d n hn' h3

/-- The second's likewise. -/
theorem bef7 (c : Dev nD) (d) : ∀ (n : ℕ) (hn : n < cfg0.N), ¬ n % 8 < 4 → (dats m 0 c).before 7 ⟨n, hn⟩ d = outB m c (bs ⟨n, hn⟩)
  | 0, _, h => absurd (by decide) h
  | n + 1, hn, h => by
    have hn' : n < cfg0.N := Nat.lt_of_succ_lt hn
    refine ((dats m 0 c).before_of_pos 7 ⟨n + 1, hn⟩ (Nat.succ_ne_zero n) rfl d).trans ?_
    have hf := flush7 ⟨n, hn'⟩
    rw [decide_eq_false (show ¬(n % 8 < 3 ∨ n % 8 = 7) by omega)] at hf
    refine (if_neg (by rw [show (⟨(n + 1) - 1, _⟩ : Fin cfg0.N) = ⟨n, hn'⟩ from rfl, hf]; exact Bool.false_ne_true)).trans ?_
    show (dats m 0 c).left 7 ⟨n, hn'⟩ d = _
    by_cases h3 : n % 8 < 4
    · have e : bs ⟨n + 1, hn⟩ = bs ⟨n, hn'⟩ := Fin.ext (by show n + 1 - ((n + 1) % 8 - 3) = n - (n % 8 - 3); omega)
      unfold Dat.left
      rw [live 7 ⟨n, hn'⟩ (Or.inr (Or.inr h3)), e]
      exact after7 m c ⟨n, hn'⟩
    · have e : bs ⟨n + 1, hn⟩ = bs ⟨n, hn'⟩ := Fin.ext (by show n + 1 - ((n + 1) % 8 - 3) = n - (n % 8 - 3); omega)
      unfold Dat.left
      rw [idle7 ⟨n, hn'⟩ h3, e]
      exact bef7 c d n hn' h3

/-- What the body must leave in a window that is not let alone. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A buffer let alone holds what it must: as found, or at the row's last point the block to write back. -/
theorem leaves6 (c : Dev nD) (t : Fin cfg0.N) (h : ¬ t.val % 8 < 4) (d) :
    owns (c : Thread nD τ) (st0_6 t) fullShare ((dats m 0 c).before 6 t d) ⊢ (dats m 0 c).leavesExact 6 t := by
  by_cases h7 : t.val % 8 = 7
  · have e : (dats m 0 c).leavesExact 6 t = owns (c : Thread nD τ) (st0_6 t) fullShare ((dats m 0 c).after 6 t) := by
      unfold Dat.leavesExact; rw [idle6 t h, flush6 t, decide_eq_true (Or.inr h7)]
    rw [e, bef6 m c d t.val t.isLt h, after6]
  · rw [Dat.leavesExact_idle (dats m 0 c) 6 t (idle6 t h) (by rw [flush6 t]; exact decide_eq_false (by omega))]
    iintro H; iexists _; iexact H

/-- The second's likewise. -/
theorem leaves7 (c : Dev nD) (t : Fin cfg0.N) (h : ¬ t.val % 8 < 4) (d) :
    owns (c : Thread nD τ) (st0_7 t) fullShare ((dats m 0 c).before 7 t d) ⊢ (dats m 0 c).leavesExact 7 t := by
  by_cases h7 : t.val % 8 = 7
  · have e : (dats m 0 c).leavesExact 7 t = owns (c : Thread nD τ) (st0_7 t) fullShare ((dats m 0 c).after 7 t) := by
      unfold Dat.leavesExact; rw [idle7 t h, flush7 t, decide_eq_true (Or.inr h7)]
    rw [e, bef7 m c d t.val t.isLt h, after7]
  · rw [Dat.leavesExact_idle (dats m 0 c) 7 t (idle7 t h) (by rw [flush7 t]; exact decide_eq_false (by omega))]
    iintro H; iexists _; iexact H

/-- What the body is called with. -/
def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp (MM F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bef0, bef1, bef2, bef3, bef4, bef5]
  rw [show (dats m 0 c).owesAt () t.succ = (dats m 0 c).owesAt () t.castSucc from rfl]
  rw [show (dats m 0 c).Φ t.succ = iprop((∃ s, ⌜Good m c (t.val + 1) s⌝ ∗ owns (c : Thread nD τ) scM fullShare s) ∗ (∃ r, prngReg c r)) from rfl]
  rw [show (dats m 0 c).Φ t.castSucc = iprop((∃ s, ⌜Good m c t.val s⌝ ∗ owns (c : Thread nD τ) scM fullShare s) ∗ (∃ r, prngReg c r)) from rfl]
  rw [leaves_live m c 0 t (live 0 t (Or.inl (by decide))), after0]
  rw [leaves_live m c 1 t (live 1 t (Or.inl (by decide))), after1]
  rw [leaves_live m c 2 t (live 2 t (Or.inl (by decide))), after2]
  rw [leaves_live m c 3 t (live 3 t (Or.inl (by decide))), after3]
  rw [leaves_live m c 4 t (live 4 t (Or.inl (by decide))), after4]
  rw [leaves_live m c 5 t (live 5 t (Or.inl (by decide))), after5]
  rw [leaves_live m c 8 t (live 8 t (Or.inr (Or.inl (by decide)))), after8]
  by_cases h : t.val % 8 < 4
  · have e : bs t = t := Fin.ext (by show t.val - (t.val % 8 - 3) = t.val; omega)
    rw [leaves_live m c 6 t (live 6 t (Or.inr (Or.inr h))), after6, e]
    rw [leaves_live m c 7 t (live 7 t (Or.inr (Or.inr h))), after7, e]
    rw [show outZ m c t = dzA m c t from if_pos h]
    iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) (t.val % 8) _ _ _ _ _ _ _ _ _ _ _ _ _ _ _ _ _ _ _ _ ((hc1 t).mpr h) (fun hh => (hc2 t).mp hh h) (off1 t h)
      (iblk m c 0 t) (iblk m c 1 t) (iblk m c 2 t) (iblk m c 3 t) (iblk m c 4 t) (iblk m c 5 t) s Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]
      · iexists _; isplitr
        swap; · iexact HS
        ipureintro; exact good_put m c t h s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hN := lt16 t
    have hj : t.val % 8 - 4 < 4 := by omega
    rw [show outZ m c t = k0_pay3 (kp m c (pv t)) from if_neg h]
    iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hg : get s (t.val % 8 - 4) hj = kp m c (pv t) := by
      have := hs (pv t) (by show 8 * (t.val / 8) ≤ t.val - 4; omega) (by show t.val - 4 < t.val; omega) (by show (t.val - 4) % 8 < 4; omega)
      exact (get_congr s hj (Nat.mod_lt _ (by decide)) (by show t.val % 8 - 4 = (t.val - 4) % 8 % 4; omega)).trans this
    iapply (runB c (grid0.coords t) (t.val % 8 - 4) hj _ _ _ _ _ _ _ _ _ _ _ _ _ _ _ _ _ _ _ _ (fun hh => h ((hc1 t).mp hh)) ((hc2 t).mpr h) (off2 t h) s Set.univ _)
    isplitl [H8]; · iexists _; iexact H8
    isplitl [HS]; · iexact HS
    rw [hg]
    iintro ⟨H8, HS⟩
    isplitl [HS Hg]
    · isplitl [HS]
      · iexists _; isplitr
        swap; · iexact HS
        ipureintro; exact good_next m c t h s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t h d6); iexact H6
    isplitl [H7]; · iapply (leaves7 m c t h d7); iexact H7
    iexact H8

/-- The body as the table has it. -/
theorem defs₀_row (t : Fin cfg0.N) :
    defs₀ (F := F) .tc cfg0.body (cfg0.bodyArgs t (cfg0.slots t)) = bodyAt0 t := by
  unfold defs₀; rw [Defs.onTc_tc]

/-- The body keeps what the pipeline asks. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over: the scratch at anything, and the generator. -/
theorem PhiA_eq (c : Dev nD) : (Pipeline.ΦA spec0 c : sProp (MM F))
    = iprop(iprop((∃ d, owns (c : Thread nD τ) scM fullShare d)) ∗ (∃ r, prngReg c r)) := by
  unfold Pipeline.ΦA; rw [scopedRest0_eq]; simp only [scM, owns_whole]; try rfl

/-- Before the first point the scratch may hold anything. -/
theorem hin (c : Dev nD) : Pipeline.ΦA spec0 c ⊢ (dats m 0 c).Φ 0 := by
  rw [show (dats m 0 c).Φ 0 = iprop((∃ s, ⌜Good m c 0 s⌝ ∗ owns (c : Thread nD τ) scM fullShare s) ∗ (∃ r, prngReg c r)) from rfl, PhiA_eq]
  iintro ⟨⟨%f, H⟩, Hg⟩
  isplitl [H]
  · iexists _; isplitr
    swap; · iexact H
    ipureintro; exact good_zero m c _
  iexact Hg

/-- After the last point its contents are forgotten. -/
theorem hout (c : Dev nD) : (dats m 0 c).Φ (Fin.last cfg0.N) ⊢ Pipeline.ΦA spec0 c := by
  rw [show (dats m 0 c).Φ (Fin.last cfg0.N) = iprop((∃ s, ⌜Good m c (Fin.last cfg0.N).val s⌝ ∗ owns (c : Thread nD τ) scM fullShare s) ∗ (∃ r, prngReg c r)) from rfl, PhiA_eq]
  iintro ⟨⟨%s, -, H⟩, Hg⟩
  isplitl [H]
  · iexists _; iexact H
  iexact Hg

set_option backward.isDefEq.respectTransparency.types false in
/-- The run, with every counter back at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (fun c => (body_obligation m c).loose) (fun _ _ _ => rfl) (fun _ _ => rfl) (V0 m) [hostOps1] sfx_sub sfx_fresh sfx_keeps
    (hmain m Variants.none) (A_eq m) (hin m) (hout m)

/-- The run. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run ends, the arguments as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel8Ideal.Dg

end
-- ==== Proof.DgKer.lean ====
module

public import proofs.«01_k».proof.Proof.DgModel
public import proofs.«01_k».proof.Proof.DgFrame
public import Idealize.ShloMosaic.Lib.Pipeline.ReadBack
public import Idealize.ShloMosaic.Lib.Pipeline.ValueKit.Partial
public import Idealize.ShloMosaic.Lib.Pipeline.ValueKit.Tiles
public import Idealize.ShloMosaic.Lib.Pointwise

/-! What the gates' backward call leaves in its three results. -/

@[expose] public section

set_option maxRecDepth 16384

noncomputable section

namespace Cert.Kernel8Ideal.Dg

open Cert.Kernel8Ideal Cert.Kernel8Ideal.Gen Idealize.ShloMosaic Idealize.ShloMosaic.TcCoe Idealize.SL.Sem _root_.Gates _root_.Mat

section
variable (x : Vec Ideal S1024x2048 .bf16) (w : Vec Ideal S512x2048 .bf16) (z y : Vec Ideal S1024x512 .bf16) (p : Fin 1024) (q : Fin 512)

/-- A block of the product. -/
def dB : EReal := ∑ k : Fin 2048, x (ix2 p k) * w (ix2 q k)
/-- The product at an index. -/
theorem pay4 : k0_pay4 (F := Ideal) x w (ix2 p q) = dB x w p q := by
  unfold dB
  pointwise [k0_pay4]
/-- The first gate at an index. -/
theorem pay5 : k0_pay5 (F := Ideal) z (ix2 p q) = sg (z (ix2 p q)) := by
  unfold sg
  pointwise [k0_pay5]
  simp only [zero_sub]
/-- The second gate at an index. -/
theorem pay6 : k0_pay6 (F := Ideal) z (ix2 p q) = sg (z (ix2 p q)) := by
  unfold sg
  pointwise [k0_pay6]
  simp only [zero_sub]
/-- The first branch's gradient at an index. -/
theorem pay7 : k0_pay7 (F := Ideal) x w z (ix2 p q) = dB x w p q * sg (z (ix2 p q)) := by
  pointwise [k0_pay7]
  rw [pay4, pay5]
/-- The second branch's gradient at an index. -/
theorem pay8 : k0_pay8 (F := Ideal) x w z (ix2 p q) = dB x w p q * sg (z (ix2 p q)) := by
  pointwise [k0_pay8]
  rw [pay4, pay6]
/-- The product with the branch at an index. -/
theorem pay9 : k0_pay9 (F := Ideal) x w y (ix2 p q) = dB x w p q * y (ix2 p q) := by
  pointwise [k0_pay9]
  rw [pay4]
/-- The first gate's gradient at an index. -/
theorem pay1 : k0_pay1 (F := Ideal) (k0_pay5 z) (k0_pay9 x w y) (Scalar.ofBits .f32 0x3F800000#32) (ix2 p q) = dz (dB x w p q) (y (ix2 p q)) (z (ix2 p q)) := by
  unfold dz
  pointwise [k0_pay1]
  rw [pay5, pay9]
/-- The kept gradient at an index. -/
theorem pay2 : k0_pay2 (F := Ideal) (k0_pay4 x w) (k0_pay6 z) y (ix3 0 p q) = dz (dB x w p q) (y (ix2 p q)) (z (ix2 p q)) := by
  unfold dz
  pointwise [k0_pay2]
  rw [pay4, pay6]
/-- A kept block copied out. -/
theorem pay3 (s : Vec Ideal S1x1024x512 .bf16) : k0_pay3 (F := Ideal) s (ix2 p q) = s (ix3 0 p q) := by
  pointwise [k0_pay3]
end

variable (m : (ℓ : Loc nD τ sig) → Buf (Elt Ideal) ℓ) (ρ : Dev nD → PrngReg) (c : Dev nD) (t : Fin cfg0.N)

/-- The arguments' entries. -/
def kraw : Gates.Raw where
  d r k := m ((c : Thread nD τ).loc main_arg0) (ix2 r k)
  w r k := m ((c : Thread nD τ).loc main_arg1) (ix2 r k)
  z r k := m ((c : Thread nD τ).loc main_arg2) (ix2 r k)
  a r k := m ((c : Thread nD τ).loc main_arg3) (ix2 r k)
  b r k := m ((c : Thread nD τ).loc main_arg4) (ix2 r k)

/-- A point's column of blocks. -/
def lo : ℕ := if t.val % 8 < 3 then t.val % 8 else 3
/-- It is one of four. -/
theorem lo_lt : lo t < 4 := by unfold lo; split <;> omega
/-- The last points of a row of blocks stay at its fourth column. -/
theorem lo_bs (t : Fin cfg0.N) : lo (bs t) = lo t := (by decide +kernel : ∀ t : Fin grid0.N, lo (bs t) = lo t) t
/-- A kept block's column. -/
theorem lo_pv (t : Fin cfg0.N) : ¬ t.val % 8 < 4 → t.val % 8 = 4 + lo (pv t) := (by decide +kernel : ∀ t : Fin grid0.N, ¬ t.val % 8 < 4 → t.val % 8 = 4 + lo (pv t)) t
/-- A row of a block in the array. -/
def rowp (p : Fin 1024) : Fin 2048 := ⟨t.val / 8 * 1024 + p.val, by have := lt16 t; omega⟩
/-- A column of a block in the array. -/
def colp (q : Fin 512) : Fin 2048 := ⟨lo t * 512 + q.val, by have := lo_lt t; omega⟩

/-- Where each block lies. -/
theorem idx (t : Fin cfg0.N) : win0_0.index t = ![t.val / 8, 0] ∧ win0_1.index t = ![lo t, 0] ∧ win0_2.index t = ![t.val / 8, 7 + lo t] ∧ win0_3.index t = ![t.val / 8, 11 + lo t]
    ∧ win0_4.index t = ![t.val / 8, lo t] ∧ win0_5.index t = ![t.val / 8, lo t] ∧ win0_6.index t = ![t.val / 8, lo t] ∧ win0_7.index t = ![t.val / 8, lo t] ∧ win0_8.index t = ![t.val / 8, 7 + t.val % 8] :=
  (by decide +kernel : ∀ t : Fin grid0.N, win0_0.index t = ![t.val / 8, 0] ∧ win0_1.index t = ![lo t, 0] ∧ win0_2.index t = ![t.val / 8, 7 + lo t] ∧ win0_3.index t = ![t.val / 8, 11 + lo t]
    ∧ win0_4.index t = ![t.val / 8, lo t] ∧ win0_5.index t = ![t.val / 8, lo t] ∧ win0_6.index t = ![t.val / 8, lo t] ∧ win0_7.index t = ![t.val / 8, lo t] ∧ win0_8.index t = ![t.val / 8, 7 + t.val % 8]) t

/-- The shortened gradient is the argument. -/
theorem V_v0 : V m c main_v0 = fun i => m ((c : Thread nD τ).loc main_arg0) i := by
  show StableHlo.after hostOps0 (fun b => m (c, b)) (Proc.devRef .tc main_v0) = _
  unfold hostOps0
  after_results_simp
  rfl
/-- The shortened weight is the argument. -/
theorem V_v1 : V m c main_v1 = fun i => m ((c : Thread nD τ).loc main_arg1) i := by
  show StableHlo.after hostOps0 (fun b => m (c, b)) (Proc.devRef .tc main_v1) = _
  unfold hostOps0
  after_results_simp
  rfl

/-- The gradient's block. -/
theorem blk0 (p : Fin 1024) (k : Fin 2048) : iblk m c 0 t (ix2 p k) = (kraw m c).d (rowp t p) k := by
  unfold kraw; dsimp only
  blk_simp [iblk]
  rw [V_v0]
  blk_ext [idx t]
  all_goals dsimp only [rowp, colp]
  all_goals omega
/-- The weight's block. -/
theorem blk1 (q : Fin 512) (k : Fin 2048) : iblk m c 1 t (ix2 q k) = (kraw m c).w (colp t q) k := by
  unfold kraw; dsimp only
  blk_simp [iblk]
  rw [V_v1]
  blk_ext [idx t]
  all_goals dsimp only [rowp, colp]
  all_goals omega
/-- The first gate's block. -/
theorem blk2 (p : Fin 1024) (q : Fin 512) : iblk m c 2 t (ix2 p q) = (kraw m c).z (rowp t p) (col1 (colp t q)) := by
  unfold kraw; dsimp only
  blk_simp [iblk]
  blk_ext [idx t]
  all_goals dsimp only [rowp, colp, col1]
  all_goals omega
/-- The second gate's block. -/
theorem blk3 (p : Fin 1024) (q : Fin 512) : iblk m c 3 t (ix2 p q) = (kraw m c).z (rowp t p) (col2 (colp t q)) := by
  unfold kraw; dsimp only
  blk_simp [iblk]
  blk_ext [idx t]
  all_goals dsimp only [rowp, colp, col2]
  all_goals omega
/-- The first branch's block. -/
theorem blk4 (p : Fin 1024) (q : Fin 512) : iblk m c 4 t (ix2 p q) = (kraw m c).a (rowp t p) (colp t q) := by
  unfold kraw; dsimp only
  blk_simp [iblk]
  blk_ext [idx t]
  all_goals dsimp only [rowp, colp]
  all_goals omega
/-- The second branch's block. -/
theorem blk5 (p : Fin 1024) (q : Fin 512) : iblk m c 5 t (ix2 p q) = (kraw m c).b (rowp t p) (colp t q) := by
  unfold kraw; dsimp only
  blk_simp [iblk]
  blk_ext [idx t]
  all_goals dsimp only [rowp, colp]
  all_goals omega

/-- The product of the blocks. -/
theorem d_blk (p : Fin 1024) (q : Fin 512) : dB (iblk m c 0 t) (iblk m c 1 t) p q = (kraw m c).dot (rowp t p) (colp t q) :=
  Finset.sum_congr rfl fun k _ => congrArg₂ (fun a b : EReal => a * b) (blk0 m c t p k) (blk1 m c t q k)
/-- The first branch's gradient in a block. -/
theorem outA_at (p : Fin 1024) (q : Fin 512) : outA m c t (ix2 p q) = (kraw m c).ya (rowp t p) (colp t q) :=
  (pay7 _ _ _ p q).trans (congrArg₂ (fun a b : EReal => a * sg b) (d_blk m c t p q) (blk2 m c t p q))
/-- The second branch's gradient in a block. -/
theorem outB_at (p : Fin 1024) (q : Fin 512) : outB m c t (ix2 p q) = (kraw m c).yb (rowp t p) (colp t q) :=
  (pay8 _ _ _ p q).trans (congrArg₂ (fun a b : EReal => a * sg b) (d_blk m c t p q) (blk3 m c t p q))
/-- The first gate's gradient in a block. -/
theorem dzA_at (p : Fin 1024) (q : Fin 512) : dzA m c t (ix2 p q) = (kraw m c).z1 (rowp t p) (colp t q) :=
  (pay1 _ _ _ _ p q).trans (congr (congrArg₂ dz (d_blk m c t p q) (blk4 m c t p q)) (blk2 m c t p q))
/-- The second gate's gradient in a kept block. -/
theorem kp_at (p : Fin 1024) (q : Fin 512) : kp m c t (ix3 0 p q) = (kraw m c).z2 (rowp t p) (colp t q) :=
  (pay2 _ _ _ _ p q).trans (congr (congrArg₂ dz (d_blk m c t p q) (blk5 m c t p q)) (blk3 m c t p q))
/-- The gates' gradient in a block. -/
theorem outZ_at (p : Fin 1024) (q : Fin 512) : outZ m c t (ix2 p q) = (kraw m c).zz (rowp t p) (t.val % 8 * 512 + q.val) := by
  unfold outZ
  split
  · rename_i h
    refine (dzA_at m c t p q).trans ((kraw m c).zz_left _ _ _ ?_).symm
    dsimp only [colp]; unfold lo
    split <;> omega
  · rename_i h
    have h16 := lt16 t
    have er : rowp (pv t) p = rowp t p := by
      apply Fin.ext; dsimp only [rowp, pv]; omega
    refine (pay3 p q _).trans ((kp_at m c (pv t) p q).trans ?_)
    rw [er]
    refine ((kraw m c).zz_right _ _ _ ?_).symm
    dsimp only [colp]
    have := lo_pv t h
    omega

/-- The array of the first branch's gradient after the run. -/
theorem arr6 : (dats m 0 c).arrAt 6 cfg0.N = (yA (kraw m c).ya : Vec Ideal S2048x2048 .bf16) := by
  refine (dats m 0 c).arrAt_eq_of_covers 6 _ (by decide +kernel) fun t hf y => ?_
  have h16 := lt16 t
  blk_simp
  rw [after6]
  refine (congrArg (outA m c (bs t)) (eq_ix2 (n0 := 1024) (n1 := 512) y)).trans ((outA_at m c (bs t) (y 0) (y 1)).trans ?_)
  refine (yA_at _ _ _ _ ?_ ?_).symm
  all_goals blk_simp [idx t] <;> try dsimp only [rowp, colp]
  · dsimp only [bs]; omega
  · rw [lo_bs]
/-- The array of the second branch's gradient after the run. -/
theorem arr7 : (dats m 0 c).arrAt 7 cfg0.N = (yA (kraw m c).yb : Vec Ideal S2048x2048 .bf16) := by
  refine (dats m 0 c).arrAt_eq_of_covers 7 _ (by decide +kernel) fun t hf y => ?_
  have h16 := lt16 t
  blk_simp
  rw [after7]
  refine (congrArg (outB m c (bs t)) (eq_ix2 (n0 := 1024) (n1 := 512) y)).trans ((outB_at m c (bs t) (y 0) (y 1)).trans ?_)
  refine (yA_at _ _ _ _ ?_ ?_).symm
  all_goals blk_simp [idx t] <;> try dsimp only [rowp, colp]
  · dsimp only [bs]; omega
  · rw [lo_bs]
/-- The array of the gates' gradient after the run, in its columns. -/
theorem arr8 : (dats m 0 c).arrAt 8 cfg0.N = fun i : S2048x7680.Idx => if 3584 ≤ (i 1).val then bigA (kraw m c).zz i else (dats m 0 c).A 8 i := by
  refine (dats m 0 c).arrAt_eq_of_coversWhere 8 _ (fun β => 7 ≤ β (1 : Fin 2)) (by decide +kernel) (fun t hf y => ?_) (fun j => ?_)
  · have h16 := lt16 t
    blk_simp
    rw [after8]
    refine (congrArg (outZ m c t) (eq_ix2 (n0 := 1024) (n1 := 512) y)).trans ((outZ_at m c t (y 0) (y 1)).trans ?_)
    refine (bigA_at _ _ _ _ ?_ ?_).symm
    all_goals blk_simp [idx t] <;> try dsimp only [rowp, colp]
    all_goals try omega
  · blk_simp [Pipeline.Window.cell_apply]
    omega

/-- The last result: the gates' columns. -/
theorem out3 : Pipeline.afterTail₀ cfgs (dats m) 0 (V0 m) [hostOps1] c main_v3 = (zA (kraw m c).zz : Vec Ideal S2048x4096 .bf16) := by
  have e : Pipeline.withArrays spec0 c (V0 m c) (fun w => (dats m 0 c).arrAt w cfg0.N) (Proc.devRef .tc main_v2_2) = (dats m 0 c).arrAt 8 cfg0.N :=
    (dats m 0 c).withArrays_arrAt sharedIn0 (V0 m c) (A_eq m c) 8
  unfold Pipeline.afterTail₀
  simp only [List.flatten_cons, List.flatten_nil, List.append_nil, hostOps1, StableHlo.after_cons, StableHlo.after_nil]
  refine (StableHlo.unary_result ..).trans ?_
  refine (congrArg (fun v : Vec Ideal S2048x7680 .bf16 => extractStridedSlice S2048x4096 ![0, 3584] v slices_S2048x7680_S2048x4096_0_3584) (e.trans (arr8 m c))).trans ?_
  refine funext fun y => ?_
  obtain ⟨r, k, rfl⟩ : ∃ (r : Fin 2048) (k : Fin 4096), y = ix2 r k := ⟨y 0, y 1, eq_ix2 y⟩
  pointwise
  exact bigA_at _ _ _ _ rfl rfl

/-- The run ends with the three gradients and the arguments as they began. -/
theorem run : θ_run defs (onTc (τ := τ) (main (F := Ideal))) ⟨m, fun _ => 0, ρ⟩ (fun r => ∀ c : Dev nD,
      r.2.mem ((c.tc : Thread nD τ).loc main_v2_0) = (yA (kraw m c).ya : Vec Ideal S2048x2048 .bf16)
      ∧ r.2.mem ((c.tc : Thread nD τ).loc main_v2_1) = (yA (kraw m c).yb : Vec Ideal S2048x2048 .bf16)
      ∧ r.2.mem ((c.tc : Thread nD τ).loc main_v3) = (zA (kraw m c).zz : Vec Ideal S2048x4096 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 6).trans (arr6 m c), ((h.1 c).1 7).trans (arr7 m c),
      ((h.1 c).2 main_v3 (Pipeline.mem_restRefs_of main_v3 (by decide) (by decide))).trans (out3 m c), h.2 c⟩)
    (θ_run_and (run_main m ρ) (unchanged m ρ))

end Cert.Kernel8Ideal.Dg

end
-- ==== Proof.DgRef.lean ====
module

public import proofs.«01_k».proof.Proof.DgModel
public import proofs.«01_k».proof.Proof.Gen.Reference8Ideal.Run
public import Idealize.ShloMosaic.Lib.Pointwise
public import Idealize.ShloMosaic.Lib.IdealHost

/-! The reference of the gates' backward: its three results, as the kernel's arrays. -/

@[expose] public section

set_option maxRecDepth 16384

noncomputable section

namespace Cert.Reference8Ideal.Dg

open Cert.Reference8Ideal Cert.Reference8Ideal.Gen Idealize.ShloMosaic Idealize.ShloMosaic.TcCoe Idealize.SL.Sem _root_.Gates _root_.Mat

variable (m : (ℓ : Loc nD τ sig) → Buf (Elt Ideal) ℓ) (ρ : Dev nD → PrngReg) (c : Dev nD)

/-- The arguments' entries. -/
def raw : Gates.Raw where
  d r k := m ((c.tc : Thread nD τ).loc main_arg0) (ix2 r k)
  w r k := m ((c.tc : Thread nD τ).loc main_arg1) (ix2 r k)
  z r k := m ((c.tc : Thread nD τ).loc main_arg2) (ix2 r k)
  a r k := m ((c.tc : Thread nD τ).loc main_arg3) (ix2 r k)
  b r k := m ((c.tc : Thread nD τ).loc main_arg4) (ix2 r k)

/-- The reference runs and ends with the three gradients in the kernel's form. -/
theorem run : θ_run defs (onTc (τ := τ) (main (F := Ideal))) ⟨m, fun _ => 0, ρ⟩ (fun r => ∀ c : Dev nD,
      r.2.mem ((c.tc : Thread nD τ).loc main_v34) = (yA (raw m c).ya : Vec Ideal S2048x2048 .bf16)
      ∧ r.2.mem ((c.tc : Thread nD τ).loc main_v35) = (yA (raw m c).yb : Vec Ideal S2048x2048 .bf16)
      ∧ r.2.mem ((c.tc : Thread nD τ).loc main_v37) = (zA (raw m c).zz : Vec Ideal S2048x4096 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run Cert.Reference8Ideal.defs _ _).mono (fun r h c => ⟨(h c).1.trans ?_, (h c).2.1.trans ?_, (h c).2.2.1.trans ?_, (h c).2.2.2⟩)
    (Cert.Reference8Ideal.Value.run (F := Ideal) m ρ)
  all_goals clear h
  · refine funext fun y => ?_
    obtain ⟨r, k, rfl⟩ : ∃ (r k : Fin 2048), y = ix2 r k := ⟨y 0, y 1, eq_ix2 y⟩
    pointwise
    exact mul_comm _ _
  · refine funext fun y => ?_
    obtain ⟨r, k, rfl⟩ : ∃ (r k : Fin 2048), y = ix2 r k := ⟨y 0, y 1, eq_ix2 y⟩
    pointwise
    exact mul_comm _ _
  · refine funext fun y => ?_
    obtain ⟨r, k, rfl⟩ : ∃ (r : Fin 2048) (k : Fin 4096), y = ix2 r k := ⟨y 0, y 1, eq_ix2 y⟩
    by_cases hk : k.val < 2048
    · refine Eq.trans ?_ ((raw m c).zz_left r ⟨k.val, hk⟩ k.val rfl).symm
      pointwise
      rw [dif_pos hk]
      rfl
    · refine Eq.trans ?_ ((raw m c).zz_right r ⟨k.val - 2048, by omega⟩ k.val (by dsimp only; omega)).symm
      pointwise
      rw [dif_neg hk]
      rfl

end Cert.Reference8Ideal.Dg

end
-- ==== Proof.DgClose.lean ====
module

public import proofs.«01_k».proof.Defs
public import proofs.«01_k».proof.Proof.DgKer
public import proofs.«01_k».proof.Proof.DgRef
public import Idealize.ShloMosaic.Lib.Quiescent

/-! The claims of the gates' backward call. -/

@[expose] public section

noncomputable section

namespace Cert.Proof

open Idealize.ShloMosaic Idealize.ShloMosaic.TcCoe Idealize.SL.Sem

/-- The kernel and the reference end with equal results. -/
theorem algebraic8 : Cert.algebraic_Kernel8Ideal_Reference8Ideal
    (hKernel8Ideal := Cert.Kernel8Ideal.Gen.facts) (hReference8Ideal := Cert.Reference8Ideal.Gen.facts) := by
  intro m g m' g' _ hag
  have er : ∀ c, Cert.Reference8Ideal.Dg.raw m' c = Cert.Kernel8Ideal.Dg.kraw m c := fun c => by
    obtain ⟨h0, h1, h2, h3, h4⟩ := hag c
    unfold Cert.Reference8Ideal.Dg.raw Cert.Kernel8Ideal.Dg.kraw
    congr 1
    · exact funext fun r => funext fun k => congrFun h0 (ix2 r k)
    · exact funext fun r => funext fun k => congrFun h1 (ix2 r k)
    · exact funext fun r => funext fun k => congrFun h2 (ix2 r k)
    · exact funext fun r => funext fun k => congrFun h3 (ix2 r k)
    · exact funext fun r => funext fun k => congrFun h4 (ix2 r k)
  refine ⟨fun c => Gates.yA (Cert.Kernel8Ideal.Dg.kraw m c).ya, fun c => Gates.yA (Cert.Kernel8Ideal.Dg.kraw m c).yb,
    fun c => Gates.zA (Cert.Kernel8Ideal.Dg.kraw m c).zz, Cert.Kernel8Ideal.Dg.run m g, ?_⟩
  have hr := Cert.Reference8Ideal.Dg.run m' g'
  simp only [er] at hr
  exact hr

/-- The reference's frame. -/
theorem frame_ref8 : Cert.quiescent_Reference8Ideal (hReference8Ideal := Cert.Reference8Ideal.Gen.facts) := fun m' g' _ =>
  (θ_run Cert.Reference8Ideal.defs _ _).mono (fun r h => ⟨fun c => (h c).2.2.2, sem_eq_zero_of_no_sems (by decide) r.2⟩) (Cert.Reference8Ideal.Value.run (F := Ideal) m' g')

end Cert.Proof
-- ==== Proof.RmsFwd.lean ====
module

public import proofs.«01_k».proof.Defs
public import proofs.«01_k».proof.Proof.RmsModel
public import proofs.«01_k».proof.Proof.Gen.Kernel9Ideal.Value
public import proofs.«01_k».proof.Proof.Gen.Reference9Ideal.Run
public import Idealize.ShloMosaic.Lib.Pipeline.ReadBack
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Quiescent

/-! The norm's forward call: the kernel and its reference end with the same normalised rows, times the gain. -/

@[expose] public section

set_option maxRecDepth 16384

noncomputable section

namespace Rms

/-- The normalised rows times the gain, over all rows. -/
def nrm (x : Fin 2048 → Fin 2048 → EReal) (g : Fin 2048 → EReal) (r k : Fin 2048) : EReal := xh (x r) k * g k

end Rms

namespace Cert.Kernel9Ideal.Rms

open Cert.Kernel9Ideal Cert.Kernel9Ideal.Gen Cert.Kernel9Ideal.Value Idealize.ShloMosaic Idealize.ShloMosaic.TcCoe Idealize.SL.Sem _root_.Rms

/-- What a grid point stores, at an index. -/
theorem pay1 (x : Vec Ideal S256x2048 .f32) (g : Vec Ideal S1x2048 .f32) (p : Fin 256) (k : Fin 2048) :
    k0_pay1 (F := Ideal) x g (ix2 p k) = xh (fun l => x (ix2 p l)) k * g (ix2 0 k) := by
  unfold xh rr ms kN Sgu.ep
  pointwise [k0_pay1]

/-- What a grid point leaves in the result's block. -/
theorem out_eq (x : Vec Ideal S256x2048 .f32) (g : Vec Ideal S1x2048 .f32) : out0_2 (F := Ideal) x g = k0_pay1 x g := by
  have hz : (![0, 0] : Fin 2 → ℕ) = fun _ => 0 := by funext a; fin_cases a <;> rfl
  unfold out0_2
  rw [View.ld_unit_lit (h := fun a => congrFun hz a), View.ld_unit_lit (h := fun a => congrFun hz a)]
  exact View.canon_unit_zero hz _ _

variable (m : (ℓ : Loc nD τ sig) → Buf (Elt Ideal) ℓ) (c : Dev nD) (t : Fin cfg0.N)

/-- The input's entries. -/
def kx (r k : Fin 2048) : EReal := m ((c : Thread nD τ).loc main_arg0) (ix2 r k)
/-- The gain's entries. -/
def kg (k : Fin 2048) : EReal := m ((c : Thread nD τ).loc main_arg1) (ix2 0 k)

/-- The grid has 8 points. -/
theorem N_eq : cfg0.N = 8 := by decide
/-- A block's row in the array. -/
def pos (p : Fin 256) : Fin 2048 := ⟨t.val * 256 + p.val, by have := t.isLt; have := N_eq; omega⟩

/-- Where each block lies. -/
theorem idx (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

/-- The input's block. -/
theorem blk0 (p : Fin 256) (k : Fin 2048) : iblk m c 0 t (ix2 p k) = kx m c (pos t p) k := by
  unfold kx
  blk_simp [iblk]
  blk_ext [idx t]
  all_goals dsimp only [pos]
  all_goals omega
/-- The gain's block. -/
theorem blk1 (k : Fin 2048) : iblk m c 1 t (ix2 0 k) = kg m c k := by
  unfold kg
  blk_simp [iblk]
  blk_ext [idx t]

/-- The result's block after a point. -/
theorem st_at (p : Fin 256) (k : Fin 2048) : out0_2 (F := Ideal) (iblk m c 0 t) (iblk m c 1 t) (ix2 p k) = nrm (kx m c) (kg m c) (pos t p) k := by
  rw [out_eq]
  refine (pay1 _ _ p k).trans ?_
  unfold nrm
  exact congrArg₂ (fun a b : EReal => a * b) (congrArg (fun u => xh u k) (funext fun l => blk0 m c t p l)) (blk1 m c t k)

/-- The result, as an array. -/
def hA (x : Fin 2048 → Fin 2048 → EReal) (g : Fin 2048 → EReal) : S2048x2048.Idx → EReal := fun i => nrm x g (i 0) (i 1)
/-- The result's array at an index. -/
theorem hA_at (x : Fin 2048 → Fin 2048 → EReal) (g : Fin 2048 → EReal) (i : S2048x2048.Idx) (r k : Fin 2048) (h0 : (i 0).val = r.val) (h1 : (i 1).val = k.val) :
    hA x g i = nrm x g r k := by
  unfold hA
  congr 1 <;> (apply Fin.ext; assumption)

/-- The result's array after the run. -/
theorem arr2 : (dats m 0 c).arrAt 2 cfg0.N = (hA (kx m c) (kg m c) : Vec Ideal S2048x2048 .bf16) := by
  refine (dats m 0 c).arrAt_eq_of_covers 2 _ (by decide +kernel) fun t hf y => ?_
  blk_simp
  rw [after0_2]
  refine (congrArg (out0_2 (F := Ideal) (iblk m c 0 t) (iblk m c 1 t)) (eq_ix2 (n0 := 256) (n1 := 2048) y)).trans ((st_at m c t (y 0) (y 1)).trans ?_)
  refine (hA_at _ _ _ _ _ ?_ ?_).symm
  all_goals blk_simp [idx t] <;> try dsimp only [pos]
  all_goals try omega

end Cert.Kernel9Ideal.Rms

namespace Cert.Reference9Ideal.Rms

open Cert.Reference9Ideal Cert.Reference9Ideal.Gen Cert.Reference9Ideal.Value Idealize.ShloMosaic Idealize.ShloMosaic.TcCoe Idealize.SL.Sem _root_.Rms
open Cert.Kernel9Ideal.Rms (hA)

variable (m : (ℓ : Loc nD τ sig) → Buf (Elt Ideal) ℓ) (ρ : Dev nD → PrngReg) (c : Dev nD)

/-- The input's entries. -/
def rx (r k : Fin 2048) : EReal := m ((c.tc : Thread nD τ).loc main_arg0) (ix2 r k)
/-- The gain's entries. -/
def rg (k : Fin 2048) : EReal := m ((c.tc : Thread nD τ).loc main_arg1) (ix2 0 k)

/-- The reference runs and ends with the normalised rows times the gain. -/
theorem run : θ_run defs (onTc (τ := τ) (main (F := Ideal))) ⟨m, fun _ => 0, ρ⟩ (fun r => ∀ c : Dev nD,
      r.2.mem ((c.tc : Thread nD τ).loc main_v14) = (hA (rx m c) (rg m c) : Vec Ideal S2048x2048 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run Cert.Reference9Ideal.defs _ _).mono (fun r h c => ⟨(h c).1.trans ?_, (h c).2⟩)
    (Cert.Reference9Ideal.Value.run (F := Ideal) m ρ)
  clear h
  refine funext fun y => ?_
  obtain ⟨r, k, rfl⟩ : ∃ (r k : Fin 2048), y = ix2 r k := ⟨y 0, y 1, eq_ix2 y⟩
  unfold hA nrm rx rg xh rr ms kN Sgu.ep
  generalize m ((c.tc : Thread nD τ).loc main_arg0) = x
  generalize m ((c.tc : Thread nD τ).loc main_arg1) = g
  pointwise

end Cert.Reference9Ideal.Rms

namespace Cert.Proof

open Idealize.ShloMosaic Idealize.ShloMosaic.TcCoe Idealize.SL.Sem

/-- The kernel and the reference end with equal results. -/
theorem algebraic9 : Cert.algebraic_Kernel9Ideal_Reference9Ideal
    (hKernel9Ideal := Cert.Kernel9Ideal.Gen.facts) (hReference9Ideal := Cert.Reference9Ideal.Gen.facts) := by
  intro m g m' g' _ hag
  have ex : ∀ c, Cert.Reference9Ideal.Rms.rx m' c = Cert.Kernel9Ideal.Rms.kx m c := fun c =>
    funext fun r => funext fun k => congrFun (hag c).1 (ix2 r k)
  have eg : ∀ c, Cert.Reference9Ideal.Rms.rg m' c = Cert.Kernel9Ideal.Rms.kg m c := fun c =>
    funext fun k => congrFun (hag c).2 (ix2 0 k)
  refine ⟨fun c => Cert.Kernel9Ideal.Rms.hA (Cert.Kernel9Ideal.Rms.kx m c) (Cert.Kernel9Ideal.Rms.kg m c), ?_, ?_⟩
  · exact (θ_run Cert.Kernel9Ideal.defs _ _).mono (fun r h c => ⟨(h c).1.trans (Cert.Kernel9Ideal.Rms.arr2 m c), (h c).2⟩)
      (Cert.Kernel9Ideal.Value.run_blocks (F := Ideal) m g)
  · have hr := Cert.Reference9Ideal.Rms.run m' g'
    simp only [ex, eg] at hr
    exact hr

/-- The reference's frame. -/
theorem frame_ref9 : Cert.quiescent_Reference9Ideal (hReference9Ideal := Cert.Reference9Ideal.Gen.facts) := fun m' g' _ =>
  (θ_run Cert.Reference9Ideal.defs _ _).mono (fun r h => ⟨fun c => (h c).2, sem_eq_zero_of_no_sems (by decide) r.2⟩) (Cert.Reference9Ideal.Value.run (F := Ideal) m' g')

end Cert.Proof
-- ==== Proof.SguFwdK.lean ====
module

public import proofs.«01_k».proof.Proof.SguBlk
public import proofs.«01_k».proof.Proof.Gen.Kernel10Ideal.Value

/-! The gated unit's forward call: the formula, and the array the kernel leaves. -/

@[expose] public section

set_option maxRecDepth 16384

noncomputable section

namespace Sgu

open Idealize.ShloMosaic Att

/-- What the forward call reads. -/
structure Fwd where
  z : Fin 2048 → Fin 7680 → EReal
  gn : Fin 1024 → EReal
  w : Fin 8 → Fin 128 → Fin 128 → EReal
  b : Fin 8 → Fin 128 → EReal

namespace Fwd

variable (R : Fwd)

/-- A position's normalised gate from its activated entries. -/
def nr (v : Fin 1024 → EReal) (j : Fin 1024) : EReal := v j * Ideal.rsqrt (Ideal.div (∑ l, v l * v l) kN + ep)
/-- The normalised gate with its gain. -/
def vn (r : Fin 2048) (j : Fin 1024) : EReal := nr (fun l => gl (R.z r (cv l))) j * R.gn j
/-- The result at a chunk's position and a group's channel: the activated first half times the mixed gate. -/
def out (n : Fin 16) (p : Fin 128) (g : Fin 8) (e : Fin 128) : EReal :=
  gl (R.z (pos n p) (cu (ch g e))) * (∑ q, R.w g p q * R.vn (pos n q) (ch g e) + R.b g p)

end Fwd
end Sgu

namespace Cert.Kernel10Ideal.Sgu

open Cert.Kernel10Ideal Cert.Kernel10Ideal.Gen Cert.Kernel10Ideal.Value Idealize.ShloMosaic Idealize.ShloMosaic.TcCoe Idealize.SL.Sem _root_.Sgu
open Cert.Kernel5Ideal.Sgu (pcs pcs_at all8 mem8)

section pays
variable (x y : Vec Ideal S128x1024 .bf16) (gn : Vec Ideal S1x1024 .f32)

/-- The normalised gate with its gain, at an index. -/
theorem pay2 (p : Fin 128) (j : Fin 1024) : k0_pay2 (F := Ideal) y gn (ix2 p j) = Fwd.nr (fun l => gl (y (ix2 p l))) j * gn (ix2 0 j) := by
  unfold k0_pay2
  pointwise
  rfl

/-- The activated first half. -/
abbrev uu : FVec Ideal S128x1024 .f32 := k0_pay7 (F := Ideal) (k0_pay4 x) (k0_pay5 x) k0_pay6
/-- The activated first half at an index. -/
theorem uu_at (p : Fin 128) (j : Fin 1024) : uu x (ix2 p j) = gl (x (ix2 p j)) := by
  unfold uu k0_pay7
  pointwise [k0_pay4, k0_pay5, k0_pay6, k0_pay3]
  rfl

/-- A group's columns of a block of positions. -/
abbrev rx (g : Fin 8) : Rect S128x1024 := Rect.unit ![0, 128 * g.val] ![128, 128] (by revert g; decide)
/-- A group's matrix. -/
abbrev rw (g : Fin 8) : Rect S8x128x128 := Rect.unit ![g.val, 0, 0] ![1, 128, 128] (by revert g; decide)
/-- A group's bias. -/
abbrev rb (g : Fin 8) : Rect S8x128x1 := Rect.unit ![g.val, 0, 0] ![1, 128, 1] (by revert g; decide)

variable (w : Vec Ideal S8x128x128 .bf16) (b : Vec Ideal S8x128x1 .f32)

/-- A group's matrix, at an index. -/
theorem ldw (g : Fin 8) (p q : Fin 128) : View.ld w (rw g) (ix3 0 p q) = w (ix3 g p q) := by
  refine View.ld_unit_apply_of _ _ _ _ _ _ fun a => ?_
  match a with
  | ⟨0, _⟩ => rfl
  | ⟨1, _⟩ => exact (Nat.zero_add _).symm
  | ⟨2, _⟩ => exact (Nat.zero_add _).symm
/-- A group's bias, at an index. -/
theorem ldb (g : Fin 8) (p : Fin 128) : View.ld b (rb g) (ix3 0 p 0) = b (ix3 g p 0) := by
  refine View.ld_unit_apply_of _ _ _ _ _ _ fun a => ?_
  match a with
  | ⟨0, _⟩ => rfl
  | ⟨1, _⟩ => exact (Nat.zero_add _).symm
  | ⟨2, _⟩ => rfl

/-- What a point stores for a group. -/
def ff (g : Fin 8) : FVec Ideal S128x128 .bf16 :=
  match g with
  | 0 => k0_pay8 (F := Ideal) (k0_pay2 y gn) (k0_pay4 x) (k0_pay5 x) k0_pay6 (View.ld w (rw 0)) (View.ld b (rb 0))
  | 1 => k0_pay9 (F := Ideal) (k0_pay2 y gn) (k0_pay4 x) (k0_pay5 x) k0_pay6 (View.ld w (rw 1)) (View.ld b (rb 1))
  | 2 => k0_pay11 (F := Ideal) (uu x) (k0_pay10 (k0_pay2 y gn) (View.ld w (rw 2))) (View.ld b (rb 2))
  | 3 => k0_pay12 (F := Ideal) (k0_pay2 y gn) (uu x) (View.ld w (rw 3)) (View.ld b (rb 3))
  | 4 => k0_pay14 (F := Ideal) (k0_pay13 (k0_pay2 y gn) (uu x) (View.ld w (rw 4)) (View.ld b (rb 4)))
  | 5 => k0_pay15 (F := Ideal) (k0_pay2 y gn) (uu x) (View.ld w (rw 5)) (View.ld b (rb 5))
  | 6 => k0_pay16 (F := Ideal) (k0_pay2 y gn) (uu x) (View.ld w (rw 6)) (View.ld b (rb 6))
  | 7 => k0_pay1 (F := Ideal) (uu x) (k0_pay17 (k0_pay2 y gn) (View.ld w (rw 7))) (View.ld b (rb 7))

/-- What a point stores for a group, at an index. -/
theorem ff_at (g : Fin 8) (p e : Fin 128) : ff x y gn w b g (ix2 p e) =
    uu x (ix2 p (ch g e)) * (∑ q, w (ix3 g p q) * k0_pay2 (F := Ideal) y gn (ix2 q (ch g e)) + b (ix3 g p 0)) := by
  rw [← ldb b]
  simp only [← ldw w]
  generalize hN : k0_pay2 (F := Ideal) y gn = N
  match g with
  | 0 =>
    have h0 : ch 0 e = ⟨e.val, by omega⟩ := Fin.ext (by show 128 * 0 + e.val = e.val; omega)
    unfold ff; rw [hN, h0]; pointwise [k0_pay8]
  | 1 => unfold ff; rw [hN]; pointwise [k0_pay9]; rfl
  | 2 => unfold ff; rw [hN]; pointwise [k0_pay11, k0_pay10]; rfl
  | 3 => unfold ff; rw [hN]; pointwise [k0_pay12]; rfl
  | 4 => unfold ff; rw [hN]; pointwise [k0_pay14, k0_pay13]; rfl
  | 5 => unfold ff; rw [hN]; pointwise [k0_pay15]; rfl
  | 6 => unfold ff; rw [hN]; pointwise [k0_pay16]; rfl
  | 7 => unfold ff; rw [hN]; pointwise [k0_pay1, k0_pay17]; rfl

/-- The pieces of the result's block. -/
def l5 (f : (g : Fin 8) → FVec Ideal S128x128 .bf16) : List (View.Piece (Elt Ideal) S128x1024 .bf16) :=
  [⟨rx 7, f 7⟩, ⟨rx 6, f 6⟩, ⟨rx 5, f 5⟩, ⟨rx 4, f 4⟩, ⟨rx 3, f 3⟩, ⟨rx 2, f 2⟩, ⟨rx 1, f 1⟩, ⟨rx 0, f 0⟩]

/-- The result's block at an index. -/
theorem l5_at (f : (g : Fin 8) → FVec Ideal S128x128 .bf16) (p : Fin 128) (g : Fin 8) (e : Fin 128) :
    View.canon (l5 f) (ix2 p (ch g e)) = f g (ix2 p e) := by
  refine pcs_at (e := .bf16) rx f [] (ix2 p (ch g e)) g (ix2 p e) ?_ (fun k hk => ?_) all8 (mem8 g)
  · funext a; apply Fin.ext
    match a with
    | ⟨0, _⟩ => show p.val = 0 + 1 * p.val; omega
    | ⟨1, _⟩ => show 128 * g.val + e.val = 128 * g.val + 1 * e.val; omega
  · rw [Rect.mem_set_unit]
    intro hh
    have h : 128 * k.val ≤ 128 * g.val + e.val ∧ 128 * g.val + e.val < 128 * k.val + 128 := hh 1
    exact hk (Fin.ext (by omega))
end pays

variable (m : (ℓ : Loc nD τ sig) → Buf (Elt Ideal) ℓ) (c : Dev nD) (t : Fin cfg0.N)

/-- The pieces a point stores. -/
theorem outs_eq : outsAt0 m c t = View.canon (l5 (ff (X0_0 m c t) (X0_1 m c t) (iblk m c 2 t) (iblk m c 3 t) (iblk m c 4 t))) := by
  unfold outsAt0
  frame_out
  try simp (discharger := decide) only [↓ View.readCov_skip, View.readCov_cons_toLoadRect, read_unread_whole]
  sl_kernel_rfl

/-- The arguments' entries. -/
def kfwd : Fwd where
  z r k := m ((c : Thread nD τ).loc main_arg0) (ix2 r k)
  gn k := m ((c : Thread nD τ).loc main_arg1) (ix2 0 k)
  w g p q := m ((c : Thread nD τ).loc main_arg2) (ix4 0 g p q)
  b g p := m ((c : Thread nD τ).loc main_arg3) (ix3 0 g p)

/-- The matrices the host passes. -/
theorem hw1 (g : Fin 8) (p q : Fin 128) : V m c main_v1 (ix3 g p q) = (kfwd m c).w g p q := by
  unfold kfwd
  simp only [V, hostOps0, List.flatten_cons, List.flatten_nil, List.cons_append, List.nil_append, List.append_nil]
  after_reads_at
  try rfl
/-- The biases the host passes. -/
theorem hw3 (g : Fin 8) (p : Fin 128) : V m c main_v3 (ix3 g p 0) = (kfwd m c).b g p := by
  unfold kfwd
  simp only [V, hostOps0, List.flatten_cons, List.flatten_nil, List.cons_append, List.nil_append, List.append_nil]
  after_reads_at
  try rfl

/-- The grid has 16 points. -/
theorem N_eq : cfg0.N = 16 := by decide
/-- The point's chunk. -/
def tn : Fin 16 := ⟨t.val, by have := t.isLt; have := N_eq; omega⟩

/-- Where each block lies. -/
theorem idx (t : Fin cfg0.N) : win0_0.index t = ![t.val, 0] ∧ win0_1.index t = ![t.val, 1] ∧ win0_2.index t = ![0, 0]
    ∧ win0_3.index t = ![0, 0, 0] ∧ win0_4.index t = ![0, 0, 0] ∧ win0_5.index t = ![t.val, 0] :=
  (by decide +kernel : ∀ t : Fin grid0.N, win0_0.index t = ![t.val, 0] ∧ win0_1.index t = ![t.val, 1] ∧ win0_2.index t = ![0, 0]
    ∧ win0_3.index t = ![0, 0, 0] ∧ win0_4.index t = ![0, 0, 0] ∧ win0_5.index t = ![t.val, 0]) t

/-- The first half's block. -/
theorem blk0 (p : Fin 128) (k : Fin 1024) : X0_0 m c t (ix2 p k) = (kfwd m c).z (pos (tn t) p) (cu k) := by
  unfold kfwd X0_0 Pipeline.Window.fill; dsimp only
  rw [dif_pos (moved0_0 t _)]
  blk_simp [iblk]
  blk_ext [idx t]
  all_goals dsimp only [pos, tn, cu]
  all_goals omega
/-- The second half's block. -/
theorem blk1 (p : Fin 128) (k : Fin 1024) : X0_1 m c t (ix2 p k) = (kfwd m c).z (pos (tn t) p) (cv k) := by
  unfold kfwd X0_1 Pipeline.Window.fill; dsimp only
  rw [dif_pos (moved0_1 t _)]
  blk_simp [iblk]
  blk_ext [idx t]
  all_goals dsimp only [pos, tn, cv]
  all_goals omega
/-- The gain's block. -/
theorem blk2 (k : Fin 1024) : iblk m c 2 t (ix2 0 k) = (kfwd m c).gn k := by
  unfold kfwd; dsimp only
  blk_simp [iblk]
  blk_ext [idx t]
/-- The matrices' block. -/
theorem blk3 (g : Fin 8) (p q : Fin 128) : iblk m c 3 t (ix3 g p q) = (kfwd m c).w g p q := by
  rw [← hw1]
  blk_simp [iblk]
  blk_ext [idx t]
/-- The biases' block. -/
theorem blk4 (g : Fin 8) (p : Fin 128) : iblk m c 4 t (ix3 g p 0) = (kfwd m c).b g p := by
  rw [← hw3]
  blk_simp [iblk]
  blk_ext [idx t]

/-- The result's block after a point. -/
theorem st_at (p : Fin 128) (g : Fin 8) (e : Fin 128) : outsAt0 m c t (ix2 p (ch g e)) = (kfwd m c).out (tn t) p g e := by
  rw [outs_eq, l5_at, ff_at, uu_at, blk0]
  simp only [pay2]
  unfold Fwd.out Fwd.vn
  simp only [blk1, blk2]
  exact congrArg (fun a : EReal => _ * a) (congrArg₂ (fun a b : EReal => a + b) (Finset.sum_congr rfl fun q _ => congrArg (fun a : EReal => a * _) (blk3 m c t g p q)) (blk4 m c t g p))

/-- The result, as an array. -/
def oA (R : Fwd) : S2048x1024.Idx → EReal := fun i =>
  R.out ⟨(i 0).val / 128, by have : (i 0).val < 2048 := (i 0).isLt; omega⟩ ⟨(i 0).val % 128, by omega⟩
    ⟨(i 1).val / 128, by have : (i 1).val < 1024 := (i 1).isLt; omega⟩ ⟨(i 1).val % 128, by omega⟩
/-- The result's array at an index. -/
theorem oA_at (R : Fwd) (i : S2048x1024.Idx) (n : Fin 16) (p : Fin 128) (g : Fin 8) (e : Fin 128) (h0 : (i 0).val = n.val * 128 + p.val)
    (h1 : (i 1).val = 128 * g.val + e.val) : oA R i = R.out n p g e := by
  unfold oA
  congr 1 <;> (apply Fin.ext; dsimp only; omega)

/-- The result's array after the run. -/
theorem arr5 : (dats m 0 c).arrAt 5 cfg0.N = (oA (kfwd m c) : Vec Ideal S2048x1024 .bf16) := by
  refine (dats m 0 c).arrAt_eq_of_covers 5 _ (by decide +kernel) fun t hf y => ?_
  blk_simp
  rw [after0_5]
  have h1 : (y (1 : Fin 2)).val < 1024 := (y (1 : Fin 2)).isLt
  have e : y = ix2 (n0 := 128) (n1 := 1024) (y 0) (ch ⟨(y (1 : Fin 2)).val / 128, by omega⟩ ⟨(y (1 : Fin 2)).val % 128, by omega⟩) := by
    refine (eq_ix2 (n0 := 128) (n1 := 1024) y).trans (congrArg (ix2 _) (Fin.ext ?_))
    dsimp only [ch]; omega
  refine (congrArg (outsAt0 m c t) e).trans ((st_at m c t _ _ _).trans ?_)
  refine (oA_at _ _ _ _ _ _ ?_ ?_).symm
  · blk_simp [idx t]
    try dsimp only [tn]
  · blk_simp [idx t]
    try (dsimp only; omega)

end Cert.Kernel10Ideal.Sgu
-- ==== Proof.SguFwd.lean ====
module

public import proofs.«01_k».proof.Defs
public import proofs.«01_k».proof.Proof.SguFwdK
public import proofs.«01_k».proof.Proof.SguRef
public import proofs.«01_k».proof.Proof.Gen.Reference10Ideal.Run
public import Idealize.ShloMosaic.Lib.IdealHost
public import Idealize.ShloMosaic.Lib.Quiescent

/-! The gated unit's forward call: the reference's result and the claims. -/

@[expose] public section

set_option maxRecDepth 16384

noncomputable section

namespace Sgu

open Idealize.ShloMosaic Att

/-- The tangents agree everywhere. -/
theorem rth_th (x : EReal) : rth x = th x := by
  unfold rth th a1
  rw [k2_eq, k1_eq, Ideal.div_coe (show (1000000 : ℝ) ≠ 0 by norm_num), mul_right_comm, ← EReal.coe_mul]
  norm_num
/-- The activations agree everywhere. -/
theorem rgl_gl (x : EReal) : rgl x = gl x := by
  unfold rgl gl
  rw [rth_th]
  exact (mul_left_comm _ _ _).trans (mul_assoc _ _ _).symm

end Sgu

namespace Cert.Reference10Ideal.Sgu

open Cert.Reference10Ideal Cert.Reference10Ideal.Gen Cert.Reference10Ideal.Value Idealize.ShloMosaic Idealize.ShloMosaic.TcCoe Idealize.SL.Sem _root_.Sgu
open Cert.Kernel10Ideal.Sgu (oA oA_at)
open Cert.Reference5Ideal.Sgu (pos_div pos_mod ch_div ch_mod pos_mk ch_mk)

variable (m : (ℓ : Loc nD τ sig) → Buf (Elt Ideal) ℓ) (ρ : Dev nD → PrngReg) (c : Dev nD)

/-- The arguments' entries. -/
def rfwd : Fwd where
  z r k := m ((c.tc : Thread nD τ).loc main_arg0) (ix2 r k)
  gn k := m ((c.tc : Thread nD τ).loc main_arg1) (ix2 0 k)
  w g p q := m ((c.tc : Thread nD τ).loc main_arg2) (ix4 0 g p q)
  b g p := m ((c.tc : Thread nD τ).loc main_arg3) (ix3 0 g p)

/-- The activated first half. -/
def gu : FVec Ideal S1x2048x1024 .f32 :=
  mulf (extf .f32 (broadcastInDim S1x2048x1024 ![1, 2] bcast_S2048x1024_S1x2048x1024_1_2 (extractStridedSlice S2048x1024 ![0, 0] (m ((c.tc : Thread nD τ).loc main_arg0)) slices_S2048x7680_S2048x1024_0_0)) bitsLt_bf16_f32)
    (mulf (broadcastInDim S1x2048x1024 ![] bcast_S_S1x2048x1024 (constant S_ .f32 0x3F000000#32)) (addf (broadcastInDim S1x2048x1024 ![] bcast_S_S1x2048x1024 (constant S_ .f32 0x3F800000#32)) (Host.tanh (mulf (broadcastInDim S1x2048x1024 ![] bcast_S_S1x2048x1024 (constant S_ .f32 0x3F4C422A#32))
    (addf (extf .f32 (broadcastInDim S1x2048x1024 ![1, 2] bcast_S2048x1024_S1x2048x1024_1_2 (extractStridedSlice S2048x1024 ![0, 0] (m ((c.tc : Thread nD τ).loc main_arg0)) slices_S2048x7680_S2048x1024_0_0)) bitsLt_bf16_f32) (Host.divf (mulf (broadcastInDim S1x2048x1024 ![] bcast_S_S1x2048x1024 (constant S_ .f32 0x472EAB00#32))
    (mulf (mulf (extf .f32 (broadcastInDim S1x2048x1024 ![1, 2] bcast_S2048x1024_S1x2048x1024_1_2 (extractStridedSlice S2048x1024 ![0, 0] (m ((c.tc : Thread nD τ).loc main_arg0)) slices_S2048x7680_S2048x1024_0_0)) bitsLt_bf16_f32) (extf .f32 (broadcastInDim S1x2048x1024 ![1, 2] bcast_S2048x1024_S1x2048x1024_1_2 (extractStridedSlice S2048x1024 ![0, 0] (m ((c.tc : Thread nD τ).loc main_arg0)) slices_S2048x7680_S2048x1024_0_0)) bitsLt_bf16_f32))
      (extf .f32 (broadcastInDim S1x2048x1024 ![1, 2] bcast_S2048x1024_S1x2048x1024_1_2 (extractStridedSlice S2048x1024 ![0, 0] (m ((c.tc : Thread nD τ).loc main_arg0)) slices_S2048x7680_S2048x1024_0_0)) bitsLt_bf16_f32))) (broadcastInDim S1x2048x1024 ![] bcast_S_S1x2048x1024 (constant S_ .f32 0x49742400#32))))))))
/-- The activated second half. -/
def gv : FVec Ideal S1x2048x1024 .f32 :=
  mulf (extf .f32 (broadcastInDim S1x2048x1024 ![1, 2] bcast_S2048x1024_S1x2048x1024_1_2 (extractStridedSlice S2048x1024 ![0, 1024] (m ((c.tc : Thread nD τ).loc main_arg0)) slices_S2048x7680_S2048x1024_0_1024)) bitsLt_bf16_f32)
    (mulf (broadcastInDim S1x2048x1024 ![] bcast_S_S1x2048x1024 (constant S_ .f32 0x3F000000#32)) (addf (broadcastInDim S1x2048x1024 ![] bcast_S_S1x2048x1024 (constant S_ .f32 0x3F800000#32)) (Host.tanh (mulf (broadcastInDim S1x2048x1024 ![] bcast_S_S1x2048x1024 (constant S_ .f32 0x3F4C422A#32))
    (addf (extf .f32 (broadcastInDim S1x2048x1024 ![1, 2] bcast_S2048x1024_S1x2048x1024_1_2 (extractStridedSlice S2048x1024 ![0, 1024] (m ((c.tc : Thread nD τ).loc main_arg0)) slices_S2048x7680_S2048x1024_0_1024)) bitsLt_bf16_f32) (Host.divf (mulf (broadcastInDim S1x2048x1024 ![] bcast_S_S1x2048x1024 (constant S_ .f32 0x472EAB00#32))
    (mulf (mulf (extf .f32 (broadcastInDim S1x2048x1024 ![1, 2] bcast_S2048x1024_S1x2048x1024_1_2 (extractStridedSlice S2048x1024 ![0, 1024] (m ((c.tc : Thread nD τ).loc main_arg0)) slices_S2048x7680_S2048x1024_0_1024)) bitsLt_bf16_f32) (extf .f32 (broadcastInDim S1x2048x1024 ![1, 2] bcast_S2048x1024_S1x2048x1024_1_2 (extractStridedSlice S2048x1024 ![0, 1024] (m ((c.tc : Thread nD τ).loc main_arg0)) slices_S2048x7680_S2048x1024_0_1024)) bitsLt_bf16_f32))
      (extf .f32 (broadcastInDim S1x2048x1024 ![1, 2] bcast_S2048x1024_S1x2048x1024_1_2 (extractStridedSlice S2048x1024 ![0, 1024] (m ((c.tc : Thread nD τ).loc main_arg0)) slices_S2048x7680_S2048x1024_0_1024)) bitsLt_bf16_f32))) (broadcastInDim S1x2048x1024 ![] bcast_S_S1x2048x1024 (constant S_ .f32 0x49742400#32))))))))
/-- The activated second half normalised, with its gain. -/
def nv : FVec Ideal S1x2048x1024 .f32 :=
  mulf (mulf (gv m c) (broadcastInDim S1x2048x1024 ![0, 1, 2] bcast_S1x2048x1_S1x2048x1024_0_1_2 (Host.rsqrt (addf (Host.divf (broadcastInDim S1x2048x1 ![0, 1] bcast_S1x2048_S1x2048x1_0_1
    (Host.reduceAdd (mulf (gv m c) (gv m c)) (constant S_ .f32 0x00000000#32) reducesTo_S1x2048x1024_S1x2048_d2 h_S_)) (broadcastInDim S1x2048x1 ![] bcast_S_S1x2048x1 (constant S_ .f32 0x44800000#32)))
    (broadcastInDim S1x2048x1 ![] bcast_S_S1x2048x1 (constant S_ .f32 0x358637BD#32)))))) (broadcastInDim S1x2048x1024 ![0, 1, 2] bcast_S1x1x1024_S1x2048x1024_0_1_2 (broadcastInDim S1x1x1024 ![2] bcast_S1024_S1x1x1024_2 (shapeCast _ (m ((c.tc : Thread nD τ).loc main_arg1)) shapeCasts_S1x1024_S1024)))
/-- The matrices. -/
def mw : FVec Ideal S8x128x128 .f32 := shapeCast _ (m ((c.tc : Thread nD τ).loc main_arg2)) shapeCasts_S1x8x128x128_S8x128x128
/-- A gate by chunk, position, group and channel. -/
def vr (n : FVec Ideal S1x2048x1024 .f32) : FVec Ideal S1x16x128x8x128 .f32 := shapeCast _ n shapeCasts_S1x2048x1024_S1x16x128x8x128
/-- The mixed gate from the normalised one, the matrices and the biases. -/
def mx (x : FVec Ideal S1x16x128x8x128 .f32) (w : FVec Ideal S8x128x128 .f32) (b : FVec Ideal S1x8x128 .f32) : FVec Ideal S1x2048x1024 .f32 :=
  shapeCast _ (addf (transpose S1x16x128x8x128 [1, 2, 4, 0, 3] (Host.dotGeneral dot_S1x16x128x8x128_S8x128x128_S8x1x16x128x128_2_2_014_1_3_0 none x
    w) transposes_S8x1x16x128x128_S1x16x128x8x128_1_2_4_0_3) (broadcastInDim S1x16x128x8x128 ![0, 1, 2, 3, 4] bcast_S1x1x128x8x1_S1x16x128x8x128_0_1_2_3_4
    (broadcastInDim S1x1x128x8x1 ![2, 3, 4] bcast_S128x8x1_S1x1x128x8x1_2_3_4 (broadcastInDim S128x8x1 ![0, 1] bcast_S128x8_S128x8x1_0_1 (transpose S128x8 [1, 0] (shapeCast _ b shapeCasts_S1x8x128_S8x128)
    transposes_S8x128_S128x8_1_0))))) shapeCasts_S1x16x128x8x128_S1x2048x1024
/-- The result from its two factors. -/
def fin (u n : FVec Ideal S1x2048x1024 .f32) : FVec Ideal S2048x1024 .bf16 :=
  truncf .bf16 (shapeCast _ (mulf u n) shapeCasts_S1x2048x1024_S2048x1024) bitsLt_bf16_f32

/-- The reference's result is made of these. -/
theorem res_eq : res_main_v63 (F := Ideal) m c = fin (gu m c) (mx (vr (nv m c)) (mw m c) (m ((c.tc : Thread nD τ).loc main_arg3))) := rfl

/-- The activated first half at an index. -/
theorem gu_at (r : Fin 2048) (j : Fin 1024) : gu m c (ix3 0 r j) = gl ((rfwd m c).z r (cu j)) := by
  rw [← rgl_gl]
  unfold gu rfwd
  generalize m ((c.tc : Thread nD τ).loc main_arg0) = z
  pointwise
  try rfl
/-- The activated second half at an index. -/
theorem gv_at (r : Fin 2048) (j : Fin 1024) : gv m c (ix3 0 r j) = gl ((rfwd m c).z r (cv j)) := by
  rw [← rgl_gl]
  unfold gv rfwd
  generalize m ((c.tc : Thread nD τ).loc main_arg0) = z
  pointwise
  try rfl
/-- The normalised half at an index. -/
theorem nv_at (r : Fin 2048) (j : Fin 1024) : nv m c (ix3 0 r j) = (rfwd m c).vn r j := by
  unfold Fwd.vn
  rw [show (fun l => gl ((rfwd m c).z r (cv l))) = fun l => gv m c (ix3 0 r l) from funext fun l => (gv_at m c r l).symm]
  unfold nv rfwd Fwd.nr
  generalize gv m c = v
  generalize m ((c.tc : Thread nD τ).loc main_arg1) = gn
  pointwise
  try rfl
/-- The matrices at an index. -/
theorem mw_at (g : Fin 8) (p q : Fin 128) : mw m c (ix3 g p q) = (rfwd m c).w g p q := by
  unfold mw
  refine Eq.trans (b := (m ((c.tc : Thread nD τ).loc main_arg2) : FVec Ideal S1x8x128x128 .f32) (ix4 0 g p q)) ?_ rfl
  generalize (m ((c.tc : Thread nD τ).loc main_arg2) : FVec Ideal S1x8x128x128 .f32) = w
  rw [Pointwise.shapeCast_apply]
  simp only [reshapeIdx]
/-- The gate at an index. -/
theorem vr_at (v : FVec Ideal S1x2048x1024 .f32) (n : Fin 16) (p : Fin 128) (g : Fin 8) (e : Fin 128) : vr v (ix5 0 n p g e) = v (ix3 0 (pos n p) (ch g e)) := by
  unfold vr
  pointwise
  rw [pos_mk, ch_mk]
/-- The mixed gate at an index. -/
theorem mx_at (x : FVec Ideal S1x16x128x8x128 .f32) (w : FVec Ideal S8x128x128 .f32) (b : FVec Ideal S1x8x128 .f32) (n : Fin 16) (p : Fin 128) (g : Fin 8)
    (e : Fin 128) : mx x w b (ix3 0 (pos n p) (ch g e)) = ∑ q, w (ix3 g p q) * x (ix5 0 n q g e) + b (ix3 0 g p) := by
  unfold mx
  pointwise
  simp only [pos_div, pos_mod, ch_div, ch_mod]
  exact congrArg (· + b (ix3 0 g p)) (Cert.Reference5Ideal.Sgu.sum_swap _ _)
/-- The result at an index. -/
theorem fin_at (u v : FVec Ideal S1x2048x1024 .f32) (r : Fin 2048) (j : Fin 1024) : fin u v (ix2 r j) = u (ix3 0 r j) * v (ix3 0 r j) := by
  unfold fin
  pointwise
/-- The reference's result at an index. -/
theorem out_at (n : Fin 16) (p : Fin 128) (g : Fin 8) (e : Fin 128) : res_main_v63 (F := Ideal) m c (ix2 (pos n p) (ch g e)) = (rfwd m c).out n p g e := by
  rw [res_eq, fin_at, gu_at, mx_at]
  refine congrArg (fun a : EReal => gl ((rfwd m c).z (pos n p) (cu (ch g e))) * (a + (rfwd m c).b g p)) (Finset.sum_congr rfl fun q _ => ?_)
  rw [mw_at, vr_at, nv_at]

/-- The reference runs and ends with the kernel's array. -/
theorem run : θ_run defs (onTc (τ := τ) (main (F := Ideal))) ⟨m, fun _ => 0, ρ⟩ (fun r => ∀ c : Dev nD,
      r.2.mem ((c.tc : Thread nD τ).loc main_v63) = (oA (rfwd m c) : Vec Ideal S2048x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run Cert.Reference10Ideal.defs _ _).mono (fun r h c => ⟨(h c).1.trans ?_, (h c).2⟩)
    (Cert.Reference10Ideal.Value.run (F := Ideal) m ρ)
  clear h
  refine funext fun y => ?_
  obtain ⟨r, j, rfl⟩ : ∃ (r : Fin 2048) (j : Fin 1024), y = ix2 r j := ⟨y 0, y 1, eq_ix2 y⟩
  rw [pos_eq r, ch_eq j, out_at]
  exact (oA_at _ _ _ _ _ _ rfl rfl).symm

end Cert.Reference10Ideal.Sgu

namespace Cert.Proof

open Idealize.ShloMosaic Idealize.ShloMosaic.TcCoe Idealize.SL.Sem _root_.Sgu

/-- The kernel and the reference end with equal results. -/
theorem algebraic10 : Cert.algebraic_Kernel10Ideal_Reference10Ideal
    (hKernel10Ideal := Cert.Kernel10Ideal.Gen.facts) (hReference10Ideal := Cert.Reference10Ideal.Gen.facts) := by
  intro m g m' g' _ hag
  have er : ∀ c, Cert.Reference10Ideal.Sgu.rfwd m' c = Cert.Kernel10Ideal.Sgu.kfwd m c := fun c => by
    obtain ⟨h0, h1, h2, h3⟩ := hag c
    unfold Cert.Reference10Ideal.Sgu.rfwd Cert.Kernel10Ideal.Sgu.kfwd
    congr 1
    · exact funext fun r => funext fun k => congrFun h0 (ix2 r k)
    · exact funext fun k => congrFun h1 (ix2 0 k)
    · exact funext fun a => funext fun p => funext fun q => congrFun h2 (ix4 0 a p q)
    · exact funext fun a => funext fun p => congrFun h3 (ix3 0 a p)
  refine ⟨fun c => Cert.Kernel10Ideal.Sgu.oA (Cert.Kernel10Ideal.Sgu.kfwd m c), ?_, ?_⟩
  · exact (θ_run Cert.Kernel10Ideal.defs _ _).mono (fun r h c => ⟨(h c).1.trans (Cert.Kernel10Ideal.Sgu.arr5 m c), (h c).2⟩)
      (Cert.Kernel10Ideal.Value.run_blocks (F := Ideal) m g)
  · have hr := Cert.Reference10Ideal.Sgu.run m' g'
    simp only [er] at hr
    exact hr

/-- The reference's frame. -/
theorem frame_ref10 : Cert.quiescent_Reference10Ideal (hReference10Ideal := Cert.Reference10Ideal.Gen.facts) := fun m' g' _ =>
  (θ_run Cert.Reference10Ideal.defs _ _).mono (fun r h => ⟨fun c => (h c).2, sem_eq_zero_of_no_sems (by decide) r.2⟩) (Cert.Reference10Ideal.Value.run (F := Ideal) m' g')

end Cert.Proof
-- ==== Proof.KvPack.lean ====
module

public import proofs.«01_k».proof.Defs
public import proofs.«01_k».proof.Proof.Gen.Kernel11Ideal.Value
public import proofs.«01_k».proof.Proof.Gen.Reference11Ideal.Run
public import proofs.«01_k».proof.Proof.Pt
public import Idealize.ShloMosaic.Lib.Claim
public import Idealize.ShloMosaic.Lib.StableHlo.ReadAt
public import Idealize.ShloMosaic.Lib.StableHlo.RunRead
public import Idealize.ShloMosaic.Lib.Pipeline.ReadBack
public import Idealize.ShloMosaic.Lib.Pipeline.ValueKit
public import Idealize.ShloMosaic.Lib.Pipeline.ValueKit.Tiles
public import Idealize.ShloMosaic.Lib.Pointwise
public import Idealize.ShloMosaic.Lib.IdealHost
public import Idealize.ShloMosaic.Lib.Quiescent

/-! The keys' and values' gradients put into the projections' gradients: the kernel and its reference end with the
same array. -/

@[expose] public section

set_option maxRecDepth 16384

noncomputable section

namespace Cert.Kernel11Ideal.Kv

open Cert.Kernel11Ideal Cert.Kernel11Ideal.Gen Cert.Kernel11Ideal.Value Idealize.ShloMosaic Idealize.ShloMosaic.TcCoe Idealize.SL.Sem

/-- The result: the keys' gradient in columns 3072 to 3327, the values' in columns 3328 to 3583, the others as before. -/
def zA (k v : Fin 2304 → Fin 256 → EReal) (z : S2048x7680.Idx → EReal) : S2048x7680.Idx → EReal := fun i =>
  if h : (i 1).val < 3072 then z i
  else if h : (i 1).val < 3328 then k ⟨128 + (i 0).val, by have : (i 0).val < 2048 := (i 0).isLt; omega⟩ ⟨(i 1).val - 3072, by omega⟩
  else if h : (i 1).val < 3584 then v ⟨128 + (i 0).val, by have : (i 0).val < 2048 := (i 0).isLt; omega⟩ ⟨(i 1).val - 3328, by omega⟩
  else z i

/-- The result outside the two gradients' columns. -/
theorem zA_z (k v : Fin 2304 → Fin 256 → EReal) (z : S2048x7680.Idx → EReal) (i : S2048x7680.Idx) (h : (i 1).val < 3072 ∨ 3584 ≤ (i 1).val) : zA k v z i = z i := by
  unfold zA
  rcases h with h | h
  · rw [dif_pos h]
  · rw [dif_neg (by omega), dif_neg (by omega), dif_neg (by omega)]
/-- The result in the keys' columns. -/
theorem zA_k (k v : Fin 2304 → Fin 256 → EReal) (z : S2048x7680.Idx → EReal) (i : S2048x7680.Idx) (r : Fin 2304) (j : Fin 256) (h0 : r.val = 128 + (i 0).val)
    (h1 : (i 1).val = 3072 + j.val) : zA k v z i = k r j := by
  unfold zA
  rw [dif_neg (by omega), dif_pos (by omega)]
  exact congrArg₂ k (Fin.ext h0.symm) (Fin.ext (by dsimp only; omega))
/-- The result in the values' columns. -/
theorem zA_v (k v : Fin 2304 → Fin 256 → EReal) (z : S2048x7680.Idx → EReal) (i : S2048x7680.Idx) (r : Fin 2304) (j : Fin 256) (h0 : r.val = 128 + (i 0).val)
    (h1 : (i 1).val = 3328 + j.val) : zA k v z i = v r j := by
  unfold zA
  rw [dif_neg (by omega), dif_neg (by omega), dif_pos (by omega)]
  exact congrArg₂ v (Fin.ext h0.symm) (Fin.ext (by dsimp only; omega))

variable (m : (ℓ : Loc nD τ sig) → Buf (Elt Ideal) ℓ) (c : Dev nD) (t : Fin cfg0.N)

/-- The keys' gradient's entries. -/
def kk (r : Fin 2304) (j : Fin 256) : EReal := m ((c : Thread nD τ).loc main_arg0) (ix2 r j)
/-- The values' gradient's entries. -/
def kv (r : Fin 2304) (j : Fin 256) : EReal := m ((c : Thread nD τ).loc main_arg1) (ix2 r j)

/-- The grid has 16 points. -/
theorem N_eq : cfg0.N = 16 := by decide
/-- A block's row in the padded gradients. -/
def pos (p : Fin 128) : Fin 2304 := ⟨(t.val + 1) * 128 + p.val, by have := t.isLt; have := N_eq; omega⟩

/-- Where each block lies. -/
theorem idx (t : Fin cfg0.N) : win0_0.index t = ![t.val + 1, 0] ∧ win0_1.index t = ![t.val + 1, 0] ∧ win0_2.index t = ![t.val, 6] :=
  (by decide +kernel : ∀ t : Fin grid0.N, win0_0.index t = ![t.val + 1, 0] ∧ win0_1.index t = ![t.val + 1, 0] ∧ win0_2.index t = ![t.val, 6]) t

/-- The keys' block. -/
theorem blk0 (p : Fin 128) (j : Fin 256) : iblk m c 0 t (ix2 p j) = kk m c (pos t p) j := by
  unfold kk
  blk_simp [iblk]
  blk_ext [idx t]
  all_goals dsimp only [pos]
  all_goals omega
/-- The values' block. -/
theorem blk1 (p : Fin 128) (j : Fin 256) : iblk m c 1 t (ix2 p j) = kv m c (pos t p) j := by
  unfold kv
  blk_simp [iblk]
  blk_ext [idx t]
  all_goals dsimp only [pos]
  all_goals omega

/-- The two halves of the result's block. -/
abbrev rk (o : Fin 2) : Rect S128x512 := Rect.unit ![0, 256 * o.val] ![128, 256] (by revert o; decide)

/-- The pieces a point stores. -/
theorem outs_eq : outsAt0 m c t = View.canon (Val := Elt Ideal) (e := .bf16) [⟨rk 1, k0_pay2 (F := Ideal) (iblk m c 1 t)⟩, ⟨rk 0, k0_pay1 (F := Ideal) (iblk m c 0 t)⟩] := by
  unfold outsAt0
  frame_out
  try simp (discharger := decide) only [↓ View.readCov_skip, View.readCov_cons_toLoadRect, read_unread_whole]
  sl_kernel_rfl

/-- A stored half of the keys' gradient, at an index. -/
theorem pay1 (x : Vec Ideal S128x256 .f32) (p : Fin 128) (j : Fin 256) : k0_pay1 (F := Ideal) x (ix2 p j) = x (ix2 p j) := by
  pointwise [k0_pay1]
/-- A stored half of the values' gradient, at an index. -/
theorem pay2 (x : Vec Ideal S128x256 .f32) (p : Fin 128) (j : Fin 256) : k0_pay2 (F := Ideal) x (ix2 p j) = x (ix2 p j) := by
  pointwise [k0_pay2]

/-- The result's block in the keys' half. -/
theorem k_at (p : Fin 128) (j : Fin 256) : outsAt0 m c t (ix2 p ⟨j.val, by omega⟩) = kk m c (pos t p) j := by
  have e : (ix2 p ⟨j.val, by omega⟩ : S128x512.Idx) = (rk 0).emb (ix2 p j : (rk 0).shape.Idx) := by
    funext a; apply Fin.ext
    match a with
    | ⟨0, _⟩ => show p.val = 0 + 1 * p.val; omega
    | ⟨1, _⟩ => show j.val = 256 * 0 + 1 * j.val; omega
  rw [outs_eq, View.canon_cons_of_not_mem _ _ (by
    rw [Rect.mem_set_unit]
    intro hh
    have h : 256 * 1 ≤ j.val ∧ j.val < 256 * 1 + 256 := hh 1
    omega), e]
  exact (View.canon_cons_emb (rk 0) _ _ _).trans ((pay1 _ p j).trans (blk0 m c t p j))
/-- The result's block in the values' half. -/
theorem v_at (p : Fin 128) (j : Fin 256) : outsAt0 m c t (ix2 p ⟨256 + j.val, by omega⟩) = kv m c (pos t p) j := by
  have e : (ix2 p ⟨256 + j.val, by omega⟩ : S128x512.Idx) = (rk 1).emb (ix2 p j : (rk 1).shape.Idx) := by
    funext a; apply Fin.ext
    match a with
    | ⟨0, _⟩ => show p.val = 0 + 1 * p.val; omega
    | ⟨1, _⟩ => show 256 + j.val = 256 * 1 + 1 * j.val; omega
  rw [outs_eq, e]
  exact (View.canon_cons_emb (rk 1) _ _ _).trans ((pay2 _ p j).trans (blk1 m c t p j))

/-- What the projections' gradients hold before the run. -/
theorem hw : V m c main_v0 = m ((c : Thread nD τ).loc main_arg2) := by
  simp only [V, hostOps0, List.flatten_cons, List.flatten_nil, List.cons_append, List.nil_append, List.append_nil]
  after_reads_simp
  try rfl

/-- No block of the result is cut. -/
theorem whole2 : ∀ t : Fin cfg0.N, ∀ a, (cfg0.win 2).xsize (cfg0.grid.coords t) a = (cfg0.win 2).size a := by decide +kernel

/-- The projections' gradients after the run. -/
theorem arr2 : (dats m 0 c).arrAt 2 cfg0.N = (zA (kk m c) (kv m c) (m ((c : Thread nD τ).loc main_arg2)) : Vec Ideal S2048x7680 .bf16) := by
  have h : (dats m 0 c).arrAt 2 cfg0.N = ((fun i => if 3072 ≤ (i 1).val ∧ (i 1).val < 3584 then zA (kk m c) (kv m c) (m ((c : Thread nD τ).loc main_arg2)) i else V m c main_v0 i : S2048x7680.Idx → EReal) : Vec Ideal S2048x7680 .bf16) := by
    refine (dats m 0 c).arrAt_eq_of_coversWhere 2 _ (fun β => β 1 = 6) (by decide +kernel) (fun t hf y => ?_)
      (fun j => by blk_simp [Pipeline.Window.cell_apply]; omega)
    blk_simp
    rw [after0_2]
    have h0 : (y (0 : Fin 2)).val < 128 := Nat.lt_of_lt_of_eq (y (0 : Fin 2)).isLt (whole2 t 0)
    have h1 : (y (1 : Fin 2)).val < 512 := Nat.lt_of_lt_of_eq (y (1 : Fin 2)).isLt (whole2 t 1)
    by_cases hu : (y (1 : Fin 2)).val < 256
    · have e : (cfg0.win 2).xinj (cfg0.grid.coords t) y = ix2 (n0 := 128) (n1 := 512) ⟨(y (0 : Fin 2)).val, h0⟩ ⟨(⟨(y (1 : Fin 2)).val, hu⟩ : Fin 256).val, h1⟩ :=
        (eq_ix2 (n0 := 128) (n1 := 512) _).trans (congrArg₂ ix2 (Fin.ext rfl) (Fin.ext rfl))
      refine (congrArg (outsAt0 m c t) e).trans ((k_at m c t _ _).trans ?_)
      refine (zA_k _ _ _ _ _ _ ?_ ?_).symm
      · blk_simp [idx t]
        dsimp only [pos]; omega
      · blk_simp [idx t]
        try (dsimp only; omega)
    · have e : (cfg0.win 2).xinj (cfg0.grid.coords t) y = ix2 (n0 := 128) (n1 := 512) ⟨(y (0 : Fin 2)).val, h0⟩ ⟨256 + (⟨(y (1 : Fin 2)).val - 256, by omega⟩ : Fin 256).val, by dsimp only; omega⟩ := by
        refine (eq_ix2 (n0 := 128) (n1 := 512) _).trans (congrArg₂ ix2 (Fin.ext rfl) (Fin.ext ?_))
        show (y (1 : Fin 2)).val = _
        dsimp only; omega
      refine (congrArg (outsAt0 m c t) e).trans ((v_at m c t _ _).trans ?_)
      refine (zA_v _ _ _ _ _ _ ?_ ?_).symm
      · blk_simp [idx t]
        dsimp only [pos]; omega
      · blk_simp [idx t]
        dsimp only; omega
  refine h.trans (funext fun i => ?_)
  by_cases hi : 3072 ≤ (i 1).val ∧ (i 1).val < 3584
  · exact if_pos hi
  · refine (if_neg hi).trans (Eq.trans ?_ (zA_z _ _ _ i (by omega)).symm)
    rw [hw]

end Cert.Kernel11Ideal.Kv

namespace Cert.Reference11Ideal.Kv

open Cert.Reference11Ideal Cert.Reference11Ideal.Gen Cert.Reference11Ideal.Value Idealize.ShloMosaic Idealize.ShloMosaic.TcCoe Idealize.SL.Sem
open Cert.Kernel11Ideal.Kv (zA zA_z zA_k zA_v)

variable (m : (ℓ : Loc nD τ sig) → Buf (Elt Ideal) ℓ) (ρ : Dev nD → PrngReg) (c : Dev nD)

/-- The keys' gradient's entries. -/
def kk (r : Fin 2304) (j : Fin 256) : EReal := m ((c.tc : Thread nD τ).loc main_arg0) (ix2 r j)
/-- The values' gradient's entries. -/
def kv (r : Fin 2304) (j : Fin 256) : EReal := m ((c.tc : Thread nD τ).loc main_arg1) (ix2 r j)

/-- The reference runs and ends with the same array. -/
theorem run : θ_run defs (onTc (τ := τ) (main (F := Ideal))) ⟨m, fun _ => 0, ρ⟩ (fun r => ∀ c : Dev nD,
      r.2.mem ((c.tc : Thread nD τ).loc main_v6) = (zA (kk m c) (kv m c) (m ((c.tc : Thread nD τ).loc main_arg2)) : Vec Ideal S2048x7680 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run Cert.Reference11Ideal.defs _ _).mono (fun r h c => ⟨(h c).1.trans ?_, (h c).2⟩)
    (Cert.Reference11Ideal.Value.run (F := Ideal) m ρ)
  clear h
  refine funext fun y => (congrArg _ (eq_ix2 (n0 := 2048) (n1 := 7680) y)).trans ?_
  pointwise
  have hy : (y 0).val < 2048 := (y 0).isLt
  by_cases h1 : (y 1).val < 3072
  · refine (dif_pos h1).trans (Eq.trans ?_ (zA_z _ _ _ y (by omega)).symm)
    rfl
  by_cases h2 : (y 1).val < 3328
  · refine (dif_neg h1).trans ((dif_pos (by omega)).trans (Eq.trans ?_ (zA_k _ _ _ y ⟨128 + (y 0).val, by omega⟩ ⟨(y 1).val - 3072, by omega⟩ rfl (by dsimp only; omega)).symm))
    rfl
  by_cases h3 : (y 1).val < 3584
  · refine (dif_neg h1).trans ((dif_neg (by omega)).trans ((dif_pos (by omega)).trans (Eq.trans ?_ (zA_v _ _ _ y ⟨128 + (y 0).val, by omega⟩ ⟨(y 1).val - 3328, by omega⟩ rfl (by dsimp only; omega)).symm)))
    refine congrArg (m ((c.tc : Thread nD τ).loc main_arg1)) (congrArg₂ ix2 (Fin.ext ?_) (Fin.ext ?_))
    all_goals first | rfl | (dsimp only; omega)
  · refine (dif_neg h1).trans ((dif_neg (by omega)).trans ((dif_neg (by omega)).trans (Eq.trans ?_ (zA_z _ _ _ y (by omega)).symm)))
    refine congrArg (m ((c.tc : Thread nD τ).loc main_arg2)) ((congrArg₂ ix2 (Fin.ext ?_) (Fin.ext ?_)).trans (eq_ix2 (n0 := 2048) (n1 := 7680) y).symm)
    all_goals first | rfl | (dsimp only; omega)

end Cert.Reference11Ideal.Kv

namespace Cert.Proof

open Idealize.ShloMosaic Idealize.ShloMosaic.TcCoe Idealize.SL.Sem

/-- The kernel and the reference end with equal results. -/
theorem algebraic11 : Cert.algebraic_Kernel11Ideal_Reference11Ideal
    (hKernel11Ideal := Cert.Kernel11Ideal.Gen.facts) (hReference11Ideal := Cert.Reference11Ideal.Gen.facts) := by
  intro m g m' g' _ hag
  have ek : ∀ c, Cert.Reference11Ideal.Kv.kk m' c = Cert.Kernel11Ideal.Kv.kk m c := fun c =>
    funext fun r => funext fun k => congrFun (hag c).1 (ix2 r k)
  have ev : ∀ c, Cert.Reference11Ideal.Kv.kv m' c = Cert.Kernel11Ideal.Kv.kv m c := fun c =>
    funext fun r => funext fun k => congrFun (hag c).2.1 (ix2 r k)
  refine ⟨fun c => Cert.Kernel11Ideal.Kv.zA (Cert.Kernel11Ideal.Kv.kk m c) (Cert.Kernel11Ideal.Kv.kv m c) (m ((c.tc : Thread Cert.Kernel11Ideal.nD Cert.Kernel11Ideal.τ).loc Cert.Kernel11Ideal.main_arg2)), ?_, ?_⟩
  · exact (θ_run Cert.Kernel11Ideal.defs _ _).mono (fun r h c => ⟨(h c).1.trans (Cert.Kernel11Ideal.Kv.arr2 m c), (h c).2⟩)
      (Cert.Kernel11Ideal.Value.run_blocks (F := Ideal) m g)
  · refine (θ_run Cert.Reference11Ideal.defs _ _).mono (fun r h c => ⟨(h c).1.trans ?_, (h c).2⟩) (Cert.Reference11Ideal.Kv.run m' g')
    rw [ek c, ev c]
    exact congrArg (Cert.Kernel11Ideal.Kv.zA _ _) (hag c).2.2

/-- The reference's frame. -/
theorem frame_ref11 : Cert.quiescent_Reference11Ideal (hReference11Ideal := Cert.Reference11Ideal.Gen.facts) := fun m' g' _ =>
  (θ_run Cert.Reference11Ideal.defs _ _).mono (fun r h => ⟨fun c => (h c).2, sem_eq_zero_of_no_sems (by decide) r.2⟩) (Cert.Reference11Ideal.Value.run (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_inputs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite_ffn
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite_sgu
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Close
public import proofs.«01_k».proof.Proof.FfnClose
public import proofs.«01_k».proof.Proof.MixClose
public import proofs.«01_k».proof.Proof.SguClose
public import proofs.«01_k».proof.Proof.RmsClose
public import proofs.«01_k».proof.Proof.HeadClose
public import proofs.«01_k».proof.Proof.DgFrameB
public import proofs.«01_k».proof.Proof.DgClose
public import proofs.«01_k».proof.Proof.RmsFwd
public import proofs.«01_k».proof.Proof.SguFwd
public import proofs.«01_k».proof.Proof.KvPack
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite_inputs.Gen.facts, Cert.Pre_finite_ffn.Gen.facts, Cert.Pre_finite_sgu.Gen.facts,
  fun m g _ => Cert.Kernel.Gen.frame m g, fun m g _ => Cert.KernelIdeal.Gen.frame m g, fun m g _ => Cert.KernelIdeal.Gen.frame m g,
  fun m g _ => frame_ref m g trivial, fun m g _ => frame_ref m g trivial,
  fun m g _ => Cert.Kernel2.Gen.frame m g, fun m g _ => Cert.Kernel2Ideal.Gen.frame m g, fun m g _ => Cert.Kernel2Ideal.Gen.frame m g,
  fun m g _ => frame_ref2 m g trivial, fun m g _ => frame_ref2 m g trivial,
  fun m g _ => Cert.Kernel4.Gen.frame m g, fun m g _ => Cert.Kernel4Ideal.Gen.frame m g, fun m g _ => frame_ref4 m g trivial,
  fun m g _ => Cert.Kernel5.Gen.frame m g, fun m g _ => Cert.Kernel5Ideal.Gen.frame m g, fun m g _ => Cert.Kernel5Ideal.Gen.frame m g,
  fun m g _ => frame_ref5 m g trivial, fun m g _ => frame_ref5 m g trivial,
  fun m g _ => Cert.Kernel6.Gen.frame m g, fun m g _ => Cert.Kernel6Ideal.Gen.frame m g, fun m g _ => frame_ref6 m g trivial,
  fun m g _ => Cert.Kernel7.Gen.frame m g, fun m g _ => Cert.Kernel7Ideal.Gen.frame m g, fun m g _ => frame_ref7 m g trivial,
  fun m g _ => Cert.Kernel8.Dg.frame m g, fun m g _ => Cert.Kernel8Ideal.Dg.frame m g, fun m g _ => frame_ref8 m g trivial,
  fun m g _ => Cert.Kernel9.Gen.frame m g, fun m g _ => Cert.Kernel9Ideal.Gen.frame m g, fun m g _ => frame_ref9 m g trivial,
  fun m g _ => Cert.Kernel10.Gen.frame m g, fun m g _ => Cert.Kernel10Ideal.Gen.frame m g, fun m g _ => frame_ref10 m g trivial,
  fun m g _ => Cert.Kernel11.Gen.frame m g, fun m g _ => Cert.Kernel11Ideal.Gen.frame m g, fun m g _ => frame_ref11 m g trivial,
  ⟨IdealRules.named_const.statement Cert.KernelIdeal.κ "scale" .f32 0x3DB504F3#32 _ rfl, IdealRules.named_const.statement Cert.KernelIdeal.κ "mask" .f32 0xF149F2CA#32 (⊥) rfl⟩, algebraic, trivial, algebraic2,
  trivial, algebraic4,
  ⟨IdealRules.named_const.statement Cert.Kernel5Ideal.κ "gelu" .f32 0x3D372713#32 _ rfl, IdealRules.named_const.statement Cert.Kernel5Ideal.κ "gelu3" .f32 0x3E095D4F#32 _ rfl⟩,
  algebraic5, trivial, algebraic6, trivial, algebraic7, trivial, algebraic8, trivial, algebraic9,
  IdealRules.named_const.statement Cert.Kernel10Ideal.κ "gelu" .f32 0x3D372713#32 _ rfl, algebraic10, trivial, algebraic11⟩

end Cert.Proof

end
